-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel5_Kernel5Ideal : Prop :=
  IdealRules.named_const.Statement Cert.Kernel5Ideal.κ "q_scale" .f32 0x3E0293EE#32 (((Real.sqrt 128)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_v44) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v31_0)) (v1 : (c : Dev Cert.Kernel7Ideal.nD) → Buf (Elt Ideal) ((c.tc : Thread Cert.Kernel7Ideal.nD Cert.Kernel7Ideal.τ).loc Cert.Kernel7Ideal.main_v31_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v31_0) = v0 c
          ∧ r.2.mem ((c.tc : Thread Cert.Kernel7Ideal.nD Cert.Kernel7Ideal.τ).loc Cert.Kernel7Ideal.main_v31_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v12)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  IdealRules.named_const.Statement Cert.Kernel9Ideal.κ "q_scale" .f32 0x3E0293EE#32 (((Real.sqrt 128)⁻¹ * (Real.log 2)⁻¹ : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)) (v2 : (c : Dev Cert.Kernel9Ideal.nD) → Buf (Elt Ideal) ((c.tc : Thread Cert.Kernel9Ideal.nD Cert.Kernel9Ideal.τ).loc Cert.Kernel9Ideal.main_v6_2)) (v3 : (c : Dev Cert.Kernel9Ideal.nD) → Buf (Elt Ideal) ((c.tc : Thread Cert.Kernel9Ideal.nD Cert.Kernel9Ideal.τ).loc Cert.Kernel9Ideal.main_v6_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_v6_2) = v2 c
          ∧ r.2.mem ((c.tc : Thread Cert.Kernel9Ideal.nD Cert.Kernel9Ideal.τ).loc Cert.Kernel9Ideal.main_v6_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v39) = v0 c
          ∧ r.2.mem ((c.tc : Thread Cert.Reference9Ideal.nD Cert.Reference9Ideal.τ).loc Cert.Reference9Ideal.main_v40) = v1 c
          ∧ r.2.mem ((c.tc : Thread Cert.Reference9Ideal.nD Cert.Reference9Ideal.τ).loc Cert.Reference9Ideal.main_v42) = v2 c
          ∧ r.2.mem ((c.tc : Thread Cert.Reference9Ideal.nD Cert.Reference9Ideal.τ).loc Cert.Reference9Ideal.main_v44) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v8_0)) (v1 : (c : Dev Cert.Kernel11Ideal.nD) → Buf (Elt Ideal) ((c.tc : Thread Cert.Kernel11Ideal.nD Cert.Kernel11Ideal.τ).loc Cert.Kernel11Ideal.main_v8_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_0) = v0 c
          ∧ r.2.mem ((c.tc : Thread Cert.Kernel11Ideal.nD Cert.Kernel11Ideal.τ).loc Cert.Kernel11Ideal.main_v8_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  IdealRules.named_const.Statement Cert.Kernel12Ideal.κ "k_scale" .f32 0x3DB504F3#32 (((Real.sqrt 128)⁻¹ : ℝ) : EReal)
  ∧ IdealRules.named_const.Statement Cert.Kernel12Ideal.κ "chunk_dec0" .f32 0x3F617810#32 ((923521 / 1048576 : ℝ) : EReal)
  ∧ IdealRules.named_const.Statement Cert.Kernel12Ideal.κ "chunk_dec1" .f32 0x3F705F01#32 ((15752961 / 16777216 : ℝ) : EReal)
  ∧ IdealRules.named_const.Statement Cert.Kernel12Ideal.κ "chunk_dec2" .f32 0x3F7817E0#32 ((260144641 / 268435456 : ℝ) : EReal)
  ∧ IdealRules.named_const.Statement Cert.Kernel12Ideal.κ "chunk_dec3" .f32 0x3F7C05FC#32 ((4228250625 / 4294967296 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v84_0)) (v1 : (c : Dev Cert.Kernel12Ideal.nD) → Buf (Elt Ideal) ((c.tc : Thread Cert.Kernel12Ideal.nD Cert.Kernel12Ideal.τ).loc Cert.Kernel12Ideal.main_v84_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v84_0) = v0 c
          ∧ r.2.mem ((c.tc : Thread Cert.Kernel12Ideal.nD Cert.Kernel12Ideal.τ).loc Cert.Kernel12Ideal.main_v84_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v139) = v0 c
          ∧ r.2.mem ((c.tc : Thread Cert.Reference12Ideal.nD Cert.Reference12Ideal.τ).loc Cert.Reference12Ideal.main_v146) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite11 : Cert.Pre_finite11.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
-- ==== Pre_finite11.lean ====
abbrev S2x8192x1024 : Shape := ⟨3, ![2, 8192, 1024]⟩
abbrev S1024 : Shape := ⟨1, ![1024]⟩
abbrev S2x1024 : Shape := ⟨2, ![2, 1024]⟩
abbrev S1024x2048 : Shape := ⟨2, ![1024, 2048]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg4 : FVec F S1024x2048 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  main_v23

def fn {F : FTy → Type} [FloatOps F] (main_arg0 : FVec F S2x8192x1024 .f32) (main_arg1 : FVec F S1024 .f32) (main_arg2 : FVec F S2x1024 .f32) (main_arg3 : FVec F S2x1024 .f32) (main_arg4 : FVec F S1024x2048 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_v13 main_v16
-- ==== Kernel.lean ====
abbrev S2x8192x4x128 : Shape := ⟨4, ![2, 8192, 4, 128]⟩
abbrev S4 : Shape := ⟨1, ![4]⟩
abbrev S2x8192x512 : Shape := ⟨3, ![2, 8192, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x256 : Shape := ⟨2, ![128, 256]⟩
abbrev S256x256 : Shape := ⟨2, ![256, 256]⟩
abbrev S1x512x128 : Shape := ⟨3, ![1, 512, 128]⟩
abbrev S1x8192x128 : Shape := ⟨3, ![1, 8192, 128]⟩
abbrev S512x128 : Shape := ⟨2, ![512, 128]⟩
abbrev S1 : Shape := ⟨1, ![1]⟩
abbrev S1x128x128 : Shape := ⟨3, ![1, 128, 128]⟩
abbrev S512x256 : Shape := ⟨2, ![512, 256]⟩

abbrev nBuf : Space → Nat
  | .hbm => 22
  | .vmem => 9
  | .smem => 1
  | _ => 0

abbrev bufTy : (tb : Table) → Fin (tcTables nBuf tb) → BufTy
  | .hbm, ⟨0, _⟩ => ⟨S2x8192x4x128, .f32⟩
  | .hbm, ⟨1, _⟩ => ⟨S2x8192x4x128, .f32⟩
  | .hbm, ⟨2, _⟩ => ⟨S2x8192x4x128, .f32⟩
  | .hbm, ⟨3, _⟩ => ⟨S4, .f32⟩
  | .hbm, ⟨4, _⟩ => ⟨S2x8192x512, .f32⟩
  | .hbm, ⟨5, _⟩ => ⟨S2x8192x4x128, .bf16⟩
  | .hbm, ⟨6, _⟩ => ⟨S2x8192x512, .bf16⟩
  | .hbm, ⟨7, _⟩ => ⟨S2x8192x4x128, .bf16⟩
  | .hbm, ⟨8, _⟩ => ⟨S2x8192x512, .bf16⟩
  | .hbm, ⟨9, _⟩ => ⟨S128, .i32⟩
  | .hbm, ⟨10, _⟩ => ⟨S128x1, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x256, .f32⟩
  | .hbm, ⟨19, _⟩ => ⟨S256x256, .f32⟩
  | .hbm, ⟨20, _⟩ => ⟨S256x256, .bf16⟩
  | .hbm, ⟨21, _⟩ => ⟨S2x8192x512, .bf16⟩
  | .local _ .vmem, ⟨0, _⟩ => ⟨S1x512x128, .f32⟩
  | .local _ .vmem, ⟨1, _⟩ => ⟨S1x512x128, .f32⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x256, .bf16⟩
  | .local _ .vmem, ⟨7, _⟩ => ⟨S1x512x128, .bf16⟩
  | .local _ .vmem, ⟨8, _⟩ => ⟨S1x512x128, .bf16⟩
  | .local _ .smem, ⟨0, _⟩ => ⟨S4, .f32⟩
  | _, _ => ⟨S2x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 16], ![false, false, false]⟩

def k0_off1 (i : grid0.Coords) : Fin 1 → Nat :=
  let arg1 : BitVec 32 := BitVec.ofNat 32 (i 1).val
  let v5 : Index := Scalar.indexCast arg1
  ![v5.toNat]
def k0_mult1 (i : grid0.Coords) : BitVec 32 :=
  let arg2 : BitVec 32 := BitVec.ofNat 32 (i 2).val
  let c1_i32 : BitVec 32 := 1#32
  let v13 : BitVec 32 := Scalar.addi arg2 c1_i32
  let c4_i32 : BitVec 32 := 4#32
  let v14 : BitVec 32 := Scalar.muli v13 c4_i32
  let c1_i32_6 : BitVec 32 := 1#32
  let v15 : BitVec 32 := Scalar.subi v14 c1_i32_6
  let c0_i32 : BitVec 32 := 0#32
  let v16 : BitVec 32 := Scalar.subi v15 c0_i32
  let c0_i32_7 : BitVec 32 := 0#32
  let v17 : BitVec 32 := Scalar.maxsi v16 c0_i32_7
  let c128_i32 : BitVec 32 := 128#32
  let v18 : BitVec 32 := Scalar.muli v17 c128_i32
  v18
def k0_off2 (i : grid0.Coords) (c0_i32 : BitVec 32) : Fin 3 → Nat :=
  let c0_8 : Index := 0#32
  let arg2 : BitVec 32 := BitVec.ofNat 32 (i 2).val
  let c1_i32 : BitVec 32 := 1#32
  let v13 : BitVec 32 := Scalar.addi arg2 c1_i32
  let c4_i32 : BitVec 32 := 4#32
  let v14 : BitVec 32 := Scalar.muli v13 c4_i32
  let c1_i32_6 : BitVec 32 := 1#32
  let v15 : BitVec 32 := Scalar.subi v14 c1_i32_6
  let v16 : BitVec 32 := Scalar.subi v15 c0_i32
  let c0_i32_7 : BitVec 32 := 0#32
  let v17 : BitVec 32 := Scalar.maxsi v16 c0_i32_7
  let c128_i32 : BitVec 32 := 128#32
  let v18 : BitVec 32 := Scalar.muli v17 c128_i32
  let v19 : BitVec 32 := v18
  let v20 : Index := Scalar.indexCast v19
  let c0_9 : Index := 0#32
  ![0, v20.toNat, 0]
def k0_mult2 (i : grid0.Coords) : BitVec 32 :=
  let arg2 : BitVec 32 := BitVec.ofNat 32 (i 2).val
  let c1_i32_12 : BitVec 32 := 1#32
  let v30 : BitVec 32 := Scalar.addi arg2 c1_i32_12
  let c4_i32_13 : BitVec 32 := 4#32
  let v31 : BitVec 32 := Scalar.muli v30 c4_i32_13
  let c1_i32_14 : BitVec 32 := 1#32
  let v32 : BitVec 32 := Scalar.subi v31 c1_i32_14
  let c1_i32_15 : BitVec 32 := 1#32
  let v33 : BitVec 32 := Scalar.subi v32 c1_i32_15
  let c0_i32_16 : BitVec 32 := 0#32
  let v34 : BitVec 32 := Scalar.maxsi v33 c0_i32_16
  let c128_i32_17 : BitVec 32 := 128#32
  let v35 : BitVec 32 := Scalar.muli v34 c128_i32_17
  v35
def k0_mult3 (i : grid0.Coords) : BitVec 32 :=
  let arg2 : BitVec 32 := BitVec.ofNat 32 (i 2).val
  let c1_i32_22 : BitVec 32 := 1#32
  let v44 : BitVec 32 := Scalar.addi arg2 c1_i32_22
  let c4_i32_23 : BitVec 32 := 4#32
  let v45 : BitVec 32 := Scalar.muli v44 c4_i32_23
  let c1_i32_24 : BitVec 32 := 1#32
  let v46 : BitVec 32 := Scalar.subi v45 c1_i32_24
  let c_m1_i32 : BitVec 32 := 4294967295#32
  let c0_i32_21 : BitVec 32 := 0#32
  let v43 : BitVec 32 := Scalar.maxsi c_m1_i32 c0_i32_21
  let v47 : BitVec 32 := Scalar.subi v46 v43
  let c0_i32_25 : BitVec 32 := 0#32
  let v48 : BitVec 32 := Scalar.maxsi v47 c0_i32_25
  let c128_i32_26 : BitVec 32 := 128#32
  let v49 : BitVec 32 := Scalar.muli v48 c128_i32_26
  v49
def k0_off3 (i : grid0.Coords) (c_m1_i32 : BitVec 32) : Fin 3 → Nat :=
  let c0_27 : Index := 0#32
  let arg2 : BitVec 32 := BitVec.ofNat 32 (i 2).val
  let c1_i32_22 : BitVec 32 := 1#32
  let v44 : BitVec 32 := Scalar.addi arg2 c1_i32_22
  let c4_i32_23 : BitVec 32 := 4#32
  let v45 : BitVec 32 := Scalar.muli v44 c4_i32_23
  let c1_i32_24 : BitVec 32 := 1#32
  let v46 : BitVec 32 := Scalar.subi v45 c1_i32_24
  let c0_i32_21 : BitVec 32 := 0#32
  let v43 : BitVec 32 := Scalar.maxsi c_m1_i32 c0_i32_21
  let v47 : BitVec 32 := Scalar.subi v46 v43
  let c0_i32_25 : BitVec 32 := 0#32
  let v48 : BitVec 32 := Scalar.maxsi v47 c0_i32_25
  let c128_i32_26 : BitVec 32 := 128#32
  let v49 : BitVec 32 := Scalar.muli v48 c128_i32_26
  let v50 : BitVec 32 := v49
  let v51 : Index := Scalar.indexCast v50
  let c0_28 : Index := 0#32
  ![0, v51.toNat, 0]
def k0_off3_at (r : Fin 4) : BitVec 32 :=
  if r.val < 2 then
    if r.val < 1 then
      4294967295#32
    else
      0#32
  else
    if r.val < 3 then
      1#32
    else
      2#32
def k0_mult4 (i : grid0.Coords) : BitVec 32 :=
  let arg2 : BitVec 32 := BitVec.ofNat 32 (i 2).val
  let c1_i32_38 : BitVec 32 := 1#32
  let v91 : BitVec 32 := Scalar.addi arg2 c1_i32_38
  let c4_i32_39 : BitVec 32 := 4#32
  let v92 : BitVec 32 := Scalar.muli v91 c4_i32_39
  let c1_i32_40 : BitVec 32 := 1#32
  let v93 : BitVec 32 := Scalar.subi v92 c1_i32_40
  let c2_i32 : BitVec 32 := 2#32
  let v94 : BitVec 32 := Scalar.subi v93 c2_i32
  let c0_i32_41 : BitVec 32 := 0#32
  let v95 : BitVec 32 := Scalar.maxsi v94 c0_i32_41
  let c128_i32_42 : BitVec 32 := 128#32
  let v96 : BitVec 32 := Scalar.muli v95 c128_i32_42
  v96
def k0_mult5 (i : grid0.Coords) : BitVec 32 :=
  let arg2 : BitVec 32 := BitVec.ofNat 32 (i 2).val
  let c1_i32_48 : BitVec 32 := 1#32
  let v105 : BitVec 32 := Scalar.addi arg2 c1_i32_48
  let c4_i32_49 : BitVec 32 := 4#32
  let v106 : BitVec 32 := Scalar.muli v105 c4_i32_49
  let c1_i32_50 : BitVec 32 := 1#32
  let v107 : BitVec 32 := Scalar.subi v106 c1_i32_50
  let c0_i32_46 : BitVec 32 := 0#32
  let c0_i32_47 : BitVec 32 := 0#32
  let v104 : BitVec 32 := Scalar.maxsi c0_i32_46 c0_i32_47
  let v108 : BitVec 32 := Scalar.subi v107 v104
  let c0_i32_51 : BitVec 32 := 0#32
  let v109 : BitVec 32 := Scalar.maxsi v108 c0_i32_51
  let c128_i32_52 : BitVec 32 := 128#32
  let v110 : BitVec 32 := Scalar.muli v109 c128_i32_52
  v110
def k0_mult6 (i : grid0.Coords) : BitVec 32 :=
  let arg2 : BitVec 32 := BitVec.ofNat 32 (i 2).val
  let c1_i32_65 : BitVec 32 := 1#32
  let v152 : BitVec 32 := Scalar.addi arg2 c1_i32_65
  let c4_i32_66 : BitVec 32 := 4#32
  let v153 : BitVec 32 := Scalar.muli v152 c4_i32_66
  let c1_i32_67 : BitVec 32 := 1#32
  let v154 : BitVec 32 := Scalar.subi v153 c1_i32_67
  let c3_i32 : BitVec 32 := 3#32
  let v155 : BitVec 32 := Scalar.subi v154 c3_i32
  let c0_i32_68 : BitVec 32 := 0#32
  let v156 : BitVec 32 := Scalar.maxsi v155 c0_i32_68
  let c128_i32_69 : BitVec 32 := 128#32
  let v157 : BitVec 32 := Scalar.muli v156 c128_i32_69
  v157
def k0_mult7 (i : grid0.Coords) : BitVec 32 :=
  let arg2 : BitVec 32 := BitVec.ofNat 32 (i 2).val
  let c1_i32_75 : BitVec 32 := 1#32
  let v166 : BitVec 32 := Scalar.addi arg2 c1_i32_75
  let c4_i32_76 : BitVec 32 := 4#32
  let v167 : BitVec 32 := Scalar.muli v166 c4_i32_76
  let c1_i32_77 : BitVec 32 := 1#32
  let v168 : BitVec 32 := Scalar.subi v167 c1_i32_77
  let c1_i32_73 : BitVec 32 := 1#32
  let c0_i32_74 : BitVec 32 := 0#32
  let v165 : BitVec 32 := Scalar.maxsi c1_i32_73 c0_i32_74
  let v169 : BitVec 32 := Scalar.subi v168 v165
  let c0_i32_78 : BitVec 32 := 0#32
  let v170 : BitVec 32 := Scalar.maxsi v169 c0_i32_78
  let c128_i32_79 : BitVec 32 := 128#32
  let v171 : BitVec 32 := Scalar.muli v170 c128_i32_79
  v171
def k0_mult8 (i : grid0.Coords) : BitVec 32 :=
  let arg2 : BitVec 32 := BitVec.ofNat 32 (i 2).val
  let c1_i32_92 : BitVec 32 := 1#32
  let v213 : BitVec 32 := Scalar.addi arg2 c1_i32_92
  let c4_i32_93 : BitVec 32 := 4#32
  let v214 : BitVec 32 := Scalar.muli v213 c4_i32_93
  let c1_i32_94 : BitVec 32 := 1#32
  let v215 : BitVec 32 := Scalar.subi v214 c1_i32_94
  let c4_i32_95 : BitVec 32 := 4#32
  let v216 : BitVec 32 := Scalar.subi v215 c4_i32_95
  let c0_i32_96 : BitVec 32 := 0#32
  let v217 : BitVec 32 := Scalar.maxsi v216 c0_i32_96
  let c128_i32_97 : BitVec 32 := 128#32
  let v218 : BitVec 32 := Scalar.muli v217 c128_i32_97
  v218
def k0_mult9 (i : grid0.Coords) : BitVec 32 :=
  let arg2 : BitVec 32 := BitVec.ofNat 32 (i 2).val
  let c1_i32_103 : BitVec 32 := 1#32
  let v227 : BitVec 32 := Scalar.addi arg2 c1_i32_103
  let c4_i32_104 : BitVec 32 := 4#32
  let v228 : BitVec 32 := Scalar.muli v227 c4_i32_104
  let c1_i32_105 : BitVec 32 := 1#32
  let v229 : BitVec 32 := Scalar.subi v228 c1_i32_105
  let c2_i32_101 : BitVec 32 := 2#32
  let c0_i32_102 : BitVec 32 := 0#32
  let v226 : BitVec 32 := Scalar.maxsi c2_i32_101 c0_i32_102
  let v230 : BitVec 32 := Scalar.subi v229 v226
  let c0_i32_106 : BitVec 32 := 0#32
  let v231 : BitVec 32 := Scalar.maxsi v230 c0_i32_106
  let c128_i32_107 : BitVec 32 := 128#32
  let v232 : BitVec 32 := Scalar.muli v231 c128_i32_107
  v232
@[reducible] def k0_t1_loop (i : grid0.Coords) : Scf.Loop 32 :=
  let c4_i32_121 : BitVec 32 := 4#32
  let arg2 : BitVec 32 := BitVec.ofNat 32 (i 2).val
  let c1_i32_119 : BitVec 32 := 1#32
  let v271 : BitVec 32 := Scalar.addi arg2 c1_i32_119
  let c4_i32_120 : BitVec 32 := 4#32
  let v272 : BitVec 32 := Scalar.muli v271 c4_i32_120
  let v273 : BitVec 32 := Scalar.subi v272 c4_i32_121
  let c1_i32_122 : BitVec 32 := 1#32
  let v275 : BitVec 32 := Scalar.divsi v273 c1_i32_122
  let v276 : BitVec 32 := Scalar.muli v275 c1_i32_122
  let v277 : BitVec 32 := Scalar.addi c4_i32_121 v276
  let c1_i32_123 : BitVec 32 := 1#32
  ⟨c4_i32_121, v277, c1_i32_123⟩
def k0_mult10 (i : grid0.Coords) (k0_t1 : Fin (k0_t1_loop i).trips) : BitVec 32 :=
  let arg2 : BitVec 32 := BitVec.ofNat 32 (i 2).val
  let c1_i32_140 : BitVec 32 := 1#32
  let v302 : BitVec 32 := Scalar.addi arg2 c1_i32_140
  let c4_i32_141 : BitVec 32 := 4#32
  let v303 : BitVec 32 := Scalar.muli v302 c4_i32_141
  let c1_i32_142 : BitVec 32 := 1#32
  let v304 : BitVec 32 := Scalar.subi v303 c1_i32_142
  let c4_i32_121 : BitVec 32 := 4#32
  let c1_i32_123 : BitVec 32 := 1#32
  let arg9 : BitVec 32 := Scf.iv c4_i32_121 c1_i32_123 k0_t1
  let c1_i32_139 : BitVec 32 := 1#32
  let v301 : BitVec 32 := Scalar.addi arg9 c1_i32_139
  let v305 : BitVec 32 := Scalar.subi v304 v301
  let c0_i32_143 : BitVec 32 := 0#32
  let v306 : BitVec 32 := Scalar.maxsi v305 c0_i32_143
  let c128_i32_144 : BitVec 32 := 128#32
  let v307 : BitVec 32 := Scalar.muli v306 c128_i32_144
  v307
def k0_off4 (i : grid0.Coords) (k0_t1 : Fin (k0_t1_loop i).trips) : Fin 3 → Nat :=
  let c0_145 : Index := 0#32
  let arg2 : BitVec 32 := BitVec.ofNat 32 (i 2).val
  let c1_i32_140 : BitVec 32 := 1#32
  let v302 : BitVec 32 := Scalar.addi arg2 c1_i32_140
  let c4_i32_141 : BitVec 32 := 4#32
  let v303 : BitVec 32 := Scalar.muli v302 c4_i32_141
  let c1_i32_142 : BitVec 32 := 1#32
  let v304 : BitVec 32 := Scalar.subi v303 c1_i32_142
  let c4_i32_121 : BitVec 32 := 4#32
  let c1_i32_123 : BitVec 32 := 1#32
  let arg9 : BitVec 32 := Scf.iv c4_i32_121 c1_i32_123 k0_t1
  let c1_i32_139 : BitVec 32 := 1#32
  let v301 : BitVec 32 := Scalar.addi arg9 c1_i32_139
  let v305 : BitVec 32 := Scalar.subi v304 v301
  let c0_i32_143 : BitVec 32 := 0#32
  let v306 : BitVec 32 := Scalar.maxsi v305 c0_i32_143
  let c128_i32_144 : BitVec 32 := 128#32
  let v307 : BitVec 32 := Scalar.muli v306 c128_i32_144
  let v308 : BitVec 32 := v307
  let v309 : Index := Scalar.indexCast v308
  let c0_146 : Index := 0#32
  ![0, v309.toNat, 0]
def k0_mult11 (i : grid0.Coords) (k0_t1 : Fin (k0_t1_loop i).trips) : BitVec 32 :=
  let arg2 : BitVec 32 := BitVec.ofNat 32 (i 2).val
  let c1_i32_150 : BitVec 32 := 1#32
  let v317 : BitVec 32 := Scalar.addi arg2 c1_i32_150
  let c4_i32_151 : BitVec 32 := 4#32
  let v318 : BitVec 32 := Scalar.muli v317 c4_i32_151
  let c1_i32_152 : BitVec 32 := 1#32
  let v319 : BitVec 32 := Scalar.subi v318 c1_i32_152
  let c4_i32_121 : BitVec 32 := 4#32
  let c1_i32_123 : BitVec 32 := 1#32
  let arg9 : BitVec 32 := Scf.iv c4_i32_121 c1_i32_123 k0_t1
  let c1_i32_148 : BitVec 32 := 1#32
  let v315 : BitVec 32 := Scalar.subi arg9 c1_i32_148
  let c0_i32_149 : BitVec 32 := 0#32
  let v316 : BitVec 32 := Scalar.maxsi v315 c0_i32_149
  let v320 : BitVec 32 := Scalar.subi v319 v316
  let c0_i32_153 : BitVec 32 := 0#32
  let v321 : BitVec 32 := Scalar.maxsi v320 c0_i32_153
  let c128_i32_154 : BitVec 32 := 128#32
  let v322 : BitVec 32 := Scalar.muli v321 c128_i32_154
  v322
def k0_off5 (i : grid0.Coords) (k0_t1 : Fin (k0_t1_loop i).trips) : Fin 3 → Nat :=
  let c0_155 : Index := 0#32
  let arg2 : BitVec 32 := BitVec.ofNat 32 (i 2).val
  let c1_i32_150 : BitVec 32 := 1#32
  let v317 : BitVec 32 := Scalar.addi arg2 c1_i32_150
  let c4_i32_151 : BitVec 32 := 4#32
  let v318 : BitVec 32 := Scalar.muli v317 c4_i32_151
  let c1_i32_152 : BitVec 32 := 1#32
  let v319 : BitVec 32 := Scalar.subi v318 c1_i32_152
  let c4_i32_121 : BitVec 32 := 4#32
  let c1_i32_123 : BitVec 32 := 1#32
  let arg9 : BitVec 32 := Scf.iv c4_i32_121 c1_i32_123 k0_t1
  let c1_i32_148 : BitVec 32 := 1#32
  let v315 : BitVec 32 := Scalar.subi arg9 c1_i32_148
  let c0_i32_149 : BitVec 32 := 0#32
  let v316 : BitVec 32 := Scalar.maxsi v315 c0_i32_149
  let v320 : BitVec 32 := Scalar.subi v319 v316
  let c0_i32_153 : BitVec 32 := 0#32
  let v321 : BitVec 32 := Scalar.maxsi v320 c0_i32_153
  let c128_i32_154 : BitVec 32 := 128#32
  let v322 : BitVec 32 := Scalar.muli v321 c128_i32_154
  let v323 : BitVec 32 := v322
  let v324 : Index := Scalar.indexCast v323
  let c0_156 : Index := 0#32
  ![0, v324.toNat, 0]
@[reducible] def k0_t2_loop (i : grid0.Coords) : Scf.Loop 32 :=
  let c4_i32_121 : BitVec 32 := 4#32
  let arg2 : BitVec 32 := BitVec.ofNat 32 (i 2).val
  let c1_i32_119 : BitVec 32 := 1#32
  let v271 : BitVec 32 := Scalar.addi arg2 c1_i32_119
  let c4_i32_120 : BitVec 32 := 4#32
  let v272 : BitVec 32 := Scalar.muli v271 c4_i32_120
  let v273 : BitVec 32 := Scalar.subi v272 c4_i32_121
  let c1_i32_122 : BitVec 32 := 1#32
  let v275 : BitVec 32 := Scalar.divsi v273 c1_i32_122
  let v276 : BitVec 32 := Scalar.muli v275 c1_i32_122
  let v277 : BitVec 32 := Scalar.addi c4_i32_121 v276
  let v274 : BitVec 32 := Scalar.addi c4_i32_121 v273
  let c1_i32_124 : BitVec 32 := 1#32
  ⟨v277, v274, c1_i32_124⟩
def k0_mult12 (i : grid0.Coords) (k0_t2 : Fin (k0_t2_loop i).trips) : BitVec 32 :=
  let arg2 : BitVec 32 := BitVec.ofNat 32 (i 2).val
  let c1_i32_140 : BitVec 32 := 1#32
  let v302 : BitVec 32 := Scalar.addi arg2 c1_i32_140
  let c4_i32_141 : BitVec 32 := 4#32
  let v303 : BitVec 32 := Scalar.muli v302 c4_i32_141
  let c1_i32_142 : BitVec 32 := 1#32
  let v304 : BitVec 32 := Scalar.subi v303 c1_i32_142
  let c4_i32_121 : BitVec 32 := 4#32
  let c1_i32_119 : BitVec 32 := 1#32
  let v271 : BitVec 32 := Scalar.addi arg2 c1_i32_119
  let c4_i32_120 : BitVec 32 := 4#32
  let v272 : BitVec 32 := Scalar.muli v271 c4_i32_120
  let v273 : BitVec 32 := Scalar.subi v272 c4_i32_121
  let c1_i32_122 : BitVec 32 := 1#32
  let v275 : BitVec 32 := Scalar.divsi v273 c1_i32_122
  let v276 : BitVec 32 := Scalar.muli v275 c1_i32_122
  let v277 : BitVec 32 := Scalar.addi c4_i32_121 v276
  let c1_i32_124 : BitVec 32 := 1#32
  let arg9 : BitVec 32 := Scf.iv v277 c1_i32_124 k0_t2
  let c1_i32_139 : BitVec 32 := 1#32
  let v301 : BitVec 32 := Scalar.addi arg9 c1_i32_139
  let v305 : BitVec 32 := Scalar.subi v304 v301
  let c0_i32_143 : BitVec 32 := 0#32
  let v306 : BitVec 32 := Scalar.maxsi v305 c0_i32_143
  let c128_i32_144 : BitVec 32 := 128#32
  let v307 : BitVec 32 := Scalar.muli v306 c128_i32_144
  v307
def k0_off6 (i : grid0.Coords) (k0_t2 : Fin (k0_t2_loop i).trips) : Fin 3 → Nat :=
  let c0_145 : Index := 0#32
  let arg2 : BitVec 32 := BitVec.ofNat 32 (i 2).val
  let c1_i32_140 : BitVec 32 := 1#32
  let v302 : BitVec 32 := Scalar.addi arg2 c1_i32_140
  let c4_i32_141 : BitVec 32 := 4#32
  let v303 : BitVec 32 := Scalar.muli v302 c4_i32_141
  let c1_i32_142 : BitVec 32 := 1#32
  let v304 : BitVec 32 := Scalar.subi v303 c1_i32_142
  let c4_i32_121 : BitVec 32 := 4#32
  let c1_i32_119 : BitVec 32 := 1#32
  let v271 : BitVec 32 := Scalar.addi arg2 c1_i32_119
  let c4_i32_120 : BitVec 32 := 4#32
  let v272 : BitVec 32 := Scalar.muli v271 c4_i32_120
  let v273 : BitVec 32 := Scalar.subi v272 c4_i32_121
  let c1_i32_122 : BitVec 32 := 1#32
  let v275 : BitVec 32 := Scalar.divsi v273 c1_i32_122
  let v276 : BitVec 32 := Scalar.muli v275 c1_i32_122
  let v277 : BitVec 32 := Scalar.addi c4_i32_121 v276
  let c1_i32_124 : BitVec 32 := 1#32
  let arg9 : BitVec 32 := Scf.iv v277 c1_i32_124 k0_t2
  let c1_i32_139 : BitVec 32 := 1#32
  let v301 : BitVec 32 := Scalar.addi arg9 c1_i32_139
  let v305 : BitVec 32 := Scalar.subi v304 v301
  let c0_i32_143 : BitVec 32 := 0#32
  let v306 : BitVec 32 := Scalar.maxsi v305 c0_i32_143
  let c128_i32_144 : BitVec 32 := 128#32
  let v307 : BitVec 32 := Scalar.muli v306 c128_i32_144
  let v308 : BitVec 32 := v307
  let v309 : Index := Scalar.indexCast v308
  let c0_146 : Index := 0#32
  ![0, v309.toNat, 0]
def k0_mult13 (i : grid0.Coords) (k0_t2 : Fin (k0_t2_loop i).trips) : BitVec 32 :=
  let arg2 : BitVec 32 := BitVec.ofNat 32 (i 2).val
  let c1_i32_150 : BitVec 32 := 1#32
  let v317 : BitVec 32 := Scalar.addi arg2 c1_i32_150
  let c4_i32_151 : BitVec 32 := 4#32
  let v318 : BitVec 32 := Scalar.muli v317 c4_i32_151
  let c1_i32_152 : BitVec 32 := 1#32
  let v319 : BitVec 32 := Scalar.subi v318 c1_i32_152
  let c4_i32_121 : BitVec 32 := 4#32
  let c1_i32_119 : BitVec 32 := 1#32
  let v271 : BitVec 32 := Scalar.addi arg2 c1_i32_119
  let c4_i32_120 : BitVec 32 := 4#32
  let v272 : BitVec 32 := Scalar.muli v271 c4_i32_120
  let v273 : BitVec 32 := Scalar.subi v272 c4_i32_121
  let c1_i32_122 : BitVec 32 := 1#32
  let v275 : BitVec 32 := Scalar.divsi v273 c1_i32_122
  let v276 : BitVec 32 := Scalar.muli v275 c1_i32_122
  let v277 : BitVec 32 := Scalar.addi c4_i32_121 v276
  let c1_i32_124 : BitVec 32 := 1#32
  let arg9 : BitVec 32 := Scf.iv v277 c1_i32_124 k0_t2
  let c1_i32_148 : BitVec 32 := 1#32
  let v315 : BitVec 32 := Scalar.subi arg9 c1_i32_148
  let c0_i32_149 : BitVec 32 := 0#32
  let v316 : BitVec 32 := Scalar.maxsi v315 c0_i32_149
  let v320 : BitVec 32 := Scalar.subi v319 v316
  let c0_i32_153 : BitVec 32 := 0#32
  let v321 : BitVec 32 := Scalar.maxsi v320 c0_i32_153
  let c128_i32_154 : BitVec 32 := 128#32
  let v322 : BitVec 32 := Scalar.muli v321 c128_i32_154
  v322
def k0_off7 (i : grid0.Coords) (k0_t2 : Fin (k0_t2_loop i).trips) : Fin 3 → Nat :=
  let c0_155 : Index := 0#32
  let arg2 : BitVec 32 := BitVec.ofNat 32 (i 2).val
  let c1_i32_150 : BitVec 32 := 1#32
  let v317 : BitVec 32 := Scalar.addi arg2 c1_i32_150
  let c4_i32_151 : BitVec 32 := 4#32
  let v318 : BitVec 32 := Scalar.muli v317 c4_i32_151
  let c1_i32_152 : BitVec 32 := 1#32
  let v319 : BitVec 32 := Scalar.subi v318 c1_i32_152
  let c4_i32_121 : BitVec 32 := 4#32
  let c1_i32_119 : BitVec 32 := 1#32
  let v271 : BitVec 32 := Scalar.addi arg2 c1_i32_119
  let c4_i32_120 : BitVec 32 := 4#32
  let v272 : BitVec 32 := Scalar.muli v271 c4_i32_120
  let v273 : BitVec 32 := Scalar.subi v272 c4_i32_121
  let c1_i32_122 : BitVec 32 := 1#32
  let v275 : BitVec 32 := Scalar.divsi v273 c1_i32_122
  let v276 : BitVec 32 := Scalar.muli v275 c1_i32_122
  let v277 : BitVec 32 := Scalar.addi c4_i32_121 v276
  let c1_i32_124 : BitVec 32 := 1#32
  let arg9 : BitVec 32 := Scf.iv v277 c1_i32_124 k0_t2
  let c1_i32_148 : BitVec 32 := 1#32
  let v315 : BitVec 32 := Scalar.subi arg9 c1_i32_148
  let c0_i32_149 : BitVec 32 := 0#32
  let v316 : BitVec 32 := Scalar.maxsi v315 c0_i32_149
  let v320 : BitVec 32 := Scalar.subi v319 v316
  let c0_i32_153 : BitVec 32 := 0#32
  let v321 : BitVec 32 := Scalar.maxsi v320 c0_i32_153
  let c128_i32_154 : BitVec 32 := 128#32
  let v322 : BitVec 32 := Scalar.muli v321 c128_i32_154
  let v323 : BitVec 32 := v322
  let v324 : Index := Scalar.indexCast v323
  let c0_156 : Index := 0#32
  ![0, v324.toNat, 0]
def k0_mult14 (i : grid0.Coords) : BitVec 32 :=
  let arg2 : BitVec 32 := BitVec.ofNat 32 (i 2).val
  let c1_i32_128 : BitVec 32 := 1#32
  let v283 : BitVec 32 := Scalar.addi arg2 c1_i32_128
  let c4_i32_129 : BitVec 32 := 4#32
  let v284 : BitVec 32 := Scalar.muli v283 c4_i32_129
  let c1_i32_130 : BitVec 32 := 1#32
  let v285 : BitVec 32 := Scalar.subi v284 c1_i32_130
  let c1_i32_125 : BitVec 32 := 1#32
  let v280 : BitVec 32 := Scalar.addi arg2 c1_i32_125
  let c4_i32_126 : BitVec 32 := 4#32
  let v281 : BitVec 32 := Scalar.muli v280 c4_i32_126
  let c1_i32_127 : BitVec 32 := 1#32
  let v282 : BitVec 32 := Scalar.subi v281 c1_i32_127
  let v286 : BitVec 32 := Scalar.subi v285 v282
  let c0_i32_131 : BitVec 32 := 0#32
  let v287 : BitVec 32 := Scalar.maxsi v286 c0_i32_131
  let c128_i32_132 : BitVec 32 := 128#32
  let v288 : BitVec 32 := Scalar.muli v287 c128_i32_132
  v288
def k0_off8 (i : grid0.Coords) : Fin 3 → Nat :=
  let c0_133 : Index := 0#32
  let arg2 : BitVec 32 := BitVec.ofNat 32 (i 2).val
  let c1_i32_128 : BitVec 32 := 1#32
  let v283 : BitVec 32 := Scalar.addi arg2 c1_i32_128
  let c4_i32_129 : BitVec 32 := 4#32
  let v284 : BitVec 32 := Scalar.muli v283 c4_i32_129
  let c1_i32_130 : BitVec 32 := 1#32
  let v285 : BitVec 32 := Scalar.subi v284 c1_i32_130
  let c1_i32_125 : BitVec 32 := 1#32
  let v280 : BitVec 32 := Scalar.addi arg2 c1_i32_125
  let c4_i32_126 : BitVec 32 := 4#32
  let v281 : BitVec 32 := Scalar.muli v280 c4_i32_126
  let c1_i32_127 : BitVec 32 := 1#32
  let v282 : BitVec 32 := Scalar.subi v281 c1_i32_127
  let v286 : BitVec 32 := Scalar.subi v285 v282
  let c0_i32_131 : BitVec 32 := 0#32
  let v287 : BitVec 32 := Scalar.maxsi v286 c0_i32_131
  let c128_i32_132 : BitVec 32 := 128#32
  let v288 : BitVec 32 := Scalar.muli v287 c128_i32_132
  let v289 : BitVec 32 := v288
  let v290 : Index := Scalar.indexCast v289
  let c0_134 : Index := 0#32
  ![0, v290.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "q_scale" => some (((Real.sqrt 128)⁻¹ * (Real.log 2)⁻¹ : ℝ) : EReal)
  | _ => none
-- ==== ReferenceIdeal.lean ====
abbrev S2x8192x4x128 : Shape := ⟨4, ![2, 8192, 4, 128]⟩
abbrev S4 : Shape := ⟨1, ![4]⟩
abbrev S2x4x8192x8192 : Shape := ⟨4, ![2, 4, 8192, 8192]⟩
abbrev S_ : Shape := ⟨0, ![]⟩
abbrev S1x4x1x1 : Shape := ⟨4, ![1, 4, 1, 1]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x4x128x8192 : Shape := ⟨4, ![2, 4, 128, 8192]⟩
abbrev S2x8192x512 : Shape := ⟨3, ![2, 8192, 512]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x4x128, .f32⟩
  | .hbm, ⟨1, _⟩ => ⟨S2x8192x4x128, .f32⟩
  | .hbm, ⟨2, _⟩ => ⟨S2x8192x4x128, .f32⟩
  | .hbm, ⟨3, _⟩ => ⟨S4, .f32⟩
  | .hbm, ⟨4, _⟩ => ⟨S2x4x8192x8192, .f32⟩
  | .hbm, ⟨5, _⟩ => ⟨S_, .f32⟩
  | .hbm, ⟨6, _⟩ => ⟨S_, .f32⟩
  | .hbm, ⟨7, _⟩ => ⟨S2x4x8192x8192, .f32⟩
  | .hbm, ⟨8, _⟩ => ⟨S2x4x8192x8192, .f32⟩
  | .hbm, ⟨9, _⟩ => ⟨S1x4x1x1, .f32⟩
  | .hbm, ⟨10, _⟩ => ⟨S2x4x8192x8192, .f32⟩
  | .hbm, ⟨11, _⟩ => ⟨S2x4x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S2x4x8192x8192, .f32⟩
  | .hbm, ⟨19, _⟩ => ⟨S2x4x8192x8192, .f32⟩
  | .hbm, ⟨20, _⟩ => ⟨S_, .f32⟩
  | .hbm, ⟨21, _⟩ => ⟨S2x4x8192x8192, .f32⟩
  | .hbm, ⟨22, _⟩ => ⟨S2x4x8192x8192, .f32⟩
  | .hbm, ⟨23, _⟩ => ⟨S2x4x8192x8192, .f32⟩
  | .hbm, ⟨24, _⟩ => ⟨S2x4x8192x8192, .f32⟩
  | .hbm, ⟨25, _⟩ => ⟨S2x4x8192x8192, .i1⟩
  | .hbm, ⟨26, _⟩ => ⟨S2x4x8192x8192, .f32⟩
  | .hbm, ⟨27, _⟩ => ⟨S2x4x8192x8192, .f32⟩
  | .hbm, ⟨28, _⟩ => ⟨S2x4x8192x8192, .f32⟩
  | .hbm, ⟨29, _⟩ => ⟨S2x4x8192x8192, .f32⟩
  | .hbm, ⟨30, _⟩ => ⟨S2x4x8192x8192, .f32⟩
  | .hbm, ⟨31, _⟩ => ⟨S2x4x8192x8192, .f32⟩
  | .hbm, ⟨32, _⟩ => ⟨S2x4x8192x8192, .f32⟩
  | .hbm, ⟨33, _⟩ => ⟨S2x4x8192x8192, .f32⟩
  | .hbm, ⟨34, _⟩ => ⟨S2x4x8192x8192, .f32⟩
  | .hbm, ⟨35, _⟩ => ⟨S_, .f32⟩
  | .hbm, ⟨36, _⟩ => ⟨S_, .f32⟩
  | .hbm, ⟨37, _⟩ => ⟨S2x4x8192x8192, .i1⟩
  | .hbm, ⟨38, _⟩ => ⟨S2x4x8192x8192, .f32⟩
  | .hbm, ⟨39, _⟩ => ⟨S2x4x8192x8192, .f32⟩
  | .hbm, ⟨40, _⟩ => ⟨S_, .f32⟩
  | .hbm, ⟨41, _⟩ => ⟨S_, .f32⟩
  | .hbm, ⟨42, _⟩ => ⟨S2x4x8192x8192, .f32⟩
  | .hbm, ⟨43, _⟩ => ⟨S2x4x8192x8192, .f32⟩
  | .hbm, ⟨44, _⟩ => ⟨S2x4x8192x8192, .f32⟩
  | .hbm, ⟨45, _⟩ => ⟨S_, .f32⟩
  | .hbm, ⟨46, _⟩ => ⟨S2x4x8192x8192, .f32⟩
  | .hbm, ⟨47, _⟩ => ⟨S2x4x8192x8192, .f32⟩
  | .hbm, ⟨48, _⟩ => ⟨S2x4x8192x8192, .f32⟩
  | .hbm, ⟨49, _⟩ => ⟨S2x4x8192x8192, .f32⟩
  | .hbm, ⟨50, _⟩ => ⟨S2x4x8192x8192, .i1⟩
  | .hbm, ⟨51, _⟩ => ⟨S2x4x8192x8192, .f32⟩
  | .hbm, ⟨52, _⟩ => ⟨S2x4x8192x8192, .f32⟩
  | .hbm, ⟨53, _⟩ => ⟨S2x4x8192x8192, .f32⟩
  | .hbm, ⟨54, _⟩ => ⟨S2x4x8192x8192, .f32⟩
  | .hbm, ⟨55, _⟩ => ⟨S2x4x8192x8192, .f32⟩
  | .hbm, ⟨56, _⟩ => ⟨S2x4x8192x8192, .f32⟩
  | .hbm, ⟨57, _⟩ => ⟨S2x4x8192x8192, .f32⟩
  | .hbm, ⟨58, _⟩ => ⟨S2x4x8192x8192, .f32⟩
  | .hbm, ⟨59, _⟩ => ⟨S2x4x8192x8192, .f32⟩
  | .hbm, ⟨60, _⟩ => ⟨S2x4x8192x8192, .f32⟩
  | .hbm, ⟨61, _⟩ => ⟨S2x4x8192x8192, .f32⟩
  | .hbm, ⟨62, _⟩ => ⟨S_, .f32⟩
  | .hbm, ⟨63, _⟩ => ⟨S_, .f32⟩
  | .hbm, ⟨64, _⟩ => ⟨S2x4x8192x8192, .i1⟩
  | .hbm, ⟨65, _⟩ => ⟨S2x4x8192x8192, .f32⟩
  | .hbm, ⟨66, _⟩ => ⟨S2x4x8192x8192, .f32⟩
  | .hbm, ⟨67, _⟩ => ⟨S2x4x128x8192, .f32⟩
  | .hbm, ⟨68, _⟩ => ⟨S2x8192x4x128, .f32⟩
  | .hbm, ⟨69, _⟩ => ⟨S2x8192x512, .f32⟩
  | .hbm, ⟨70, _⟩ => ⟨S2x8192x512, .bf16⟩
  | _, _ => ⟨S2x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v15 : Ref sig .tc := ⟨.hbm, 39, rfl⟩
abbrev main_call2_cst : Ref sig .tc := ⟨.hbm, 40, rfl⟩
abbrev main_call2_v0 : Ref sig .tc := ⟨.hbm, 41, rfl⟩
abbrev main_v16 : Ref sig .tc := ⟨.hbm, 42, rfl⟩
abbrev main_v17 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S2x1024 : Shape := ⟨2, ![2, 1024]⟩
abbrev S1024x7680 : Shape := ⟨2, ![1024, 7680]⟩
abbrev S1024x3072 : Shape := ⟨2, ![1024, 3072]⟩
abbrev S1024x4608 : Shape := ⟨2, ![1024, 4608]⟩
abbrev S16384x1024 : Shape := ⟨2, ![16384, 1024]⟩
abbrev S2x1x1024 : Shape := ⟨3, ![2, 1, 1024]⟩
abbrev S1x1024 : Shape := ⟨2, ![1, 1024]⟩
abbrev S16384x7680 : Shape := ⟨2, ![16384, 7680]⟩
abbrev S1024x1024 : Shape := ⟨2, ![1024, 1024]⟩
abbrev S1x1x1024 : Shape := ⟨3, ![1, 1, 1024]⟩
abbrev S1024x1536 : Shape := ⟨2, ![1024, 1536]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x7680, .f32⟩
  | .hbm, ⟨5, _⟩ => ⟨S1024x3072, .f32⟩
  | .hbm, ⟨6, _⟩ => ⟨S1024x4608, .f32⟩
  | .hbm, ⟨7, _⟩ => ⟨S1024x7680, .f32⟩
  | .hbm, ⟨8, _⟩ => ⟨S1024x7680, .bf16⟩
  | .hbm, ⟨9, _⟩ => ⟨S16384x1024, .f32⟩
  | .hbm, ⟨10, _⟩ => ⟨S2x1x1024, .f32⟩
  | .hbm, ⟨11, _⟩ => ⟨S2x1x1024, .f32⟩
  | .hbm, ⟨12, _⟩ => ⟨S1x1024, .f32⟩
  | .hbm, ⟨13, _⟩ => ⟨S16384x7680, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S1024x1536, .bf16⟩
  | .local _ .vmem, ⟨9, _⟩ => ⟨S1024x1536, .f32⟩
  | .local _ .vmem, ⟨10, _⟩ => ⟨S1024x1536, .f32⟩
  | .local _ .vmem, ⟨11, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2x8192x1024 : Shape := ⟨3, ![2, 8192, 1024]⟩
abbrev S1024 : Shape := ⟨1, ![1024]⟩
abbrev S2x1024 : Shape := ⟨2, ![2, 1024]⟩
abbrev S1024x7680 : Shape := ⟨2, ![1024, 7680]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x7680 : Shape := ⟨3, ![2, 8192, 7680]⟩
abbrev S2x8192x3072 : Shape := ⟨3, ![2, 8192, 3072]⟩
abbrev S2x8192x4608 : Shape := ⟨3, ![2, 8192, 4608]⟩
abbrev S16384x7680 : Shape := ⟨2, ![16384, 7680]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x7680, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x1x1024, .f32⟩
  | .hbm, ⟨28, _⟩ => ⟨S2x8192x1024, .f32⟩
  | .hbm, ⟨29, _⟩ => ⟨S2x8192x1024, .f32⟩
  | .hbm, ⟨30, _⟩ => ⟨S2x8192x7680, .f32⟩
  | .hbm, ⟨31, _⟩ => ⟨S2x8192x3072, .f32⟩
  | .hbm, ⟨32, _⟩ => ⟨S2x8192x4608, .f32⟩
  | .hbm, ⟨33, _⟩ => ⟨S2x8192x7680, .f32⟩
  | .hbm, ⟨34, _⟩ => ⟨S16384x7680, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x512 : Shape := ⟨3, ![2, 8192, 512]⟩
abbrev S2x8192x7680 : Shape := ⟨3, ![2, 8192, 7680]⟩
abbrev S3x512x1024 : Shape := ⟨3, ![3, 512, 1024]⟩
abbrev S1024x1024 : Shape := ⟨2, ![1024, 1024]⟩
abbrev S2x1024 : Shape := ⟨2, ![2, 1024]⟩
abbrev S2x8192x3072 : Shape := ⟨3, ![2, 8192, 3072]⟩
abbrev S2x8192x4608 : Shape := ⟨3, ![2, 8192, 4608]⟩
abbrev S16384x7680 : Shape := ⟨2, ![16384, 7680]⟩
abbrev S16384x1024 : Shape := ⟨2, ![16384, 1024]⟩
abbrev S16384x512 : Shape := ⟨2, ![16384, 512]⟩
abbrev S2x1x1024 : Shape := ⟨3, ![2, 1, 1024]⟩
abbrev S512x1024 : Shape := ⟨2, ![512, 1024]⟩
abbrev S512x512 : Shape := ⟨2, ![512, 512]⟩
abbrev S512x3072 : Shape := ⟨2, ![512, 3072]⟩
abbrev S1x1x1024 : Shape := ⟨3, ![1, 1, 1024]⟩
abbrev S1x512x1024 : Shape := ⟨3, ![1, 512, 1024]⟩
abbrev S1x1024 : Shape := ⟨2, ![1, 1024]⟩

abbrev nBuf : Space → Nat
  | .hbm => 23
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x7680, .f32⟩
  | .hbm, ⟨5, _⟩ => ⟨S3x512x1024, .f32⟩
  | .hbm, ⟨6, _⟩ => ⟨S1024x1024, .f32⟩
  | .hbm, ⟨7, _⟩ => ⟨S2x1024, .f32⟩
  | .hbm, ⟨8, _⟩ => ⟨S2x8192x3072, .f32⟩
  | .hbm, ⟨9, _⟩ => ⟨S2x8192x4608, .f32⟩
  | .hbm, ⟨10, _⟩ => ⟨S2x8192x7680, .f32⟩
  | .hbm, ⟨11, _⟩ => ⟨S16384x7680, .f32⟩
  | .hbm, ⟨12, _⟩ => ⟨S16384x1024, .f32⟩
  | .hbm, ⟨13, _⟩ => ⟨S2x8192x512, .bf16⟩
  | .hbm, ⟨14, _⟩ => ⟨S16384x512, .bf16⟩
  | .hbm, ⟨15, _⟩ => ⟨S2x8192x512, .bf16⟩
  | .hbm, ⟨16, _⟩ => ⟨S16384x512, .bf16⟩
  | .hbm, ⟨17, _⟩ => ⟨S2x8192x512, .bf16⟩
  | .hbm, ⟨18, _⟩ => ⟨S16384x512, .bf16⟩
  | .hbm, ⟨19, _⟩ => ⟨S3x512x1024, .bf16⟩
  | .hbm, ⟨20, _⟩ => ⟨S1024x1024, .bf16⟩
  | .hbm, ⟨21, _⟩ => ⟨S2x1x1024, .f32⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .f32⟩
  | .local _ .vmem, ⟨9, _⟩ => ⟨S512x3072, .f32⟩
  | .local _ .vmem, ⟨10, _⟩ => ⟨S3x512x1024, .bf16⟩
  | .local _ .vmem, ⟨11, _⟩ => ⟨S1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S2x8192x1024 : Shape := ⟨3, ![2, 8192, 1024]⟩
abbrev S2x8192x512 : Shape := ⟨3, ![2, 8192, 512]⟩
abbrev S2x8192x7680 : Shape := ⟨3, ![2, 8192, 7680]⟩
abbrev S3x512x1024 : Shape := ⟨3, ![3, 512, 1024]⟩
abbrev S1024x1024 : Shape := ⟨2, ![1024, 1024]⟩
abbrev S2x1024 : Shape := ⟨2, ![2, 1024]⟩
abbrev S2x8192x3072 : Shape := ⟨3, ![2, 8192, 3072]⟩
abbrev S_ : Shape := ⟨0, ![]⟩
abbrev S1x512x1024 : Shape := ⟨3, ![1, 512, 1024]⟩
abbrev S512x1024 : Shape := ⟨2, ![512, 1024]⟩
abbrev S2x1x1024 : Shape := ⟨3, ![2, 1, 1024]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x7680, .f32⟩
  | .hbm, ⟨5, _⟩ => ⟨S3x512x1024, .f32⟩
  | .hbm, ⟨6, _⟩ => ⟨S1024x1024, .f32⟩
  | .hbm, ⟨7, _⟩ => ⟨S2x1024, .f32⟩
  | .hbm, ⟨8, _⟩ => ⟨S2x8192x3072, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192x1024, .f32⟩
  | .hbm, ⟨16, _⟩ => ⟨S2x8192x1024, .f32⟩
  | .hbm, ⟨17, _⟩ => ⟨S_, .f32⟩
  | .hbm, ⟨18, _⟩ => ⟨S2x8192x1024, .f32⟩
  | .hbm, ⟨19, _⟩ => ⟨S2x8192x1024, .f32⟩
  | .hbm, ⟨20, _⟩ => ⟨S1x512x1024, .f32⟩
  | .hbm, ⟨21, _⟩ => ⟨S512x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192x1024, .f32⟩
  | .hbm, ⟨31, _⟩ => ⟨S2x8192x1024, .f32⟩
  | .hbm, ⟨32, _⟩ => ⟨S1x512x1024, .f32⟩
  | .hbm, ⟨33, _⟩ => ⟨S512x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S_, .f32⟩
  | .hbm, ⟨40, _⟩ => ⟨S2x8192x1024, .f32⟩
  | .hbm, ⟨41, _⟩ => ⟨S2x8192x1024, .f32⟩
  | .hbm, ⟨42, _⟩ => ⟨S_, .f32⟩
  | .hbm, ⟨43, _⟩ => ⟨S2x8192x1024, .f32⟩
  | .hbm, ⟨44, _⟩ => ⟨S2x8192x1024, .f32⟩
  | .hbm, ⟨45, _⟩ => ⟨S1x512x1024, .f32⟩
  | .hbm, ⟨46, _⟩ => ⟨S512x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x1x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel5.lean ====
abbrev S2x8192x7680 : Shape := ⟨3, ![2, 8192, 7680]⟩
abbrev S128 : Shape := ⟨1, ![128]⟩
abbrev S2x8192x3072 : Shape := ⟨3, ![2, 8192, 3072]⟩
abbrev S2x8192x4608 : Shape := ⟨3, ![2, 8192, 4608]⟩
abbrev S16384x7680 : Shape := ⟨2, ![16384, 7680]⟩
abbrev S1x128 : Shape := ⟨2, ![1, 128]⟩
abbrev S16384x512 : Shape := ⟨2, ![16384, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S2x8192x7680, .f32⟩
  | .hbm, ⟨1, _⟩ => ⟨S128, .f32⟩
  | .hbm, ⟨2, _⟩ => ⟨S128, .f32⟩
  | .hbm, ⟨3, _⟩ => ⟨S2x8192x3072, .f32⟩
  | .hbm, ⟨4, _⟩ => ⟨S2x8192x4608, .f32⟩
  | .hbm, ⟨5, _⟩ => ⟨S2x8192x7680, .f32⟩
  | .hbm, ⟨6, _⟩ => ⟨S16384x7680, .f32⟩
  | .hbm, ⟨7, _⟩ => ⟨S1x128, .f32⟩
  | .hbm, ⟨8, _⟩ => ⟨S1x128, .f32⟩
  | .hbm, ⟨9, _⟩ => ⟨S16384x512, .bf16⟩
  | .hbm, ⟨10, _⟩ => ⟨S16384x512, .f32⟩
  | .hbm, ⟨11, _⟩ => ⟨S16384x512, .bf16⟩
  | .hbm, ⟨12, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x128, .f32⟩
  | .local _ .vmem, ⟨7, _⟩ => ⟨S1x128, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | _, _ => ⟨S2x8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel5Ideal.lean ====
variable {F : FTy → Type} [FloatOps F] [Named F]
def κ : String → Option EReal := fun
  | "q_scale" => some (((Real.sqrt 128)⁻¹ * (Real.log 2)⁻¹ : ℝ) : EReal)
  | _ => none
-- ==== Reference5Ideal.lean ====
abbrev S2x8192x7680 : Shape := ⟨3, ![2, 8192, 7680]⟩
abbrev S128 : Shape := ⟨1, ![128]⟩
abbrev S2x8192x512 : Shape := ⟨3, ![2, 8192, 512]⟩
abbrev S2x8192x4x128 : Shape := ⟨4, ![2, 8192, 4, 128]⟩
abbrev S_ : Shape := ⟨0, ![]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S16384x512 : Shape := ⟨2, ![16384, 512]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x7680, .f32⟩
  | .hbm, ⟨1, _⟩ => ⟨S128, .f32⟩
  | .hbm, ⟨2, _⟩ => ⟨S128, .f32⟩
  | .hbm, ⟨3, _⟩ => ⟨S2x8192x512, .f32⟩
  | .hbm, ⟨4, _⟩ => ⟨S2x8192x4x128, .f32⟩
  | .hbm, ⟨5, _⟩ => ⟨S2x8192x512, .f32⟩
  | .hbm, ⟨6, _⟩ => ⟨S2x8192x4x128, .f32⟩
  | .hbm, ⟨7, _⟩ => ⟨S2x8192x512, .f32⟩
  | .hbm, ⟨8, _⟩ => ⟨S2x8192x4x128, .f32⟩
  | .hbm, ⟨9, _⟩ => ⟨S2x8192x4x128, .f32⟩
  | .hbm, ⟨10, _⟩ => ⟨S_, .f32⟩
  | .hbm, ⟨11, _⟩ => ⟨S2x8192x4, .f32⟩
  | .hbm, ⟨12, _⟩ => ⟨S2x8192x4x1, .f32⟩
  | .hbm, ⟨13, _⟩ => ⟨S_, .f32⟩
  | .hbm, ⟨14, _⟩ => ⟨S2x8192x4x1, .f32⟩
  | .hbm, ⟨15, _⟩ => ⟨S2x8192x4x1, .f32⟩
  | .hbm, ⟨16, _⟩ => ⟨S_, .f32⟩
  | .hbm, ⟨17, _⟩ => ⟨S2x8192x4x1, .f32⟩
  | .hbm, ⟨18, _⟩ => ⟨S2x8192x4x1, .f32⟩
  | .hbm, ⟨19, _⟩ => ⟨S2x8192x4x1, .f32⟩
  | .hbm, ⟨20, _⟩ => ⟨S2x8192x4x128, .f32⟩
  | .hbm, ⟨21, _⟩ => ⟨S2x8192x4x128, .f32⟩
  | .hbm, ⟨22, _⟩ => ⟨S1x1x1x128, .f32⟩
  | .hbm, ⟨23, _⟩ => ⟨S2x8192x4x128, .f32⟩
  | .hbm, ⟨24, _⟩ => ⟨S2x8192x4x128, .f32⟩
  | .hbm, ⟨25, _⟩ => ⟨S2x8192x4x128, .f32⟩
  | .hbm, ⟨26, _⟩ => ⟨S_, .f32⟩
  | .hbm, ⟨27, _⟩ => ⟨S2x8192x4, .f32⟩
  | .hbm, ⟨28, _⟩ => ⟨S2x8192x4x1, .f32⟩
  | .hbm, ⟨29, _⟩ => ⟨S_, .f32⟩
  | .hbm, ⟨30, _⟩ => ⟨S2x8192x4x1, .f32⟩
  | .hbm, ⟨31, _⟩ => ⟨S2x8192x4x1, .f32⟩
  | .hbm, ⟨32, _⟩ => ⟨S_, .f32⟩
  | .hbm, ⟨33, _⟩ => ⟨S2x8192x4x1, .f32⟩
  | .hbm, ⟨34, _⟩ => ⟨S2x8192x4x1, .f32⟩
  | .hbm, ⟨35, _⟩ => ⟨S2x8192x4x1, .f32⟩
  | .hbm, ⟨36, _⟩ => ⟨S2x8192x4x128, .f32⟩
  | .hbm, ⟨37, _⟩ => ⟨S2x8192x4x128, .f32⟩
  | .hbm, ⟨38, _⟩ => ⟨S1x1x1x128, .f32⟩
  | .hbm, ⟨39, _⟩ => ⟨S2x8192x4x128, .f32⟩
  | .hbm, ⟨40, _⟩ => ⟨S2x8192x4x128, .f32⟩
  | .hbm, ⟨41, _⟩ => ⟨S_, .f32⟩
  | .hbm, ⟨42, _⟩ => ⟨S_, .f32⟩
  | .hbm, ⟨43, _⟩ => ⟨S2x8192x4x128, .f32⟩
  | .hbm, ⟨44, _⟩ => ⟨S2x8192x4x128, .f32⟩
  | .hbm, ⟨45, _⟩ => ⟨S_, .f32⟩
  | .hbm, ⟨46, _⟩ => ⟨S_, .f32⟩
  | .hbm, ⟨47, _⟩ => ⟨S2x8192x4x128, .f32⟩
  | .hbm, ⟨48, _⟩ => ⟨S2x8192x4x128, .f32⟩
  | .hbm, ⟨49, _⟩ => ⟨S16384x512, .f32⟩
  | .hbm, ⟨50, _⟩ => ⟨S16384x512, .bf16⟩
  | .hbm, ⟨51, _⟩ => ⟨S16384x512, .f32⟩
  | .hbm, ⟨52, _⟩ => ⟨S16384x512, .f32⟩
  | .hbm, ⟨53, _⟩ => ⟨S16384x512, .bf16⟩
  | .hbm, ⟨54, _⟩ => ⟨S16384x512, .f32⟩
  | .hbm, ⟨55, _⟩ => ⟨S16384x512, .bf16⟩
  | _, _ => ⟨S2x8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel6.lean ====
abbrev S2x8192x7680 : Shape := ⟨3, ![2, 8192, 7680]⟩
abbrev S512 : Shape := ⟨1, ![512]⟩
abbrev S4x128x128 : Shape := ⟨3, ![4, 128, 128]⟩
abbrev S4x128 : Shape := ⟨2, ![4, 128]⟩
abbrev S2x8192x3072 : Shape := ⟨3, ![2, 8192, 3072]⟩
abbrev S2x8192x4608 : Shape := ⟨3, ![2, 8192, 4608]⟩
abbrev S_ : Shape := ⟨0, ![]⟩
abbrev S128x128 : Shape := ⟨2, ![128, 128]⟩
abbrev S1x128x128 : Shape := ⟨3, ![1, 128, 128]⟩
abbrev S4x128x1 : Shape := ⟨3, ![4, 128, 1]⟩
abbrev S1x512 : Shape := ⟨2, ![1, 512]⟩
abbrev S2x8192x512 : Shape := ⟨3, ![2, 8192, 512]⟩
abbrev S1x128x512 : Shape := ⟨3, ![1, 128, 512]⟩
abbrev S128x512 : Shape := ⟨2, ![128, 512]⟩
abbrev S128 : Shape := ⟨1, ![128]⟩
abbrev S128x1 : Shape := ⟨2, ![128, 1]⟩

abbrev nBuf : Space → Nat
  | .hbm => 29
  | .vmem => 9
  | .smem => 0
  | _ => 0

abbrev bufTy : (tb : Table) → Fin (tcTables nBuf tb) → BufTy
  | .hbm, ⟨0, _⟩ => ⟨S2x8192x7680, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S2x8192x3072, .f32⟩
  | .hbm, ⟨5, _⟩ => ⟨S2x8192x4608, .f32⟩
  | .hbm, ⟨6, _⟩ => ⟨S2x8192x7680, .f32⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S1x128x128, .i1⟩
  | .hbm, ⟨19, _⟩ => ⟨S_, .f32⟩
  | .hbm, ⟨20, _⟩ => ⟨S_, .f32⟩
  | .hbm, ⟨21, _⟩ => ⟨S4x128x128, .i1⟩
  | .hbm, ⟨22, _⟩ => ⟨S4x128x128, .f32⟩
  | .hbm, ⟨23, _⟩ => ⟨S4x128x128, .f32⟩
  | .hbm, ⟨24, _⟩ => ⟨S4x128x128, .bf16⟩
  | .hbm, ⟨25, _⟩ => ⟨S4x128x1, .f32⟩
  | .hbm, ⟨26, _⟩ => ⟨S4x128x128, .f32⟩
  | .hbm, ⟨27, _⟩ => ⟨S1x512, .f32⟩
  | .hbm, ⟨28, _⟩ => ⟨S2x8192x512, .bf16⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x512, .f32⟩
  | .local _ .vmem, ⟨5, _⟩ => ⟨S4x128x128, .bf16⟩
  | .local _ .vmem, ⟨6, _⟩ => ⟨S4x128x128, .f32⟩
  | .local _ .vmem, ⟨7, _⟩ => ⟨S1x128x512, .bf16⟩
  | .local _ .vmem, ⟨8, _⟩ => ⟨S1x128x512, .bf16⟩
  | _, _ => ⟨S2x8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2x8192x7680 : Shape := ⟨3, ![2, 8192, 7680]⟩
abbrev S512 : Shape := ⟨1, ![512]⟩
abbrev S4x128x128 : Shape := ⟨3, ![4, 128, 128]⟩
abbrev S4x128 : Shape := ⟨2, ![4, 128]⟩
abbrev S2x8192x512 : Shape := ⟨3, ![2, 8192, 512]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S2x64x128x4x128 : Shape := ⟨5, ![2, 64, 128, 4, 128]⟩
abbrev S128x128 : Shape := ⟨2, ![128, 128]⟩
abbrev S1x128x128 : Shape := ⟨3, ![1, 128, 128]⟩
abbrev S4x2x64x128x128 : Shape := ⟨5, ![4, 2, 64, 128, 128]⟩
abbrev S128x4 : Shape := ⟨2, ![128, 4]⟩
abbrev S1x1x128x4x1 : Shape := ⟨5, ![1, 1, 128, 4, 1]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x7680, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S2x8192x512, .f32⟩
  | .hbm, ⟨5, _⟩ => ⟨S2x8192x512, .f32⟩
  | .hbm, ⟨6, _⟩ => ⟨S2x8192x512, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x512, .f32⟩
  | .hbm, ⟨18, _⟩ => ⟨S2x8192x512, .f32⟩
  | .hbm, ⟨19, _⟩ => ⟨S1x1x512, .f32⟩
  | .hbm, ⟨20, _⟩ => ⟨S2x8192x512, .f32⟩
  | .hbm, ⟨21, _⟩ => ⟨S2x8192x512, .f32⟩
  | .hbm, ⟨22, _⟩ => ⟨S2x64x128x4x128, .f32⟩
  | .hbm, ⟨23, _⟩ => ⟨S_, .i1⟩
  | .hbm, ⟨24, _⟩ => ⟨S128x128, .i1⟩
  | .hbm, ⟨25, _⟩ => ⟨S128x128, .i32⟩
  | .hbm, ⟨26, _⟩ => ⟨S_, .i32⟩
  | .hbm, ⟨27, _⟩ => ⟨S128x128, .i32⟩
  | .hbm, ⟨28, _⟩ => ⟨S128x128, .i32⟩
  | .hbm, ⟨29, _⟩ => ⟨S128x128, .i32⟩
  | .hbm, ⟨30, _⟩ => ⟨S128x128, .i1⟩
  | .hbm, ⟨31, _⟩ => ⟨S_, .i1⟩
  | .hbm, ⟨32, _⟩ => ⟨S128x128, .i1⟩
  | .hbm, ⟨33, _⟩ => ⟨S128x128, .i1⟩
  | .hbm, ⟨34, _⟩ => ⟨S1x128x128, .i1⟩
  | .hbm, ⟨35, _⟩ => ⟨S_, .f32⟩
  | .hbm, ⟨36, _⟩ => ⟨S_, .f32⟩
  | .hbm, ⟨37, _⟩ => ⟨S4x128x128, .i1⟩
  | .hbm, ⟨38, _⟩ => ⟨S4x128x128, .f32⟩
  | .hbm, ⟨39, _⟩ => ⟨S4x128x128, .f32⟩
  | .hbm, ⟨40, _⟩ => ⟨S4x2x64x128x128, .f32⟩
  | .hbm, ⟨41, _⟩ => ⟨S2x64x128x4x128, .f32⟩
  | .hbm, ⟨42, _⟩ => ⟨S128x4, .f32⟩
  | .hbm, ⟨43, _⟩ => ⟨S1x1x128x4x1, .f32⟩
  | .hbm, ⟨44, _⟩ => ⟨S2x64x128x4x128, .f32⟩
  | .hbm, ⟨45, _⟩ => ⟨S2x64x128x4x128, .f32⟩
  | .hbm, ⟨46, _⟩ => ⟨S2x8192x512, .f32⟩
  | .hbm, ⟨47, _⟩ => ⟨S2x8192x512, .f32⟩
  | .hbm, ⟨48, _⟩ => ⟨S2x8192x512, .bf16⟩
  | _, _ => ⟨S2x8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== Kernel7.lean ====
abbrev S32x4x7680 : Shape := ⟨3, ![32, 4, 7680]⟩
abbrev S512 : Shape := ⟨1, ![512]⟩
abbrev S4x128x128 : Shape := ⟨3, ![4, 128, 128]⟩
abbrev S4x128 : Shape := ⟨2, ![4, 128]⟩
abbrev S32x4x3072 : Shape := ⟨3, ![32, 4, 3072]⟩
abbrev S32x4x4608 : Shape := ⟨3, ![32, 4, 4608]⟩
abbrev S1x128x7680 : Shape := ⟨3, ![1, 128, 7680]⟩
abbrev S_ : Shape := ⟨0, ![]⟩
abbrev S128x128 : Shape := ⟨2, ![128, 128]⟩
abbrev S1x128x128 : Shape := ⟨3, ![1, 128, 128]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x1x32x1 : Shape := ⟨4, ![32, 1, 32, 1]⟩
abbrev S32x4x32x4 : Shape := ⟨4, ![32, 4, 32, 4]⟩
abbrev S4x4x4 : Shape := ⟨3, ![4, 4, 4]⟩
abbrev S1x4x1x4x1x4 : Shape := ⟨6, ![1, 4, 1, 4, 1, 4]⟩
abbrev S1x4x32x4x32x4 : Shape := ⟨6, ![1, 4, 32, 4, 32, 4]⟩
abbrev S4x4 : Shape := ⟨2, ![4, 4]⟩
abbrev S1x4x1x4 : Shape := ⟨4, ![1, 4, 1, 4]⟩
abbrev S1x4x32x4 : Shape := ⟨4, ![1, 4, 32, 4]⟩
abbrev S4x128x1 : Shape := ⟨3, ![4, 128, 1]⟩
abbrev S1x512 : Shape := ⟨2, ![1, 512]⟩
abbrev S1x128x512 : Shape := ⟨3, ![1, 128, 512]⟩
abbrev S128x512 : Shape := ⟨2, ![128, 512]⟩
abbrev S128 : Shape := ⟨1, ![128]⟩
abbrev S128x1 : Shape := ⟨2, ![128, 1]⟩

abbrev nBuf : Space → Nat
  | .hbm => 54
  | .vmem => 7
  | .smem => 0
  | _ => 0

abbrev bufTy : (tb : Table) → Fin (tcTables nBuf tb) → BufTy
  | .hbm, ⟨0, _⟩ => ⟨S32x4x7680, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S32x4x3072, .f32⟩
  | .hbm, ⟨5, _⟩ => ⟨S32x4x4608, .f32⟩
  | .hbm, ⟨6, _⟩ => ⟨S32x4x7680, .f32⟩
  | .hbm, ⟨7, _⟩ => ⟨S1x128x7680, .f32⟩
  | .hbm, ⟨8, _⟩ => ⟨S_, .i1⟩
  | .hbm, ⟨9, _⟩ => ⟨S128x128, .i1⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .i1⟩
  | .hbm, ⟨17, _⟩ => ⟨S128x128, .i1⟩
  | .hbm, ⟨18, _⟩ => ⟨S128x128, .i1⟩
  | .hbm, ⟨19, _⟩ => ⟨S1x128x128, .i1⟩
  | .hbm, ⟨20, _⟩ => ⟨S_, .f32⟩
  | .hbm, ⟨21, _⟩ => ⟨S_, .f32⟩
  | .hbm, ⟨22, _⟩ => ⟨S4x128x128, .i1⟩
  | .hbm, ⟨23, _⟩ => ⟨S4x128x128, .f32⟩
  | .hbm, ⟨24, _⟩ => ⟨S4x128x128, .f32⟩
  | .hbm, ⟨25, _⟩ => ⟨S32, .i32⟩
  | .hbm, ⟨26, _⟩ => ⟨S32x1, .i32⟩
  | .hbm, ⟨27, _⟩ => ⟨S1x32, .i32⟩
  | .hbm, ⟨28, _⟩ => ⟨S32x32, .i32⟩
  | .hbm, ⟨29, _⟩ => ⟨S32x32, .i32⟩
  | .hbm, ⟨30, _⟩ => ⟨S32x32, .i1⟩
  | .hbm, ⟨31, _⟩ => ⟨S32x1x32x1, .i1⟩
  | .hbm, ⟨32, _⟩ => ⟨S32x4x32x4, .i1⟩
  | .hbm, ⟨33, _⟩ => ⟨S128x128, .i1⟩
  | .hbm, ⟨34, _⟩ => ⟨S1x128x128, .i1⟩
  | .hbm, ⟨35, _⟩ => ⟨S4x4x4, .f32⟩
  | .hbm, ⟨36, _⟩ => ⟨S1x4x1x4x1x4, .f32⟩
  | .hbm, ⟨37, _⟩ => ⟨S1x4x32x4x32x4, .f32⟩
  | .hbm, ⟨38, _⟩ => ⟨S4x128x128, .f32⟩
  | .hbm, ⟨39, _⟩ => ⟨S_, .f32⟩
  | .hbm, ⟨40, _⟩ => ⟨S_, .f32⟩
  | .hbm, ⟨41, _⟩ => ⟨S4x128x128, .i1⟩
  | .hbm, ⟨42, _⟩ => ⟨S4x128x128, .f32⟩
  | .hbm, ⟨43, _⟩ => ⟨S4x128x128, .f32⟩
  | .hbm, ⟨44, _⟩ => ⟨S4x4, .f32⟩
  | .hbm, ⟨45, _⟩ => ⟨S1x4x1x4, .f32⟩
  | .hbm, ⟨46, _⟩ => ⟨S1x4x32x4, .f32⟩
  | .hbm, ⟨47, _⟩ => ⟨S4x128, .f32⟩
  | .hbm, ⟨48, _⟩ => ⟨S4x128x128, .bf16⟩
  | .hbm, ⟨49, _⟩ => ⟨S4x128x1, .f32⟩
  | .hbm, ⟨50, _⟩ => ⟨S4x128x128, .f32⟩
  | .hbm, ⟨51, _⟩ => ⟨S1x512, .f32⟩
  | .hbm, ⟨52, _⟩ => ⟨S1x128x512, .bf16⟩
  | .hbm, ⟨53, _⟩ => ⟨S1x128x512, .f32⟩
  | .local _ .vmem, ⟨0, _⟩ => ⟨S1x128x512, .f32⟩
  | .local _ .vmem, ⟨1, _⟩ => ⟨S1x128x512, .f32⟩
  | .local _ .vmem, ⟨2, _⟩ => ⟨S1x512, .f32⟩
  | .local _ .vmem, ⟨3, _⟩ => ⟨S4x128x128, .bf16⟩
  | .local _ .vmem, ⟨4, _⟩ => ⟨S4x128x128, .f32⟩
  | .local _ .vmem, ⟨5, _⟩ => ⟨S1x128x512, .bf16⟩
  | .local _ .vmem, ⟨6, _⟩ => ⟨S1x128x512, .f32⟩
  | _, _ => ⟨S32x4x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference7Ideal.lean ====
abbrev S32x4x7680 : Shape := ⟨3, ![32, 4, 7680]⟩
abbrev S512 : Shape := ⟨1, ![512]⟩
abbrev S4x128x128 : Shape := ⟨3, ![4, 128, 128]⟩
abbrev S4x128 : Shape := ⟨2, ![4, 128]⟩
abbrev S32x4x512 : Shape := ⟨3, ![32, 4, 512]⟩
abbrev S_ : Shape := ⟨0, ![]⟩
abbrev S32x4 : Shape := ⟨2, ![32, 4]⟩
abbrev S32x4x1 : Shape := ⟨3, ![32, 4, 1]⟩
abbrev S1x1x512 : Shape := ⟨3, ![1, 1, 512]⟩
abbrev S32x4x4x128 : Shape := ⟨4, ![32, 4, 4, 128]⟩
abbrev S128x128 : Shape := ⟨2, ![128, 128]⟩
abbrev S1x128x128 : Shape := ⟨3, ![1, 128, 128]⟩
abbrev S4x4x4 : Shape := ⟨3, ![4, 4, 4]⟩
abbrev S4x32x128x4 : Shape := ⟨4, ![4, 32, 128, 4]⟩
abbrev S4x4 : Shape := ⟨2, ![4, 4]⟩
abbrev S1x4x4x1 : Shape := ⟨4, ![1, 4, 4, 1]⟩
abbrev S1x128x512 : Shape := ⟨3, ![1, 128, 512]⟩

abbrev nBuf : Space → Nat
  | .hbm => 53
  | .vmem => 0
  | .smem => 0
  | _ => 0

abbrev bufTy : (tb : Table) → Fin (tcTables nBuf tb) → BufTy
  | .hbm, ⟨0, _⟩ => ⟨S32x4x7680, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S32x4x512, .f32⟩
  | .hbm, ⟨5, _⟩ => ⟨S32x4x512, .f32⟩
  | .hbm, ⟨6, _⟩ => ⟨S32x4x512, .f32⟩
  | .hbm, ⟨7, _⟩ => ⟨S_, .f32⟩
  | .hbm, ⟨8, _⟩ => ⟨S32x4, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S32x4x1, .f32⟩
  | .hbm, ⟨17, _⟩ => ⟨S32x4x512, .f32⟩
  | .hbm, ⟨18, _⟩ => ⟨S32x4x512, .f32⟩
  | .hbm, ⟨19, _⟩ => ⟨S1x1x512, .f32⟩
  | .hbm, ⟨20, _⟩ => ⟨S32x4x512, .f32⟩
  | .hbm, ⟨21, _⟩ => ⟨S32x4x512, .f32⟩
  | .hbm, ⟨22, _⟩ => ⟨S32x4x4x128, .f32⟩
  | .hbm, ⟨23, _⟩ => ⟨S_, .i1⟩
  | .hbm, ⟨24, _⟩ => ⟨S128x128, .i1⟩
  | .hbm, ⟨25, _⟩ => ⟨S128x128, .i32⟩
  | .hbm, ⟨26, _⟩ => ⟨S_, .i32⟩
  | .hbm, ⟨27, _⟩ => ⟨S128x128, .i32⟩
  | .hbm, ⟨28, _⟩ => ⟨S128x128, .i32⟩
  | .hbm, ⟨29, _⟩ => ⟨S128x128, .i32⟩
  | .hbm, ⟨30, _⟩ => ⟨S128x128, .i1⟩
  | .hbm, ⟨31, _⟩ => ⟨S_, .i1⟩
  | .hbm, ⟨32, _⟩ => ⟨S128x128, .i1⟩
  | .hbm, ⟨33, _⟩ => ⟨S128x128, .i1⟩
  | .hbm, ⟨34, _⟩ => ⟨S1x128x128, .i1⟩
  | .hbm, ⟨35, _⟩ => ⟨S_, .f32⟩
  | .hbm, ⟨36, _⟩ => ⟨S_, .f32⟩
  | .hbm, ⟨37, _⟩ => ⟨S4x128x128, .i1⟩
  | .hbm, ⟨38, _⟩ => ⟨S4x128x128, .f32⟩
  | .hbm, ⟨39, _⟩ => ⟨S4x128x128, .f32⟩
  | .hbm, ⟨40, _⟩ => ⟨S4x4x4, .f32⟩
  | .hbm, ⟨41, _⟩ => ⟨S4x32x128x4, .f32⟩
  | .hbm, ⟨42, _⟩ => ⟨S32x4x4x128, .f32⟩
  | .hbm, ⟨43, _⟩ => ⟨S4x4, .f32⟩
  | .hbm, ⟨44, _⟩ => ⟨S4x4, .f32⟩
  | .hbm, ⟨45, _⟩ => ⟨S1x4x4x1, .f32⟩
  | .hbm, ⟨46, _⟩ => ⟨S32x4x4x128, .f32⟩
  | .hbm, ⟨47, _⟩ => ⟨S32x4x4x128, .f32⟩
  | .hbm, ⟨48, _⟩ => ⟨S32x4x512, .f32⟩
  | .hbm, ⟨49, _⟩ => ⟨S32x4x512, .f32⟩
  | .hbm, ⟨50, _⟩ => ⟨S32x4x512, .bf16⟩
  | .hbm, ⟨51, _⟩ => ⟨S1x128x512, .bf16⟩
  | .hbm, ⟨52, _⟩ => ⟨S1x128x512, .f32⟩
  | _, _ => ⟨S32x4x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel8.lean ====
abbrev S32x4x1024 : Shape := ⟨3, ![32, 4, 1024]⟩
abbrev S1024 : Shape := ⟨1, ![1024]⟩
abbrev S32x1024 : Shape := ⟨2, ![32, 1024]⟩
abbrev S1024x7680 : Shape := ⟨2, ![1024, 7680]⟩
abbrev S1024x3072 : Shape := ⟨2, ![1024, 3072]⟩
abbrev S1024x4608 : Shape := ⟨2, ![1024, 4608]⟩
abbrev S128x1024 : Shape := ⟨2, ![128, 1024]⟩
abbrev S1x128x1024 : Shape := ⟨3, ![1, 128, 1024]⟩
abbrev S1x1024 : Shape := ⟨2, ![1, 1024]⟩
abbrev S128x7680 : Shape := ⟨2, ![128, 7680]⟩
abbrev S1024x1536 : Shape := ⟨2, ![1024, 1536]⟩
abbrev S128x1536 : Shape := ⟨2, ![128, 1536]⟩
abbrev S128 : Shape := ⟨1, ![128]⟩
abbrev S128x1 : Shape := ⟨2, ![128, 1]⟩

abbrev nBuf : Space → Nat
  | .hbm => 18
  | .vmem => 9
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x7680, .f32⟩
  | .hbm, ⟨5, _⟩ => ⟨S1024x3072, .f32⟩
  | .hbm, ⟨6, _⟩ => ⟨S1024x4608, .f32⟩
  | .hbm, ⟨7, _⟩ => ⟨S1024x7680, .f32⟩
  | .hbm, ⟨8, _⟩ => ⟨S1024x7680, .bf16⟩
  | .hbm, ⟨9, _⟩ => ⟨S128x1024, .f32⟩
  | .hbm, ⟨10, _⟩ => ⟨S32x4x1024, .f32⟩
  | .hbm, ⟨11, _⟩ => ⟨S128x1024, .f32⟩
  | .hbm, ⟨12, _⟩ => ⟨S1x128x1024, .f32⟩
  | .hbm, ⟨13, _⟩ => ⟨S32x4x1024, .f32⟩
  | .hbm, ⟨14, _⟩ => ⟨S128x1024, .f32⟩
  | .hbm, ⟨15, _⟩ => ⟨S1x128x1024, .f32⟩
  | .hbm, ⟨16, _⟩ => ⟨S1x1024, .f32⟩
  | .hbm, ⟨17, _⟩ => ⟨S128x7680, .f32⟩
  | .local _ .vmem, ⟨0, _⟩ => ⟨S128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x1536, .bf16⟩
  | .local _ .vmem, ⟨5, _⟩ => ⟨S1024x1536, .bf16⟩
  | .local _ .vmem, ⟨6, _⟩ => ⟨S128x1536, .f32⟩
  | .local _ .vmem, ⟨7, _⟩ => ⟨S128x1536, .f32⟩
  | .local _ .vmem, ⟨8, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S32x4x1024 : Shape := ⟨3, ![32, 4, 1024]⟩
abbrev S1024 : Shape := ⟨1, ![1024]⟩
abbrev S32x1024 : Shape := ⟨2, ![32, 1024]⟩
abbrev S1024x7680 : Shape := ⟨2, ![1024, 7680]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x1x1024 : Shape := ⟨3, ![32, 1, 1024]⟩
abbrev S32x4x7680 : Shape := ⟨3, ![32, 4, 7680]⟩
abbrev S32x4x3072 : Shape := ⟨3, ![32, 4, 3072]⟩
abbrev S32x4x4608 : Shape := ⟨3, ![32, 4, 4608]⟩
abbrev S128x7680 : Shape := ⟨2, ![128, 7680]⟩

abbrev nBuf : Space → Nat
  | .hbm => 35
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x7680, .f32⟩
  | .hbm, ⟨5, _⟩ => ⟨S32x4x1024, .f32⟩
  | .hbm, ⟨6, _⟩ => ⟨S_, .f32⟩
  | .hbm, ⟨7, _⟩ => ⟨S32x4, .f32⟩
  | .hbm, ⟨8, _⟩ => ⟨S32x4x1, .f32⟩
  | .hbm, ⟨9, _⟩ => ⟨S_, .f32⟩
  | .hbm, ⟨10, _⟩ => ⟨S32x4x1, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1, .f32⟩
  | .hbm, ⟨16, _⟩ => ⟨S32x4x1024, .f32⟩
  | .hbm, ⟨17, _⟩ => ⟨S32x4x1024, .f32⟩
  | .hbm, ⟨18, _⟩ => ⟨S1x1x1024, .f32⟩
  | .hbm, ⟨19, _⟩ => ⟨S32x4x1024, .f32⟩
  | .hbm, ⟨20, _⟩ => ⟨S32x4x1024, .f32⟩
  | .hbm, ⟨21, _⟩ => ⟨S32x1x1024, .f32⟩
  | .hbm, ⟨22, _⟩ => ⟨S_, .f32⟩
  | .hbm, ⟨23, _⟩ => ⟨S32x1x1024, .f32⟩
  | .hbm, ⟨24, _⟩ => ⟨S32x1x1024, .f32⟩
  | .hbm, ⟨25, _⟩ => ⟨S32x4x1024, .f32⟩
  | .hbm, ⟨26, _⟩ => ⟨S32x4x1024, .f32⟩
  | .hbm, ⟨27, _⟩ => ⟨S32x1x1024, .f32⟩
  | .hbm, ⟨28, _⟩ => ⟨S32x4x1024, .f32⟩
  | .hbm, ⟨29, _⟩ => ⟨S32x4x1024, .f32⟩
  | .hbm, ⟨30, _⟩ => ⟨S32x4x7680, .f32⟩
  | .hbm, ⟨31, _⟩ => ⟨S32x4x3072, .f32⟩
  | .hbm, ⟨32, _⟩ => ⟨S32x4x4608, .f32⟩
  | .hbm, ⟨33, _⟩ => ⟨S32x4x7680, .f32⟩
  | .hbm, ⟨34, _⟩ => ⟨S128x7680, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel9.lean ====
abbrev S32x4x7680 : Shape := ⟨3, ![32, 4, 7680]⟩
abbrev S128 : Shape := ⟨1, ![128]⟩
abbrev S32x4x3072 : Shape := ⟨3, ![32, 4, 3072]⟩
abbrev S32x4x4608 : Shape := ⟨3, ![32, 4, 4608]⟩
abbrev S128x7680 : Shape := ⟨2, ![128, 7680]⟩
abbrev S1x128 : Shape := ⟨2, ![1, 128]⟩
abbrev S128x512 : Shape := ⟨2, ![128, 512]⟩
abbrev S128x128 : Shape := ⟨2, ![128, 128]⟩
abbrev S128x1 : Shape := ⟨2, ![128, 1]⟩

abbrev nBuf : Space → Nat
  | .hbm => 13
  | .vmem => 9
  | .smem => 0
  | _ => 0

abbrev bufTy : (tb : Table) → Fin (tcTables nBuf tb) → BufTy
  | .hbm, ⟨0, _⟩ => ⟨S32x4x7680, .f32⟩
  | .hbm, ⟨1, _⟩ => ⟨S128, .f32⟩
  | .hbm, ⟨2, _⟩ => ⟨S128, .f32⟩
  | .hbm, ⟨3, _⟩ => ⟨S32x4x3072, .f32⟩
  | .hbm, ⟨4, _⟩ => ⟨S32x4x4608, .f32⟩
  | .hbm, ⟨5, _⟩ => ⟨S32x4x7680, .f32⟩
  | .hbm, ⟨6, _⟩ => ⟨S128x7680, .f32⟩
  | .hbm, ⟨7, _⟩ => ⟨S1x128, .f32⟩
  | .hbm, ⟨8, _⟩ => ⟨S1x128, .f32⟩
  | .hbm, ⟨9, _⟩ => ⟨S128x512, .bf16⟩
  | .hbm, ⟨10, _⟩ => ⟨S128x512, .f32⟩
  | .hbm, ⟨11, _⟩ => ⟨S128x512, .bf16⟩
  | .hbm, ⟨12, _⟩ => ⟨S128x512, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S1x128, .f32⟩
  | .local _ .vmem, ⟨4, _⟩ => ⟨S1x128, .f32⟩
  | .local _ .vmem, ⟨5, _⟩ => ⟨S128x512, .bf16⟩
  | .local _ .vmem, ⟨6, _⟩ => ⟨S128x512, .f32⟩
  | .local _ .vmem, ⟨7, _⟩ => ⟨S128x512, .bf16⟩
  | .local _ .vmem, ⟨8, _⟩ => ⟨S128x512, .bf16⟩
  | _, _ => ⟨S32x4x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel9Ideal.lean ====
variable {F : FTy → Type} [FloatOps F] [Named F]
def κ : String → Option EReal := fun
  | "q_scale" => some (((Real.sqrt 128)⁻¹ * (Real.log 2)⁻¹ : ℝ) : EReal)
  | _ => none
-- ==== Reference9Ideal.lean ====
abbrev S32x4x7680 : Shape := ⟨3, ![32, 4, 7680]⟩
abbrev S128 : Shape := ⟨1, ![128]⟩
abbrev S32x4x512 : Shape := ⟨3, ![32, 4, 512]⟩
abbrev S32x4x4x128 : Shape := ⟨4, ![32, 4, 4, 128]⟩
abbrev S_ : Shape := ⟨0, ![]⟩
abbrev S32x4x4 : Shape := ⟨3, ![32, 4, 4]⟩
abbrev S32x4x4x1 : Shape := ⟨4, ![32, 4, 4, 1]⟩
abbrev S1x1x1x128 : Shape := ⟨4, ![1, 1, 1, 128]⟩
abbrev S128x512 : Shape := ⟨2, ![128, 512]⟩

abbrev nBuf : Space → Nat
  | .hbm => 56
  | .vmem => 0
  | .smem => 0
  | _ => 0

abbrev bufTy : (tb : Table) → Fin (tcTables nBuf tb) → BufTy
  | .hbm, ⟨0, _⟩ => ⟨S32x4x7680, .f32⟩
  | .hbm, ⟨1, _⟩ => ⟨S128, .f32⟩
  | .hbm, ⟨2, _⟩ => ⟨S128, .f32⟩
  | .hbm, ⟨3, _⟩ => ⟨S32x4x512, .f32⟩
  | .hbm, ⟨4, _⟩ => ⟨S32x4x4x128, .f32⟩
  | .hbm, ⟨5, _⟩ => ⟨S32x4x512, .f32⟩
  | .hbm, ⟨6, _⟩ => ⟨S32x4x4x128, .f32⟩
  | .hbm, ⟨7, _⟩ => ⟨S32x4x512, .f32⟩
  | .hbm, ⟨8, _⟩ => ⟨S32x4x4x128, .f32⟩
  | .hbm, ⟨9, _⟩ => ⟨S32x4x4x128, .f32⟩
  | .hbm, ⟨10, _⟩ => ⟨S_, .f32⟩
  | .hbm, ⟨11, _⟩ => ⟨S32x4x4, .f32⟩
  | .hbm, ⟨12, _⟩ => ⟨S32x4x4x1, .f32⟩
  | .hbm, ⟨13, _⟩ => ⟨S_, .f32⟩
  | .hbm, ⟨14, _⟩ => ⟨S32x4x4x1, .f32⟩
  | .hbm, ⟨15, _⟩ => ⟨S32x4x4x1, .f32⟩
  | .hbm, ⟨16, _⟩ => ⟨S_, .f32⟩
  | .hbm, ⟨17, _⟩ => ⟨S32x4x4x1, .f32⟩
  | .hbm, ⟨18, _⟩ => ⟨S32x4x4x1, .f32⟩
  | .hbm, ⟨19, _⟩ => ⟨S32x4x4x1, .f32⟩
  | .hbm, ⟨20, _⟩ => ⟨S32x4x4x128, .f32⟩
  | .hbm, ⟨21, _⟩ => ⟨S32x4x4x128, .f32⟩
  | .hbm, ⟨22, _⟩ => ⟨S1x1x1x128, .f32⟩
  | .hbm, ⟨23, _⟩ => ⟨S32x4x4x128, .f32⟩
  | .hbm, ⟨24, _⟩ => ⟨S32x4x4x128, .f32⟩
  | .hbm, ⟨25, _⟩ => ⟨S32x4x4x128, .f32⟩
  | .hbm, ⟨26, _⟩ => ⟨S_, .f32⟩
  | .hbm, ⟨27, _⟩ => ⟨S32x4x4, .f32⟩
  | .hbm, ⟨28, _⟩ => ⟨S32x4x4x1, .f32⟩
  | .hbm, ⟨29, _⟩ => ⟨S_, .f32⟩
  | .hbm, ⟨30, _⟩ => ⟨S32x4x4x1, .f32⟩
  | .hbm, ⟨31, _⟩ => ⟨S32x4x4x1, .f32⟩
  | .hbm, ⟨32, _⟩ => ⟨S_, .f32⟩
  | .hbm, ⟨33, _⟩ => ⟨S32x4x4x1, .f32⟩
  | .hbm, ⟨34, _⟩ => ⟨S32x4x4x1, .f32⟩
  | .hbm, ⟨35, _⟩ => ⟨S32x4x4x1, .f32⟩
  | .hbm, ⟨36, _⟩ => ⟨S32x4x4x128, .f32⟩
  | .hbm, ⟨37, _⟩ => ⟨S32x4x4x128, .f32⟩
  | .hbm, ⟨38, _⟩ => ⟨S1x1x1x128, .f32⟩
  | .hbm, ⟨39, _⟩ => ⟨S32x4x4x128, .f32⟩
  | .hbm, ⟨40, _⟩ => ⟨S32x4x4x128, .f32⟩
  | .hbm, ⟨41, _⟩ => ⟨S_, .f32⟩
  | .hbm, ⟨42, _⟩ => ⟨S_, .f32⟩
  | .hbm, ⟨43, _⟩ => ⟨S32x4x4x128, .f32⟩
  | .hbm, ⟨44, _⟩ => ⟨S32x4x4x128, .f32⟩
  | .hbm, ⟨45, _⟩ => ⟨S_, .f32⟩
  | .hbm, ⟨46, _⟩ => ⟨S_, .f32⟩
  | .hbm, ⟨47, _⟩ => ⟨S32x4x4x128, .f32⟩
  | .hbm, ⟨48, _⟩ => ⟨S32x4x4x128, .f32⟩
  | .hbm, ⟨49, _⟩ => ⟨S128x512, .f32⟩
  | .hbm, ⟨50, _⟩ => ⟨S128x512, .bf16⟩
  | .hbm, ⟨51, _⟩ => ⟨S128x512, .f32⟩
  | .hbm, ⟨52, _⟩ => ⟨S128x512, .f32⟩
  | .hbm, ⟨53, _⟩ => ⟨S128x512, .bf16⟩
  | .hbm, ⟨54, _⟩ => ⟨S128x512, .f32⟩
  | .hbm, ⟨55, _⟩ => ⟨S128x512, .bf16⟩
  | _, _ => ⟨S32x4x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel10.lean ====
abbrev S2x1024 : Shape := ⟨2, ![2, 1024]⟩
abbrev S32x1024 : Shape := ⟨2, ![32, 1024]⟩
abbrev S4x1024x6144 : Shape := ⟨3, ![4, 1024, 6144]⟩
abbrev S4x6144 : Shape := ⟨2, ![4, 6144]⟩
abbrev S34x1024 : Shape := ⟨2, ![34, 1024]⟩
abbrev S4x1x6144 : Shape := ⟨3, ![4, 1, 6144]⟩
abbrev S4x34x6144 : Shape := ⟨3, ![4, 34, 6144]⟩
abbrev S1x1024x1536 : Shape := ⟨3, ![1, 1024, 1536]⟩
abbrev S1x1x1536 : Shape := ⟨3, ![1, 1, 1536]⟩
abbrev S1x34x1536 : Shape := ⟨3, ![1, 34, 1536]⟩
abbrev S1024x1536 : Shape := ⟨2, ![1024, 1536]⟩
abbrev S34x1536 : Shape := ⟨2, ![34, 1536]⟩
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S32x1024, .f32⟩
  | .hbm, ⟨2, _⟩ => ⟨S4x1024x6144, .f32⟩
  | .hbm, ⟨3, _⟩ => ⟨S4x6144, .f32⟩
  | .hbm, ⟨4, _⟩ => ⟨S34x1024, .f32⟩
  | .hbm, ⟨5, _⟩ => ⟨S4x1x6144, .f32⟩
  | .hbm, ⟨6, _⟩ => ⟨S4x34x6144, .f32⟩
  | .local _ .vmem, ⟨0, _⟩ => ⟨S34x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x34x1536, .f32⟩
  | .local _ .vmem, ⟨6, _⟩ => ⟨S1x34x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S34x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x34x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S2x1024 : Shape := ⟨2, ![2, 1024]⟩
abbrev S32x1024 : Shape := ⟨2, ![32, 1024]⟩
abbrev S4x1024x6144 : Shape := ⟨3, ![4, 1024, 6144]⟩
abbrev S4x6144 : Shape := ⟨2, ![4, 6144]⟩
abbrev S34x1024 : Shape := ⟨2, ![34, 1024]⟩
abbrev S_ : Shape := ⟨0, ![]⟩
abbrev S4x6144x34 : Shape := ⟨3, ![4, 6144, 34]⟩
abbrev S4x34x6144 : Shape := ⟨3, ![4, 34, 6144]⟩
abbrev S4x1x6144 : Shape := ⟨3, ![4, 1, 6144]⟩

abbrev nBuf : Space → Nat
  | .hbm => 19
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S32x1024, .f32⟩
  | .hbm, ⟨2, _⟩ => ⟨S4x1024x6144, .f32⟩
  | .hbm, ⟨3, _⟩ => ⟨S4x6144, .f32⟩
  | .hbm, ⟨4, _⟩ => ⟨S34x1024, .f32⟩
  | .hbm, ⟨5, _⟩ => ⟨S34x1024, .f32⟩
  | .hbm, ⟨6, _⟩ => ⟨S34x1024, .f32⟩
  | .hbm, ⟨7, _⟩ => ⟨S_, .f32⟩
  | .hbm, ⟨8, _⟩ => ⟨S34x1024, .f32⟩
  | .hbm, ⟨9, _⟩ => ⟨S34x1024, .f32⟩
  | .hbm, ⟨10, _⟩ => ⟨S_, .f32⟩
  | .hbm, ⟨11, _⟩ => ⟨S34x1024, .f32⟩
  | .hbm, ⟨12, _⟩ => ⟨S34x1024, .f32⟩
  | .hbm, ⟨13, _⟩ => ⟨S34x1024, .f32⟩
  | .hbm, ⟨14, _⟩ => ⟨S4x6144x34, .f32⟩
  | .hbm, ⟨15, _⟩ => ⟨S4x34x6144, .f32⟩
  | .hbm, ⟨16, _⟩ => ⟨S4x1x6144, .f32⟩
  | .hbm, ⟨17, _⟩ => ⟨S4x34x6144, .f32⟩
  | .hbm, ⟨18, _⟩ => ⟨S4x34x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel11.lean ====
abbrev S2x8192x1024 : Shape := ⟨3, ![2, 8192, 1024]⟩
abbrev S1024 : Shape := ⟨1, ![1024]⟩
abbrev S2x1024 : Shape := ⟨2, ![2, 1024]⟩
abbrev S1024x2048 : Shape := ⟨2, ![1024, 2048]⟩
abbrev S16384x1024 : Shape := ⟨2, ![16384, 1024]⟩
abbrev S2x1x1024 : Shape := ⟨3, ![2, 1, 1024]⟩
abbrev S1x1024 : Shape := ⟨2, ![1, 1024]⟩
abbrev S16384x2048 : Shape := ⟨2, ![16384, 2048]⟩
abbrev S512x1024 : Shape := ⟨2, ![512, 1024]⟩
abbrev S1x1x1024 : Shape := ⟨3, ![1, 1, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2048, .f32⟩
  | .hbm, ⟨5, _⟩ => ⟨S16384x1024, .f32⟩
  | .hbm, ⟨6, _⟩ => ⟨S2x1x1024, .f32⟩
  | .hbm, ⟨7, _⟩ => ⟨S2x1x1024, .f32⟩
  | .hbm, ⟨8, _⟩ => ⟨S1024x2048, .bf16⟩
  | .hbm, ⟨9, _⟩ => ⟨S1024x2048, .f32⟩
  | .hbm, ⟨10, _⟩ => ⟨S1024x2048, .f32⟩
  | .hbm, ⟨11, _⟩ => ⟨S1024x2048, .bf16⟩
  | .hbm, ⟨12, _⟩ => ⟨S1x1024, .f32⟩
  | .hbm, ⟨13, _⟩ => ⟨S16384x2048, .f32⟩
  | .hbm, ⟨14, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S512x512, .f32⟩
  | .local _ .vmem, ⟨12, _⟩ => ⟨S512x512, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference11Ideal.lean ====
abbrev S2x8192x1024 : Shape := ⟨3, ![2, 8192, 1024]⟩
abbrev S1024 : Shape := ⟨1, ![1024]⟩
abbrev S2x1024 : Shape := ⟨2, ![2, 1024]⟩
abbrev S1024x2048 : Shape := ⟨2, ![1024, 2048]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x2048 : Shape := ⟨3, ![2, 8192, 2048]⟩
abbrev S16384x2048 : Shape := ⟨2, ![16384, 2048]⟩
abbrev S16384x1024 : Shape := ⟨2, ![16384, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2048, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x1x1024, .f32⟩
  | .hbm, ⟨28, _⟩ => ⟨S2x8192x1024, .f32⟩
  | .hbm, ⟨29, _⟩ => ⟨S2x8192x1024, .f32⟩
  | .hbm, ⟨30, _⟩ => ⟨S2x8192x2048, .f32⟩
  | .hbm, ⟨31, _⟩ => ⟨S16384x2048, .f32⟩
  | .hbm, ⟨32, _⟩ => ⟨S16384x1024, .f32⟩
  | .hbm, ⟨33, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel12.lean ====
abbrev S32x4x7680 : Shape := ⟨3, ![32, 4, 7680]⟩
abbrev S512 : Shape := ⟨1, ![512]⟩
abbrev S32x4x4x128x128 : Shape := ⟨5, ![32, 4, 4, 128, 128]⟩
abbrev S32x4x3072 : Shape := ⟨3, ![32, 4, 3072]⟩
abbrev S32x4x4608 : Shape := ⟨3, ![32, 4, 4608]⟩
abbrev S1x128x7680 : Shape := ⟨3, ![1, 128, 7680]⟩
abbrev S128 : Shape := ⟨1, ![128]⟩
abbrev S_ : Shape := ⟨0, ![]⟩
abbrev S64 : Shape := ⟨1, ![64]⟩
abbrev S128x1 : Shape := ⟨2, ![128, 1]⟩
abbrev S1x64 : Shape := ⟨2, ![1, 64]⟩
abbrev S128x64 : Shape := ⟨2, ![128, 64]⟩
abbrev S128x128 : Shape := ⟨2, ![128, 128]⟩
abbrev S4 : Shape := ⟨1, ![4]⟩
abbrev S1x128 : Shape := ⟨2, ![1, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S1x128x512 : Shape := ⟨3, ![1, 128, 512]⟩
abbrev S32x4x128x128 : Shape := ⟨4, ![32, 4, 128, 128]⟩
abbrev S1x1x4x128x128 : Shape := ⟨5, ![1, 1, 4, 128, 128]⟩
abbrev S1x4x128x128 : Shape := ⟨4, ![1, 4, 128, 128]⟩
abbrev S1x1x1x128x128 : Shape := ⟨5, ![1, 1, 1, 128, 128]⟩
abbrev S1x1x128x128 : Shape := ⟨4, ![1, 1, 128, 128]⟩

abbrev nBuf : Space → Nat
  | .hbm => 161
  | .vmem => 16
  | .smem => 0
  | _ => 0

abbrev hbmTy0_0 (i : Nat) : BufTy := match i % 128 with
  | 0 => ⟨S32x4x7680, .f32⟩
  | 1 => ⟨S512, .f32⟩
  | 2 => ⟨S32x4x4x128x128, .f32⟩
  | 3 => ⟨S32x4x3072, .f32⟩
  | 4 => ⟨S32x4x4608, .f32⟩
  | 5 => ⟨S32x4x7680, .f32⟩
  | 6 => ⟨S1x128x7680, .f32⟩
  | 7 => ⟨S128, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S128, .i32⟩
  | 15 => ⟨S128, .i32⟩
  | 16 => ⟨S_, .i32⟩
  | 17 => ⟨S128, .i32⟩
  | 18 => ⟨S128, .i1⟩
  | 19 => ⟨S_, .i32⟩
  | 20 => ⟨S128, .i32⟩
  | 21 => ⟨S128, .i1⟩
  | 22 => ⟨S_, .i32⟩
  | 23 => ⟨S_, .i1⟩
  | 24 => ⟨S128, .i1⟩
  | 25 => ⟨S128, .i1⟩
  | 26 => ⟨S128, .i1⟩
  | 27 => ⟨S128, .i32⟩
  | 28 => ⟨S128, .i32⟩
  | 29 => ⟨S128, .i32⟩
  | 30 => ⟨S_, .i32⟩
  | 31 => ⟨S128, .i32⟩
  | 32 => ⟨S128, .i32⟩
  | 33 => ⟨S64, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S128, .f32⟩
  | 42 => ⟨S128x1, .f32⟩
  | 43 => ⟨S1x64, .f32⟩
  | 44 => ⟨S128x64, .f32⟩
  | 45 => ⟨S128x64, .f32⟩
  | 46 => ⟨S128x64, .f32⟩
  | 47 => ⟨S128x64, .f32⟩
  | 48 => ⟨S128x64, .f32⟩
  | 49 => ⟨S128x128, .f32⟩
  | 50 => ⟨S128x64, .f32⟩
  | 51 => ⟨S128x128, .f32⟩
  | 52 => ⟨S4, .i32⟩
  | 53 => ⟨S_, .i32⟩
  | 54 => ⟨S4, .i32⟩
  | 55 => ⟨S4, .i32⟩
  | 56 => ⟨S4, .f32⟩
  | 57 => ⟨S_, .f32⟩
  | 58 => ⟨S4, .f32⟩
  | 59 => ⟨S4, .f32⟩
  | 60 => ⟨S_, .f32⟩
  | 61 => ⟨S4, .f32⟩
  | 62 => ⟨S4, .f32⟩
  | 63 => ⟨S4, .f32⟩
  | 64 => ⟨S128, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S128, .i32⟩
  | 72 => ⟨S128, .i32⟩
  | 73 => ⟨S_, .i32⟩
  | 74 => ⟨S128, .i32⟩
  | 75 => ⟨S128, .i1⟩
  | 76 => ⟨S_, .i32⟩
  | 77 => ⟨S128, .i32⟩
  | 78 => ⟨S128, .i1⟩
  | 79 => ⟨S_, .i32⟩
  | 80 => ⟨S_, .i1⟩
  | 81 => ⟨S128, .i1⟩
  | 82 => ⟨S128, .i1⟩
  | 83 => ⟨S128, .i1⟩
  | 84 => ⟨S128, .i32⟩
  | 85 => ⟨S128, .i32⟩
  | 86 => ⟨S128, .i32⟩
  | 87 => ⟨S128, .i32⟩
  | 88 => ⟨S_, .i32⟩
  | 89 => ⟨S_, .i32⟩
  | 90 => ⟨S128, .i32⟩
  | 91 => ⟨S128, .i32⟩
  | 92 => ⟨S128, .i32⟩
  | 93 => ⟨S_, .i32⟩
  | 94 => ⟨S128, .i32⟩
  | 95 => ⟨S128, .i1⟩
  | 96 => ⟨S128, .i32⟩
  | 97 => ⟨S128, .i32⟩
  | 98 => ⟨S_, .i32⟩
  | 99 => ⟨S128, .i32⟩
  | 100 => ⟨S128, .i1⟩
  | 101 => ⟨S128, .i1⟩
  | 102 => ⟨S_, .i32⟩
  | 103 => ⟨S128, .i32⟩
  | 104 => ⟨S128, .i32⟩
  | 105 => ⟨S128, .i32⟩
  | 106 => ⟨S128x1, .i32⟩
  | 107 => ⟨S1x128, .i32⟩
  | 108 => ⟨S128x128, .i32⟩
  | 109 => ⟨S128x128, .i32⟩
  | 110 => ⟨S128x128, .i32⟩
  | 111 => ⟨S128x1, .i32⟩
  | 112 => ⟨S1x128, .i32⟩
  | 113 => ⟨S128x128, .i32⟩
  | 114 => ⟨S128x128, .i32⟩
  | 115 => ⟨S128x128, .i1⟩
  | 116 => ⟨S_, .i32⟩
  | 117 => ⟨S128x128, .i32⟩
  | 118 => ⟨S128x128, .i1⟩
  | 119 => ⟨S1x128x128, .i1⟩
  | 120 => ⟨S1x128x128, .i1⟩
  | 121 => ⟨S1x128x128, .i1⟩
  | 122 => ⟨S1x128x128, .i32⟩
  | 123 => ⟨S1x128x128, .f32⟩
  | 124 => ⟨S4x1x1, .f32⟩
  | 125 => ⟨S4x128x128, .f32⟩
  | 126 => ⟨S4x128x128, .f32⟩
  | 127 => ⟨S4x128x128, .f32⟩
  | _ => ⟨S32x4x7680, .f32⟩

abbrev hbmTy0_1 (i : Nat) : BufTy := match i % 128 with
  | 0 => ⟨S4x128x128, .f32⟩
  | 1 => ⟨S_, .f32⟩
  | 2 => ⟨S_, .f32⟩
  | 3 => ⟨S4x128x128, .i1⟩
  | 4 => ⟨S4x128x128, .f32⟩
  | 5 => ⟨S4x128x128, .f32⟩
  | 6 => ⟨S_, .i32⟩
  | 7 => ⟨S128, .i32⟩
  | 8 => ⟨S128, .i32⟩
  | 9 => ⟨S128, .f32⟩
  | 10 => ⟨S128x1, .f32⟩
  | 11 => ⟨S1x4, .f32⟩
  | 12 => ⟨S128x4, .f32⟩
  | 13 => ⟨S128x4, .f32⟩
  | 14 => ⟨S128x4, .f32⟩
  | 15 => ⟨S128x4, .f32⟩
  | 16 => ⟨S_, .i32⟩
  | 17 => ⟨S128, .i32⟩
  | 18 => ⟨S128, .i32⟩
  | 19 => ⟨S128, .f32⟩
  | 20 => ⟨S128x1, .f32⟩
  | 21 => ⟨S1x4, .f32⟩
  | 22 => ⟨S128x4, .f32⟩
  | 23 => ⟨S128x4, .f32⟩
  | 24 => ⟨S128x4, .f32⟩
  | 25 => ⟨S128x4, .f32⟩
  | 26 => ⟨S128x4x128, .f32⟩
  | 27 => ⟨S128x512, .f32⟩
  | 28 => ⟨S128x4x128, .f32⟩
  | 29 => ⟨S128x512, .f32⟩
  | 30 => ⟨S1x512, .f32⟩
  | 31 => ⟨S1x128x512, .bf16⟩
  | 32 => ⟨S32x4x128x128, .f32⟩
  | _ => ⟨S32x4x7680, .f32⟩

abbrev hbmTy (i : Nat) : BufTy := match i / 128 with
  | 0 => hbmTy0_0 i
  | 1 => hbmTy0_1 i
  | _ => ⟨S32x4x7680, .f32⟩

abbrev bufTy : (tb : Table) → Fin (tcTables nBuf tb) → BufTy
  | .hbm, ⟨i, _⟩ => hbmTy i
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S128x128, .f32⟩
  | .local _ .vmem, ⟨5, _⟩ => ⟨S128x128, .f32⟩
  | .local _ .vmem, ⟨6, _⟩ => ⟨S4x128x128, .f32⟩
  | .local _ .vmem, ⟨7, _⟩ => ⟨S128x512, .f32⟩
  | .local _ .vmem, ⟨8, _⟩ => ⟨S128x512, .f32⟩
  | .local _ .vmem, ⟨9, _⟩ => ⟨S1x512, .f32⟩
  | .local _ .vmem, ⟨10, _⟩ => ⟨S1x1x4x128x128, .f32⟩
  | .local _ .vmem, ⟨11, _⟩ => ⟨S1x1x4x128x128, .f32⟩
  | .local _ .vmem, ⟨12, _⟩ => ⟨S1x128x512, .bf16⟩
  | .local _ .vmem, ⟨13, _⟩ => ⟨S1x4x128x128, .f32⟩
  | .local _ .vmem, ⟨14, _⟩ => ⟨S1x4x128x128, .f32⟩
  | .local _ .vmem, ⟨15, _⟩ => ⟨S128x512, .f32⟩
  | _, _ => ⟨S32x4x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_cst_4 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_5 : Ref sig .tc := ⟨.hbm, 65, rfl⟩
abbrev main_call1_v0 : Ref sig .tc := ⟨.hbm, 66, rfl⟩
abbrev main_call1_c : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_c_1 : Ref sig .tc := ⟨.hbm, 73, rfl⟩
abbrev main_call1_v5 : Ref sig .tc := ⟨.hbm, 74, rfl⟩
abbrev main_call1_v6 : Ref sig .tc := ⟨.hbm, 75, rfl⟩
abbrev main_call1_c_2 : Ref sig .tc := ⟨.hbm, 76, rfl⟩
abbrev main_call1_v7 : Ref sig .tc := ⟨.hbm, 77, rfl⟩
abbrev main_call1_v8 : Ref sig .tc := ⟨.hbm, 78, rfl⟩
abbrev main_call1_c_3 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_v35 : Ref sig .tc := ⟨.hbm, 86, rfl⟩
abbrev main_v36 : Ref sig .tc := ⟨.hbm, 87, rfl⟩
abbrev main_c_6 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_c : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_0 : Ref sig .tc := ⟨.hbm, 102, rfl⟩
abbrev main_call2_v12 : Ref sig .tc := ⟨.hbm, 103, rfl⟩
abbrev main_call2_v13 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_c_7 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_cst_8 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_v60 : Ref sig .tc := ⟨.hbm, 133, rfl⟩
abbrev main_c_9 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_c_10 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84_0 : Ref sig .tc := ⟨.hbm, 159, rfl⟩
abbrev main_v84_1 : Ref sig .tc := ⟨.hbm, 160, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem10_1 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v192 : BitVec 1 := Scalar.cmpi .eq arg0 c31_i32
  let v193 : BitVec 32 := Scalar.extui v192
  let c0_i32_132 : BitVec 32 := 0#32
  let v194 : BitVec 1 := Scalar.cmpi .ne v193 c0_i32_132
  v194

def cc0_transform_0 (i : grid0.Coords) : Fin 3 → Nat :=
  let arg0 : BitVec 32 := BitVec.ofNat 32 (i 0).val
  let c0_i32 : BitVec 32 := 0#32
  let c0_i32_0 : BitVec 32 := 0#32
  let c6_i32 : BitVec 32 := 6#32
  let c0_i32_1 : BitVec 32 := 0#32
  ![c0_i32.toNat, c0_i32_0.toNat, c6_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c7_i32 : BitVec 32 := 7#32
  let c0_i32_1 : BitVec 32 := 0#32
  ![c0_i32.toNat, c0_i32_0.toNat, c7_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c8_i32 : BitVec 32 := 8#32
  let c0_i32_1 : BitVec 32 := 0#32
  ![c0_i32.toNat, c0_i32_0.toNat, c8_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c9_i32 : BitVec 32 := 9#32
  let c0_i32_1 : BitVec 32 := 0#32
  ![c0_i32.toNat, c0_i32_0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel12Ideal.lean ====
variable {F : FTy → Type} [FloatOps F] [Named F]
def κ : String → Option EReal := fun
  | "chunk_dec0" => some ((923521 / 1048576 : ℝ) : EReal)
  | "chunk_dec1" => some ((15752961 / 16777216 : ℝ) : EReal)
  | "chunk_dec2" => some ((260144641 / 268435456 : ℝ) : EReal)
  | "chunk_dec3" => some ((4228250625 / 4294967296 : ℝ) : EReal)
  | "k_scale" => some (((Real.sqrt 128)⁻¹ : ℝ) : EReal)
  | _ => none
-- ==== Reference12Ideal.lean ====
abbrev S32x4x7680 : Shape := ⟨3, ![32, 4, 7680]⟩
abbrev S512 : Shape := ⟨1, ![512]⟩
abbrev S32x4x4x128x128 : Shape := ⟨5, ![32, 4, 4, 128, 128]⟩
abbrev S32x4x512 : Shape := ⟨3, ![32, 4, 512]⟩
abbrev S32x4x4x128 : Shape := ⟨4, ![32, 4, 4, 128]⟩
abbrev S64 : Shape := ⟨1, ![64]⟩
abbrev S_ : Shape := ⟨0, ![]⟩
abbrev S4 : Shape := ⟨1, ![4]⟩
abbrev S4x1 : Shape := ⟨2, ![4, 1]⟩
abbrev S1x64 : Shape := ⟨2, ![1, 64]⟩
abbrev S4x64 : Shape := ⟨2, ![4, 64]⟩
abbrev S1x4x1x64 : Shape := ⟨4, ![1, 4, 1, 64]⟩
abbrev S32x4x4x64 : Shape := ⟨4, ![32, 4, 4, 64]⟩
abbrev S1x4 : Shape := ⟨2, ![1, 4]⟩
abbrev S4x4 : Shape := ⟨2, ![4, 4]⟩
abbrev S1x4x4 : Shape := ⟨3, ![1, 4, 4]⟩
abbrev S4x1x1 : Shape := ⟨3, ![4, 1, 1]⟩
abbrev S4x4x4 : Shape := ⟨3, ![4, 4, 4]⟩
abbrev S1x4x1x1 : Shape := ⟨4, ![1, 4, 1, 1]⟩
abbrev S32x1x4x128x128 : Shape := ⟨5, ![32, 1, 4, 128, 128]⟩
abbrev S32x4x128x128 : Shape := ⟨4, ![32, 4, 128, 128]⟩
abbrev S32x4x4x4 : Shape := ⟨4, ![32, 4, 4, 4]⟩
abbrev S1x4x4x4 : Shape := ⟨4, ![1, 4, 4, 4]⟩
abbrev S32x4x128x4 : Shape := ⟨4, ![32, 4, 128, 4]⟩
abbrev S1x4x4x1 : Shape := ⟨4, ![1, 4, 4, 1]⟩
abbrev S32x4x4 : Shape := ⟨3, ![32, 4, 4]⟩
abbrev S32x4x4x1 : Shape := ⟨4, ![32, 4, 4, 1]⟩
abbrev S1x1x512 : Shape := ⟨3, ![1, 1, 512]⟩
abbrev S1x128x512 : Shape := ⟨3, ![1, 128, 512]⟩

abbrev nBuf : Space → Nat
  | .hbm => 178
  | .vmem => 0
  | .smem => 0
  | _ => 0

abbrev hbmTy0_0 (i : Nat) : BufTy := match i % 128 with
  | 0 => ⟨S32x4x7680, .f32⟩
  | 1 => ⟨S512, .f32⟩
  | 2 => ⟨S32x4x4x128x128, .f32⟩
  | 3 => ⟨S32x4x512, .f32⟩
  | 4 => ⟨S32x4x4x128, .f32⟩
  | 5 => ⟨S32x4x512, .f32⟩
  | 6 => ⟨S32x4x4x128, .f32⟩
  | 7 => ⟨S32x4x512, .f32⟩
  | 8 => ⟨S32x4x4x128, .f32⟩
  | 9 => ⟨S32x4x512, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S4, .i32⟩
  | 19 => ⟨S_, .i32⟩
  | 20 => ⟨S4, .i32⟩
  | 21 => ⟨S4, .i32⟩
  | 22 => ⟨S4, .f32⟩
  | 23 => ⟨S4x1, .f32⟩
  | 24 => ⟨S1x64, .f32⟩
  | 25 => ⟨S4x64, .f32⟩
  | 26 => ⟨S4x64, .f32⟩
  | 27 => ⟨S4x64, .f32⟩
  | 28 => ⟨S4x64, .f32⟩
  | 29 => ⟨S1x4x1x64, .f32⟩
  | 30 => ⟨S4x64, .f32⟩
  | 31 => ⟨S1x4x1x64, .f32⟩
  | 32 => ⟨S32x4x4x64, .f32⟩
  | 33 => ⟨S32x4x4x64, .f32⟩
  | 34 => ⟨S32x4x4x64, .f32⟩
  | 35 => ⟨S32x4x4x64, .f32⟩
  | 36 => ⟨S32x4x4x64, .f32⟩
  | 37 => ⟨S32x4x4x64, .f32⟩
  | 38 => ⟨S32x4x4x64, .f32⟩
  | 39 => ⟨S32x4x4x64, .f32⟩
  | 40 => ⟨S32x4x4x64, .f32⟩
  | 41 => ⟨S32x4x4x64, .f32⟩
  | 42 => ⟨S32x4x4x64, .f32⟩
  | 43 => ⟨S32x4x4x64, .f32⟩
  | 44 => ⟨S32x4x4x128, .f32⟩
  | 45 => ⟨S32x4x4x64, .f32⟩
  | 46 => ⟨S32x4x4x64, .f32⟩
  | 47 => ⟨S32x4x4x64, .f32⟩
  | 48 => ⟨S32x4x4x64, .f32⟩
  | 49 => ⟨S32x4x4x64, .f32⟩
  | 50 => ⟨S32x4x4x64, .f32⟩
  | 51 => ⟨S32x4x4x64, .f32⟩
  | 52 => ⟨S32x4x4x64, .f32⟩
  | 53 => ⟨S32x4x4x64, .f32⟩
  | 54 => ⟨S32x4x4x64, .f32⟩
  | 55 => ⟨S32x4x4x64, .f32⟩
  | 56 => ⟨S32x4x4x64, .f32⟩
  | 57 => ⟨S32x4x4x128, .f32⟩
  | 58 => ⟨S_, .f32⟩
  | 59 => ⟨S_, .f32⟩
  | 60 => ⟨S32x4x4x128, .f32⟩
  | 61 => ⟨S32x4x4x128, .f32⟩
  | 62 => ⟨S4, .i32⟩
  | 63 => ⟨S_, .i32⟩
  | 64 => ⟨S4, .i32⟩
  | 65 => ⟨S4, .i32⟩
  | 66 => ⟨S4, .f32⟩
  | 67 => ⟨S_, .f32⟩
  | 68 => ⟨S4, .f32⟩
  | 69 => ⟨S4, .f32⟩
  | 70 => ⟨S_, .f32⟩
  | 71 => ⟨S4, .f32⟩
  | 72 => ⟨S4, .f32⟩
  | 73 => ⟨S4, .f32⟩
  | 74 => ⟨S4, .f32⟩
  | 75 => ⟨S4x1, .f32⟩
  | 76 => ⟨S1x4, .f32⟩
  | 77 => ⟨S4x4, .f32⟩
  | 78 => ⟨S4x4, .f32⟩
  | 79 => ⟨S4x4, .f32⟩
  | 80 => ⟨S1x4x4, .f32⟩
  | 81 => ⟨S_, .f32⟩
  | 82 => ⟨S1x4x4, .f32⟩
  | 83 => ⟨S1x4x4, .i1⟩
  | 84 => ⟨S1x4x4, .f32⟩
  | 85 => ⟨S4x1x1, .f32⟩
  | 86 => ⟨S4x4x4, .f32⟩
  | 87 => ⟨S4x4x4, .f32⟩
  | 88 => ⟨S4x4x4, .f32⟩
  | 89 => ⟨S4x4x4, .f32⟩
  | 90 => ⟨S_, .f32⟩
  | 91 => ⟨S_, .f32⟩
  | 92 => ⟨S4x4x4, .i1⟩
  | 93 => ⟨S4x4x4, .f32⟩
  | 94 => ⟨S4x4x4, .f32⟩
  | 95 => ⟨S_, .f32⟩
  | 96 => ⟨S4, .f32⟩
  | 97 => ⟨S4, .f32⟩
  | 98 => ⟨S4x1, .f32⟩
  | 99 => ⟨S1x4, .f32⟩
  | 100 => ⟨S4x4, .f32⟩
  | 101 => ⟨S4x4, .f32⟩
  | 102 => ⟨S4x4, .f32⟩
  | 103 => ⟨S4x4, .f32⟩
  | 104 => ⟨S_, .f32⟩
  | 105 => ⟨S4, .f32⟩
  | 106 => ⟨S4, .f32⟩
  | 107 => ⟨S4x1, .f32⟩
  | 108 => ⟨S1x4, .f32⟩
  | 109 => ⟨S4x4, .f32⟩
  | 110 => ⟨S4x4, .f32⟩
  | 111 => ⟨S4x4, .f32⟩
  | 112 => ⟨S4x4, .f32⟩
  | 113 => ⟨S_, .f32⟩
  | 114 => ⟨S4, .f32⟩
  | 115 => ⟨S4, .f32⟩
  | 116 => ⟨S4, .f32⟩
  | 117 => ⟨S1x4x1x1, .f32⟩
  | 118 => ⟨S32x1x4x128x128, .f32⟩
  | 119 => ⟨S32x4x128x128, .f32⟩
  | 120 => ⟨S32x4x4x4, .f32⟩
  | 121 => ⟨S1x4x4x4, .f32⟩
  | 122 => ⟨S32x4x4x4, .f32⟩
  | 123 => ⟨S32x4x4x4, .f32⟩
  | 124 => ⟨S32x4x128x4, .f32⟩
  | 125 => ⟨S32x4x4x128, .f32⟩
  | 126 => ⟨S1x4x4x1, .f32⟩
  | 127 => ⟨S32x4x4x128, .f32⟩
  | _ => ⟨S32x4x7680, .f32⟩

abbrev hbmTy0_1 (i : Nat) : BufTy := match i % 128 with
  | 0 => ⟨S32x4x4x128, .f32⟩
  | 1 => ⟨S32x4x128x4, .f32⟩
  | 2 => ⟨S32x4x4x128, .f32⟩
  | 3 => ⟨S32x4x4x128, .f32⟩
  | 4 => ⟨S_, .f32⟩
  | 5 => ⟨S32x4x4, .f32⟩
  | 6 => ⟨S32x4x4x1, .f32⟩
  | 7 => ⟨S_, .f32⟩
  | 8 => ⟨S32x4x4x1, .f32⟩
  | 9 => ⟨S32x4x4x1, .f32⟩
  | 10 => ⟨S32x4x4x128, .f32⟩
  | 11 => ⟨S32x4x4x128, .f32⟩
  | 12 => ⟨S32x4x4x128, .f32⟩
  | 13 => ⟨S_, .f32⟩
  | 14 => ⟨S32x4x4, .f32⟩
  | 15 => ⟨S32x4x4x1, .f32⟩
  | 16 => ⟨S_, .f32⟩
  | 17 => ⟨S32x4x4x1, .f32⟩
  | 18 => ⟨S32x4x4x1, .f32⟩
  | 19 => ⟨S32x4x4x128, .f32⟩
  | 20 => ⟨S32x4x4x128, .f32⟩
  | 21 => ⟨S_, .f32⟩
  | 22 => ⟨S32x4x4x1, .f32⟩
  | 23 => ⟨S32x4x4x1, .f32⟩
  | 24 => ⟨S32x4x4x1, .f32⟩
  | 25 => ⟨S32x4x4x128, .f32⟩
  | 26 => ⟨S32x4x4x128, .f32⟩
  | 27 => ⟨S32x4x512, .f32⟩
  | 28 => ⟨S32x4x512, .f32⟩
  | 29 => ⟨S32x4x512, .f32⟩
  | 30 => ⟨S_, .f32⟩
  | 31 => ⟨S32x4x512, .f32⟩
  | 32 => ⟨S32x4x512, .f32⟩
  | 33 => ⟨S_, .f32⟩
  | 34 => ⟨S32x4x512, .f32⟩
  | 35 => ⟨S32x4x512, .f32⟩
  | 36 => ⟨S32x4x512, .f32⟩
  | 37 => ⟨S1x1x512, .f32⟩
  | 38 => ⟨S32x4x512, .f32⟩
  | 39 => ⟨S32x4x512, .f32⟩
  | 40 => ⟨S32x4x512, .f32⟩
  | 41 => ⟨S32x4x512, .bf16⟩
  | 42 => ⟨S1x128x512, .bf16⟩
  | 43 => ⟨S32x4x128x128, .f32⟩
  | 44 => ⟨S32x4x128x128, .f32⟩
  | 45 => ⟨S1x4x4x1, .f32⟩
  | 46 => ⟨S32x4x4x128, .f32⟩
  | 47 => ⟨S32x4x4x128, .f32⟩
  | 48 => ⟨S32x4x128x128, .f32⟩
  | 49 => ⟨S32x4x128x128, .f32⟩
  | _ => ⟨S32x4x7680, .f32⟩

abbrev hbmTy (i : Nat) : BufTy := match i / 128 with
  | 0 => hbmTy0_0 i
  | 1 => hbmTy0_1 i
  | _ => ⟨S32x4x7680, .f32⟩

abbrev bufTy : (tb : Table) → Fin (tcTables nBuf tb) → BufTy
  | .hbm, ⟨i, _⟩ => hbmTy i
  | _, _ => ⟨S32x4x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_1 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_c_2 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_3 : Ref sig .tc := ⟨.hbm, 67, rfl⟩
abbrev main_v59 : Ref sig .tc := ⟨.hbm, 68, rfl⟩
abbrev main_v60 : Ref sig .tc := ⟨.hbm, 69, rfl⟩
abbrev main_cst_4 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_5 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_6 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_v79 : Ref sig .tc := ⟨.hbm, 94, rfl⟩
abbrev main_cst_7 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_8 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_9 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_cst_10 : Ref sig .tc := ⟨.hbm, 132, rfl⟩
abbrev main_v114 : Ref sig .tc := ⟨.hbm, 133, rfl⟩
abbrev main_v115 : Ref sig .tc := ⟨.hbm, 134, rfl⟩
abbrev main_cst_11 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_cst_12 : Ref sig .tc := ⟨.hbm, 141, rfl⟩
abbrev main_v121 : Ref sig .tc := ⟨.hbm, 142, rfl⟩
abbrev main_v122 : Ref sig .tc := ⟨.hbm, 143, rfl⟩
abbrev main_cst_13 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_cst_14 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_call1_v0 : Ref sig .tc := ⟨.hbm, 156, rfl⟩
abbrev main_call1_v1 : Ref sig .tc := ⟨.hbm, 157, rfl⟩
abbrev main_call1_cst : Ref sig .tc := ⟨.hbm, 158, rfl⟩
abbrev main_call1_v2 : Ref sig .tc := ⟨.hbm, 159, rfl⟩
abbrev main_call1_v3 : Ref sig .tc := ⟨.hbm, 160, rfl⟩
abbrev main_call1_cst_0 : Ref sig .tc := ⟨.hbm, 161, rfl⟩
abbrev main_call1_v4 : Ref sig .tc := ⟨.hbm, 162, rfl⟩
abbrev main_call1_v5 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩

abbrev nD : Nat := 1
abbrev τ : Topo := Topo.v7x

variable {F : FTy → Type} [FloatOps F]
-- ==== Proof.RowMath.lean ====
/- The arithmetic of one query row of stick-breaking attention, over the extended reals, in base 2 and in base e.
   No program appears here: `lsm2` is the base-2 logarithm of `1 - sigmoid`, `wt` that logarithm masked to the keys
   before the query, `logA` the base-2 logarithm of an attention weight. -/
module

public import Idealize.ShloMosaic.PureOps.Ideal
public import Mathlib.Algebra.BigOperators.Intervals
public import Mathlib.Data.EReal.Operations
public import Mathlib.Analysis.SpecialFunctions.Pow.Real

@[expose] public section

noncomputable section

namespace Cert.Row

open Idealize.ShloMosaic

/-- `1 / ln 2`, the factor from natural to base-2 logarithms. -/
def c2 : EReal := (((Real.log 2)⁻¹ : ℝ) : EReal)

theorem c2_nonneg : 0 ≤ c2 := by
  unfold c2
  exact_mod_cast inv_nonneg.mpr (Real.log_nonneg (by norm_num))

theorem c2_ne_top : c2 ≠ ⊤ := EReal.coe_ne_top _

/-- `1 / ln 2` distributes over any sum of two extended reals. -/
theorem c2_mul_add (x y : EReal) : c2 * (x + y) = c2 * x + c2 * y :=
  EReal.left_distrib_of_nonneg_of_ne_top c2_nonneg c2_ne_top x y

/-- A nonnegative real factor distributes over a finite sum. -/
theorem mul_sum_of_nonneg {ι : Type*} (s : Finset ι) (a : EReal) (h0 : 0 ≤ a) (ht : a ≠ ⊤) (f : ι → EReal) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 ht, ih]

/-- The base-2 logarithm of `1 - sigmoid`, from the base-2 logit, in the form the kernel computes it. -/
def lsm2 (z : EReal) : EReal := 0 - (max z 0 + Ideal.log (1 + Ideal.exp2 (0 - max z (-z))) * c2)

/-- The natural logarithm of `1 - sigmoid`, minus the softplus of the logit. -/
def lsm (z : EReal) : EReal := -(max z 0 + Ideal.log (1 + Ideal.exp (-(max z (-z)))))

/-- The masked log-weight of key `s` for the query at position `t`: zero unless the key lies before the query. -/
def wt (t : ℕ) (Z : ℕ → EReal) (s : ℕ) : EReal := if s < t then lsm2 (Z s) else 0

/-- The base-2 logarithm of the attention weight of key `s` for the query at `t`, the later keys summed up to `T`. -/
def logA (t T : ℕ) (Z : ℕ → EReal) (s : ℕ) : EReal :=
  (if s < t then Z s + lsm2 (Z s) else ⊥) + ∑ s' ∈ Finset.Ico (s + 1) T, wt t Z s'

/-- The attention of one query row: the weights times the values, over the first `T` keys. -/
def attn (t T : ℕ) (Z : ℕ → EReal) (v : ℕ → EReal) : EReal :=
  ∑ s ∈ Finset.Ico 0 T, Ideal.exp2 (logA t T Z s) * v s

/-- The logarithm of one plus an exponential of a nonpositive number is nonnegative. -/
theorem log_one_add_exp2_nonneg (x : EReal) (hx : x ≤ 0) : 0 ≤ Ideal.log (1 + Ideal.exp2 x) := by
  induction x with
  | bot =>
    rw [Ideal.exp2_bot, add_zero, show (1 : EReal) = ((1 : ℝ) : EReal) from rfl, Ideal.log_coe, if_neg (by norm_num)]
    simp
  | top => simp at hx
  | coe r =>
    rw [Ideal.exp2_coe, show (1 : EReal) = ((1 : ℝ) : EReal) from rfl, ← EReal.coe_add, Ideal.log_coe]
    have h : (0 : ℝ) < Real.rpow 2 r := Real.rpow_pos_of_pos (by norm_num) r
    rw [if_neg (by linarith)]
    exact_mod_cast Real.log_nonneg (by linarith)

theorem neg_abs_nonpos (z : EReal) : 0 - max z (-z) ≤ 0 := by
  rw [zero_sub]
  have : 0 ≤ max z (-z) := by
    rcases le_total 0 z with h | h
    · exact le_max_of_le_left h
    · exact le_max_of_le_right (EReal.neg_nonneg.mpr h)
  exact EReal.neg_le_zero.mpr this

/-- A log-weight is never positive. -/
theorem lsm2_nonpos (z : EReal) : lsm2 z ≤ 0 := by
  unfold lsm2
  rw [zero_sub]
  apply EReal.neg_le_zero.mpr
  exact add_nonneg (le_max_right _ _)
    (mul_nonneg (log_one_add_exp2_nonneg _ (neg_abs_nonpos z)) c2_nonneg)

theorem wt_nonpos (t : ℕ) (Z : ℕ → EReal) (s : ℕ) : wt t Z s ≤ 0 := by
  unfold wt; split
  · exact lsm2_nonpos _
  · exact le_refl _

/-- The rounding remainder of a nonpositive number is nothing: it is the number again when added to it. -/
theorem add_sub_self_of_nonpos (w : EReal) (h : w ≤ 0) : w + (w - w) = w := by
  induction w with
  | bot => simp
  | top => simp at h
  | coe r => rw [← EReal.coe_sub, ← EReal.coe_add]; simp

/-- A tile of 128 keys summed over its lanes is the sum over its key positions. -/
theorem sum_tile (f : ℕ → EReal) (B : ℕ) : ∑ x : Fin 128, f (B + x.val) = ∑ s ∈ Finset.Ico B (B + 128), f s := by
  rw [Finset.sum_Ico_eq_sum_range, Nat.add_sub_cancel_left, Finset.sum_range]

/-- The lanes after lane `j` of a tile are the key positions after position `B + j` in it. -/
theorem sum_tile_after (f : ℕ → EReal) (B : ℕ) (j : Fin 128) :
    (∑ x : Fin 128, if j.val < x.val then f (B + x.val) else 0) = ∑ s ∈ Finset.Ico (B + j.val + 1) (B + 128), f s := by
  have h := sum_tile (fun s => if B + j.val < s then f s else 0) B
  rw [show (∑ x : Fin 128, if j.val < x.val then f (B + x.val) else 0)
    = ∑ x : Fin 128, if B + j.val < B + x.val then f (B + x.val) else 0 by simp only [add_lt_add_iff_left], h, ← Finset.sum_filter]
  refine Finset.sum_congr ?_ fun _ _ => rfl
  ext s
  simp only [Finset.mem_filter, Finset.mem_Ico]
  have := j.isLt
  omega

end Cert.Row

end
-- ==== Proof.Steps.lean ====
/- What one step of the kernel's walk over the key tiles does to one query row: the running sum of log-weights, the
   logarithm of the attention weights of the tile, the accumulated values, and the logits of a tile. -/
module

public import proofs.«01_k».proof.Proof.Gen.KernelIdeal.Value
public import proofs.«01_k».proof.Proof.RowMath
public import Idealize.ShloMosaic.Lib.Pointwise
public import Idealize.ShloMosaic.Lib.WordCmp

@[expose] public section

set_option maxRecDepth 16384

noncomputable section

namespace Cert.KernelIdeal.Steps

open Cert.KernelIdeal Cert.KernelIdeal.Gen Idealize.ShloMosaic Cert.Row

/-- A tile of `f32` rows. -/
abbrev Tile := FVec Ideal S512x128 .f32

theorem named_log2e : Named.named (F := Ideal) κ "log2e" (φ := .f32) 0x3FB8AA3B#32 = c2 :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

theorem named_q_scale : Named.named (F := Ideal) κ "q_scale" (φ := .f32) 0x3E0293EE#32
    = (((Real.sqrt 128)⁻¹ * (Real.log 2)⁻¹ : ℝ) : EReal) :=
  IdealRules.named_const.ideal_named_scalar _ _ _ _ rfl

/-- The matrix of zeros and ones the kernel sums log-weights with: its left half sums the later lanes of a tile, its
    right half all of them, and both halves of its rows are the same. -/
structure IsWeights (uo : FVec Ideal S256x256 .bf16) : Prop where
  later : ∀ (k : Fin 256) (j : Fin 128), uo (ix2 k ⟨j.val, by omega⟩) = if j.val < k.val % 128 then (1 : EReal) else 0
  all : ∀ (k : Fin 256) (j : Fin 128), uo (ix2 k ⟨128 + j.val, by omega⟩) = (1 : EReal)

/-- The running sum after a masked step: the tile's log-weights are added. -/
theorem carry_step (uo : FVec Ideal S256x256 .bf16) (z carry : Tile) (msk : IVec S512x128 1) (hu : IsWeights uo)
    (r : Fin 512) (t B : ℕ) (Z : ℕ → EReal) (hz : ∀ x : Fin 128, z (ix2 r x) = Z (B + x.val))
    (hm : ∀ x : Fin 128, msk (ix2 r x) = 1 ↔ B + x.val < t) (j : Fin 128) :
    k0_pay27 uo z carry msk (ix2 r j) = carry (ix2 r j) + ∑ s ∈ Finset.Ico B (B + 128), wt t Z s := by
  have key : ∀ x : Fin 128, Scalar.select (msk (ix2 r x)) (lsm2 (z (ix2 r x))) 0 = wt t Z (B + x.val) := fun x => by
    unfold wt Scalar.select
    by_cases h : B + x.val < t
    · rw [if_pos h, if_pos ((hm x).mpr h), hz]
    · rw [if_neg h, if_neg (fun h' => h ((hm x).mp h'))]
  rw [← sum_tile]
  pointwise [k0_pay27, k0_pay26, k0_pay25]
  rw [named_log2e]
  change carry (ix2 r j) + ((∑ x : Fin 128, Scalar.select (msk (ix2 r x)) (lsm2 (z (ix2 r x)) * uo (ix2 ⟨x.val, _⟩ ⟨128 + j.val, _⟩)) 0)
    + ∑ x : Fin 128, (Scalar.select (msk (ix2 r x)) (lsm2 (z (ix2 r x))) 0 - Scalar.select (msk (ix2 r x)) (lsm2 (z (ix2 r x))) 0)
      * uo (ix2 ⟨128 + x.val, _⟩ ⟨128 + j.val, _⟩)) = _
  simp only [hu.all, mul_one, key]
  rw [← Finset.sum_add_distrib]
  congr 1
  exact Finset.sum_congr rfl fun x _ => add_sub_self_of_nonpos _ (wt_nonpos _ _ _)

/-- The logarithm of the tile's weights in a masked step: the key's own factor (nothing, for a key not before the query),
    the log-weights of the later lanes, and the running sum. -/
theorem log_step (uo : FVec Ideal S256x256 .bf16) (z carry : Tile) (msk : IVec S512x128 1) (hu : IsWeights uo)
    (r : Fin 512) (t B : ℕ) (Z : ℕ → EReal) (hz : ∀ x : Fin 128, z (ix2 r x) = Z (B + x.val))
    (hm : ∀ x : Fin 128, msk (ix2 r x) = 1 ↔ B + x.val < t) (j : Fin 128) :
    k0_pay28 uo z carry msk (ix2 r j)
      = (if B + j.val < t then Z (B + j.val) + lsm2 (Z (B + j.val)) else ⊥)
        + ((∑ s ∈ Finset.Ico (B + j.val + 1) (B + 128), wt t Z s) + carry (ix2 r j)) := by
  have key : ∀ x : Fin 128, Scalar.select (msk (ix2 r x)) (lsm2 (z (ix2 r x))) 0 = wt t Z (B + x.val) := fun x => by
    unfold wt Scalar.select
    by_cases h : B + x.val < t
    · rw [if_pos h, if_pos ((hm x).mpr h), hz]
    · rw [if_neg h, if_neg (fun h' => h ((hm x).mp h'))]
  rw [← sum_tile_after]
  pointwise [k0_pay28, k0_pay26, k0_pay25]
  rw [named_log2e, named_mask]
  change Scalar.select (msk (ix2 r j)) (z (ix2 r j) + lsm2 (z (ix2 r j))) ⊥
    + ((∑ x : Fin 128, Scalar.select (msk (ix2 r x)) (lsm2 (z (ix2 r x)) * uo (ix2 ⟨x.val, _⟩ ⟨j.val, _⟩)) 0)
      + (∑ x : Fin 128, (Scalar.select (msk (ix2 r x)) (lsm2 (z (ix2 r x))) 0 - Scalar.select (msk (ix2 r x)) (lsm2 (z (ix2 r x))) 0)
        * uo (ix2 ⟨128 + x.val, _⟩ ⟨j.val, _⟩)) + carry (ix2 r j)) = _
  congr 1
  · unfold Scalar.select
    by_cases h : B + j.val < t
    · rw [if_pos h, if_pos ((hm j).mpr h), hz]
    · rw [if_neg h, if_neg (fun h' => h ((hm j).mp h'))]
  · congr 1
    rw [← Finset.sum_add_distrib]
    refine Finset.sum_congr rfl fun x _ => ?_
    rw [hu.later, hu.later, key]
    have e1 : x.val % 128 = x.val := Nat.mod_eq_of_lt x.isLt
    have e2 : (128 + x.val) % 128 = x.val := by omega
    simp only [e1, e2]
    by_cases h : j.val < x.val
    · simp only [if_pos h, mul_one, key]
      exact add_sub_self_of_nonpos _ (wt_nonpos _ _ _)
    · simp only [if_neg h, mul_zero, add_zero]
      unfold Scalar.select; split <;> rfl

/-- A step without a mask is the masked step whose mask keeps every key. -/
theorem carry_nomask (uo : FVec Ideal S256x256 .bf16) (z carry : Tile) (j : S512x128.Idx) :
    k0_pay47 uo carry z (k0_pay4 z) (Named.named κ "log2e" 0x3FB8AA3B#32) j = k0_pay27 uo z carry (fun _ => 1#1) j := by
  rfl

theorem log_nomask (uo : FVec Ideal S256x256 .bf16) (z carry : Tile) (j : S512x128.Idx) :
    k0_pay48 uo carry z (k0_pay4 z) (Named.named κ "log2e" 0x3FB8AA3B#32) j = k0_pay28 uo z carry (fun _ => 1#1) j := by
  rfl

/-- The accumulated values after a step: the tile's weights times its values are added. -/
theorem acc_step (acc loga : Tile) (v : Vec Ideal S1x128x128 .bf16) (r : Fin 512) (t T B : ℕ) (Z : ℕ → EReal) (Vv : ℕ → EReal)
    (e : Fin 128) (hl : ∀ x : Fin 128, loga (ix2 r x) = logA t T Z (B + x.val))
    (hv : ∀ x : Fin 128, v (ix3 0 x e) = Vv (B + x.val)) :
    k0_pay3 acc loga v (ix2 r e) = acc (ix2 r e) + ∑ s ∈ Finset.Ico B (B + 128), Ideal.exp2 (logA t T Z s) * Vv s := by
  rw [← sum_tile (fun s => Ideal.exp2 (logA t T Z s) * Vv s)]
  pointwise [k0_pay3]
  change acc (ix2 r e) + ∑ x : Fin 128, Ideal.exp2 (loga (ix2 r x)) * v (ix3 0 x e) = _
  simp only [hl, hv]

/-- The kernel's query tile: the queries scaled to base-2 logits. -/
theorem query_apply (x1 : Vec Ideal S1x512x128 .f32) (r : Fin 512) (d : Fin 128) :
    k0_pay8 (F := Ideal) x1 (ix2 r d) = x1 (ix3 0 r d) * (((Real.sqrt 128)⁻¹ * (Real.log 2)⁻¹ : ℝ) : EReal) := by
  pointwise [k0_pay8]
  rw [named_q_scale]

/-- The bias in base 2. -/
theorem bias_apply (b : Elt Ideal .f32) : k0_pay9 (F := Ideal) b = ((b : EReal) * c2 : EReal) := by
  rw [← named_log2e]; rfl

/-- A tile of logits: the queries times the keys, and the bias. -/
theorem logits_apply (q : FVec Ideal S512x128 .bf16) (b : Ideal .f32) (kk : Vec Ideal S1x128x128 .bf16) (r : Fin 512) (x : Fin 128) :
    k0_pay2 q b kk (ix2 r x) = (∑ d : Fin 128, q (ix2 r d) * kk (ix3 0 x d) : EReal) + b := by
  pointwise [k0_pay2]

theorem weights_apply (x4 : Vec Ideal S256x256 .bf16) (j : S256x256.Idx) : k0_pay10 (F := Ideal) x4 j = x4 j := by
  pointwise [k0_pay10]

/-- A mask word is set exactly when the key's lane, offset by the tile's place, lies before the query's row. -/
theorem mask_word (a k b : ℕ) (ha : a < 128) (hk : k < 512) (hb : b < 512) :
    IntOp.cmpi .slt (IntOp.addi (BitVec.ofNat 32 a) (BitVec.ofNat 32 k)) (BitVec.ofNat 32 b) = 1 ↔ a + k < b := by
  have h : IntOp.addi (BitVec.ofNat 32 a) (BitVec.ofNat 32 k) = BitVec.ofNat 32 (a + k) := (BitVec.ofNat_add ..).symm
  rw [h, WordCmp.cmpi_slt_ofNat (by omega) (by omega)]
  by_cases hab : a + k < b <;> simp [hab]

end Cert.KernelIdeal.Steps

end
-- ==== Proof.Walk.lean ====
/- The kernel's walk over the key tiles of one block of queries, from the last tile back to the first: what the four
   carried values hold after `n` tiles, kept by every step. -/
module

public import proofs.«01_k».proof.Proof.Steps

@[expose] public section

set_option maxRecDepth 16384

noncomputable section

namespace Cert.KernelIdeal.Steps

open Cert.KernelIdeal Cert.KernelIdeal.Gen Idealize.ShloMosaic Cert.Row

/-- What a step carries: the running sum of log-weights, the accumulated values, the next tile's logits and the
    logarithm of the weights of the tile just read. -/
abbrev St := Tile × Tile × Tile × Tile

/-- One step: the tile's log-weights from its logits, the previous tile's weights times its values, the next logits. -/
def trip (uo : FVec Ideal S256x256 .bf16) (q : FVec Ideal S512x128 .bf16) (b : Ideal .f32)
    (kt vt : Vec Ideal S1x128x128 .bf16) (msk : IVec S512x128 1) (s : St) : St :=
  (k0_pay27 uo s.2.2.1 s.1 msk, k0_pay3 s.2.1 s.2.2.2 vt, k0_pay2 q b kt, k0_pay28 uo s.2.2.1 s.1 msk)

/-- The end of the keys a block of queries can see, and a query's position. -/
abbrev top (a : ℕ) : ℕ := 512 * a + 512
abbrev pos (a : ℕ) (r : Fin 512) : ℕ := 512 * a + r.val

/-- What the carried values hold after `n` tiles of the block `a` of queries, whose base-2 logits are `Z` and whose values are `V`. -/
structure Inv (a : ℕ) (Z : Fin 512 → ℕ → EReal) (V : Fin 128 → ℕ → EReal) (n : ℕ) (s : St) : Prop where
  carry : ∀ (r : Fin 512) (x : Fin 128), s.1 (ix2 r x) = ∑ k ∈ Finset.Ico (top a - 128 * n) (top a), wt (pos a r) (Z r) k
  acc : ∀ (r : Fin 512) (e : Fin 128), s.2.1 (ix2 r e)
    = ∑ k ∈ Finset.Ico (top a - 128 * (n - 1)) (top a), Ideal.exp2 (logA (pos a r) (top a) (Z r) k) * V e k
  logits : n < 4 * a + 4 → ∀ (r : Fin 512) (x : Fin 128), s.2.2.1 (ix2 r x) = Z r (top a - 128 * (n + 1) + x.val)
  logw : ∀ (r : Fin 512) (x : Fin 128), s.2.2.2 (ix2 r x) = logA (pos a r) (top a) (Z r) (top a - 128 * n + x.val)

/-- The running sum and the tile's weights, kept by a step. -/
theorem Inv.carry_logw {a : ℕ} {Z : Fin 512 → ℕ → EReal} {n : ℕ} {carry z : Tile}
    (hc : ∀ (r : Fin 512) (x : Fin 128), carry (ix2 r x) = ∑ k ∈ Finset.Ico (top a - 128 * n) (top a), wt (pos a r) (Z r) k)
    (hz : ∀ (r : Fin 512) (x : Fin 128), z (ix2 r x) = Z r (top a - 128 * (n + 1) + x.val))
    (hn : n < 4 * a + 4) {uo : FVec Ideal S256x256 .bf16} (hu : IsWeights uo) {msk : IVec S512x128 1}
    (hm : ∀ (r : Fin 512) (x : Fin 128), msk (ix2 r x) = 1 ↔ top a - 128 * (n + 1) + x.val < pos a r) (r : Fin 512) (x : Fin 128) :
    k0_pay27 uo z carry msk (ix2 r x) = ∑ k ∈ Finset.Ico (top a - 128 * (n + 1)) (top a), wt (pos a r) (Z r) k
    ∧ k0_pay28 uo z carry msk (ix2 r x) = logA (pos a r) (top a) (Z r) (top a - 128 * (n + 1) + x.val) := by
  have ht : top a = 512 * a + 512 := rfl
  have e : top a - 128 * (n + 1) + 128 = top a - 128 * n := by omega
  have hx := x.isLt
  constructor
  · rw [carry_step uo z carry msk hu r (pos a r) (top a - 128 * (n + 1)) (Z r) (hz r) (hm r) x, hc, e, add_comm]
    exact Finset.sum_Ico_consecutive _ (by omega) (by omega)
  · rw [log_step uo z carry msk hu r (pos a r) (top a - 128 * (n + 1)) (Z r) (hz r) (hm r) x, hc, e]
    unfold logA
    rw [Finset.sum_Ico_consecutive _ (by omega) (by omega)]

/-- Every step keeps the carried values' meaning. -/
theorem Inv.trip {a : ℕ} {Z : Fin 512 → ℕ → EReal} {V : Fin 128 → ℕ → EReal} {n : ℕ} {s : St} (h : Inv a Z V n s)
    (h1 : 1 ≤ n) (hn : n < 4 * a + 4) {uo : FVec Ideal S256x256 .bf16} (hu : IsWeights uo) {msk : IVec S512x128 1}
    (hm : ∀ (r : Fin 512) (x : Fin 128), msk (ix2 r x) = 1 ↔ top a - 128 * (n + 1) + x.val < pos a r)
    {q : FVec Ideal S512x128 .bf16} {b : Ideal .f32} {kt vt : Vec Ideal S1x128x128 .bf16}
    (hk : n + 1 < 4 * a + 4 → ∀ (r : Fin 512) (x : Fin 128), k0_pay2 q b kt (ix2 r x) = Z r (top a - 128 * (n + 2) + x.val))
    (hv : ∀ (x e : Fin 128), vt (ix3 0 x e) = V e (top a - 128 * n + x.val)) :
    Inv a Z V (n + 1) (trip uo q b kt vt msk s) where
  carry r x := (Inv.carry_logw h.carry (h.logits hn) hn hu hm r x).1
  logw r x := (Inv.carry_logw h.carry (h.logits hn) hn hu hm r x).2
  logits := hk
  acc r e := by
    have ht : top a = 512 * a + 512 := rfl
    have e' : top a - 128 * n + 128 = top a - 128 * (n - 1) := by omega
    show k0_pay3 s.2.1 s.2.2.2 vt (ix2 r e) = _
    rw [acc_step s.2.1 s.2.2.2 vt r (pos a r) (top a) (top a - 128 * n) (Z r) (V e) e (h.logw r) (fun x => hv x e), h.acc, add_comm, e']
    exact Finset.sum_Ico_consecutive _ (by omega) (by omega)

/-- The first step: the running sum starts empty, and the masked weights of a tile that is not there add nothing. -/
theorem Inv.first {a : ℕ} {Z : Fin 512 → ℕ → EReal} {V : Fin 128 → ℕ → EReal} {uo : FVec Ideal S256x256 .bf16} (hu : IsWeights uo)
    {msk : IVec S512x128 1}
    (hm : ∀ (r : Fin 512) (x : Fin 128), msk (ix2 r x) = 1 ↔ top a - 128 * (0 + 1) + x.val < pos a r)
    {q : FVec Ideal S512x128 .bf16} {b : Ideal .f32} {k0 kt vt : Vec Ideal S1x128x128 .bf16}
    (hk0 : ∀ (r : Fin 512) (x : Fin 128), k0_pay2 q b k0 (ix2 r x) = Z r (top a - 128 * (0 + 1) + x.val))
    (hk : ∀ (r : Fin 512) (x : Fin 128), k0_pay2 q b kt (ix2 r x) = Z r (top a - 128 * (0 + 2) + x.val)) :
    Inv a Z V 1 (Steps.trip uo q b kt vt msk (k0_pay11, k0_pay11, k0_pay2 q b k0, k0_pay13)) where
  carry r x := (Inv.carry_logw (n := 0) (fun r x => by
    pointwise [k0_pay11]
    simp) hk0 (by omega) hu hm r x).1
  logw r x := (Inv.carry_logw (n := 0) (fun r x => by
    pointwise [k0_pay11]
    simp) hk0 (by omega) hu hm r x).2
  logits _ := hk
  acc r e := by
    show k0_pay3 k0_pay11 k0_pay13 vt (ix2 r e) = _
    pointwise [k0_pay3, k0_pay11, k0_pay13]
    rw [named_mask]
    change ∑ x : Fin 128, Ideal.exp2 ⊥ * vt (ix3 0 x e) = _
    simp [Ideal.exp2_bot]

/-- The block written after the last tile: the attention of each query row. -/
theorem Inv.out {a : ℕ} {Z : Fin 512 → ℕ → EReal} {V : Fin 128 → ℕ → EReal} {s : St} (h : Inv a Z V (4 * a + 4) s)
    {vt : Vec Ideal S1x128x128 .bf16} (hv : ∀ (x e : Fin 128), vt (ix3 0 x e) = V e x.val) (r : Fin 512) (e : Fin 128) :
    k0_pay1 s.2.1 s.2.2.2 vt (ix3 0 r e) = attn (pos a r) (top a) (Z r) (V e) := by
  have hp : k0_pay1 s.2.1 s.2.2.2 vt (ix3 0 r e) = k0_pay3 s.2.1 s.2.2.2 vt (ix2 r e) := by
    pointwise [k0_pay1, k0_pay3]
  have ht : top a = 512 * a + 512 := rfl
  have e0 : top a - 128 * (4 * a + 4) = 0 := by omega
  rw [hp, acc_step s.2.1 s.2.2.2 vt r (pos a r) (top a) 0 (Z r) (V e) e
    (fun x => by rw [h.logw, e0]) (fun x => by rw [hv, zero_add]), h.acc, add_comm]
  unfold attn
  have e1 : top a - 128 * (4 * a + 4 - 1) = 0 + 128 := by omega
  rw [e1]
  exact Finset.sum_Ico_consecutive _ (by omega) (by omega)

end Cert.KernelIdeal.Steps

end
-- ==== Proof.Offsets.lean ====
/- Where the kernel's walk reads: how many steps the two loops make at a grid point, and at which key row each step
   reads its keys and its values. -/
module

public import proofs.«01_k».proof.Proof.Gen.KernelIdeal.Value

@[expose] public section

set_option maxRecDepth 16384

noncomputable section

namespace Cert.KernelIdeal.Steps

open Cert.KernelIdeal Cert.KernelIdeal.Gen Idealize.ShloMosaic

/-- The query block of a grid point. -/
abbrev qb (t : Fin cfg0.N) : ℕ := (grid0.coords t 2).val

theorem qb_lt (t : Fin cfg0.N) : qb t < 16 := (grid0.coords t 2).isLt

/-- The first loop makes four steps per query block before this one; the second makes none. -/
theorem trips1 : ∀ t : Fin cfg0.N, (k0_t1_loop (grid0.coords t)).trips = 4 * qb t :=
  (by decide +kernel : ∀ t : Fin grid0.N, (k0_t1_loop (grid0.coords t)).trips = 4 * (grid0.coords t 2).val)

theorem trips2 : ∀ t : Fin cfg0.N, (k0_t2_loop (grid0.coords t)).trips = 0 :=
  (by decide +kernel : ∀ t : Fin grid0.N, (k0_t2_loop (grid0.coords t)).trips = 0)

/-- The bias is read at the head. -/
theorem off1 : ∀ t : Fin cfg0.N, k0_off1 (grid0.coords t) = ![(grid0.coords t 1).val] :=
  (by decide +kernel : ∀ t : Fin grid0.N, k0_off1 (grid0.coords t) = ![(grid0.coords t 1).val])

/-- The keys of the first five tiles of logits. -/
theorem off2 : ∀ t : Fin cfg0.N, ∀ n : Fin 5, k0_off2 (grid0.coords t) (BitVec.ofNat 32 n.val) = ![0, (4 * qb t + 3 - n.val) * 128, 0] :=
  (by decide +kernel : ∀ t : Fin grid0.N, ∀ n : Fin 5, k0_off2 (grid0.coords t) (BitVec.ofNat 32 n.val) = ![0, (4 * (grid0.coords t 2).val + 3 - n.val) * 128, 0])

/-- The values of the first three tiles on the diagonal. -/
theorem off3 : ∀ t : Fin cfg0.N, ∀ n : Fin 3, k0_off3 (grid0.coords t) (BitVec.ofNat 32 n.val) = ![0, (4 * qb t + 3 - n.val) * 128, 0] :=
  (by decide +kernel : ∀ t : Fin grid0.N, ∀ n : Fin 3, k0_off3 (grid0.coords t) (BitVec.ofNat 32 n.val) = ![0, (4 * (grid0.coords t 2).val + 3 - n.val) * 128, 0])

/-- The keys a step of the loop reads. -/
theorem off4 : ∀ t : Fin cfg0.N, ∀ k : Fin (k0_t1_loop (grid0.coords t)).trips,
    k0_off4 (grid0.coords t) k = ![0, (4 * qb t + 3 - (k.val + 5)) * 128, 0] :=
  (by decide +kernel : ∀ t : Fin grid0.N, ∀ k : Fin (k0_t1_loop (grid0.coords t)).trips,
    k0_off4 (grid0.coords t) k = ![0, (4 * (grid0.coords t 2).val + 3 - (k.val + 5)) * 128, 0])

/-- The values a step of the loop reads. -/
theorem off5 : ∀ t : Fin cfg0.N, ∀ k : Fin (k0_t1_loop (grid0.coords t)).trips,
    k0_off5 (grid0.coords t) k = ![0, (4 * qb t + 3 - (k.val + 3)) * 128, 0] :=
  (by decide +kernel : ∀ t : Fin grid0.N, ∀ k : Fin (k0_t1_loop (grid0.coords t)).trips,
    k0_off5 (grid0.coords t) k = ![0, (4 * (grid0.coords t 2).val + 3 - (k.val + 3)) * 128, 0])

/-- The values of the last tile, the first keys. -/
theorem off8 : ∀ t : Fin cfg0.N, k0_off8 (grid0.coords t) = ![0, 0, 0] :=
  (by decide +kernel : ∀ t : Fin grid0.N, k0_off8 (grid0.coords t) = ![0, 0, 0])

end Cert.KernelIdeal.Steps

end
-- ==== Proof.Block.lean ====
/- What one grid point of the kernel leaves in its output block: the attention of its 512 queries over the keys its
   blocks of keys and values hold. -/
module

public import proofs.«01_k».proof.Proof.Walk
public import proofs.«01_k».proof.Proof.Offsets
public import Idealize.ShloMosaic.Lib.Pipeline.ValueKit
import all proofs.«01_k».proof.Proof.Gen.KernelIdeal.Loops
import all proofs.«01_k».proof.Proof.Gen.KernelIdeal.Frame.RunA

@[expose] public section

set_option maxRecDepth 16384

noncomputable section

namespace Cert.KernelIdeal.Steps

open Cert.KernelIdeal Cert.KernelIdeal.Gen Idealize.ShloMosaic Cert.Row

/-! ## The kernel's repeated spellings of one operation -/

theorem n12 (a : Vec Ideal S1x512x128 .f32) (b : Elt Ideal .f32) (k : Vec Ideal S1x128x128 .bf16) :
    k0_pay12 a b k = k0_pay2 (k0_pay8 a) (k0_pay9 b) k := rfl
theorem n15 (a : FVec Ideal S512x128 .bf16) (b : Ideal .f32) (k : Vec Ideal S1x128x128 .bf16) : k0_pay15 a b k = k0_pay2 a b k := rfl
theorem n23 (a : FVec Ideal S512x128 .bf16) (b : Ideal .f32) (k : Vec Ideal S1x128x128 .bf16) : k0_pay23 a b k = k0_pay2 a b k := rfl
theorem n30 (a : FVec Ideal S512x128 .bf16) (b : Ideal .f32) (k : Vec Ideal S1x128x128 .bf16) : k0_pay30 a b k = k0_pay2 a b k := rfl
theorem n39 (a : FVec Ideal S512x128 .bf16) (b : Ideal .f32) (k : Vec Ideal S1x128x128 .bf16) : k0_pay39 a b k = k0_pay2 a b k := rfl
theorem n16 (a b : Tile) (v : Vec Ideal S1x128x128 .bf16) : k0_pay16 a b v = k0_pay3 a b v := rfl
theorem n24 (a b : Tile) (v : Vec Ideal S1x128x128 .bf16) : k0_pay24 a b v = k0_pay3 a b v := rfl
theorem n31 (a b : Tile) (v : Vec Ideal S1x128x128 .bf16) : k0_pay31 a b v = k0_pay3 a b v := rfl
theorem n40 (a b : Tile) (v : Vec Ideal S1x128x128 .bf16) : k0_pay40 a b v = k0_pay3 a b v := rfl
theorem n20 (u : FVec Ideal S256x256 .bf16) (c z : Tile) (k : IVec S512x128 1) :
    k0_pay20 u c k (k0_pay17 z) (FloatOps.ofBits (F := Ideal) FTy.f32 0#32) = k0_pay27 u z c k := rfl
theorem n21 (u : FVec Ideal S256x256 .bf16) (c z : Tile) (k : IVec S512x128 1) :
    k0_pay21 u c k (k0_pay17 z) (k0_pay18 z) (FloatOps.ofBits (F := Ideal) FTy.f32 0#32) = k0_pay28 u z c k := rfl
theorem n36 (u : FVec Ideal S256x256 .bf16) (c z : Tile) (k : IVec S512x128 1) : k0_pay36 u c (k0_pay34 z k) = k0_pay27 u z c k := rfl
theorem n37 (u : FVec Ideal S256x256 .bf16) (c z : Tile) (k : IVec S512x128 1) :
    k0_pay37 u c k (k0_pay33 z) (k0_pay34 z k) = k0_pay28 u z c k := rfl
theorem n43 (u : FVec Ideal S256x256 .bf16) (c z : Tile) (k : IVec S512x128 1) : k0_pay43 u z c k = k0_pay27 u z c k := rfl
theorem n44 (u : FVec Ideal S256x256 .bf16) (c z : Tile) (k : IVec S512x128 1) : k0_pay44 u z c k = k0_pay28 u z c k := rfl

/-- The row and lane numbers of a tile. -/
abbrev rows : IVec S512x128 32 := iota Kind.tc S512x128 32 [0] iota_S512x128_d0_w32
abbrev lanes : IVec S512x128 32 := iota Kind.tc S512x128 32 [1] iota_S512x128_d1_w32

/-- The masks of the four tiles on the diagonal. -/
theorem mask3 (r : Fin 512) (x : Fin 128) : k0_pay14 (ix2 r x) = 1 ↔ x.val + 384 < r.val := by
  pointwise [k0_pay14]
  exact mask_word x.val 384 r.val x.isLt (by omega) r.isLt
theorem mask2 (r : Fin 512) (x : Fin 128) : k0_pay22 rows lanes (ix2 r x) = 1 ↔ x.val + 256 < r.val := by
  pointwise [k0_pay22]
  exact mask_word x.val 256 r.val x.isLt (by omega) r.isLt
theorem mask1 (r : Fin 512) (x : Fin 128) : k0_pay29 rows lanes (ix2 r x) = 1 ↔ x.val + 128 < r.val := by
  pointwise [k0_pay29]
  exact mask_word x.val 128 r.val x.isLt (by omega) r.isLt
theorem mask0 (r : Fin 512) (x : Fin 128) : k0_pay38 rows lanes (ix2 r x) = 1 ↔ x.val + 0 < r.val := by
  pointwise [k0_pay38]
  exact mask_word x.val 0 r.val x.isLt (by omega) r.isLt

/-! ## A tile read from a block of all keys -/

/-- The tile at row `o` of a block of all keys or values, read at a lane. -/
theorem tile_apply (X : Vec Ideal S1x8192x128 .bf16) (off : Fin 3 → ℕ) (inb : ∀ a, off a + S1x128x128.size a ≤ S1x8192x128.size a)
    (o : ℕ) (ho : off = ![0, o, 0]) (x e : Fin 128) (h : o + x.val < 8192) :
    View.ld X (Rect.unit (s := S1x8192x128) off S1x128x128.size inb) (ix3 0 x e) = X (ix3 0 ⟨o + x.val, h⟩ e) := by
  subst ho
  pointwise

/-- The one entry read from the table of biases. -/
theorem bias_read (X : Vec Ideal S4 .f32) (off : Fin 1 → ℕ) (inb : ∀ a, off a + S1.size a ≤ S4.size a) (o : Fin 4) (ho : off = ![o.val]) (h) :
    View.ld X (Rect.unit (s := S4) off S1.size inb) (Shape.Idx.first h) = X (ix1 o) := by
  subst ho
  rw [View.ld_apply]
  congr 1
  funext a
  fin_cases a
  apply Fin.ext
  simp [Shape.Idx.first]

/-- A block of all keys, by row number; nothing past its end. -/
def rowOf (X : Vec Ideal S1x8192x128 .bf16) (e : Fin 128) (s : ℕ) : EReal := if h : s < 8192 then X (ix3 0 ⟨s, h⟩ e) else 0

/-- The base-2 logits of a query row: the scaled query times the key, and the scaled bias. -/
def logitOf (q : Vec Ideal S1x512x128 .f32) (k : Vec Ideal S1x8192x128 .bf16) (b : EReal) (r : Fin 512) (s : ℕ) : EReal :=
  (∑ d : Fin 128, (q (ix3 0 r d) : EReal) * (((Real.sqrt 128)⁻¹ * (Real.log 2)⁻¹ : ℝ) : EReal) * rowOf k d s) + b * c2

theorem tile_value (X : Vec Ideal S1x8192x128 .bf16) (off : Fin 3 → ℕ) (inb : ∀ a, off a + S1x128x128.size a ≤ S1x8192x128.size a)
    (o : ℕ) (ho : off = ![0, o, 0]) (h : o + 128 ≤ 8192) (x e : Fin 128) :
    View.ld X (Rect.unit (s := S1x8192x128) off S1x128x128.size inb) (ix3 0 x e) = rowOf X e (o + x.val) := by
  have hx := x.isLt
  rw [tile_apply X off inb o ho x e (by omega)]
  unfold rowOf
  rw [dif_pos]

theorem tile_logits (q : Vec Ideal S1x512x128 .f32) (b : Elt Ideal .f32) (X : Vec Ideal S1x8192x128 .bf16) (off : Fin 3 → ℕ)
    (inb : ∀ a, off a + S1x128x128.size a ≤ S1x8192x128.size a) (o : ℕ) (ho : off = ![0, o, 0]) (h : o + 128 ≤ 8192)
    (r : Fin 512) (x : Fin 128) :
    k0_pay2 (k0_pay8 q) (k0_pay9 b) (View.ld X (Rect.unit (s := S1x8192x128) off S1x128x128.size inb)) (ix2 r x) = logitOf q X b r (o + x.val) := by
  rw [logits_apply, bias_apply]
  unfold logitOf
  congr 1
  refine Finset.sum_congr rfl fun d _ => ?_
  rw [query_apply, tile_value X off inb o ho h]

/-! ## The loop -/

section Loop

variable (c : Dev nD) (t : Fin cfg0.N) (arg3 : Memref sig .tc .smem S4 .f32) (harg3 : arg3.IsWhole)
  (arg4 : Memref sig .tc .vmem S1x512x128 .f32) (harg4 : arg4.IsWhole) (arg5 : Memref sig .tc .vmem S1x8192x128 .bf16) (harg5 : arg5.IsWhole)
  (arg6 : Memref sig .tc .vmem S1x8192x128 .bf16) (harg6 : arg6.IsWhole) (arg7 : Memref sig .tc .vmem S256x256 .bf16) (harg7 : arg7.IsWhole)
  (arg8 : Memref sig .tc .vmem S1x512x128 .bf16) (harg8 : arg8.IsWhole) (arg2 : BitVec 32) (v4 : FVec Ideal S512x128 .bf16) (v7 : Ideal .f32)
  (v9 : FVec Ideal S256x256 .bf16) (v164 v179 v206 v209 : Tile) (v212 : IVec S512x128 1) (v225 : Tile) (v235 : Vec Ideal S1x128x128 .bf16)
  (x2 x3 : Vec Ideal S1x8192x128 .bf16) (init : St)

/-- The loop's next state is one step without a mask, on the tiles read from the blocks of keys and values. -/
theorem st_succ (k : Fin (k0_t1_loop (grid0.coords t)).trips) :
    st_k0_t1 (F := Ideal) Variants.none c none (grid0.coords t) arg3 harg3 arg4 harg4 arg5 harg5 arg6 harg6 arg7 harg7 arg8 harg8 arg2 v4 v7 v9 v164 v179 v206
        v209 v212 v225 v235 (harg5.unread x2) (harg6.unread x3) init (k.val + 1)
      = trip v9 v4 v7 (View.ld x2 (Rect.unit (s := S1x8192x128) (k0_off4 (grid0.coords t) k) S1x128x128.size (Gen.facts.k0_off4_inb _ _)))
          (View.ld x3 (Rect.unit (s := S1x8192x128) (k0_off5 (grid0.coords t) k) S1x128x128.size (Gen.facts.k0_off5_inb _ _))) (fun _ => 1#1)
          (st_k0_t1 (F := Ideal) Variants.none c none (grid0.coords t) arg3 harg3 arg4 harg4 arg5 harg5 arg6 harg6 arg7 harg7 arg8 harg8 arg2 v4 v7 v9 v164
            v179 v206 v209 v212 v225 v235 (harg5.unread x2) (harg6.unread x3) init k.val) := by
  rw [st_k0_t1_succ]
  unfold tripR_k0_t1 trip_k0_t1
  dsimp only
  generalize st_k0_t1 (F := Ideal) Variants.none c none (grid0.coords t) arg3 harg3 arg4 harg4 arg5 harg5 arg6 harg6 arg7 harg7 arg8 harg8 arg2 v4 v7 v9 v164
    v179 v206 v209 v212 v225 v235 (harg5.unread x2) (harg6.unread x3) init k.val = s
  unfold trip_k0_t1.sl.r_1 trip_k0_t1.sl.r trip_k0_t1.sl.r_2 trip_k0_t1.sl.cst_160
  rw [View.readAt_eq_ld, View.readAt_eq_ld, harg5.read_unread, harg6.read_unread]
  unfold trip
  rfl

/-- Four steps done, the loop's `k` steps keep the carried values' meaning. -/
theorem st_inv {q : Vec Ideal S1x512x128 .f32} {b : Elt Ideal .f32} (hq : v4 = k0_pay8 q) (hb : v7 = k0_pay9 b) (hu : IsWeights v9)
    (h0 : Inv (qb t) (logitOf q x2 b) (rowOf x3) 4 init) (k : ℕ) (hk : k ≤ 4 * qb t) :
    Inv (qb t) (logitOf q x2 b) (rowOf x3) (4 + k)
      (st_k0_t1 (F := Ideal) Variants.none c none (grid0.coords t) arg3 harg3 arg4 harg4 arg5 harg5 arg6 harg6 arg7 harg7 arg8 harg8 arg2 v4 v7 v9 v164
        v179 v206 v209 v212 v225 v235 (harg5.unread x2) (harg6.unread x3) init k) := by
  have ha := qb_lt t
  have ht : top (qb t) = 512 * qb t + 512 := rfl
  induction k with
  | zero => exact h0
  | succ k ih =>
    have hkt : k < (k0_t1_loop (grid0.coords t)).trips := by rw [trips1]; omega
    rw [st_succ c t arg3 harg3 arg4 harg4 arg5 harg5 arg6 harg6 arg7 harg7 arg8 harg8 arg2 v4 v7 v9 v164 v179 v206 v209 v212 v225 v235 x2 x3 init ⟨k, hkt⟩]
    refine (ih (by omega)).trip (by omega) (by omega) hu (fun r x => ?_) (fun h r x => ?_) (fun x e => ?_)
    · have hr := r.isLt
      have hx := x.isLt
      have hp : pos (qb t) r = 512 * qb t + r.val := rfl
      constructor
      · intro _; omega
      · intro _; rfl
    · subst hq hb
      rw [tile_logits q b x2 _ _ _ (off4 t ⟨k, hkt⟩) (by simp only []; omega)]
      congr 1
      simp only []
      omega
    · rw [tile_value x3 _ _ _ (off5 t ⟨k, hkt⟩) (by simp only []; omega)]
      congr 1
      simp only []
      omega

end Loop

/-! ## The block -/

/-- The four steps on the diagonal, from the empty start. -/
theorem diag_inv (t : Fin cfg0.N) {uo : FVec Ideal S256x256 .bf16} (hu : IsWeights uo) (q : Vec Ideal S1x512x128 .f32) (b : Elt Ideal .f32)
    (x2 x3 : Vec Ideal S1x8192x128 .bf16) (off : Fin 5 → Fin 3 → ℕ)
    (hoff : ∀ n : Fin 5, off n = ![0, (4 * qb t + 3 - n.val) * 128, 0])
    (inb : ∀ n, ∀ a, off n a + S1x128x128.size a ≤ S1x8192x128.size a)
    (off' : Fin 3 → Fin 3 → ℕ) (hoff' : ∀ n : Fin 3, off' n = ![0, (4 * qb t + 3 - n.val) * 128, 0])
    (inb' : ∀ n, ∀ a, off' n a + S1x128x128.size a ≤ S1x8192x128.size a) (v0 : Vec Ideal S1x128x128 .bf16) :
    Inv (qb t) (logitOf q x2 b) (rowOf x3) 4
      (trip uo (k0_pay8 q) (k0_pay9 b) (View.ld x2 (Rect.unit (s := S1x8192x128) (off 4) S1x128x128.size (inb 4)))
        (View.ld x3 (Rect.unit (s := S1x8192x128) (off' 2) S1x128x128.size (inb' 2))) (k0_pay38 rows lanes)
      (trip uo (k0_pay8 q) (k0_pay9 b) (View.ld x2 (Rect.unit (s := S1x8192x128) (off 3) S1x128x128.size (inb 3)))
        (View.ld x3 (Rect.unit (s := S1x8192x128) (off' 1) S1x128x128.size (inb' 1))) (k0_pay29 rows lanes)
      (trip uo (k0_pay8 q) (k0_pay9 b) (View.ld x2 (Rect.unit (s := S1x8192x128) (off 2) S1x128x128.size (inb 2)))
        (View.ld x3 (Rect.unit (s := S1x8192x128) (off' 0) S1x128x128.size (inb' 0))) (k0_pay22 rows lanes)
      (trip uo (k0_pay8 q) (k0_pay9 b) (View.ld x2 (Rect.unit (s := S1x8192x128) (off 1) S1x128x128.size (inb 1)))
        v0 k0_pay14
      (k0_pay11, k0_pay11, k0_pay2 (k0_pay8 q) (k0_pay9 b) (View.ld x2 (Rect.unit (s := S1x8192x128) (off 0) S1x128x128.size (inb 0))), k0_pay13))))) := by
  have ha := qb_lt t
  have ht : top (qb t) = 512 * qb t + 512 := rfl
  have hp : ∀ r : Fin 512, pos (qb t) r = 512 * qb t + r.val := fun _ => rfl
  have hlog : ∀ n : Fin 5, n.val < 4 * qb t + 4 → ∀ (r : Fin 512) (x : Fin 128),
      k0_pay2 (k0_pay8 q) (k0_pay9 b) (View.ld x2 (Rect.unit (s := S1x8192x128) (off n) S1x128x128.size (inb n))) (ix2 r x)
        = logitOf q x2 b r (top (qb t) - 128 * (n.val + 1) + x.val) := fun n hn r x => by
    rw [tile_logits q b x2 _ _ _ (hoff n) (by omega)]
    congr 1
    omega
  have hval : ∀ n : Fin 3, ∀ (x e : Fin 128),
      View.ld x3 (Rect.unit (s := S1x8192x128) (off' n) S1x128x128.size (inb' n)) (ix3 0 x e)
        = rowOf x3 e (top (qb t) - 128 * (n.val + 1) + x.val) := fun n x e => by
    have hn := n.isLt
    rw [tile_value x3 _ _ _ (hoff' n) (by omega)]
    congr 1
    omega
  have i1 := Inv.first (V := rowOf x3) (vt := v0) hu (a := qb t)
    (fun r x => by rw [mask3, hp]; omega) (hlog 0 (by simp)) (hlog 1 (by simp only [Fin.val_one]; omega))
  have i2 := i1.trip (le_refl _) (by omega) hu (msk := k0_pay22 rows lanes) (fun r x => by rw [mask2, hp]; omega)
    (fun h => hlog 2 h) (fun x e => hval 0 x e)
  have i3 := i2.trip (by omega) (by omega) hu (msk := k0_pay29 rows lanes) (fun r x => by rw [mask1, hp]; omega)
    (fun h => hlog 3 h) (fun x e => hval 1 x e)
  exact i3.trip (by omega) (by omega) hu (msk := k0_pay38 rows lanes) (fun r x => by rw [mask0, hp]; omega)
    (fun h => hlog 4 h) (fun x e => hval 2 x e)

variable (m : (ℓ : Loc nD τ sig) → Buf (Elt Ideal) ℓ)

/-- What a grid point leaves in its output block: the attention of its queries over its keys and values. -/
theorem block (c : Dev nD) (t : Fin cfg0.N) (hu : IsWeights (iblk m c 4 t)) (r : Fin 512) (e : Fin 128) :
    outsAt0 m c t (ix3 0 r e)
      = attn (pos (qb t) r) (top (qb t)) (logitOf (iblk m c 1 t) (iblk m c 2 t) (iblk m c 0 t (ix1 (grid0.coords t 1))) r) (rowOf (iblk m c 3 t) e) := by
  have hu' : IsWeights (k0_pay10 (F := Ideal) (iblk m c 4 t)) := by
    rw [show k0_pay10 (F := Ideal) (iblk m c 4 t) = iblk m c 4 t from funext (weights_apply _)]
    exact hu
  unfold outsAt0
  frame_out
  simp only [n12, n15, n23, n30, n39, n16, n24, n31, n40, n20, n21, n36, n37, n43, n44]
  have hb := bias_read (iblk m c 0 t) (k0_off1 (grid0.coords t)) (Gen.facts.k0_off1_inb _) (grid0.coords t 1) (off1 t)
  rw [← hb (by show 0 < S1.numel; decide)]
  refine Inv.out (a := qb t) ?_ (fun x e => ?_) r e
  · rw [show Scf.trips _ _ _ = (k0_t2_loop (grid0.coords t)).trips from rfl, trips2, st_k0_t2_zero]
    rw [show Scf.trips _ _ _ = (k0_t1_loop (grid0.coords t)).trips from rfl, trips1, add_comm (4 * qb t) 4]
    refine st_inv c t _ _ _ _ _ _ _ _ _ _ _ _ _ _ _ _ _ _ _ _ _ _ _ _ _ _ rfl rfl hu' ?_ _ (le_refl _)
    exact diag_inv t hu' (iblk m c 1 t) _ (iblk m c 2 t) (iblk m c 3 t)
      (fun n => k0_off2 (grid0.coords t) (BitVec.ofNat 32 n.val)) (off2 t) (Gen.facts.k0_off2_inb _)
      (fun n => k0_off3 (grid0.coords t) (BitVec.ofNat 32 n.val)) (off3 t) (fun n => by
        fin_cases n
        exacts [Gen.facts.k0_off3_inb _ 1, Gen.facts.k0_off3_inb _ 2, Gen.facts.k0_off3_inb _ 3]) _
  · rw [tile_value _ _ _ 0 (off8 t) (by omega), zero_add]

end Cert.KernelIdeal.Steps

end
-- ==== Proof.Array.lean ====
/- The array the kernel leaves: every grid point writes the attention of its block of queries, so the array holds, for
   every sequence, query, head and feature, the attention of that query row over the arguments. -/
module

public import proofs.«01_k».proof.Proof.Block
public import Idealize.ShloMosaic.Lib.Claim

@[expose] public section

set_option maxRecDepth 16384

noncomputable section

namespace Cert.KernelIdeal.Steps

open Cert.KernelIdeal Cert.KernelIdeal.Gen Idealize.ShloMosaic Idealize.ShloMosaic.TcCoe Idealize.SL.Sem Cert.Row

/-- Keys or values of one sequence and head, by position; nothing past the last. -/
def keyOf (X : FVec Ideal S2x8192x4x128 .f32) (b : Fin 2) (h : Fin 4) (e : Fin 128) (s : ℕ) : EReal :=
  if hs : s < 8192 then X (ix4 b ⟨s, hs⟩ h e) else 0

/-- The base-2 logits of a query. -/
def logitsOf (q k : FVec Ideal S2x8192x4x128 .f32) (bias : FVec Ideal S4 .f32) (b : Fin 2) (t : Fin 8192) (h : Fin 4) (s : ℕ) : EReal :=
  (∑ d : Fin 128, (q (ix4 b t h d) : EReal) * (((Real.sqrt 128)⁻¹ * (Real.log 2)⁻¹ : ℝ) : EReal) * keyOf k b h d s) + (bias (ix1 h) : EReal) * c2

/-- The attention of one query, over the keys up to the end of its block of 512. -/
def outOf (q k v : FVec Ideal S2x8192x4x128 .f32) (bias : FVec Ideal S4 .f32) (b : Fin 2) (t : Fin 8192) (h : Fin 4) (e : Fin 128) : EReal :=
  attn t.val (512 * (t.val / 512) + 512) (logitsOf q k bias b t h) (keyOf v b h e)

variable (m : (ℓ : Loc nD τ sig) → Buf (Elt Ideal) ℓ)

theorem idx : ∀ t : Fin cfg0.N, win0_0.index t = ![0] ∧ win0_1.index t = ![(grid0.coords t 0).val, (grid0.coords t 2).val, (grid0.coords t 1).val]
    ∧ win0_2.index t = ![(grid0.coords t 0).val, 0, (grid0.coords t 1).val] ∧ win0_3.index t = ![(grid0.coords t 0).val, 0, (grid0.coords t 1).val]
    ∧ win0_4.index t = ![0, 0] ∧ win0_5.index t = ![(grid0.coords t 0).val, (grid0.coords t 2).val, (grid0.coords t 1).val] :=
  (by decide +kernel : ∀ t : Fin grid0.N, _)

theorem co (t : Fin cfg0.N) : (grid0.coords t 0).val < 2 ∧ (grid0.coords t 1).val < 4 ∧ (grid0.coords t 2).val < 16 :=
  ⟨(grid0.coords t 0).isLt, (grid0.coords t 1).isLt, (grid0.coords t 2).isLt⟩

/-- The bias a grid point reads. -/
theorem read_bias (c : Dev nD) (t : Fin cfg0.N) (h : Fin 4) : iblk m c 0 t (ix1 h) = m ((c : Thread nD τ).loc main_arg3) (ix1 h) := by
  blk_ext [iblk, V, idx t]

/-- The queries a grid point reads. -/
theorem read_q (c : Dev nD) (t : Fin cfg0.N) (r : Fin 512) (d : Fin 128) (hr : 512 * (grid0.coords t 2).val + r.val < 8192) :
    iblk m c 1 t (ix3 0 r d) = m ((c : Thread nD τ).loc main_arg0)
      (ix4 (grid0.coords t 0) ⟨512 * (grid0.coords t 2).val + r.val, hr⟩ (grid0.coords t 1) d) := by
  have hc := co t
  have he : ((View.whole main_v0).slice (win0_1.rect t)).emb (ix3 0 r d) = ix3 (grid0.coords t 0) ⟨512 * (grid0.coords t 2).val + r.val, hr⟩ ⟨128 * (grid0.coords t 1).val + d.val, by omega⟩ := by
    blk_ext [idx t]
  blk_simp [iblk]
  rw [he]
  entry_read
  pointwise

/-- The keys a grid point reads. -/
theorem read_k (c : Dev nD) (t : Fin cfg0.N) (s : Fin 8192) (d : Fin 128) :
    iblk m c 2 t (ix3 0 s d) = m ((c : Thread nD τ).loc main_arg1) (ix4 (grid0.coords t 0) s (grid0.coords t 1) d) := by
  have hc := co t
  have he : ((View.whole main_v2).slice (win0_2.rect t)).emb (ix3 0 s d) = ix3 (grid0.coords t 0) s ⟨128 * (grid0.coords t 1).val + d.val, by omega⟩ := by
    blk_ext [idx t]
  blk_simp [iblk]
  rw [he]
  entry_read
  pointwise

/-- The values a grid point reads. -/
theorem read_v (c : Dev nD) (t : Fin cfg0.N) (s : Fin 8192) (d : Fin 128) :
    iblk m c 3 t (ix3 0 s d) = m ((c : Thread nD τ).loc main_arg2) (ix4 (grid0.coords t 0) s (grid0.coords t 1) d) := by
  have hc := co t
  have he : ((View.whole main_v4).slice (win0_3.rect t)).emb (ix3 0 s d) = ix3 (grid0.coords t 0) s ⟨128 * (grid0.coords t 1).val + d.val, by omega⟩ := by
    blk_ext [idx t]
  blk_simp [iblk]
  rw [he]
  entry_read
  pointwise

/-- The word of a strict comparison of two small numbers, as a number. -/
theorem uitofp_sgt : ∀ i j : Fin 128, IntOp.cmpi CmpIPredicate.sgt (BitVec.ofNat 32 i.val) (BitVec.ofNat 32 j.val) = if j < i then 1#1 else 0#1 := by
  decide +kernel

theorem uitofp_bit (p : Prop) [Decidable p] : (FloatOps.uitofp (F := Ideal) FTy.f32 (if p then 1#1 else 0#1)) = (if p then (1 : EReal) else 0) := by
  split
  · change ((((1#1 : BitVec 1).toNat : ℝ)) : EReal) = 1
    norm_num
  · change ((((0#1 : BitVec 1).toNat : ℝ)) : EReal) = 0
    norm_num

/-- The matrix of zeros and ones a grid point reads: later keys, and all keys. -/
theorem weights (c : Dev nD) (t : Fin cfg0.N) : IsWeights (iblk m c 4 t) := by
  have he (k j : Fin 256) : ((View.whole main_v15).slice (win0_4.rect t)).emb (ix2 k j) = ix2 k j := by
    blk_ext [idx t]
  refine ⟨fun k j => ?_, fun k j => ?_⟩
  · blk_simp [iblk]
    rw [he]
    entry_read
    pointwise
    have hj := j.isLt
    have hk := k.isLt
    by_cases h : k.val < 128
    · rw [dif_pos h, uitofp_sgt ⟨k.val, h⟩ j, uitofp_bit, Nat.mod_eq_of_lt h]
      rfl
    · have h' : k.val - 128 < 128 := by omega
      rw [dif_neg h, uitofp_sgt ⟨k.val - 128, h'⟩ j, uitofp_bit, Nat.mod_eq_sub_mod (by omega), Nat.mod_eq_of_lt h']
      rfl
  · blk_simp [iblk]
    rw [he]
    entry_read
    pointwise
    split <;> rfl

/-- The attention of every query, feature and head, laid out as the kernel's result. -/
def outArr (q k v : FVec Ideal S2x8192x4x128 .f32) (bias : FVec Ideal S4 .f32) : FVec Ideal S2x8192x512 .bf16 := fun j : S2x8192x512.Idx =>
  outOf q k v bias (j 0) (j 1) ⟨(j 2).val / 128, by have : (j 2).val < 512 := (j 2).isLt; omega⟩
    ⟨(j 2).val % 128, Nat.mod_lt _ (by norm_num)⟩

theorem outArr_at (q k v : FVec Ideal S2x8192x4x128 .f32) (bias : FVec Ideal S4 .f32) (b : Fin 2) (t : Fin 8192) (h : Fin 4) (e : Fin 128)
    (hn : 128 * h.val + e.val < 512) : outArr q k v bias (ix3 b t ⟨128 * h.val + e.val, hn⟩) = outOf q k v bias b t h e := by
  refine congrArg₂ (outOf q k v bias b t) (Fin.ext ?_) (Fin.ext ?_)
  · change (128 * h.val + e.val) / 128 = h.val
    omega
  · change (128 * h.val + e.val) % 128 = e.val
    omega

/-- A row of keys a grid point reads. -/
theorem row_k (c : Dev nD) (t : Fin cfg0.N) (d : Fin 128) :
    rowOf (iblk m c 2 t) d = keyOf (m ((c : Thread nD τ).loc main_arg1)) (grid0.coords t 0) (grid0.coords t 1) d := by
  funext s
  unfold rowOf keyOf
  split
  · exact read_k m c t _ d
  · rfl

/-- A row of values a grid point reads. -/
theorem row_v (c : Dev nD) (t : Fin cfg0.N) (d : Fin 128) :
    rowOf (iblk m c 3 t) d = keyOf (m ((c : Thread nD τ).loc main_arg2)) (grid0.coords t 0) (grid0.coords t 1) d := by
  funext s
  unfold rowOf keyOf
  split
  · exact read_v m c t _ d
  · rfl

/-- What one grid point writes, at the place it writes it. -/
theorem block_out (c : Dev nD) (t : Fin cfg0.N) (r : Fin 512) (e : Fin 128) :
    outsAt0 m c t (ix3 0 r e) = outArr (m ((c : Thread nD τ).loc main_arg0)) (m ((c : Thread nD τ).loc main_arg1))
      (m ((c : Thread nD τ).loc main_arg2)) (m ((c : Thread nD τ).loc main_arg3)) (((View.whole main_v16).slice (win0_5.rect t)).emb (ix3 0 r e)) := by
  have hc := co t
  have hr : 512 * (grid0.coords t 2).val + r.val < 8192 := by omega
  have hn : 128 * (grid0.coords t 1).val + e.val < 512 := by omega
  have he : ((View.whole main_v16).slice (win0_5.rect t)).emb (ix3 0 r e) = ix3 (grid0.coords t 0) ⟨512 * (grid0.coords t 2).val + r.val, hr⟩ ⟨128 * (grid0.coords t 1).val + e.val, hn⟩ := by
    blk_ext [idx t]
  refine (block m c t (weights m c t) r e).trans (Eq.trans ?_ (congrArg _ he).symm)
  rw [row_v]
  refine Eq.trans ?_ (outArr_at _ _ _ _ _ _ (grid0.coords t 1) e hn).symm
  have hl : logitOf (iblk m c 1 t) (iblk m c 2 t) (iblk m c 0 t (ix1 (grid0.coords t 1))) r
      = logitsOf (m ((c : Thread nD τ).loc main_arg0)) (m ((c : Thread nD τ).loc main_arg1)) (m ((c : Thread nD τ).loc main_arg3)) (grid0.coords t 0) ⟨512 * (grid0.coords t 2).val + r.val, hr⟩ (grid0.coords t 1) := by
    funext s
    unfold logitOf logitsOf
    exact congrArg₂ (· + ·) (Finset.sum_congr rfl fun d _ => congrArg₂ (· * ·) (congrArg (· * _) (read_q m c t r d hr)) (congrFun (row_k m c t d) s))
      (congrArg (· * c2) (read_bias m c t (grid0.coords t 1)))
  rw [hl]
  unfold outOf
  have hT : top (qb t) = 512 * ((512 * (grid0.coords t 2).val + r.val) / 512) + 512 := by
    have h1 : top (qb t) = 512 * (grid0.coords t 2).val + 512 := rfl
    omega
  rw [hT]

/-- What the array holds after the last grid point. -/
theorem final (c : Dev nD) : (dats m 0 c).arrAt 5 cfg0.N = outArr (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5]
  have hy : y = ix3 0 (y 1) (y 2) := by
    refine funext fun a => ?_
    fin_cases a
    · exact Subsingleton.elim (α := Fin 1) _ _
    · rfl
    · rfl
  rw [hy]
  exact block_out m c t (y 1) (y 2)

end Cert.KernelIdeal.Steps

end
-- ==== Proof.BaseE.lean ====
/- From base 2 to base e: the attention of one query row written with base-2 logarithms is the one written with natural
   logarithms, for any extended-real logits. -/
module

public import proofs.«01_k».proof.Proof.RowMath

@[expose] public section

noncomputable section

namespace Cert.Row

open Idealize.ShloMosaic

theorem c2_pos : 0 < c2 := by
  unfold c2
  exact_mod_cast inv_pos.mpr (Real.log_pos (by norm_num))

/-- Two to the power `x / ln 2` is the exponential of `x`. -/
theorem exp2_c2 (x : EReal) : Ideal.exp2 (c2 * x) = Ideal.exp x := by
  induction x with
  | bot => rw [EReal.mul_bot_of_pos c2_pos]; rfl
  | top => rw [EReal.mul_top_of_pos c2_pos]; rfl
  | coe r =>
    unfold c2
    rw [← EReal.coe_mul, Ideal.exp2_coe, Ideal.exp_coe]
    congr 1
    change (2 : ℝ) ^ ((Real.log 2)⁻¹ * r) = Real.exp r
    rw [Real.rpow_def_of_pos (by norm_num), ← mul_assoc, mul_inv_cancel₀ (Real.log_pos (by norm_num)).ne', one_mul]

/-- A nonnegative factor goes into a maximum. -/
theorem c2_max (x y : EReal) : max (c2 * x) (c2 * y) = c2 * max x y := by
  rcases le_total x y with h | h
  · rw [max_eq_right h, max_eq_right (mul_le_mul_of_nonneg_left h c2_nonneg)]
  · rw [max_eq_left h, max_eq_left (mul_le_mul_of_nonneg_left h c2_nonneg)]

/-- The base-2 logarithm of one minus the sigmoid is the natural one over `ln 2`. -/
theorem lsm2_c2 (z : EReal) : lsm2 (c2 * z) = c2 * lsm z := by
  have h1 : max (c2 * z) 0 = c2 * max z 0 := by rw [← c2_max, mul_zero]
  have h2 : 0 - max (c2 * z) (-(c2 * z)) = c2 * (-(max z (-z))) := by
    rw [zero_sub, ← mul_neg, c2_max, mul_neg]
  unfold lsm2 lsm
  rw [h1, h2, exp2_c2, mul_comm (Ideal.log _) c2, ← c2_mul_add, zero_sub, mul_neg]

/-- The natural logarithm of one minus the sigmoid, for the keys before the query. -/
def wte (t : ℕ) (z : ℕ → EReal) (s : ℕ) : EReal := if s < t then lsm (z s) else 0

theorem wt_c2 (t : ℕ) (z : ℕ → EReal) (s : ℕ) : wt t (fun s => c2 * z s) s = c2 * wte t z s := by
  unfold wt wte
  split
  · exact lsm2_c2 _
  · rw [mul_zero]

theorem lsm_bot : lsm ⊥ = 0 := by
  unfold lsm
  rw [max_eq_right bot_le, EReal.neg_bot, max_eq_right bot_le, EReal.neg_top, Ideal.exp_bot, add_zero, zero_add]
  rw [show (1 : EReal) = ((1 : ℝ) : EReal) from rfl, Ideal.log_coe, if_neg (by norm_num), Real.log_one]
  simp

theorem lsm_top : lsm ⊤ = ⊥ := by
  unfold lsm
  rw [max_eq_left le_top, EReal.neg_top, max_eq_left bot_le, EReal.neg_top, Ideal.exp_bot, add_zero,
    show (1 : EReal) = ((1 : ℝ) : EReal) from rfl, Ideal.log_coe, if_neg (by norm_num), EReal.top_add_coe, EReal.neg_top]

theorem lsm_coe (r : ℝ) : lsm (r : EReal) = ((-(max r 0 + Real.log (1 + Real.exp (-(max r (-r))))) : ℝ) : EReal) := by
  have h : ¬ (1 + Real.exp (-(max r (-r))) ≤ 0) := by have := Real.exp_pos (-(max r (-r))); linarith
  have hm : max (r : EReal) (-(r : EReal)) = ((max r (-r) : ℝ) : EReal) := by rw [← EReal.coe_neg]; exact (EReal.coe_strictMono.monotone.map_max).symm
  have h0 : max (r : EReal) 0 = ((max r 0 : ℝ) : EReal) := by rw [← EReal.coe_zero]; exact (EReal.coe_strictMono.monotone.map_max).symm
  unfold lsm
  rw [hm, h0, ← EReal.coe_neg, Ideal.exp_coe, show (1 : EReal) = ((1 : ℝ) : EReal) from rfl, ← EReal.coe_add, Ideal.log_coe, if_neg h, ← EReal.coe_add, ← EReal.coe_neg]

theorem lsm_nonpos (z : EReal) : lsm z ≤ 0 := by
  have h := lsm2_nonpos (c2 * z)
  rw [lsm2_c2] at h
  by_contra hn
  exact absurd h (not_le.mpr (EReal.mul_pos c2_pos (not_le.mp hn)))

theorem wte_nonpos (t : ℕ) (z : ℕ → EReal) (s : ℕ) : wte t z s ≤ 0 := by
  unfold wte
  split
  · exact lsm_nonpos _
  · exact le_rfl

/-- The logarithm of a sigmoid times the rest, in the kernel's order and in the reference's. -/
theorem log_weight (z A : EReal) (hA : A ≤ 0) : z + lsm z + A = lsm (-z) + ((0 + (lsm z + A)) - lsm z) := by
  have hA' : A ≠ ⊤ := fun h => by rw [h] at hA; exact absurd hA (by decide)
  induction z with
  | bot => rw [EReal.neg_bot, lsm_top, lsm_bot, add_zero, EReal.bot_add, EReal.bot_add]
  | top => rw [EReal.neg_top, lsm_top, lsm_bot, EReal.add_bot, EReal.bot_add, zero_add, zero_add, EReal.bot_sub]
  | coe r =>
    rw [← EReal.coe_neg, lsm_coe, lsm_coe, zero_add, EReal.add_sub_cancel_left, ← EReal.coe_add, neg_neg, max_comm (-r) r]
    congr 2
    rcases le_total 0 r with h | h
    · rw [max_eq_left h, max_eq_right (neg_nonpos.mpr h)]
      ring
    · rw [max_eq_right h, max_eq_left (neg_nonneg.mpr h)]
      ring

/-- The sum of a row of masked logarithms is over the keys before the query only. -/
theorem sum_wte (t T : ℕ) (z : ℕ → EReal) (s : ℕ) (h : t ≤ T) (hs : s ≤ T) :
    ∑ j ∈ Finset.Ico s T, wte t z j = ∑ j ∈ Finset.Ico s (max s t), wte t z j := by
  refine (Finset.sum_subset (Finset.Ico_subset_Ico_right (by omega)) fun j hj hn => ?_).symm
  rw [Finset.mem_Ico] at hj hn
  unfold wte
  rw [if_neg (by omega)]

/-- The attention weight of a key in natural logarithms, as the sum of masked logarithms over this and the later keys, minus this one's. -/
def weight (t N : ℕ) (z : ℕ → EReal) (s : ℕ) : EReal :=
  if s < t then Ideal.exp (lsm (-z s) + ((0 + ∑ j ∈ Finset.Ico s N, wte t z j) - wte t z s)) else 0

/-- The base-2 logarithm of a weight, exponentiated. -/
theorem exp2_logA (t T N : ℕ) (z : ℕ → EReal) (s : ℕ) (hT : t ≤ T) (hN : t ≤ N) :
    Ideal.exp2 (logA t T (fun s => c2 * z s) s) = weight t N z s := by
  unfold logA weight
  split
  · next h =>
    rw [lsm2_c2, Finset.sum_congr rfl fun j _ => wt_c2 t z j, ← mul_sum_of_nonneg _ _ c2_nonneg c2_ne_top, ← c2_mul_add, ← c2_mul_add, exp2_c2,
      Finset.sum_eq_sum_Ico_succ_bot (show s < N by omega), sum_wte t T z (s + 1) hT (by omega), sum_wte t N z (s + 1) hN (by omega)]
    rw [show wte t z s = lsm (z s) from if_pos h]
    rw [log_weight _ _ (Finset.sum_nonpos fun j _ => wte_nonpos t z j)]
  · rw [EReal.bot_add, Ideal.exp2_bot]

/-- The attention of one query row with base-2 logarithms, over the first `T` keys, is the one with natural logarithms over all `N`. -/
theorem attn_eq (t T N : ℕ) (z v : ℕ → EReal) (hT : t ≤ T) (hN : T ≤ N) :
    attn t T (fun s => c2 * z s) v = ∑ s : Fin N, v s.val * weight t N z s.val := by
  unfold attn
  rw [← Finset.sum_range (fun s => v s * weight t N z s), Finset.range_eq_Ico]
  rw [Finset.sum_congr rfl fun s _ => congrArg (· * v s) (exp2_logA t T N z s hT (hT.trans hN))]
  rw [Finset.sum_congr rfl fun s _ => mul_comm (weight t N z s) (v s)]
  refine Finset.sum_subset (Finset.Ico_subset_Ico_right hN) fun s hs hn => ?_
  rw [Finset.mem_Ico] at hs hn
  unfold weight
  rw [if_neg (by omega), mul_zero]

end Cert.Row
end
-- ==== Proof.RefRead.lean ====
/- What the reference computes, one entry of its arrays at a time: the logits, the logarithm of one minus their sigmoid before
   the query, that logarithm's sum over the later keys, the weights, and their sum against the values. -/
module

public import Idealize.ShloMosaic.Lib.Pointwise
public import Idealize.ShloMosaic.Lib.Pipeline.ValueKit
public import Idealize.ShloMosaic.Lib.WordCmp
public import proofs.«01_k».proof.Proof.BaseE
public import proofs.«01_k».proof.Proof.Gen.ReferenceIdeal.Run

@[expose] public section

set_option maxRecDepth 16384
noncomputable section
namespace Cert.ReferenceIdeal.Value
open Cert.ReferenceIdeal Cert.ReferenceIdeal.Gen Idealize.ShloMosaic Idealize.ShloMosaic.TcCoe Idealize.SL.Sem Idealize.ShloMosaic.StableHlo Cert.Row

/-- An array over sequence, head, query and key. -/
abbrev Pairs : Type := FVec Ideal S2x4x8192x8192 .f32

/-- The array of zeros. -/
def zeros : Pairs := broadcastInDim S2x4x8192x8192 ![] bcast_S_S2x4x8192x8192 (constant S_ .f32 0x00000000#32)

/-- The logits. -/
def logits (q k : FVec Ideal S2x8192x4x128 .f32) (b : FVec Ideal S4 .f32) : Pairs :=
  addf (Host.divf (Host.dotGeneral dot_S2x8192x4x128_S2x8192x4x128_S2x4x8192x8192_3_3_1_1_02_02 none q k)
    (broadcastInDim S2x4x8192x8192 ![] bcast_S_S2x4x8192x8192 (Host.sqrt (constant S_ .f32 0x43000000#32))))
    (broadcastInDim S2x4x8192x8192 ![0, 1, 2, 3] bcast_S1x4x1x1_S2x4x8192x8192_0_1_2_3 (broadcastInDim S1x4x1x1 ![1] bcast_S4_S1x4x1x1_1 b))

/-- Minus the softplus. -/
def negSoftplus (x : Pairs) : Pairs :=
  Host.negf (select (cmpf .une (subf x zeros) (subf x zeros)) (addf x zeros)
    (addf (maximumf x zeros) (Host.log1p (Host.exp (Host.negf (Host.absf (subf x zeros)))))))

/-- Which keys lie before the query. -/
def before : IVec S2x4x8192x8192 1 :=
  broadcastInDim S2x4x8192x8192 ![2, 3] bcast_S8192x8192_S2x4x8192x8192_2_3 (cmpi .slt
    (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))

/-- The logarithm of one minus the sigmoid, for the keys before the query. -/
def logRest (z : Pairs) : Pairs := select before (negSoftplus (Host.negf (Host.negf z))) zeros

/-- The sum over a key and the later ones. -/
def sums (x : Pairs) : Pairs :=
  Host.reduceWindowAdd ![1, 1, 1, 8192] ![1, 1, 1, 1] ![0, 0, 0, 0] ![0, 0, 0, 8191] x (broadcastInDim S_ ![] bcast_S_S_ (constant S_ .f32 0x00000000#32))
    reduceWindows_S2x4x8192x8192_S2x4x8192x8192_w1s1p0_0_w1s1p0_0_w1s1p0_0_w8192s1p0_8191 h_S_

/-- The attention weights. -/
def weights (z : Pairs) : Pairs :=
  select before (Host.exp (addf (negSoftplus (Host.negf z)) (subf (sums (logRest z)) (logRest z)))) zeros

/-- The result, from the weights. -/
def mix (a : Pairs) (v : FVec Ideal S2x8192x4x128 .f32) : FVec Ideal S2x8192x512 .bf16 :=
  truncf .bf16 (shapeCast S2x8192x512 (transpose S2x8192x4x128 [0, 3, 1, 2]
    (Host.dotGeneral dot_S2x8192x4x128_S2x4x8192x8192_S2x4x128x8192_1_3_3_2_02_01 none v a)
    transposes_S2x4x128x8192_S2x8192x4x128_0_3_1_2) shapeCasts_S2x8192x4x128_S2x8192x512) bitsLt_bf16_f32

theorem res_eq (m : (ℓ : Loc nD τ sig) → Buf (Elt Ideal) ℓ) (c : Dev nD) :
    res_out0 m c = mix (weights (logits (m ((c.tc : Thread nD τ).loc main_arg0)) (m ((c.tc : Thread nD τ).loc main_arg1)) (m ((c.tc : Thread nD τ).loc main_arg3))))
      (m ((c.tc : Thread nD τ).loc main_arg2)) := by
  unfold res_out0 res_main_v25 mix weights sums logRest negSoftplus logits before zeros
  rfl

/-- One logit. -/
theorem logits_at (q k : FVec Ideal S2x8192x4x128 .f32) (bb : FVec Ideal S4 .f32) (b : Fin 2) (h : Fin 4) (t s : Fin 8192) :
    logits q k bb (ix4 b h t s) = (∑ d : Fin 128, (q (ix4 b t h d) : EReal) * k (ix4 b s h d)) * (((Real.sqrt 128)⁻¹ : ℝ) : EReal) + bb (ix1 h) := by
  have h128 : Ideal.sqrt (Ideal.ofBits FTy.f32 0x43000000#32) = ((Real.sqrt 128 : ℝ) : EReal) := by
    have : Ideal.ofBits FTy.f32 0x43000000#32 = ((128 : ℝ) : EReal) := by
      simp [Ideal.ofBits, Ideal.ieee, -EReal.coe_mul]
      norm_num
    rw [this, Ideal.sqrt_coe, if_neg (by norm_num)]
  pointwise [logits]
  rw [h128, Ideal.div_coe (Real.sqrt_pos.mpr (by norm_num)).ne', one_div]

/-- One entry of minus the softplus. -/
theorem negSoftplus_at (x : Pairs) (b : Fin 2) (h : Fin 4) (t s : Fin 8192) : negSoftplus x (ix4 b h t s) = lsm (x (ix4 b h t s)) := by
  pointwise [negSoftplus, zeros]
  rw [if_neg (fun h => h rfl)]
  rfl

/-- Which keys lie before the query. -/
theorem before_at (b : Fin 2) (h : Fin 4) (t s : Fin 8192) : before (ix4 b h t s) = if s.val < t.val then 1#1 else 0#1 := by
  pointwise [before]
  have hs := s.isLt
  have ht := t.isLt
  rw [WordCmp.cmpi_slt_ofNat (by omega) (by omega)]
  split
  · next h => rw [decide_eq_true h]; rfl
  · next h => rw [decide_eq_false h]; rfl

/-- One entry of the logarithms of one minus the sigmoid. -/
theorem logRest_at (z : Pairs) (b : Fin 2) (h : Fin 4) (t s : Fin 8192) :
    logRest z (ix4 b h t s) = if s.val < t.val then lsm (z (ix4 b h t s)) else 0 := by
  pointwise [logRest, zeros]
  rw [negSoftplus_at, before_at, show Host.negf (Host.negf z) (ix4 b h t s) = - - z (ix4 b h t s) from rfl, neg_neg]
  split <;> rfl

/-- One weight, from the sums of the masked logarithms. -/
theorem weights_at (z : Pairs) (b : Fin 2) (h : Fin 4) (t s : Fin 8192) :
    weights z (ix4 b h t s) = if s.val < t.val then Ideal.exp (lsm (-z (ix4 b h t s)) + (sums (logRest z) (ix4 b h t s) - logRest z (ix4 b h t s))) else 0 := by
  pointwise [weights, zeros]
  rw [negSoftplus_at, before_at, show Host.negf z (ix4 b h t s) = - z (ix4 b h t s) from rfl]
  split <;> rfl

/-- One entry of the result. -/
theorem mix_at (a : Pairs) (v : FVec Ideal S2x8192x4x128 .f32) (b : Fin 2) (t : Fin 8192) (n : Fin 512) :
    mix a v (ix3 b t n) = ∑ s : Fin 8192, (v (ix4 b s ⟨n.val / 128, by omega⟩ ⟨n.val % 128, Nat.mod_lt _ (by norm_num)⟩) : EReal) * a (ix4 b ⟨n.val / 128, by omega⟩ t s) := by
  pointwise [mix]

/-- The window sum over this and the later positions of the last axis. -/
theorem window_sum {A B C N M : ℕ} (x : (⟨4, ![A, B, C, N]⟩ : Shape).Idx → EReal) (v : EReal) {u : Shape} (init : u.Idx → EReal) (hi : ∀ i, init i = v) (f : ℕ → EReal) (a : Fin A) (b : Fin B) (c : Fin C)
    (hx : ∀ j : Fin N, x (ix4 a b c j) = f j.val) (h0 : v = 0)
    (h : (⟨4, ![A, B, C, N]⟩ : Shape).ReduceWindows ![1, 1, 1, N] ![1, 1, 1, 1] ![0, 0, 0, 0] ![0, 0, 0, M] ⟨4, ![A, B, C, N]⟩) (hu : 0 < u.numel) (s : Fin N) :
    Host.reduceWindow (· + ·) ![1, 1, 1, N] ![1, 1, 1, 1] ![0, 0, 0, 0] ![0, 0, 0, M] x init h hu (ix4 a b c s) = v + ∑ j ∈ Finset.Ico s.val N, f j := by
  have hfold : ∀ {ι : Type} (g : ι → EReal) (l : List ι) (w : EReal), l.foldl (fun r n => r + g n) w = w + (l.map g).sum := by
    intro ι g l
    induction l with
    | nil => intro w; simp
    | cons y l ih => intro w; rw [List.foldl_cons, ih, List.map_cons, List.sum_cons, add_assoc]
  unfold Host.reduceWindow
  dsimp only
  refine (hfold _ _ _).trans ?_
  rw [hi]
  refine congrArg (v + ·) ?_
  rw [← Fin.sum_univ_def]
  let G : (⟨4, ![1, 1, 1, N]⟩ : Shape).Idx → EReal := fun w => if s.val + (w 3).val < N then f (s.val + (w 3).val) else 0
  refine (Finset.sum_congr rfl fun n _ => ?_).trans ((Equiv.sum_comp (⟨4, ![1, 1, 1, N]⟩ : Shape).rowMajor.symm G).trans ?_)
  · let w := (⟨4, ![1, 1, 1, N]⟩ : Shape).rowMajor.symm n
    have h0' : (w 0).val = 0 := Nat.lt_one_iff.mp (w 0).isLt
    have h1' : (w 1).val = 0 := Nat.lt_one_iff.mp (w 1).isLt
    have h2' : (w 2).val = 0 := Nat.lt_one_iff.mp (w 2).isLt
    by_cases hb : s.val + (w 3).val < N
    · have hin : ∀ p : Fin 4, (![0, 0, 0, 0] : Fin 4 → ℕ) p ≤ (ix4 a b c s (p.cast h.1.symm)).val * (![1, 1, 1, 1] : Fin 4 → ℕ) p + (w p).val
          ∧ (ix4 a b c s (p.cast h.1.symm)).val * (![1, 1, 1, 1] : Fin 4 → ℕ) p + (w p).val - (![0, 0, 0, 0] : Fin 4 → ℕ) p < (![A, B, C, N] : Fin 4 → ℕ) p := by
        intro p
        fin_cases p
        · exact ⟨Nat.zero_le _, by change a.val * 1 + (w 0).val - 0 < A; have := a.isLt; omega⟩
        · exact ⟨Nat.zero_le _, by change b.val * 1 + (w 1).val - 0 < B; have := b.isLt; omega⟩
        · exact ⟨Nat.zero_le _, by change c.val * 1 + (w 2).val - 0 < C; have := c.isLt; omega⟩
        · exact ⟨Nat.zero_le _, by change s.val * 1 + (w 3).val - 0 < N; omega⟩
      refine (dif_pos hin).trans (Eq.trans ?_ ((hx ⟨s.val + (w 3).val, hb⟩).trans (if_pos hb).symm))
      refine congrArg x (funext fun p => Fin.ext ?_)
      fin_cases p
      · change a.val * 1 + (w 0).val - 0 = a.val; omega
      · change b.val * 1 + (w 1).val - 0 = b.val; omega
      · change c.val * 1 + (w 2).val - 0 = c.val; omega
      · change s.val * 1 + (w 3).val - 0 = s.val + (w 3).val; omega
    · refine (dif_neg fun hin => hb ?_).trans (h0.trans (if_neg hb).symm)
      have h3 : s.val * 1 + (w 3).val - 0 < N := (hin 3).2
      omega
  · have hsum : ∑ w : Fin N, (if s.val + w.val < N then f (s.val + w.val) else 0) = ∑ w, G w := by
      refine Fintype.sum_bijective (fun w : Fin N => (ix4 0 0 0 w : (⟨4, ![1, 1, 1, N]⟩ : Shape).Idx)) ⟨fun p q hpq => ?_, fun w => ⟨w 3, funext fun p => ?_⟩⟩ _ _ fun w => rfl
      · exact congrFun hpq 3
      · fin_cases p
        · exact Subsingleton.elim (α := Fin 1) _ _
        · exact Subsingleton.elim (α := Fin 1) _ _
        · exact Subsingleton.elim (α := Fin 1) _ _
        · rfl
    rw [← hsum, Finset.sum_Ico_eq_sum_range, ← Finset.sum_range (fun w => if s.val + w < N then f (s.val + w) else 0)]
    refine (Finset.sum_subset_zero_on_sdiff (Finset.range_subset_range.mpr (Nat.sub_le N s.val)) (fun w hw => ?_) fun w hw => ?_).symm
    · rw [Finset.mem_sdiff, Finset.mem_range, Finset.mem_range] at hw
      exact if_neg (by omega)
    · rw [Finset.mem_range] at hw
      exact (if_pos (by omega)).symm

/-- One entry of the sums over this and the later keys. -/
theorem sums_at (x : Pairs) (f : ℕ → EReal) (b : Fin 2) (h : Fin 4) (t s : Fin 8192) (hx : ∀ j : Fin 8192, x (ix4 b h t j) = f j.val) :
    sums x (ix4 b h t s) = 0 + ∑ j ∈ Finset.Ico s.val 8192, f j := by
  have hz : ∀ i, (broadcastInDim S_ ![] bcast_S_S_ (constant (F := Ideal) S_ .f32 0x00000000#32) : FVec Ideal S_ .f32) i = (0 : EReal) := by
    intro i
    pointwise
  unfold sums Host.reduceWindowAdd
  rw [Ideal.hostReduceWindowAdd_def]
  unfold Ideal.hostReduceWindowAdd
  exact window_sum (A := 2) (B := 4) (C := 8192) (N := 8192) x 0 (fun _ => _) (fun _ => hz _) f b h t hx rfl _ _ s

/-- The natural-logarithm logit of a key by its position; the bias alone past the last. -/
def logit (q k : FVec Ideal S2x8192x4x128 .f32) (bb : FVec Ideal S4 .f32) (b : Fin 2) (h : Fin 4) (t : Fin 8192) (s : ℕ) : EReal :=
  if hs : s < 8192 then logits q k bb (ix4 b h t ⟨s, hs⟩) else bb (ix1 h)

/-- The reference's attention of one query and feature, from the row of logits. -/
def out (q k v : FVec Ideal S2x8192x4x128 .f32) (bb : FVec Ideal S4 .f32) (b : Fin 2) (t : Fin 8192) (h : Fin 4) (e : Fin 128) : EReal :=
  ∑ s : Fin 8192, (v (ix4 b s h e) : EReal) * Cert.Row.weight t.val 8192 (logit q k bb b h t) s.val

/-- One entry of the composed arrays. -/
theorem out_at (q k v : FVec Ideal S2x8192x4x128 .f32) (bb : FVec Ideal S4 .f32) (b : Fin 2) (t : Fin 8192) (n : Fin 512) :
    mix (weights (logits q k bb)) v (ix3 b t n) = out q k v bb b t ⟨n.val / 128, by omega⟩ ⟨n.val % 128, Nat.mod_lt _ (by norm_num)⟩ := by
  rw [mix_at]
  refine Finset.sum_congr rfl fun s _ => congrArg (_ * ·) ?_
  generalize (⟨n.val / 128, by omega⟩ : Fin 4) = h
  have hl : ∀ j : Fin 8192, logits q k bb (ix4 b h t j) = logit q k bb b h t j.val := fun j => by
    unfold logit
    rw [dif_pos j.isLt]
  have hr : ∀ j : Fin 8192, logRest (logits q k bb) (ix4 b h t j) = wte t.val (logit q k bb b h t) j.val := by
    intro j
    rw [logRest_at, hl j]
    rfl
  rw [weights_at, sums_at _ _ b h t s hr, hr s, hl s]
  rfl

end Cert.ReferenceIdeal.Value
end
-- ==== Proof.Equation.lean ====
/- The kernel's array is the reference's: the same logits up to the factor `1 / ln 2`, the same weights, the same sums. -/
module

public import proofs.«01_k».proof.Proof.Array
public import proofs.«01_k».proof.Proof.RefRead

@[expose] public section

set_option maxRecDepth 16384

noncomputable section

namespace Cert.KernelIdeal.Steps

open Cert.KernelIdeal Cert.KernelIdeal.Gen Idealize.ShloMosaic Idealize.ShloMosaic.TcCoe Idealize.SL.Sem Cert.Row

/-- A base-2 logit of the kernel is the reference's logit over `ln 2`. -/
theorem logitsOf_eq (q k : FVec Ideal S2x8192x4x128 .f32) (bb : FVec Ideal S4 .f32) (b : Fin 2) (t : Fin 8192) (h : Fin 4) (s : ℕ) :
    logitsOf q k bb b t h s = c2 * Cert.ReferenceIdeal.Value.logit q k bb b h t s := by
  unfold logitsOf Cert.ReferenceIdeal.Value.logit keyOf
  split
  · next hs =>
    rw [Cert.ReferenceIdeal.Value.logits_at, c2_mul_add, mul_comm c2 (bb (ix1 h))]
    refine congrArg (· + (bb (ix1 h) : EReal) * c2) ?_
    have ha : (0 : EReal) ≤ (((Real.sqrt 128)⁻¹ * (Real.log 2)⁻¹ : ℝ) : EReal) := by
      exact_mod_cast mul_nonneg (inv_nonneg.mpr (Real.sqrt_nonneg _)) (inv_nonneg.mpr (Real.log_nonneg (by norm_num)))
    rw [mul_left_comm c2, show c2 * (((Real.sqrt 128)⁻¹ : ℝ) : EReal) = (((Real.sqrt 128)⁻¹ * (Real.log 2)⁻¹ : ℝ) : EReal) from by
        rw [mul_comm, EReal.coe_mul]; rfl, mul_comm (Finset.sum _ _), mul_sum_of_nonneg _ _ ha (EReal.coe_ne_top _)]
    refine Finset.sum_congr rfl fun d _ => ?_
    rw [mul_comm (q _ : EReal), mul_assoc]
  · rw [Finset.sum_eq_zero fun d _ => mul_zero _, zero_add, mul_comm]

/-- The kernel's attention of one query and feature is the reference's. -/
theorem outOf_eq (q k v : FVec Ideal S2x8192x4x128 .f32) (bb : FVec Ideal S4 .f32) (b : Fin 2) (t : Fin 8192) (h : Fin 4) (e : Fin 128) :
    outOf q k v bb b t h e = Cert.ReferenceIdeal.Value.out q k v bb b t h e := by
  have ht := t.isLt
  unfold outOf Cert.ReferenceIdeal.Value.out
  rw [show logitsOf q k bb b t h = fun s => c2 * Cert.ReferenceIdeal.Value.logit q k bb b h t s from funext fun s => logitsOf_eq q k bb b t h s,
    attn_eq t.val _ 8192 _ _ (by omega) (by omega)]
  refine Finset.sum_congr rfl fun s _ => congrArg (· * _) ?_
  unfold keyOf
  rw [dif_pos s.isLt]

/-- The arrays are equal. -/
theorem outArr_eq (q k v : FVec Ideal S2x8192x4x128 .f32) (bb : FVec Ideal S4 .f32) :
    outArr q k v bb = Cert.ReferenceIdeal.Value.mix (Cert.ReferenceIdeal.Value.weights (Cert.ReferenceIdeal.Value.logits q k bb)) v := by
  funext j
  have hj : j = ix3 (j 0) (j 1) (j 2) := by
    refine funext fun a => ?_
    fin_cases a <;> rfl
  rw [hj]
  exact (outOf_eq q k v bb _ _ _ _).trans (Cert.ReferenceIdeal.Value.out_at q k v bb (j 0) (j 1) (j 2)).symm

end Cert.KernelIdeal.Steps

end
-- ==== Proof.Norm.lean ====
/- The layer's first norm, its modulation and the joint projection: what one grid point of the kernel writes, what it keeps
   for the points after it, and the array it leaves. -/
module

public import Idealize.ShloMosaic.Lib.Pointwise
public import Idealize.ShloMosaic.Lib.Pipeline.ValueKit
public import Idealize.ShloMosaic.Lib.Pipeline.ReadBack
public import Idealize.ShloMosaic.Lib.Claim
public import proofs.«01_k».proof.Proof.Gen.Kernel2Ideal.Value
import all proofs.«01_k».proof.Proof.Gen.Kernel2Ideal.Frame.RunA
import all proofs.«01_k».proof.Proof.Gen.Kernel2Ideal.Frame.RunB

@[expose] public section

set_option maxRecDepth 16384

noncomputable section

namespace Cert.Kernel2Ideal.Norm

open Cert.Kernel2Ideal Cert.Kernel2Ideal.Gen Idealize.ShloMosaic Idealize.ShloMosaic.TcCoe Idealize.SL.Sem

/-- The normed and modulated entry of a row, from the row, the entry's gain, scale and shift. -/
def normed (x : Fin 1024 → EReal) (g sc sh : EReal) (d : Fin 1024) : EReal :=
  x d * Ideal.rsqrt (Ideal.div (∑ e, x e * x e) (Ideal.ofBits FTy.f32 0x44800000#32) + Ideal.ofBits FTy.f32 0x358637BD#32) * g * (1 + sc) + sh

/-- One entry of the block of normed and modulated rows. -/
theorem h_at (v8 : Vec Ideal S1024x1024 .f32) (v20 : Vec Ideal S1x1024 .f32) (v24 v30 : Vec Ideal S1x1x1024 .f32) (r d : Fin 1024) :
    k0_pay1 v8 v20 v24 v30 (ix2 r d) = normed (fun e => v8 (ix2 r e)) (v20 (ix2 0 d)) (v24 (ix3 0 0 d)) (v30 (ix3 0 0 d)) d := by
  pointwise [k0_pay1]
  rfl

/-- One entry of a block of the projection. -/
theorem prod_at (h : Vec Ideal S1024x1024 .bf16) (w : Vec Ideal S1024x1536 .bf16) (r : Fin 1024) (n : Fin 1536) :
    k0_pay2 h w (ix2 r n) = ∑ d : Fin 1024, (h (ix2 r d) : EReal) * w (ix2 d n) := by
  pointwise [k0_pay2]

/-- The normed and modulated rows. -/
def hOf (x : FVec Ideal S2x8192x1024 .f32) (g : FVec Ideal S1024 .f32) (sh sc : FVec Ideal S2x1024 .f32) (b : Fin 2) (s : Fin 8192) (d : Fin 1024) : EReal :=
  normed (fun e => x (ix3 b s e)) (g (ix1 d)) (sc (ix2 b d)) (sh (ix2 b d)) d

/-- The column of the weights that a column of the result is for: the last 3072 come first. -/
def col (n : Fin 7680) : Fin 7680 := if h : n.val < 3072 then ⟨4608 + n.val, by omega⟩ else ⟨n.val - 3072, by omega⟩

/-- The projection of both sequences' rows, one after the other. -/
def outArr (x : FVec Ideal S2x8192x1024 .f32) (g : FVec Ideal S1024 .f32) (sh sc : FVec Ideal S2x1024 .f32) (w : FVec Ideal S1024x7680 .f32) : FVec Ideal S16384x7680 .f32 := fun i : S16384x7680.Idx =>
  ∑ d : Fin 1024, hOf x g sh sc ⟨(i 0).val / 8192, by have : (i 0).val < 16384 := (i 0).isLt; omega⟩ ⟨(i 0).val % 8192, Nat.mod_lt _ (by norm_num)⟩ d * w (ix2 d (col (i 1)))

variable (m : (ℓ : Loc nD τ sig) → Buf (Elt Ideal) ℓ)

theorem idx : ∀ t : Fin cfg0.N, win0_0.index t = ![t.val / 5, 0] ∧ win0_1.index t = ![0, 0] ∧ win0_2.index t = ![t.val / 40, 0, 0] ∧ win0_3.index t = ![t.val / 40, 0, 0]
    ∧ win0_4.index t = ![0, t.val % 5] ∧ win0_5.index t = ![t.val / 5, t.val % 5] :=
  (by decide +kernel : ∀ t : Fin grid0.N, _)

theorem lt80 (t : Fin cfg0.N) : t.val < 80 := lt_of_lt_of_eq t.isLt (show cfg0.N = 80 from N_0)

/-- The sequence and the position of a row of a block of rows. -/
abbrev seqOf (a : ℕ) (ha : a < 80) (r : Fin 1024) : Fin 2 := ⟨(1024 * (a / 5) + r.val) / 8192, by omega⟩
abbrev posOf (a : ℕ) (r : Fin 1024) : Fin 8192 := ⟨(1024 * (a / 5) + r.val) % 8192, Nat.mod_lt _ (by norm_num)⟩

/-- The layer input a grid point reads. -/
theorem read_x (c : Dev nD) (t : Fin cfg0.N) (r : Fin 1024) (d : Fin 1024) :
    iblk m c 0 t (ix2 r d) = m ((c : Thread nD τ).loc main_arg0) (ix3 (seqOf t.val (lt80 t) r) (posOf t.val r) d) := by
  have ht := lt80 t
  have he : ((View.whole main_v4).slice (win0_0.rect t)).emb (ix2 r d) = ix2 ⟨1024 * (t.val / 5) + r.val, by omega⟩ d := by
    blk_ext [idx t]
  blk_simp [iblk]
  rw [he]
  entry_read
  pointwise

/-- The gain a grid point reads. -/
theorem read_g (c : Dev nD) (t : Fin cfg0.N) (d : Fin 1024) :
    iblk m c 1 t (ix2 0 d) = m ((c : Thread nD τ).loc main_arg1) (ix1 d) := by
  have ht := lt80 t
  have he : ((View.whole main_v7).slice (win0_1.rect t)).emb (ix2 0 d) = ix2 0 d := by
    blk_ext [idx t]
  blk_simp [iblk]
  rw [he]
  entry_read
  pointwise

/-- The scale a grid point reads. -/
theorem read_sc (c : Dev nD) (t : Fin cfg0.N) (r d : Fin 1024) :
    iblk m c 2 t (ix3 0 0 d) = m ((c : Thread nD τ).loc main_arg3) (ix2 (seqOf t.val (lt80 t) r) d) := by
  have ht := lt80 t
  have he : ((View.whole main_v5).slice (win0_2.rect t)).emb (ix3 0 0 d) = ix3 (seqOf t.val (lt80 t) r) 0 d := by
    blk_ext [idx t]
  blk_simp [iblk]
  rw [he]
  entry_read
  pointwise

/-- The shift a grid point reads. -/
theorem read_sh (c : Dev nD) (t : Fin cfg0.N) (r d : Fin 1024) :
    iblk m c 3 t (ix3 0 0 d) = m ((c : Thread nD τ).loc main_arg2) (ix2 (seqOf t.val (lt80 t) r) d) := by
  have ht := lt80 t
  have he : ((View.whole main_v6).slice (win0_3.rect t)).emb (ix3 0 0 d) = ix3 (seqOf t.val (lt80 t) r) 0 d := by
    blk_ext [idx t]
  blk_simp [iblk]
  rw [he]
  entry_read
  pointwise

/-- The weights a grid point reads. -/
theorem read_w (c : Dev nD) (t : Fin cfg0.N) (d : Fin 1024) (n : Fin 1536) (hn : 1536 * (t.val % 5) + n.val < 7680) :
    iblk m c 4 t (ix2 d n) = m ((c : Thread nD τ).loc main_arg4) (ix2 d (col ⟨1536 * (t.val % 5) + n.val, hn⟩)) := by
  have ht := lt80 t
  have he : ((View.whole main_v3).slice (win0_4.rect t)).emb (ix2 d n) = ix2 d ⟨1536 * (t.val % 5) + n.val, hn⟩ := by
    blk_ext [idx t]
  blk_simp [iblk]
  rw [he]
  entry_read
  pointwise
  unfold col
  split <;> rfl

/-- The normed rows of a memory's arguments. -/
abbrev hRow (c : Dev nD) (b : Fin 2) (s : Fin 8192) (d : Fin 1024) : EReal :=
  hOf (m ((c : Thread nD τ).loc main_arg0)) (m ((c : Thread nD τ).loc main_arg1)) (m ((c : Thread nD τ).loc main_arg2)) (m ((c : Thread nD τ).loc main_arg3)) b s d

/-- The block of normed rows a grid point's inputs give. -/
theorem h_block (c : Dev nD) (t : Fin cfg0.N) (r d : Fin 1024) :
    k0_pay1 (iblk m c 0 t) (iblk m c 1 t) (iblk m c 2 t) (iblk m c 3 t) (ix2 r d) = hRow m c (seqOf t.val (lt80 t) r) (posOf t.val r) d := by
  rw [h_at, read_g, read_sc m c t r, read_sh m c t r]
  simp only [read_x]
  rfl

/-- After every grid point the kept block holds the normed rows of the point's block of rows. -/
theorem kept (c : Dev nD) : ∀ (n : ℕ) (hn : n < cfg0.N) (r d : Fin 1024),
    (outsAt0 m c n hn).2 (ix2 r d) = hRow m c (seqOf n (lt80 ⟨n, hn⟩) r) (posOf n r) d := by
  intro n
  induction n with
  | zero =>
    intro hn r d
    rw [outsAt0_A m c ⟨0, hn⟩ rfl]
    frame_out
    exact h_block m c ⟨0, hn⟩ r d
  | succ n ih =>
    intro hn r d
    by_cases h0 : (n + 1) % 5 = 0
    · rw [outsAt0_A m c ⟨n + 1, hn⟩ h0]
      frame_out
      exact h_block m c ⟨n + 1, hn⟩ r d
    · rw [outsAt0_B m c ⟨n + 1, hn⟩ h0]
      refine Eq.trans (?_ : _ = (outsAt0 m c n (Nat.lt_of_succ_lt hn)).2 (ix2 r d)) ((ih (Nat.lt_of_succ_lt hn) r d).trans ?_)
      · rfl
      · have hd : (n + 1) / 5 = n / 5 := by omega
        simp only [seqOf, posOf, hd]

/-- What one grid point writes. -/
theorem block (c : Dev nD) (t : Fin cfg0.N) (r : Fin 1024) (n : Fin 1536) (hn : 1536 * (t.val % 5) + n.val < 7680) :
    (outsAt0 m c t.val t.isLt).1 (ix2 r n) = ∑ d : Fin 1024, hRow m c (seqOf t.val (lt80 t) r) (posOf t.val r) d * m ((c : Thread nD τ).loc main_arg4) (ix2 d (col ⟨1536 * (t.val % 5) + n.val, hn⟩)) := by
  by_cases h0 : t.val % 5 = 0
  · rw [outsAt0_A m c t h0]
    frame_out
    rw [prod_at]
    exact Finset.sum_congr rfl fun d _ => congrArg₂ (· * ·) (h_block m c t r d) (read_w m c t d n hn)
  · rw [outsAt0_B m c t h0]
    frame_out
    simp only [read_unread_whole]
    rw [prod_at]
    refine Finset.sum_congr rfl fun d _ => congrArg₂ (· * ·) ((kept m c _ _ r d).trans ?_) (read_w m c t d n hn)
    have hd : (t.val - 1) / 5 = t.val / 5 := by omega
    simp only [seqOf, posOf, hd]

/-- What the array holds after the last grid point. -/
theorem final (c : Dev nD) : (dats m 0 c).arrAt 5 cfg0.N = outArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have hy : y = ix2 (y 0) (y 1) := by
    refine funext fun a => ?_
    fin_cases a <;> rfl
  rw [hy]
  have ht := lt80 t
  have hr : (y 0).val < 1024 := (y 0).isLt
  have hc : (y 1).val < 1536 := (y 1).isLt
  refine (block m c t (y 0) (y 1) (by omega)).trans ?_
  have he : ((View.whole main_v8).slice (win0_5.rect t)).emb (ix2 (y 0) (y 1)) = ix2 ⟨1024 * (t.val / 5) + (y 0).val, by omega⟩ ⟨1536 * (t.val % 5) + (y 1).val, by omega⟩ := by
    blk_ext [idx t]
  exact (congrArg (outArr _ _ _ _ _) he).symm

end Cert.Kernel2Ideal.Norm
end
-- ==== Proof.NormRef.lean ====
/- What the reference's norm, modulation and projection compute, one entry at a time, and that the kernel's array is the same. -/
module

public import proofs.«01_k».proof.Proof.Norm
public import proofs.«01_k».proof.Proof.Gen.Reference2Ideal.Run

@[expose] public section

set_option maxRecDepth 16384
noncomputable section
namespace Cert.Reference2Ideal.Value
open Cert.Reference2Ideal Cert.Reference2Ideal.Gen Idealize.ShloMosaic Idealize.ShloMosaic.TcCoe Idealize.SL.Sem Idealize.ShloMosaic.StableHlo

/-- The normed and modulated rows. -/
def rowsOf (x : FVec Ideal S2x8192x1024 .f32) (g : FVec Ideal S1024 .f32) (sh sc : FVec Ideal S2x1024 .f32) : FVec Ideal S2x8192x1024 .f32 :=
  addf (mulf (mulf (mulf x (broadcastInDim S2x8192x1024 ![0, 1, 2] bcast_S2x8192x1_S2x8192x1024_0_1_2 (Host.rsqrt (addf (Host.divf
        (broadcastInDim S2x8192x1 ![0, 1] bcast_S2x8192_S2x8192x1_0_1 (Host.reduceAdd (mulf x x) (constant S_ .f32 0x00000000#32) reducesTo_S2x8192x1024_S2x8192_d2 h_S_))
        (broadcastInDim S2x8192x1 ![] bcast_S_S2x8192x1 (constant S_ .f32 0x44800000#32))) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 sc))))
    (broadcastInDim S2x8192x1024 ![0, 1, 2] bcast_S2x1x1024_S2x8192x1024_0_1_2 (broadcastInDim S2x1x1024 ![0, 2] bcast_S2x1024_S2x1x1024_0_2 sh))

/-- The projection of the rows. -/
def proj (h : FVec Ideal S2x8192x1024 .f32) (w : FVec Ideal S1024x7680 .f32) : FVec Ideal S2x8192x7680 .f32 :=
  Host.dotGeneral dot_S2x8192x1024_S1024x7680_S2x8192x7680_2_0_01_1_n_n none h w

/-- The last 3072 columns before the others, both sequences' rows one after the other. -/
def rotate (p : FVec Ideal S2x8192x7680 .f32) : FVec Ideal S16384x7680 .f32 :=
  shapeCast S16384x7680 (concatenate S2x8192x7680 2 [⟨S2x8192x3072, extractStridedSlice S2x8192x3072 ![0, 0, 4608] p slices_S2x8192x7680_S2x8192x3072_0_0_4608⟩,
    ⟨S2x8192x4608, extractStridedSlice S2x8192x4608 ![0, 0, 0] p slices_S2x8192x7680_S2x8192x4608_0_0_0⟩] concatenates_S2x8192x3072_S2x8192x4608_S2x8192x7680_d2) shapeCasts_S2x8192x7680_S16384x7680

/-- One entry of the normed and modulated rows. -/
theorem rowsOf_at (x : FVec Ideal S2x8192x1024 .f32) (g : FVec Ideal S1024 .f32) (sh sc : FVec Ideal S2x1024 .f32) (b : Fin 2) (s : Fin 8192) (d : Fin 1024) :
    rowsOf x g sh sc (ix3 b s d) = Cert.Kernel2Ideal.Norm.hOf x g sh sc b s d := by
  pointwise [rowsOf]
  rfl

/-- One entry of the projection. -/
theorem proj_at (h : FVec Ideal S2x8192x1024 .f32) (w : FVec Ideal S1024x7680 .f32) (b : Fin 2) (s : Fin 8192) (n : Fin 7680) :
    proj h w (ix3 b s n) = ∑ d : Fin 1024, (h (ix3 b s d) : EReal) * w (ix2 d n) := by
  pointwise [proj]

/-- One entry of the rearranged projection. -/
theorem rotate_at (p : FVec Ideal S2x8192x7680 .f32) (i : Fin 16384) (n : Fin 7680) :
    rotate p (ix2 i n) = p (ix3 ⟨i.val / 8192, by omega⟩ ⟨i.val % 8192, Nat.mod_lt _ (by norm_num)⟩ (Cert.Kernel2Ideal.Norm.col n)) := by
  pointwise [rotate]
  unfold Cert.Kernel2Ideal.Norm.col
  split <;> rfl

/-- The reference's array is the kernel's. -/
theorem out_eq (x : FVec Ideal S2x8192x1024 .f32) (g : FVec Ideal S1024 .f32) (sh sc : FVec Ideal S2x1024 .f32) (w : FVec Ideal S1024x7680 .f32) :
    rotate (proj (rowsOf x g sh sc) w) = Cert.Kernel2Ideal.Norm.outArr x g sh sc w := by
  funext i
  have hi : i = ix2 (i 0) (i 1) := by
    refine funext fun a => ?_
    fin_cases a <;> rfl
  rw [hi]
  refine (rotate_at _ (i 0) (i 1)).trans ((proj_at _ _ _ _ _).trans (Finset.sum_congr rfl fun d _ => congrArg (· * _) (rowsOf_at _ _ _ _ _ _ d)))

end Cert.Reference2Ideal.Value
end
-- ==== Proof.Merge.lean ====
/- The merge of the three branches: what one grid point of the kernel writes, and the array it leaves. -/
module

public import Idealize.ShloMosaic.Lib.Pointwise
public import Idealize.ShloMosaic.Lib.Pipeline.ValueKit
public import Idealize.ShloMosaic.Lib.Claim
public import proofs.«01_k».proof.Proof.Gen.Kernel3Ideal.Value
import all proofs.«01_k».proof.Proof.Gen.Kernel3Ideal.Frame.RunA

@[expose] public section

set_option maxRecDepth 16384

noncomputable section

namespace Cert.Kernel3Ideal.Merge

open Cert.Kernel3Ideal Cert.Kernel3Ideal.Gen Idealize.ShloMosaic Idealize.ShloMosaic.TcCoe Idealize.SL.Sem

/-- One gated branch: the sigmoid of the gate times the branch's row against a column of its weights. -/
def gated (g : EReal) (o w : Fin 512 → EReal) : EReal := Ideal.logistic g * ∑ e, o e * w e

/-- The sum of the three gated branches, one entry of a block. -/
theorem merged_at (v0 : Vec Ideal S512x1024 .f32) (v3 : Vec Ideal S512x512 .bf16) (v5 : Vec Ideal S1x512x1024 .bf16) (v9 : Vec Ideal S512x1024 .f32) (v12 : Vec Ideal S512x512 .bf16) (v14 : Vec Ideal S1x512x1024 .bf16) (v19 : Vec Ideal S512x1024 .f32) (v22 : Vec Ideal S512x512 .bf16) (v24 : Vec Ideal S1x512x1024 .bf16) (r : Fin 512) (d : Fin 1024) :
    k0_pay2 v0 v3 v5 v9 v12 v14 v19 v22 v24 (ix2 r d) = gated (v0 (ix2 r d)) (fun e => v3 (ix2 r e)) (fun e => v5 (ix3 0 e d))
      + gated (v9 (ix2 r d)) (fun e => v12 (ix2 r e)) (fun e => v14 (ix3 0 e d))
      + gated (v19 (ix2 r d)) (fun e => v22 (ix2 r e)) (fun e => v24 (ix3 0 e d)) := by
  pointwise [k0_pay2]
  rfl

/-- One entry of a block of the result. -/
theorem out_at (v29 : FVec Ideal S512x1024 .bf16) (v31 : FVec Ideal S1024x1024 .bf16) (v33 : Vec Ideal S512x1024 .f32) (v35 : Vec Ideal S1x1x1024 .f32) (r : Fin 512) (d : Fin 1024) :
    k0_pay1 v29 (k0_pay3 v31) (constant S512x1024 .f32 0x00000000#32) v33 v35 (ix2 r d)
      = (v33 (ix2 r d) : EReal) + v35 (ix3 0 0 d) * ∑ j : Fin 1024, (v29 (ix2 r j) : EReal) * v31 (ix2 j d) := by
  pointwise [k0_pay1, k0_pay3]

/-- The merged branches of one row. -/
def merged (oa ob oc : FVec Ideal S2x8192x512 .f32) (p : FVec Ideal S2x8192x7680 .f32) (wb : FVec Ideal S3x512x1024 .f32) (b : Fin 2) (s : Fin 8192) (j : Fin 1024) : EReal :=
  gated (p (ix3 b s ⟨4608 + j.val, by omega⟩)) (fun e => oa (ix3 b s e)) (fun e => wb (ix3 0 e j))
    + gated (p (ix3 b s ⟨5632 + j.val, by omega⟩)) (fun e => ob (ix3 b s e)) (fun e => wb (ix3 1 e j))
    + gated (p (ix3 b s ⟨6656 + j.val, by omega⟩)) (fun e => oc (ix3 b s e)) (fun e => wb (ix3 2 e j))

/-- The row of the layer's next input. -/
def outOf (x : FVec Ideal S2x8192x1024 .f32) (oa ob oc : FVec Ideal S2x8192x512 .f32) (p : FVec Ideal S2x8192x7680 .f32) (wb : FVec Ideal S3x512x1024 .f32)
    (wo : FVec Ideal S1024x1024 .f32) (ga : FVec Ideal S2x1024 .f32) (b : Fin 2) (s : Fin 8192) (d : Fin 1024) : EReal :=
  (x (ix3 b s d) : EReal) + ga (ix2 b d) * ∑ j : Fin 1024, merged oa ob oc p wb b s j * wo (ix2 j d)

/-- The rows of both sequences, one after the other. -/
def outArr (x : FVec Ideal S2x8192x1024 .f32) (oa ob oc : FVec Ideal S2x8192x512 .f32) (p : FVec Ideal S2x8192x7680 .f32) (wb : FVec Ideal S3x512x1024 .f32)
    (wo : FVec Ideal S1024x1024 .f32) (ga : FVec Ideal S2x1024 .f32) : FVec Ideal S16384x1024 .f32 := fun i : S16384x1024.Idx =>
  outOf x oa ob oc p wb wo ga ⟨(i 0).val / 8192, by have : (i 0).val < 16384 := (i 0).isLt; omega⟩ ⟨(i 0).val % 8192, Nat.mod_lt _ (by norm_num)⟩ (i 1)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0, 0] ∧ win0_6.index t = ![0, 0] ∧ win0_7.index t = ![t.val / 16, 0, 0] ∧ win0_8.index t = ![t.val, 0] :=
  (by decide +kernel : ∀ t : Fin grid0.N, _)

theorem lt32 (t : Fin cfg0.N) : t.val < 32 := lt_of_lt_of_eq t.isLt (show cfg0.N = 32 from N_0)

/-- The sequence and the position of a row of a grid point's block. -/
abbrev seqOf (t : Fin cfg0.N) (r : Fin 512) : Fin 2 := ⟨(512 * t.val + r.val) / 8192, by have := lt32 t; omega⟩
abbrev posOf (t : Fin cfg0.N) (r : Fin 512) : Fin 8192 := ⟨(512 * t.val + r.val) % 8192, Nat.mod_lt _ (by norm_num)⟩

/-- The layer input a grid point reads. -/
theorem read_x (c : Dev nD) (t : Fin cfg0.N) (r : Fin 512) (d : Fin 1024) :
    iblk m c 0 t (ix2 r d) = m ((c : Thread nD τ).loc main_arg0) (ix3 (seqOf t r) (posOf t r) d) := by
  have ht := lt32 t
  have he : ((View.whole main_v4).slice (win0_0.rect t)).emb (ix2 r d) = ix2 ⟨512 * t.val + r.val, by omega⟩ d := by
    blk_ext [idx t]
  blk_simp [iblk]
  rw [he]
  entry_read
  pointwise

/-- A branch a grid point reads. -/
theorem read_o1 (c : Dev nD) (t : Fin cfg0.N) (r : Fin 512) (e : Fin 512) :
    iblk m c 1 t (ix2 r e) = m ((c : Thread nD τ).loc main_arg1) (ix3 (seqOf t r) (posOf t r) e) := by
  have ht := lt32 t
  have he : ((View.whole main_v6).slice (win0_1.rect t)).emb (ix2 r e) = ix2 ⟨512 * t.val + r.val, by omega⟩ e := by
    blk_ext [idx t]
  blk_simp [iblk]
  rw [he]
  entry_read
  pointwise

/-- A branch a grid point reads. -/
theorem read_o2 (c : Dev nD) (t : Fin cfg0.N) (r : Fin 512) (e : Fin 512) :
    iblk m c 2 t (ix2 r e) = m ((c : Thread nD τ).loc main_arg2) (ix3 (seqOf t r) (posOf t r) e) := by
  have ht := lt32 t
  have he : ((View.whole main_v8).slice (win0_2.rect t)).emb (ix2 r e) = ix2 ⟨512 * t.val + r.val, by omega⟩ e := by
    blk_ext [idx t]
  blk_simp [iblk]
  rw [he]
  entry_read
  pointwise

/-- A branch a grid point reads. -/
theorem read_o3 (c : Dev nD) (t : Fin cfg0.N) (r : Fin 512) (e : Fin 512) :
    iblk m c 3 t (ix2 r e) = m ((c : Thread nD τ).loc main_arg3) (ix3 (seqOf t r) (posOf t r) e) := by
  have ht := lt32 t
  have he : ((View.whole main_v10).slice (win0_3.rect t)).emb (ix2 r e) = ix2 ⟨512 * t.val + r.val, by omega⟩ e := by
    blk_ext [idx t]
  blk_simp [iblk]
  rw [he]
  entry_read
  pointwise

/-- The branch weights a grid point reads. -/
theorem read_wb (c : Dev nD) (t : Fin cfg0.N) (k : Fin 3) (e : Fin 512) (d : Fin 1024) :
    iblk m c 5 t (ix3 k e d) = m ((c : Thread nD τ).loc main_arg5) (ix3 k e d) := by
  have ht := lt32 t
  have he : ((View.whole main_v11).slice (win0_5.rect t)).emb (ix3 k e d) = ix3 k e d := by
    blk_ext [idx t]
  blk_simp [iblk]
  rw [he]
  entry_read
  pointwise

/-- The output weights a grid point reads. -/
theorem read_wo (c : Dev nD) (t : Fin cfg0.N) (j d : Fin 1024) :
    iblk m c 6 t (ix2 j d) = m ((c : Thread nD τ).loc main_arg6) (ix2 j d) := by
  have ht := lt32 t
  have he : ((View.whole main_v12).slice (win0_6.rect t)).emb (ix2 j d) = ix2 j d := by
    blk_ext [idx t]
  blk_simp [iblk]
  rw [he]
  entry_read
  pointwise

/-- The gain a grid point reads. -/
theorem read_ga (c : Dev nD) (t : Fin cfg0.N) (r : Fin 512) (d : Fin 1024) :
    iblk m c 7 t (ix3 0 0 d) = m ((c : Thread nD τ).loc main_arg7) (ix2 (seqOf t r) d) := by
  have ht := lt32 t
  have he : ((View.whole main_v13).slice (win0_7.rect t)).emb (ix3 0 0 d) = ix3 (seqOf t r) 0 d := by
    blk_ext [idx t]
  blk_simp [iblk]
  rw [he]
  entry_read
  pointwise

/-- The gates a grid point reads. -/
theorem read_p (c : Dev nD) (t : Fin cfg0.N) (r : Fin 512) (n : Fin 3072) :
    X0_4 m c t (ix2 r n) = m ((c : Thread nD τ).loc main_arg4) (ix3 (seqOf t r) (posOf t r) ⟨4608 + n.val, by omega⟩) := by
  have ht := lt32 t
  refine (dif_pos (moved0_4 t (ix2 r n))).trans ?_
  blk_simp [iblk]
  refine (congrArg (V m c main_v3) (?_ : _ = ix2 ⟨512 * t.val + r.val, by omega⟩ ⟨n.val, by omega⟩)).trans ?_
  · blk_ext [idx t]
  · entry_read
    pointwise

/-- What one grid point writes. -/
theorem block (c : Dev nD) (t : Fin cfg0.N) (r : Fin 512) (d : Fin 1024) : outsAt0 m c t (ix2 r d) =
    outOf (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (seqOf t r) (posOf t r) d := by
  unfold outsAt0
  frame_out
  rw [out_at]
  unfold outOf merged
  refine congrArg₂ (· + ·) (read_x m c t r d) (congrArg₂ (· * ·) (read_ga m c t r d) (Finset.sum_congr rfl fun j _ => congrArg₂ (· * ·) ?_ (read_wo m c t j d)))
  rw [merged_at]
  pointwise
  simp only [read_p, read_o1, read_o2, read_o3, read_wb, ← Nat.add_assoc, Nat.reduceAdd]

/-- What the array holds after the last grid point. -/
theorem final (c : Dev nD) : (dats m 0 c).arrAt 8 cfg0.N =
    outArr (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  have hy : y = ix2 (y 0) (y 1) := by
    refine funext fun a => ?_
    fin_cases a <;> rfl
  rw [hy]
  refine (block m c t (y 0) (y 1)).trans ?_
  have ht := lt32 t
  have hr : (y 0).val < 512 := (y 0).isLt
  have he : ((View.whole main_v14).slice (win0_8.rect t)).emb (ix2 (y 0) (y 1)) = ix2 ⟨512 * t.val + (y 0).val, by omega⟩ (y 1) := by
    blk_ext [idx t]
  exact (congrArg (outArr _ _ _ _ _ _ _ _) he).symm

end Cert.Kernel3Ideal.Merge
end
-- ==== Proof.MergeRef.lean ====
/- What the reference's gated merge computes, one entry at a time, and that the kernel's array is the same. -/
module

public import proofs.«01_k».proof.Proof.Merge
public import proofs.«01_k».proof.Proof.Gen.Reference3Ideal.Run

@[expose] public section

set_option maxRecDepth 16384
noncomputable section
namespace Cert.Reference3Ideal.Value
open Cert.Reference3Ideal Cert.Reference3Ideal.Gen Idealize.ShloMosaic Idealize.ShloMosaic.TcCoe Idealize.SL.Sem Idealize.ShloMosaic.StableHlo

/-- The sigmoid of the gates that start at a column of the last three parts. -/
def gate (p : FVec Ideal S2x8192x7680 .f32) (a : ℕ) (h : S2x8192x3072.Slices ![0, 0, a] S2x8192x1024) : FVec Ideal S2x8192x1024 .f32 :=
  Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, a] (extractStridedSlice S2x8192x3072 ![0, 0, 4608] p slices_S2x8192x7680_S2x8192x3072_0_0_4608) h))))

/-- A branch against its weights. -/
def branch (o : FVec Ideal S2x8192x512 .f32) (wb : FVec Ideal S3x512x1024 .f32) (k : ℕ) (h : S3x512x1024.Slices ![k, 0, 0] S1x512x1024) : FVec Ideal S2x8192x1024 .f32 :=
  Host.dotGeneral dot_S2x8192x512_S512x1024_S2x8192x1024_2_0_01_1_n_n none o (shapeCast S512x1024 (extractStridedSlice S1x512x1024 ![k, 0, 0] wb h) shapeCasts_S1x512x1024_S512x1024)

/-- The reference's result. -/
def out (x : FVec Ideal S2x8192x1024 .f32) (oa ob oc : FVec Ideal S2x8192x512 .f32) (p : FVec Ideal S2x8192x7680 .f32) (wb : FVec Ideal S3x512x1024 .f32)
    (wo : FVec Ideal S1024x1024 .f32) (ga : FVec Ideal S2x1024 .f32) : FVec Ideal S16384x1024 .f32 :=
  shapeCast S16384x1024 (addf x (mulf (broadcastInDim S2x8192x1024 ![0, 1, 2] bcast_S2x1x1024_S2x8192x1024_0_1_2 (broadcastInDim S2x1x1024 ![0, 2] bcast_S2x1024_S2x1x1024_0_2 ga))
    (Host.dotGeneral dot_S2x8192x1024_S1024x1024_S2x8192x1024_2_0_01_1_n_n none
      (addf (addf (mulf (gate p 0 slices_S2x8192x3072_S2x8192x1024_0_0_0) (branch oa wb 0 slices_S3x512x1024_S1x512x1024_0_0_0))
          (mulf (gate p 1024 slices_S2x8192x3072_S2x8192x1024_0_0_1024) (branch ob wb 1 slices_S3x512x1024_S1x512x1024_1_0_0)))
        (mulf (gate p 2048 slices_S2x8192x3072_S2x8192x1024_0_0_2048) (branch oc wb 2 slices_S3x512x1024_S1x512x1024_2_0_0))) wo)))
    shapeCasts_S2x8192x1024_S16384x1024

/-- One gate. -/
theorem gate_at (p : FVec Ideal S2x8192x7680 .f32) (a n : ℕ) (h : S2x8192x3072.Slices ![0, 0, a] S2x8192x1024) (b : Fin 2) (s : Fin 8192) (d : Fin 1024)
    (hn : n + d.val < 7680) (ha : 4608 + a = n) : gate p a h (ix3 b s d) = Ideal.logistic (p (ix3 b s ⟨n + d.val, hn⟩)) := by
  subst ha
  pointwise [gate]
  exact congrArg (fun n => Ideal.logistic (p (ix3 b s n))) (Fin.ext (Nat.add_assoc 4608 a d.val).symm)

/-- One entry of a branch against its weights. -/
theorem branch_at (o : FVec Ideal S2x8192x512 .f32) (wb : FVec Ideal S3x512x1024 .f32) (k : ℕ) (hk : k < 3) (h : S3x512x1024.Slices ![k, 0, 0] S1x512x1024) (b : Fin 2) (s : Fin 8192) (d : Fin 1024) :
    branch o wb k h (ix3 b s d) = ∑ e : Fin 512, (o (ix3 b s e) : EReal) * wb (ix3 ⟨k, hk⟩ e d) := by
  pointwise [branch]

/-- The kernel's array is the reference's. -/
theorem out_eq (x : FVec Ideal S2x8192x1024 .f32) (oa ob oc : FVec Ideal S2x8192x512 .f32) (p : FVec Ideal S2x8192x7680 .f32) (wb : FVec Ideal S3x512x1024 .f32)
    (wo : FVec Ideal S1024x1024 .f32) (ga : FVec Ideal S2x1024 .f32) : out x oa ob oc p wb wo ga = Cert.Kernel3Ideal.Merge.outArr x oa ob oc p wb wo ga := by
  funext i
  have hi : i = ix2 (i 0) (i 1) := by
    refine funext fun a => ?_
    fin_cases a <;> rfl
  rw [hi]
  generalize i 0 = n
  generalize i 1 = d
  pointwise [out]
  refine congrArg (_ + _ * ·) (Finset.sum_congr rfl fun j _ => congrArg (· * _) ?_)
  exact congrArg₂ (· + ·) (congrArg₂ (· + ·)
    (congrArg₂ (· * ·) (gate_at p 0 4608 _ _ _ j (by omega) rfl) (branch_at oa wb 0 (by omega) _ _ _ j))
    (congrArg₂ (· * ·) (gate_at p 1024 5632 _ _ _ j (by omega) rfl) (branch_at ob wb 1 (by omega) _ _ _ j)))
    (congrArg₂ (· * ·) (gate_at p 2048 6656 _ _ _ j (by omega) rfl) (branch_at oc wb 2 (by omega) _ _ _ j))

end Cert.Reference3Ideal.Value
end
-- ==== Proof.HeadMath.lean ====
/- The normalization of one head of queries or keys, and the scale of the queries. -/
module

public import Idealize.ShloMosaic.Lib.Pointwise
public import proofs.«01_k».proof.Proof.BaseE

@[expose] public section

noncomputable section

namespace Cert.Heads

open Idealize.ShloMosaic

/-- One entry of a head over the root mean square of the head, times its gain. -/
def normOf (x : Fin 128 → EReal) (g : EReal) (d : Fin 128) : EReal :=
  x d * Ideal.rsqrt (Ideal.div (∑ e, x e * x e) (Ideal.ofBits FTy.f32 0x43000000#32) + Ideal.ofBits FTy.f32 0x358637BD#32) * g

/-- One entry of a row of 512 over the root mean square of the row, times its gain. -/
def rowNorm (x : Fin 512 → EReal) (g : EReal) (d : Fin 512) : EReal :=
  x d * Ideal.rsqrt (Ideal.div (∑ e, x e * x e) (Ideal.ofBits FTy.f32 0x44000000#32) + Ideal.ofBits FTy.f32 0x358637BD#32) * g

/-- The scale of the queries to base-2 logits. -/
def qs : EReal := (((Real.sqrt 128)⁻¹ * (Real.log 2)⁻¹ : ℝ) : EReal)

/-- To divide by the root of the width of a head and by the logarithm of two is to multiply by the scale. -/
theorem div_div (x : EReal) :
    Ideal.div (Ideal.div x (Ideal.sqrt (Ideal.ofBits FTy.f32 0x43000000#32))) (Ideal.log (Ideal.ofBits FTy.f32 0x40000000#32)) = x * qs := by
  have h128 : Ideal.sqrt (Ideal.ofBits FTy.f32 0x43000000#32) = ((Real.sqrt 128 : ℝ) : EReal) := by
    have : Ideal.ofBits FTy.f32 0x43000000#32 = ((128 : ℝ) : EReal) := by
      simp [Ideal.ofBits, Ideal.ieee, ← EReal.coe_mul]; norm_num
    rw [this, Ideal.sqrt_coe, if_neg (by norm_num)]
  have h2 : Ideal.log (Ideal.ofBits FTy.f32 0x40000000#32) = ((Real.log 2 : ℝ) : EReal) := by
    have : Ideal.ofBits FTy.f32 0x40000000#32 = ((2 : ℝ) : EReal) := by
      simp [Ideal.ofBits, Ideal.ieee, ← EReal.coe_mul]; norm_num
    rw [this, Ideal.log_coe, if_neg (by norm_num)]
  rw [h128, h2, Ideal.div_coe (Real.sqrt_pos.mpr (by norm_num)).ne', Ideal.div_coe (Real.log_pos (by norm_num)).ne', mul_assoc, one_div, one_div,
    ← EReal.coe_mul]
  rfl

/-- An entry of a row of four heads, normalized head by head. -/
def entry (x : Fin 512 → EReal) (g : Fin 128 → EReal) (n : Fin 512) : EReal :=
  normOf (fun e => x ⟨128 * (n.val / 128) + e.val, by omega⟩) (g ⟨n.val % 128, by omega⟩) ⟨n.val % 128, by omega⟩

theorem entry_head (x : Fin 512 → EReal) (g : Fin 128 → EReal) (h : ℕ) (d : Fin 128) (hh : h < 4) :
    entry x g ⟨128 * h + d.val, by omega⟩ = normOf (fun e => x ⟨128 * h + e.val, by omega⟩) (g d) d := by
  unfold entry
  have h1 : (128 * h + d.val) / 128 = h := by omega
  have h2 : (⟨(128 * h + d.val) % 128, by omega⟩ : Fin 128) = d := Fin.ext (by show (128 * h + d.val) % 128 = d.val; omega)
  rw [h2]
  simp only [h1]

end Cert.Heads

end
-- ==== Proof.QkPrep.lean ====
/- The normalized queries and keys of the prompts' softmax-free attention: what one grid point of the kernel writes, and
   the four arrays it leaves. -/
module

public import Idealize.ShloMosaic.Lib.Pointwise
public import Idealize.ShloMosaic.Lib.Pipeline.ValueKit
public import Idealize.ShloMosaic.Lib.Claim
public import proofs.«01_k».proof.Proof.HeadMath
public import proofs.«01_k».proof.Proof.Gen.Kernel5Ideal.Value

@[expose] public section

set_option maxRecDepth 16384

noncomputable section

namespace Cert.Kernel5Ideal.Prep

open Cert.Kernel5Ideal Cert.Kernel5Ideal.Gen Idealize.ShloMosaic Idealize.ShloMosaic.TcCoe Idealize.SL.Sem Cert.Heads

theorem named_q_scale : Named.named (F := Ideal) κ "q_scale" (φ := .f32) 0x3E0293EE#32 = qs :=
  IdealRules.named_const.ideal_named_scalar _ _ _ _ rfl

/-- One entry of a normalized head. -/
theorem key_at (v : Vec Ideal S512x128 .f32) (g : Vec Ideal S1x128 .f32) (r : Fin 512) (d : Fin 128) :
    k0_pay3 v g (ix2 r d) = normOf (fun e => v (ix2 r e)) (g (ix2 0 d)) d := by
  pointwise [k0_pay3]
  rfl

/-- One entry of a normalized head of the queries, scaled. -/
theorem query_at (v : Vec Ideal S512x128 .f32) (g : Vec Ideal S1x128 .f32) (r : Fin 512) (d : Fin 128) :
    k0_pay4 v g (ix2 r d) = normOf (fun e => v (ix2 r e)) (g (ix2 0 d)) d * qs := by
  pointwise [k0_pay4]
  rw [named_q_scale]
  rfl

/-- A block of rows, normalized head by head. -/
def kBlk (x : Vec Ideal S512x512 .f32) (g : Vec Ideal S1x128 .f32) : Vec Ideal S512x512 .f32 := fun i : S512x512.Idx =>
  entry (fun n => x (ix2 (i 0) n)) (fun d => g (ix2 0 d)) (i 1)

/-- A block of rows, normalized head by head and scaled. -/
def qBlk (x : Vec Ideal S512x512 .f32) (g : Vec Ideal S1x128 .f32) : Vec Ideal S512x512 .bf16 := fun i : S512x512.Idx =>
  entry (fun n => x (ix2 (i 0) n)) (fun d => g (ix2 0 d)) (i 1) * qs

/-- A block of rows as it is. -/
def vBlk (x : Vec Ideal S512x512 .f32) : Vec Ideal S512x512 .bf16 := fun i : S512x512.Idx => (x i : EReal)

/-- An index of a head's block, and its columns in the block of four heads. -/
theorem split_idx (i : S512x128.Idx) : i = ix2 (i 0) (i 1) := by
  refine funext fun a => ?_
  fin_cases a <;> rfl

theorem emb_0 (x : S512x128.Idx) : r0_0.emb x = ix2 (x 0) ⟨128 * 0 + (x 1).val, by have : (x 1).val < 128 := (x 1).isLt; omega⟩ := by
  blk_ext []
theorem emb_2 (x : S512x128.Idx) : r0_2.emb x = ix2 (x 0) ⟨128 * 1 + (x 1).val, by have : (x 1).val < 128 := (x 1).isLt; omega⟩ := by
  blk_ext []
theorem emb_3 (x : S512x128.Idx) : r0_3.emb x = ix2 (x 0) ⟨128 * 2 + (x 1).val, by have : (x 1).val < 128 := (x 1).isLt; omega⟩ := by
  blk_ext []
theorem emb_4 (x : S512x128.Idx) : r0_4.emb x = ix2 (x 0) ⟨128 * 3 + (x 1).val, by have : (x 1).val < 128 := (x 1).isLt; omega⟩ := by
  blk_ext []
theorem emb_5 (x : S512x512.Idx) : r0_5.emb x = x := by
  blk_ext []
theorem emb_g (x : S1x128.Idx) : r0_1.emb x = x := by
  blk_ext []

/-- One head's part of the keys. -/
theorem key_head (x : Vec Ideal S512x512 .f32) (g : Vec Ideal S1x128 .f32) (h : ℕ) (hh : h < 4) (v : Vec Ideal S512x128 .f32) (w : Vec Ideal S1x128 .f32)
    (hv : ∀ (r : Fin 512) (e : Fin 128), v (ix2 r e) = x (ix2 r ⟨128 * h + e.val, by omega⟩)) (hw : ∀ d : Fin 128, w (ix2 0 d) = g (ix2 0 d)) (r : Fin 512) (d : Fin 128) :
    k0_pay3 v w (ix2 r d) = kBlk x g (ix2 r ⟨128 * h + d.val, by omega⟩) := by
  rw [key_at, hw]
  simp only [hv]
  exact (entry_head (fun n => x (ix2 r n)) (fun d => g (ix2 0 d)) h d hh).symm

/-- One head's part of the queries. -/
theorem query_head (x : Vec Ideal S512x512 .f32) (g : Vec Ideal S1x128 .f32) (h : ℕ) (hh : h < 4) (v : Vec Ideal S512x128 .f32) (w : Vec Ideal S1x128 .f32)
    (hv : ∀ (r : Fin 512) (e : Fin 128), v (ix2 r e) = x (ix2 r ⟨128 * h + e.val, by omega⟩)) (hw : ∀ d : Fin 128, w (ix2 0 d) = g (ix2 0 d)) (r : Fin 512) (d : Fin 128) :
    k0_pay4 v w (ix2 r d) = qBlk x g (ix2 r ⟨128 * h + d.val, by omega⟩) := by
  rw [query_at, hw]
  simp only [hv]
  exact congrArg (· * qs) (entry_head (fun n => x (ix2 r n)) (fun d => g (ix2 0 d)) h d hh).symm

/-- What one grid point writes of the queries. -/
theorem out_q (x0 x1 x2 : Vec Ideal S512x512 .f32) (x3 x4 : Vec Ideal S1x128 .f32) (y : S512x512.Idx) : out0_5 x0 x1 x2 x3 x4 y = qBlk x0 x3 y := by
  refine View.canon_apply_of_pieces (qBlk x0 x3) _ ?_ y (cover0_5 _ _ _ _ y)
  intro pc hpc
  rcases List.mem_cons.mp hpc with rfl | hpc
  · exact fun i => (congrArg _ (split_idx i)).trans ((query_head x0 x3 3 (by omega) (View.ld x0 r0_4) (View.ld x3 r0_1) (fun r e => congrArg x0 (emb_4 _)) (fun d => congrArg x3 (emb_g _)) (i 0) (i 1)).trans (congrArg _ (emb_4 i).symm))
  rcases List.mem_cons.mp hpc with rfl | hpc
  · exact fun i => (congrArg _ (split_idx i)).trans ((query_head x0 x3 2 (by omega) (View.ld x0 r0_3) (View.ld x3 r0_1) (fun r e => congrArg x0 (emb_3 _)) (fun d => congrArg x3 (emb_g _)) (i 0) (i 1)).trans (congrArg _ (emb_3 i).symm))
  rcases List.mem_cons.mp hpc with rfl | hpc
  · exact fun i => (congrArg _ (split_idx i)).trans ((query_head x0 x3 1 (by omega) (View.ld x0 r0_2) (View.ld x3 r0_1) (fun r e => congrArg x0 (emb_2 _)) (fun d => congrArg x3 (emb_g _)) (i 0) (i 1)).trans (congrArg _ (emb_2 i).symm))
  rcases List.mem_cons.mp hpc with rfl | hpc
  · exact fun i => (congrArg _ (split_idx i)).trans ((query_head x0 x3 0 (by omega) (View.ld x0 r0_0) (View.ld x3 r0_1) (fun r e => congrArg x0 (emb_0 _)) (fun d => congrArg x3 (emb_g _)) (i 0) (i 1)).trans (congrArg _ (emb_0 i).symm))
  nomatch hpc

/-- What one grid point writes of the keys. -/
theorem out_k (x0 x1 x2 : Vec Ideal S512x512 .f32) (x3 x4 : Vec Ideal S1x128 .f32) (y : S512x512.Idx) : out0_6 x0 x1 x2 x3 x4 y = kBlk x1 x4 y := by
  refine View.canon_apply_of_pieces (kBlk x1 x4) _ ?_ y (cover0_6 _ _ _ _ y)
  intro pc hpc
  rcases List.mem_cons.mp hpc with rfl | hpc
  · exact fun i => (congrArg _ (split_idx i)).trans ((key_head x1 x4 3 (by omega) (View.ld x1 r0_4) (View.ld x4 r0_1) (fun r e => congrArg x1 (emb_4 _)) (fun d => congrArg x4 (emb_g _)) (i 0) (i 1)).trans (congrArg _ (emb_4 i).symm))
  rcases List.mem_cons.mp hpc with rfl | hpc
  · exact fun i => (congrArg _ (split_idx i)).trans ((key_head x1 x4 2 (by omega) (View.ld x1 r0_3) (View.ld x4 r0_1) (fun r e => congrArg x1 (emb_3 _)) (fun d => congrArg x4 (emb_g _)) (i 0) (i 1)).trans (congrArg _ (emb_3 i).symm))
  rcases List.mem_cons.mp hpc with rfl | hpc
  · exact fun i => (congrArg _ (split_idx i)).trans ((key_head x1 x4 1 (by omega) (View.ld x1 r0_2) (View.ld x4 r0_1) (fun r e => congrArg x1 (emb_2 _)) (fun d => congrArg x4 (emb_g _)) (i 0) (i 1)).trans (congrArg _ (emb_2 i).symm))
  rcases List.mem_cons.mp hpc with rfl | hpc
  · exact fun i => (congrArg _ (split_idx i)).trans ((key_head x1 x4 0 (by omega) (View.ld x1 r0_0) (View.ld x4 r0_1) (fun r e => congrArg x1 (emb_0 _)) (fun d => congrArg x4 (emb_g _)) (i 0) (i 1)).trans (congrArg _ (emb_0 i).symm))
  nomatch hpc

/-- The keys once more, in the narrow format: the same numbers. -/
theorem out_kb (x0 x1 x2 : Vec Ideal S512x512 .f32) (x3 x4 : Vec Ideal S1x128 .f32) (y : S512x512.Idx) : out0_7 x0 x1 x2 x3 x4 y = kBlk x1 x4 y :=
  out_k x0 x1 x2 x3 x4 y

/-- What one grid point writes of the values: the values. -/
theorem out_v (x0 x1 x2 : Vec Ideal S512x512 .f32) (x3 x4 : Vec Ideal S1x128 .f32) (y : S512x512.Idx) : out0_8 x0 x1 x2 x3 x4 y = vBlk x2 y := by
  refine View.canon_apply_of_pieces (vBlk x2) _ ?_ y (cover0_8 _ y)
  intro pc hpc
  rcases List.mem_cons.mp hpc with rfl | hpc
  · intro i
    dsimp only
    pointwise [k0_pay2]
    exact congrArg x2 (emb_5 i).symm
  nomatch hpc

variable (m : (ℓ : Loc nD τ sig) → Buf (Elt Ideal) ℓ)

theorem idx : ∀ t : Fin cfg0.N, win0_0.index t = ![t.val, 12] ∧ win0_1.index t = ![t.val, 13] ∧ win0_2.index t = ![t.val, 14] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, _)

theorem lt32 (t : Fin cfg0.N) : t.val < 32 := lt_of_lt_of_eq t.isLt (show cfg0.N = 32 from N_0)

/-- The sequence and the position of a row of a grid point's block. -/
abbrev seqOf (t : Fin cfg0.N) (r : Fin 512) : Fin 2 := ⟨(512 * t.val + r.val) / 8192, by have := lt32 t; omega⟩
abbrev posOf (t : Fin cfg0.N) (r : Fin 512) : Fin 8192 := ⟨(512 * t.val + r.val) % 8192, Nat.mod_lt _ (by norm_num)⟩

/-- The queries a grid point reads. -/
theorem read_q (c : Dev nD) (t : Fin cfg0.N) (r n : Fin 512) :
    iblk m c 0 t (ix2 r n) = m ((c : Thread nD τ).loc main_arg0) (ix3 (seqOf t r) (posOf t r) ⟨3072 + n.val, by omega⟩) := by
  have ht := lt32 t
  have he : ((View.whole main_v3).slice (win0_0.rect t)).emb (ix2 r n) = ix2 ⟨512 * t.val + r.val, by omega⟩ ⟨6144 + n.val, by omega⟩ := by
    blk_ext [idx t]
  blk_simp [iblk]
  rw [he]
  entry_read
  pointwise
  exact (dif_neg (by omega)).trans (congrArg (fun k => m ((c : Thread nD τ).loc main_arg0) (ix3 (seqOf t r) (posOf t r) k)) (Fin.ext (by show 6144 + n.val - 3072 = 3072 + n.val; omega)))

/-- The keys a grid point reads. -/
theorem read_k (c : Dev nD) (t : Fin cfg0.N) (r n : Fin 512) :
    iblk m c 1 t (ix2 r n) = m ((c : Thread nD τ).loc main_arg0) (ix3 (seqOf t r) (posOf t r) ⟨3584 + n.val, by omega⟩) := by
  have ht := lt32 t
  have he : ((View.whole main_v3).slice (win0_1.rect t)).emb (ix2 r n) = ix2 ⟨512 * t.val + r.val, by omega⟩ ⟨6656 + n.val, by omega⟩ := by
    blk_ext [idx t]
  blk_simp [iblk]
  rw [he]
  entry_read
  pointwise
  exact (dif_neg (by omega)).trans (congrArg (fun k => m ((c : Thread nD τ).loc main_arg0) (ix3 (seqOf t r) (posOf t r) k)) (Fin.ext (by show 6656 + n.val - 3072 = 3584 + n.val; omega)))

/-- The values a grid point reads. -/
theorem read_v (c : Dev nD) (t : Fin cfg0.N) (r n : Fin 512) :
    iblk m c 2 t (ix2 r n) = m ((c : Thread nD τ).loc main_arg0) (ix3 (seqOf t r) (posOf t r) ⟨4096 + n.val, by omega⟩) := by
  have ht := lt32 t
  have he : ((View.whole main_v3).slice (win0_2.rect t)).emb (ix2 r n) = ix2 ⟨512 * t.val + r.val, by omega⟩ ⟨7168 + n.val, by omega⟩ := by
    blk_ext [idx t]
  blk_simp [iblk]
  rw [he]
  entry_read
  pointwise
  exact (dif_neg (by omega)).trans (congrArg (fun k => m ((c : Thread nD τ).loc main_arg0) (ix3 (seqOf t r) (posOf t r) k)) (Fin.ext (by show 7168 + n.val - 3072 = 4096 + n.val; omega)))

/-- The gains of the queries. -/
theorem read_gq (c : Dev nD) (t : Fin cfg0.N) (d : Fin 128) : iblk m c 3 t (ix2 0 d) = m ((c : Thread nD τ).loc main_arg1) (ix1 d) := by
  have he : ((View.whole main_v4).slice (win0_3.rect t)).emb (ix2 0 d) = ix2 0 d := by
    blk_ext [idx t]
  blk_simp [iblk]
  rw [he]
  entry_read
  pointwise

/-- The gains of the keys. -/
theorem read_gk (c : Dev nD) (t : Fin cfg0.N) (d : Fin 128) : iblk m c 4 t (ix2 0 d) = m ((c : Thread nD τ).loc main_arg2) (ix1 d) := by
  have he : ((View.whole main_v5).slice (win0_4.rect t)).emb (ix2 0 d) = ix2 0 d := by
    blk_ext [idx t]
  blk_simp [iblk]
  rw [he]
  entry_read
  pointwise

/-- The sequence and the position of a row of both sequences, one after the other. -/
abbrev seqAt (n : Fin 16384) : Fin 2 := ⟨n.val / 8192, by omega⟩
abbrev posAt (n : Fin 16384) : Fin 8192 := ⟨n.val % 8192, by omega⟩

/-- The scaled queries of every row. -/
def qArr (p : FVec Ideal S2x8192x7680 .f32) (g : FVec Ideal S128 .f32) : FVec Ideal S16384x512 .bf16 := fun i : S16384x512.Idx =>
  entry (fun n => p (ix3 (seqAt (i 0)) (posAt (i 0)) ⟨3072 + n.val, by omega⟩)) (fun d => g (ix1 d)) (i 1) * qs

/-- The keys of every row. -/
def kArr (p : FVec Ideal S2x8192x7680 .f32) (g : FVec Ideal S128 .f32) : FVec Ideal S16384x512 .f32 := fun i : S16384x512.Idx =>
  entry (fun n => p (ix3 (seqAt (i 0)) (posAt (i 0)) ⟨3584 + n.val, by omega⟩)) (fun d => g (ix1 d)) (i 1)

/-- The values of every row. -/
def vArr (p : FVec Ideal S2x8192x7680 .f32) : FVec Ideal S16384x512 .bf16 := fun i : S16384x512.Idx =>
  (p (ix3 (seqAt (i 0)) (posAt (i 0)) ⟨4096 + (i 1).val, by have : (i 1).val < 512 := (i 1).isLt; omega⟩) : EReal)

theorem rows_idx (y : S512x512.Idx) : y = ix2 (y 0) (y 1) := by
  refine funext fun a => ?_
  fin_cases a <;> rfl

/-- The queries after the last grid point. -/
theorem final_q (c : Dev nD) : (dats m 0 c).arrAt 5 cfg0.N = qArr (m ((c : Thread nD τ).loc main_arg0)) (m ((c : Thread nD τ).loc main_arg1)) := by
  refine (dats m 0 c).arrAt_eq_of_covers 5 _ (by decide +kernel) fun t hf y => ?_
  blk_simp
  rw [after0_5, out_q, rows_idx y]
  have ht := lt32 t
  have hr : (y 0).val < 512 := (y 0).isLt
  have he : ((View.whole main_v6_0).slice (win0_5.rect t)).emb (ix2 (y 0) (y 1)) = ix2 ⟨512 * t.val + (y 0).val, by omega⟩ (y 1) := by
    blk_ext [idx t]
  refine Eq.trans ?_ (congrArg (qArr _ _) he).symm
  exact congrArg (· * qs) (congrArg₂ (fun x g => entry x g (y 1)) (funext fun n => read_q m c t (y 0) n) (funext fun d => read_gq m c t d))

/-- The keys after the last grid point. -/
theorem final_k (c : Dev nD) : (dats m 0 c).arrAt 6 cfg0.N = kArr (m ((c : Thread nD τ).loc main_arg0)) (m ((c : Thread nD τ).loc main_arg2)) := by
  refine (dats m 0 c).arrAt_eq_of_covers 6 _ (by decide +kernel) fun t hf y => ?_
  blk_simp
  rw [after0_6, out_k, rows_idx y]
  have ht := lt32 t
  have hr : (y 0).val < 512 := (y 0).isLt
  have he : ((View.whole main_v6_1).slice (win0_6.rect t)).emb (ix2 (y 0) (y 1)) = ix2 ⟨512 * t.val + (y 0).val, by omega⟩ (y 1) := by
    blk_ext [idx t]
  refine Eq.trans ?_ (congrArg (kArr _ _) he).symm
  exact congrArg₂ (fun x g => entry x g (y 1)) (funext fun n => read_k m c t (y 0) n) (funext fun d => read_gk m c t d)

/-- The keys in the narrow format after the last grid point. -/
theorem final_kb (c : Dev nD) : (dats m 0 c).arrAt 7 cfg0.N = kArr (m ((c : Thread nD τ).loc main_arg0)) (m ((c : Thread nD τ).loc main_arg2)) := by
  refine (dats m 0 c).arrAt_eq_of_covers 7 _ (by decide +kernel) fun t hf y => ?_
  blk_simp
  rw [after0_7, out_kb, rows_idx y]
  have ht := lt32 t
  have hr : (y 0).val < 512 := (y 0).isLt
  have he : ((View.whole main_v6_2).slice (win0_7.rect t)).emb (ix2 (y 0) (y 1)) = ix2 ⟨512 * t.val + (y 0).val, by omega⟩ (y 1) := by
    blk_ext [idx t]
  refine Eq.trans ?_ (congrArg (kArr _ _) he).symm
  exact congrArg₂ (fun x g => entry x g (y 1)) (funext fun n => read_k m c t (y 0) n) (funext fun d => read_gk m c t d)

/-- The values after the last grid point. -/
theorem final_v (c : Dev nD) : (dats m 0 c).arrAt 8 cfg0.N = vArr (m ((c : Thread nD τ).loc main_arg0)) := by
  refine (dats m 0 c).arrAt_eq_of_covers 8 _ (by decide +kernel) fun t hf y => ?_
  blk_simp
  rw [after0_8, out_v, rows_idx y]
  have ht := lt32 t
  have hr : (y 0).val < 512 := (y 0).isLt
  have he : ((View.whole main_v6_3).slice (win0_8.rect t)).emb (ix2 (y 0) (y 1)) = ix2 ⟨512 * t.val + (y 0).val, by omega⟩ (y 1) := by
    blk_ext [idx t]
  exact (read_v m c t (y 0) (y 1)).trans (congrArg (vArr _) he).symm

end Cert.Kernel5Ideal.Prep
end
-- ==== Proof.QkPrepRef.lean ====
/- What the reference's normalized queries and keys are, one entry at a time, and that the kernel's arrays are the same. -/
module

public import proofs.«01_k».proof.Proof.QkPrep
public import proofs.«01_k».proof.Proof.Gen.Reference5Ideal.Run

@[expose] public section

set_option maxRecDepth 16384
noncomputable section
namespace Cert.Reference5Ideal.Value
open Cert.Reference5Ideal Cert.Reference5Ideal.Gen Idealize.ShloMosaic Idealize.ShloMosaic.TcCoe Idealize.SL.Sem Idealize.ShloMosaic.StableHlo Cert.Heads Cert.Kernel5Ideal.Prep

/-- The four heads of a branch's part. -/
def heads (p : FVec Ideal S2x8192x7680 .f32) (a : ℕ) (h : S2x8192x7680.Slices ![0, 0, a] S2x8192x512) : FVec Ideal S2x8192x4x128 .f32 :=
  shapeCast S2x8192x4x128 (extractStridedSlice S2x8192x512 ![0, 0, a] p h) shapeCasts_S2x8192x512_S2x8192x4x128

/-- Every head over its root mean square, times the gains. -/
def normed (x : FVec Ideal S2x8192x4x128 .f32) (g : FVec Ideal S128 .f32) : FVec Ideal S2x8192x4x128 .f32 :=
  mulf (mulf x (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf x x) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32))))))
    (broadcastInDim S2x8192x4x128 ![0, 1, 2, 3] bcast_S1x1x1x128_S2x8192x4x128_0_1_2_3 (broadcastInDim S1x1x1x128 ![3] bcast_S128_S1x1x1x128_3 g))

/-- The reference's queries. -/
def outQ (p : FVec Ideal S2x8192x7680 .f32) (g : FVec Ideal S128 .f32) : FVec Ideal S16384x512 .bf16 :=
  truncf .bf16 (shapeCast S16384x512 (Host.divf (Host.divf (normed (heads p 3072 slices_S2x8192x7680_S2x8192x512_0_0_3072) g)
    (broadcastInDim S2x8192x4x128 ![] bcast_S_S2x8192x4x128 (Host.sqrt (constant S_ .f32 0x43000000#32)))) (broadcastInDim S2x8192x4x128 ![] bcast_S_S2x8192x4x128 (Host.log (constant S_ .f32 0x40000000#32)))) shapeCasts_S2x8192x4x128_S16384x512) bitsLt_bf16_f32

/-- The reference's keys. -/
def outK (p : FVec Ideal S2x8192x7680 .f32) (g : FVec Ideal S128 .f32) : FVec Ideal S16384x512 .f32 :=
  shapeCast S16384x512 (normed (heads p 3584 slices_S2x8192x7680_S2x8192x512_0_0_3584) g) shapeCasts_S2x8192x4x128_S16384x512

/-- The reference's keys in the narrow format. -/
def outKb (p : FVec Ideal S2x8192x7680 .f32) (g : FVec Ideal S128 .f32) : FVec Ideal S16384x512 .bf16 :=
  truncf .bf16 (shapeCast S16384x512 (normed (heads p 3584 slices_S2x8192x7680_S2x8192x512_0_0_3584) g) shapeCasts_S2x8192x4x128_S16384x512) bitsLt_bf16_f32

/-- The reference's values. -/
def outV (p : FVec Ideal S2x8192x7680 .f32) : FVec Ideal S16384x512 .bf16 :=
  truncf .bf16 (shapeCast S16384x512 (heads p 4096 slices_S2x8192x7680_S2x8192x512_0_0_4096) shapeCasts_S2x8192x4x128_S16384x512) bitsLt_bf16_f32

/-- One entry of a head. -/
theorem heads_at (p : FVec Ideal S2x8192x7680 .f32) (a : ℕ) (ha : a + 512 ≤ 7680) (h : S2x8192x7680.Slices ![0, 0, a] S2x8192x512) (b : Fin 2) (s : Fin 8192) (k : Fin 4) (d : Fin 128) :
    heads p a h (ix4 b s k d) = p (ix3 b s ⟨a + (128 * k.val + d.val), by omega⟩) := by
  pointwise [heads]
  exact congrArg (fun j => p (ix3 b s j)) (Fin.ext (by
    show a + (k.val * 128 + d.val) = a + (128 * k.val + d.val)
    omega))

/-- One entry of a normalized head. -/
theorem normed_at (x : FVec Ideal S2x8192x4x128 .f32) (g : FVec Ideal S128 .f32) (b : Fin 2) (s : Fin 8192) (k : Fin 4) (d : Fin 128) :
    normed x g (ix4 b s k d) = normOf (fun e => x (ix4 b s k e)) (g (ix1 d)) d := by
  pointwise [normed]
  rfl

theorem split (i : S16384x512.Idx) : i = ix2 (i 0) (i 1) := by
  refine funext fun a => ?_
  fin_cases a <;> rfl

/-- The head and the column of a head of a column of four heads. -/
abbrev hd (n : Fin 512) : Fin 4 := ⟨n.val / 128, by omega⟩
abbrev col (n : Fin 512) : Fin 128 := ⟨n.val % 128, by omega⟩

/-- One normalized entry of a row of four heads. -/
theorem row_at (p : FVec Ideal S2x8192x7680 .f32) (g : FVec Ideal S128 .f32) (a : ℕ) (ha : a + 512 ≤ 7680) (h : S2x8192x7680.Slices ![0, 0, a] S2x8192x512) (b : Fin 2) (s : Fin 8192) (n : Fin 512) :
    normed (heads p a h) g (ix4 b s (hd n) (col n)) = entry (fun n => p (ix3 b s ⟨a + n.val, by omega⟩)) (fun d => g (ix1 d)) n := by
  rw [normed_at]
  simp only [heads_at p a ha h]
  rfl

/-- The kernel's queries are the reference's. -/
theorem outQ_eq (p : FVec Ideal S2x8192x7680 .f32) (g : FVec Ideal S128 .f32) : outQ p g = qArr p g := by
  funext i
  rw [split i]
  generalize i 0 = r
  generalize i 1 = n
  pointwise [outQ]
  refine (div_div _).trans (congrArg (· * qs) ?_)
  exact row_at p g 3072 (by omega) _ (seqAt r) (posAt r) n

/-- The kernel's keys are the reference's. -/
theorem outK_eq (p : FVec Ideal S2x8192x7680 .f32) (g : FVec Ideal S128 .f32) : outK p g = kArr p g := by
  funext i
  rw [split i]
  generalize i 0 = r
  generalize i 1 = n
  pointwise [outK]
  exact row_at p g 3584 (by omega) _ (seqAt r) (posAt r) n

/-- The kernel's keys in the narrow format are the reference's. -/
theorem outKb_eq (p : FVec Ideal S2x8192x7680 .f32) (g : FVec Ideal S128 .f32) : outKb p g = kArr p g := by
  funext i
  rw [split i]
  generalize i 0 = r
  generalize i 1 = n
  pointwise [outKb]
  exact row_at p g 3584 (by omega) _ (seqAt r) (posAt r) n

/-- The kernel's values are the reference's. -/
theorem outV_eq (p : FVec Ideal S2x8192x7680 .f32) : outV p = vArr p := by
  funext i
  rw [split i]
  generalize i 0 = r
  generalize i 1 = n
  pointwise [outV]
  exact (heads_at p 4096 (by omega) _ (seqAt r) (posAt r) (hd n) (col n)).trans (congrArg (fun k => p (ix3 (seqAt r) (posAt r) k)) (Fin.ext (by
    show 4096 + (128 * (n.val / 128) + n.val % 128) = 4096 + n.val
    omega)))

end Cert.Reference5Ideal.Value
end
-- ==== Proof.Gating.lean ====
/- The spatial gate of the prompts: what one grid point of the kernel writes, and the array it leaves. -/
module

public import Idealize.ShloMosaic.Lib.Pointwise
public import Idealize.ShloMosaic.Lib.WordCmp
public import Idealize.ShloMosaic.Lib.Pipeline.ValueKit
public import Idealize.ShloMosaic.Lib.Claim
public import proofs.«01_k».proof.Proof.HeadMath
public import proofs.«01_k».proof.Proof.Gen.Kernel6Ideal.Value

@[expose] public section

set_option maxRecDepth 16384

noncomputable section

namespace Cert.Kernel6Ideal.Gating

open Cert.Kernel6Ideal Cert.Kernel6Ideal.Gen Idealize.ShloMosaic Idealize.ShloMosaic.TcCoe Idealize.SL.Sem Cert.Heads

/-- One entry of the normalized rows. -/
theorem norm_at (v : Vec Ideal S1x128x512 .f32) (g : Vec Ideal S1x512 .f32) (s : Fin 128) (n : Fin 512) :
    k0_pay2 v g (ix2 s n) = rowNorm (fun e => v (ix3 0 s e)) (g (ix2 0 n)) n := by
  pointwise [k0_pay2]
  rfl

/-- The gate of the first group of columns. -/
theorem gate_0 (v : Vec Ideal S1x128x512 .f32) (g : Vec Ideal S1x512 .f32) (w : Vec Ideal S1x128x128 .bf16) (b u : Vec Ideal S1x128x128 .f32) (r d : Fin 128) :
    k0_pay3 v g w b u (ix3 0 r d) = (u (ix3 0 r d) : EReal) * ((∑ s : Fin 128, (w (ix3 0 r s) : EReal) * k0_pay2 v g (ix2 s ⟨128 * 0 + d.val, by omega⟩)) + b (ix3 0 r d)) := by
  pointwise [k0_pay3]

/-- The gate of the second group of columns. -/
theorem gate_1 (vb : FVec Ideal S128x512 .bf16) (w : Vec Ideal S1x128x128 .bf16) (b u : Vec Ideal S1x128x128 .f32) (r d : Fin 128) :
    k0_pay5 vb (k0_pay4 w) b u (ix3 0 r d) = (u (ix3 0 r d) : EReal) * ((∑ s : Fin 128, (w (ix3 0 r s) : EReal) * vb (ix2 s ⟨128 * 1 + d.val, by omega⟩)) + b (ix3 0 r d)) := by
  pointwise [k0_pay5, k0_pay4]

/-- The gate of the third group of columns. -/
theorem gate_2 (vb : FVec Ideal S128x512 .bf16) (w : Vec Ideal S1x128x128 .bf16) (b u : Vec Ideal S1x128x128 .f32) (r d : Fin 128) :
    k0_pay6 vb w b u (ix3 0 r d) = (u (ix3 0 r d) : EReal) * ((∑ s : Fin 128, (w (ix3 0 r s) : EReal) * vb (ix2 s ⟨128 * 2 + d.val, by omega⟩)) + b (ix3 0 r d)) := by
  pointwise [k0_pay6]

/-- The gate of the last group of columns. -/
theorem gate_3 (vb : FVec Ideal S128x512 .bf16) (w : Vec Ideal S1x128x128 .bf16) (b u : Vec Ideal S1x128x128 .f32) (r d : Fin 128) :
    k0_pay1 (k0_pay7 vb w) b u (ix3 0 r d) = (u (ix3 0 r d) : EReal) * ((∑ s : Fin 128, (w (ix3 0 r s) : EReal) * vb (ix2 s ⟨128 * 3 + d.val, by omega⟩)) + b (ix3 0 r d)) := by
  pointwise [k0_pay1, k0_pay7]

/-- A block of gated rows; the bias is the first column of its table. -/
def gateBlk (x0 x1 : Vec Ideal S1x128x512 .f32) (x2 : Vec Ideal S1x512 .f32) (x3 : Vec Ideal S4x128x128 .bf16) (x4 : Vec Ideal S4x128x128 .f32) : Vec Ideal S1x128x512 .bf16 := fun i : S1x128x512.Idx =>
  (x0 (ix3 0 (i 1) (i 2)) : EReal) * ((∑ s : Fin 128, (x3 (ix3 (⟨(i 2).val / 128, by have : (i 2).val < 512 := (i 2).isLt; omega⟩ : Fin 4) (i 1) s) : EReal) * rowNorm (fun e => x1 (ix3 0 s e)) (x2 (ix2 0 (i 2))) (i 2))
    + x4 (ix3 (⟨(i 2).val / 128, by have : (i 2).val < 512 := (i 2).isLt; omega⟩ : Fin 4) (i 1) (⟨(i 2).val % 128, by omega⟩ : Fin 128)))

/-- A group's part of the block of gated rows. -/
theorem gate_head (x0 x1 : Vec Ideal S1x128x512 .f32) (x2 : Vec Ideal S1x512 .f32) (x3 : Vec Ideal S4x128x128 .bf16) (x4 : Vec Ideal S4x128x128 .f32) (h : ℕ) (hh : h < 4)
    (u b : Vec Ideal S1x128x128 .f32) (w : Vec Ideal S1x128x128 .bf16) (v : Vec Ideal S1x128x512 .f32) (g : Vec Ideal S1x512 .f32)
    (hu : ∀ r d : Fin 128, u (ix3 0 r d) = x0 (ix3 0 r ⟨128 * h + d.val, by omega⟩)) (hb : ∀ r d : Fin 128, b (ix3 0 r d) = x4 (ix3 ⟨h, hh⟩ r d))
    (hw : ∀ r d : Fin 128, w (ix3 0 r d) = x3 (ix3 ⟨h, hh⟩ r d)) (hv : v = x1) (hg : g = x2) (r d : Fin 128) :
    (u (ix3 0 r d) : EReal) * ((∑ s : Fin 128, (w (ix3 0 r s) : EReal) * k0_pay2 v g (ix2 s ⟨128 * h + d.val, by omega⟩)) + b (ix3 0 r d))
      = gateBlk x0 x1 x2 x3 x4 (ix3 0 r ⟨128 * h + d.val, by omega⟩) := by
  subst hv hg
  have h1 : (128 * h + d.val) / 128 = h := by omega
  have h2 : (⟨(128 * h + d.val) % 128, by omega⟩ : Fin 128) = d := Fin.ext (by show (128 * h + d.val) % 128 = d.val; omega)
  rw [hu, hb]
  simp only [hw, norm_at]
  show _ = (_ : EReal) * ((∑ s : Fin 128, x3 (ix3 (⟨(128 * h + d.val) / 128, _⟩ : Fin 4) r s) * _) + x4 (ix3 (⟨(128 * h + d.val) / 128, _⟩ : Fin 4) r (⟨(128 * h + d.val) % 128, _⟩ : Fin 128)))
  rw [h2]
  simp only [h1]
  rfl

theorem split_idx (i : S1x128x128.Idx) : i = ix3 0 (i 1) (i 2) := by
  refine funext fun a => ?_
  fin_cases a
  · exact Subsingleton.elim (α := Fin 1) _ _
  · rfl
  · rfl

theorem emb_3 (x : S1x128x128.Idx) : r0_3.emb x = ix3 0 (x 1) ⟨128 * 0 + (x 2).val, by have : (x 2).val < 128 := (x 2).isLt; omega⟩ := by
  blk_ext []
theorem emb_5 (x : S1x128x128.Idx) : r0_5.emb x = ix3 0 (x 1) ⟨128 * 1 + (x 2).val, by have : (x 2).val < 128 := (x 2).isLt; omega⟩ := by
  blk_ext []
theorem emb_7 (x : S1x128x128.Idx) : r0_7.emb x = ix3 0 (x 1) ⟨128 * 2 + (x 2).val, by have : (x 2).val < 128 := (x 2).isLt; omega⟩ := by
  blk_ext []
theorem emb_9 (x : S1x128x128.Idx) : r0_9.emb x = ix3 0 (x 1) ⟨128 * 3 + (x 2).val, by have : (x 2).val < 128 := (x 2).isLt; omega⟩ := by
  blk_ext []
theorem emb_2 (x : S1x128x128.Idx) : r0_2.emb x = ix3 (⟨0, by omega⟩ : Fin 4) (x 1) (x 2) := by
  blk_ext []
theorem emb_4 (x : S1x128x128.Idx) : r0_4.emb x = ix3 (⟨1, by omega⟩ : Fin 4) (x 1) (x 2) := by
  blk_ext []
theorem emb_6 (x : S1x128x128.Idx) : r0_6.emb x = ix3 (⟨2, by omega⟩ : Fin 4) (x 1) (x 2) := by
  blk_ext []
theorem emb_8 (x : S1x128x128.Idx) : r0_8.emb x = ix3 (⟨3, by omega⟩ : Fin 4) (x 1) (x 2) := by
  blk_ext []
theorem emb_0 (x : S1x128x512.Idx) : r0_0.emb x = x := by
  blk_ext []
theorem emb_1 (x : S1x512.Idx) : r0_1.emb x = x := by
  blk_ext []

/-- What one grid point writes. -/
theorem out_gate (x0 x1 : Vec Ideal S1x128x512 .f32) (x2 : Vec Ideal S1x512 .f32) (x3 : Vec Ideal S4x128x128 .bf16) (x4 : Vec Ideal S4x128x128 .f32) (y : S1x128x512.Idx) :
    out0_5 x0 x1 x2 x3 x4 y = gateBlk x0 x1 x2 x3 x4 y := by
  have hv : View.ld x1 r0_0 = x1 := funext fun i => congrArg x1 (emb_0 i)
  have hg : View.ld x2 r0_1 = x2 := funext fun i => congrArg x2 (emb_1 i)
  refine View.canon_apply_of_pieces (gateBlk x0 x1 x2 x3 x4) _ ?_ y (cover0_5 _ _ _ _ y)
  intro pc hpc
  rcases List.mem_cons.mp hpc with rfl | hpc
  · exact fun i => (congrArg _ (split_idx i)).trans ((gate_3 _ (View.ld x3 r0_8) (View.ld x4 r0_8) (View.ld x0 r0_9) (i 1) (i 2)).trans ((gate_head x0 x1 x2 x3 x4 3 (by omega) (View.ld x0 r0_9) (View.ld x4 r0_8) (View.ld x3 r0_8) _ _
      (fun r d => congrArg x0 (emb_9 _)) (fun r d => congrArg x4 (emb_8 _)) (fun r d => congrArg x3 (emb_8 _)) hv hg (i 1) (i 2)).trans (congrArg _ (emb_9 i).symm)))
  rcases List.mem_cons.mp hpc with rfl | hpc
  · exact fun i => (congrArg _ (split_idx i)).trans ((gate_2 _ (View.ld x3 r0_6) (View.ld x4 r0_6) (View.ld x0 r0_7) (i 1) (i 2)).trans ((gate_head x0 x1 x2 x3 x4 2 (by omega) (View.ld x0 r0_7) (View.ld x4 r0_6) (View.ld x3 r0_6) _ _
      (fun r d => congrArg x0 (emb_7 _)) (fun r d => congrArg x4 (emb_6 _)) (fun r d => congrArg x3 (emb_6 _)) hv hg (i 1) (i 2)).trans (congrArg _ (emb_7 i).symm)))
  rcases List.mem_cons.mp hpc with rfl | hpc
  · exact fun i => (congrArg _ (split_idx i)).trans ((gate_1 _ (View.ld x3 r0_4) (View.ld x4 r0_4) (View.ld x0 r0_5) (i 1) (i 2)).trans ((gate_head x0 x1 x2 x3 x4 1 (by omega) (View.ld x0 r0_5) (View.ld x4 r0_4) (View.ld x3 r0_4) _ _
      (fun r d => congrArg x0 (emb_5 _)) (fun r d => congrArg x4 (emb_4 _)) (fun r d => congrArg x3 (emb_4 _)) hv hg (i 1) (i 2)).trans (congrArg _ (emb_5 i).symm)))
  rcases List.mem_cons.mp hpc with rfl | hpc
  · exact fun i => (congrArg _ (split_idx i)).trans ((gate_0 _ _ (View.ld x3 r0_2) (View.ld x4 r0_2) (View.ld x0 r0_3) (i 1) (i 2)).trans ((gate_head x0 x1 x2 x3 x4 0 (by omega) (View.ld x0 r0_3) (View.ld x4 r0_2) (View.ld x3 r0_2) _ _
      (fun r d => congrArg x0 (emb_3 _)) (fun r d => congrArg x4 (emb_2 _)) (fun r d => congrArg x3 (emb_2 _)) hv hg (i 1) (i 2)).trans (congrArg _ (emb_3 i).symm)))
  nomatch hpc

variable (m : (ℓ : Loc nD τ sig) → Buf (Elt Ideal) ℓ)

theorem idx : ∀ t : Fin cfg0.N, win0_0.index t = ![t.val / 64, t.val % 64, 10] ∧ win0_1.index t = ![t.val / 64, t.val % 64, 11] ∧ win0_2.index t = ![0, 0] ∧ win0_3.index t = ![0, 0, 0]
    ∧ win0_4.index t = ![0, 0, 0] ∧ win0_5.index t = ![t.val / 64, t.val % 64, 0] :=
  (by decide +kernel : ∀ t : Fin grid0.N, _)

theorem lt128 (t : Fin cfg0.N) : t.val < 128 := lt_of_lt_of_eq t.isLt (show cfg0.N = 128 from N_0)

/-- The sequence of a grid point's block, and the position of one of its rows. -/
abbrev seqOf (t : Fin cfg0.N) : Fin 2 := ⟨t.val / 64, Nat.div_lt_of_lt_mul (lt128 t)⟩
abbrev posOf (t : Fin cfg0.N) (r : Fin 128) : Fin 8192 := ⟨128 * (t.val % 64) + r.val, by have := Nat.mod_lt t.val (y := 64) (by norm_num); omega⟩

/-- The first half of the rows a grid point reads. -/
theorem read_u (c : Dev nD) (t : Fin cfg0.N) (r : Fin 128) (n : Fin 512) :
    iblk m c 0 t (ix3 0 r n) = m ((c : Thread nD τ).loc main_arg0) (ix3 (seqOf t) (posOf t r) ⟨2048 + n.val, by omega⟩) := by
  have ht := lt128 t
  have he : ((View.whole main_v2).slice (win0_0.rect t)).emb (ix3 0 r n) = ix3 (seqOf t) (posOf t r) ⟨5120 + n.val, by omega⟩ := by
    blk_ext [idx t]
  blk_simp [iblk]
  rw [he]
  simp only [V, hostOps0, hostOps0_1, hostOps0_2, hostOps0_3, hostOps0_4, List.flatten_cons, List.flatten_nil, List.append_nil, List.cons_append, List.nil_append]
  entry_read
  pointwise
  exact (dif_neg (by omega)).trans (congrArg (fun k => m ((c : Thread nD τ).loc main_arg0) (ix3 (seqOf t) (posOf t r) k)) (Fin.ext (by show 5120 + n.val - 3072 = 2048 + n.val; omega)))

/-- The second half of the rows a grid point reads. -/
theorem read_v (c : Dev nD) (t : Fin cfg0.N) (r : Fin 128) (n : Fin 512) :
    iblk m c 1 t (ix3 0 r n) = m ((c : Thread nD τ).loc main_arg0) (ix3 (seqOf t) (posOf t r) ⟨2560 + n.val, by omega⟩) := by
  have ht := lt128 t
  have he : ((View.whole main_v2).slice (win0_1.rect t)).emb (ix3 0 r n) = ix3 (seqOf t) (posOf t r) ⟨5632 + n.val, by omega⟩ := by
    blk_ext [idx t]
  blk_simp [iblk]
  rw [he]
  simp only [V, hostOps0, hostOps0_1, hostOps0_2, hostOps0_3, hostOps0_4, List.flatten_cons, List.flatten_nil, List.append_nil, List.cons_append, List.nil_append]
  entry_read
  pointwise
  exact (dif_neg (by omega)).trans (congrArg (fun k => m ((c : Thread nD τ).loc main_arg0) (ix3 (seqOf t) (posOf t r) k)) (Fin.ext (by show 5632 + n.val - 3072 = 2560 + n.val; omega)))

/-- The gain a grid point reads. -/
theorem read_g (c : Dev nD) (t : Fin cfg0.N) (n : Fin 512) : iblk m c 2 t (ix2 0 n) = m ((c : Thread nD τ).loc main_arg1) (ix1 n) := by
  have he : ((View.whole main_v10).slice (win0_2.rect t)).emb (ix2 0 n) = ix2 0 n := by
    blk_ext [idx t]
  blk_simp [iblk]
  rw [he]
  simp only [V, hostOps0, hostOps0_1, hostOps0_2, hostOps0_3, hostOps0_4, List.flatten_cons, List.flatten_nil, List.append_nil, List.cons_append, List.nil_append]
  entry_read
  pointwise

/-- The bias a grid point reads. -/
theorem read_b (c : Dev nD) (t : Fin cfg0.N) (h : Fin 4) (r d : Fin 128) : iblk m c 4 t (ix3 h r d) = m ((c : Thread nD τ).loc main_arg3) (ix2 h r) := by
  have he : ((View.whole main_v9).slice (win0_4.rect t)).emb (ix3 h r d) = ix3 h r d := by
    blk_ext [idx t]
  blk_simp [iblk]
  rw [he]
  simp only [V, hostOps0, hostOps0_1, hostOps0_2, hostOps0_3, hostOps0_4, List.flatten_cons, List.flatten_nil, List.append_nil, List.cons_append, List.nil_append]
  entry_read
  pointwise

/-- The mixing weights with the entries above the diagonal replaced by zero. -/
def lowerW (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2
      (select (cmpi CmpIPredicate.sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1)))))
    w (broadcastInDim S4x128x128 ![] bcast_S_S4x128x128 (constant S_ FTy.f32 0#32))

/-- The mixing weights a grid point reads. -/
theorem read_w (c : Dev nD) (t : Fin cfg0.N) (h : Fin 4) (r s : Fin 128) : iblk m c 3 t (ix3 h r s) = lowerW (m ((c : Thread nD τ).loc main_arg2)) (ix3 h r s) := by
  have he : ((View.whole main_v7).slice (win0_3.rect t)).emb (ix3 h r s) = ix3 h r s := by
    blk_ext [idx t]
  blk_simp [iblk]
  rw [he]
  simp only [V, hostOps0, hostOps0_1, hostOps0_2, hostOps0_3, hostOps0_4, List.flatten_cons, List.flatten_nil, List.append_nil, List.cons_append, List.nil_append]
  entry_read
  pointwise
  rfl

/-- The head of a column, the position of a row in its block of 128, and the rows of its block. -/
abbrev headOf (n : Fin 512) : Fin 4 := ⟨n.val / 128, Nat.div_lt_of_lt_mul n.isLt⟩
abbrev inBlk (s : Fin 8192) : Fin 128 := ⟨s.val % 128, Nat.mod_lt _ (by norm_num)⟩
abbrev blkRow (s : Fin 8192) (e : Fin 128) : Fin 8192 := ⟨128 * (s.val / 128) + e.val, by omega⟩

/-- One entry of the second half of a row, normed. -/
abbrev vnOf (p : FVec Ideal S2x8192x7680 .f32) (g : FVec Ideal S512 .f32) (b : Fin 2) (s : Fin 8192) (n : Fin 512) : EReal :=
  rowNorm (fun k => p (ix3 b s ⟨2560 + k.val, by omega⟩)) (g (ix1 n)) n

/-- One entry of a gated row: the entry of the first half times what its head's weights make of the normed second halves of the row's block of 128, plus the bias. -/
def gateAt (p : FVec Ideal S2x8192x7680 .f32) (g : FVec Ideal S512 .f32) (w : FVec Ideal S4x128x128 .f32) (b : FVec Ideal S4x128 .f32) (i : Fin 2) (s : Fin 8192) (n : Fin 512) : EReal :=
  (p (ix3 i s ⟨2048 + n.val, by omega⟩) : EReal) *
    ((∑ e : Fin 128, (lowerW w (ix3 (headOf n) (inBlk s) e) : EReal) * vnOf p g i (blkRow s e) n) + b (ix2 (headOf n) (inBlk s)))

/-- The gated rows. -/
def gateArr (p : FVec Ideal S2x8192x7680 .f32) (g : FVec Ideal S512 .f32) (w : FVec Ideal S4x128x128 .f32) (b : FVec Ideal S4x128 .f32) : FVec Ideal S2x8192x512 .bf16 :=
  fun i : S2x8192x512.Idx => gateAt p g w b (i 0) (i 1) (i 2)

theorem inBlk_posOf (t : Fin cfg0.N) (r : Fin 128) : inBlk (posOf t r) = r :=
  Fin.ext (by show (128 * (t.val % 64) + r.val) % 128 = r.val; omega)

theorem blkRow_posOf (t : Fin cfg0.N) (r e : Fin 128) : blkRow (posOf t r) e = posOf t e :=
  Fin.ext (by show 128 * ((128 * (t.val % 64) + r.val) / 128) + e.val = 128 * (t.val % 64) + e.val; omega)

/-- What one grid point writes, in terms of the arrays. -/
theorem block (c : Dev nD) (t : Fin cfg0.N) (r : Fin 128) (n : Fin 512) :
    out0_5 (iblk m c 0 t) (iblk m c 1 t) (iblk m c 2 t) (iblk m c 3 t) (iblk m c 4 t) (ix3 0 r n)
      = gateAt (m ((c : Thread nD τ).loc main_arg0)) (m ((c : Thread nD τ).loc main_arg1)) (m ((c : Thread nD τ).loc main_arg2)) (m ((c : Thread nD τ).loc main_arg3)) (seqOf t) (posOf t r) n := by
  refine (out_gate _ _ _ _ _ _).trans ?_
  unfold gateAt
  rw [inBlk_posOf]
  simp only [blkRow_posOf]
  refine congrArg₂ (· * ·) (read_u m c t r n) (congrArg₂ (· + ·) (Finset.sum_congr rfl fun s _ => congrArg₂ (· * ·) (read_w m c t (headOf n) r s) ?_) (read_b m c t _ r _))
  exact congrArg₂ (fun f k => rowNorm f k n) (funext fun e => read_v m c t s e) (read_g m c t n)

/-- What the array holds after the last grid point. -/
theorem final (c : Dev nD) : (dats m 0 c).arrAt 5 cfg0.N = gateArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hy : y = ix3 0 (y 1) (y 2) := by
    refine funext fun a => ?_
    fin_cases a
    · exact Subsingleton.elim (α := Fin 1) _ _
    · rfl
    · rfl
  rw [hy]
  have ht := lt128 t
  refine (block m c t (y 1) (y 2)).trans ?_
  have he : ((View.whole main_v11).slice (win0_5.rect t)).emb (ix3 0 (y 1) (y 2)) = ix3 (seqOf t) (posOf t (y 1)) (y 2) := by
    blk_ext [idx t]
  exact (congrArg (gateArr _ _ _ _) he).symm

end Cert.Kernel6Ideal.Gating
end
-- ==== Proof.GatingRef.lean ====
/- What the reference's spatial gate of the prompts computes, one entry at a time, and that the kernel's array is the same. -/
module

public import proofs.«01_k».proof.Proof.Gating
public import proofs.«01_k».proof.Proof.Gen.Reference6Ideal.Run

@[expose] public section

set_option maxRecDepth 16384
noncomputable section
namespace Cert.Reference6Ideal.Value
open Cert.Reference6Ideal Cert.Reference6Ideal.Gen Idealize.ShloMosaic Idealize.ShloMosaic.TcCoe Idealize.SL.Sem Idealize.ShloMosaic.StableHlo

/-- The second half of the gate's rows. -/
def vOf (p : FVec Ideal S2x8192x7680 .f32) : FVec Ideal S2x8192x512 .f32 :=
  extractStridedSlice S2x8192x512 ![0, 0, 2560] p slices_S2x8192x7680_S2x8192x512_0_0_2560

/-- Those rows over their root mean square, times the gain. -/
def normed (v : FVec Ideal S2x8192x512 .f32) (g : FVec Ideal S512 .f32) : FVec Ideal S2x8192x512 .f32 :=
  mulf (mulf v (broadcastInDim S2x8192x512 ![0, 1, 2] bcast_S2x8192x1_S2x8192x512_0_1_2 (Host.rsqrt (addf (Host.divf
      (broadcastInDim S2x8192x1 ![0, 1] bcast_S2x8192_S2x8192x1_0_1 (Host.reduceAdd (mulf v v) (constant S_ .f32 0x00000000#32) reducesTo_S2x8192x512_S2x8192_d2 h_S_))
      (broadcastInDim S2x8192x1 ![] bcast_S_S2x8192x1 (constant S_ .f32 0x44000000#32))) (broadcastInDim S2x8192x1 ![] bcast_S_S2x8192x1 (constant S_ .f32 0x358637BD#32))))))
    (broadcastInDim S2x8192x512 ![0, 1, 2] bcast_S1x1x512_S2x8192x512_0_1_2 (broadcastInDim S1x1x512 ![2] bcast_S512_S1x1x512_2 g))

/-- The mixing weights with the entries above the diagonal replaced by zero. -/
def lower (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2
      (select (cmpi .sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1)))))
    w (broadcastInDim S4x128x128 ![] bcast_S_S4x128x128 (id (constant S_ .f32 0x00000000#32)))

/-- What the weights make of the normed rows of each block of 128. -/
def mixed (n : FVec Ideal S2x8192x512 .f32) (w : FVec Ideal S4x128x128 .f32) : FVec Ideal S4x2x64x128x128 .f32 :=
  Host.dotGeneral dot_S2x64x128x4x128_S4x128x128_S4x2x64x128x128_2_2_014_1_3_0 none (shapeCast S2x64x128x4x128 n shapeCasts_S2x8192x512_S2x64x128x4x128) w

/-- The gate of the mixed rows and the bias. -/
def gated (p : FVec Ideal S2x8192x7680 .f32) (x : FVec Ideal S4x2x64x128x128 .f32) (b : FVec Ideal S4x128 .f32) : FVec Ideal S2x8192x512 .bf16 :=
  truncf .bf16 (mulf (extractStridedSlice S2x8192x512 ![0, 0, 2048] p slices_S2x8192x7680_S2x8192x512_0_0_2048)
    (shapeCast S2x8192x512 (addf (transpose S2x64x128x4x128 [1, 2, 4, 0, 3] x transposes_S4x2x64x128x128_S2x64x128x4x128_1_2_4_0_3)
      (broadcastInDim S2x64x128x4x128 ![0, 1, 2, 3, 4] bcast_S1x1x128x4x1_S2x64x128x4x128_0_1_2_3_4 (broadcastInDim S1x1x128x4x1 ![2, 3] bcast_S128x4_S1x1x128x4x1_2_3
        (transpose S128x4 [1, 0] b transposes_S4x128_S128x4_1_0)))) shapeCasts_S2x64x128x4x128_S2x8192x512)) bitsLt_bf16_f32

/-- One entry of the normed rows. -/
theorem normed_at (p : FVec Ideal S2x8192x7680 .f32) (g : FVec Ideal S512 .f32) (b : Fin 2) (s : Fin 8192) (n : Fin 512) :
    normed (vOf p) g (ix3 b s n) = Cert.Kernel6Ideal.Gating.vnOf p g b s n := by
  pointwise [normed, vOf]
  rfl

theorem mixed_at (v : FVec Ideal S2x8192x512 .f32) (w : FVec Ideal S4x128x128 .f32) (h : Fin 4) (b : Fin 2) (k : Fin 64) (d r : Fin 128) :
    mixed v w (ix5 h b k d r) = ∑ e : Fin 128, (v (ix3 b ⟨128 * k.val + e.val, by omega⟩ ⟨128 * h.val + d.val, by omega⟩) : EReal) * w (ix3 h r e) := by
  pointwise [mixed]
  simp only [Nat.mul_comm 128]

theorem gated_at (p : FVec Ideal S2x8192x7680 .f32) (x : FVec Ideal S4x2x64x128x128 .f32) (c : FVec Ideal S4x128 .f32) (b : Fin 2) (s : Fin 8192) (n : Fin 512) :
    gated p x c (ix3 b s n) = (p (ix3 b s ⟨2048 + n.val, by omega⟩) : EReal) * (x (ix5 (Cert.Kernel6Ideal.Gating.headOf n) b ⟨s.val / 128, by omega⟩ ⟨n.val % 128, by omega⟩ (Cert.Kernel6Ideal.Gating.inBlk s))
      + c (ix2 (Cert.Kernel6Ideal.Gating.headOf n) (Cert.Kernel6Ideal.Gating.inBlk s))) := by
  pointwise [gated]

/-- The reference's array is the kernel's. -/
theorem out_eq (p : FVec Ideal S2x8192x7680 .f32) (g : FVec Ideal S512 .f32) (w : FVec Ideal S4x128x128 .f32) (b : FVec Ideal S4x128 .f32) :
    gated p (mixed (normed (vOf p) g) (lower w)) b = Cert.Kernel6Ideal.Gating.gateArr p g w b := by
  funext i
  have hi : i = ix3 (i 0) (i 1) (i 2) := by
    refine funext fun a => ?_
    fin_cases a <;> rfl
  rw [hi]
  refine (gated_at p _ b (i 0) (i 1) (i 2)).trans (congrArg₂ (· * ·) rfl (congrArg₂ (· + ·) ?_ rfl))
  refine (mixed_at _ _ _ _ _ _ _).trans (Finset.sum_congr rfl fun e _ => (mul_comm _ _).trans (congrArg₂ (· * ·) rfl ?_))
  refine (normed_at p g _ _ _).trans (congrArg (Cert.Kernel6Ideal.Gating.vnOf p g (i 0) _) (Fin.ext ?_))
  show 128 * ((i 2).val / 128) + (i 2).val % 128 = (i 2).val
  omega

end Cert.Reference6Ideal.Value
end
-- ==== Proof.GatingS.lean ====
/- The spatial gate of the samples: what one grid point of the kernel writes, and the array it leaves. -/
module

public import Idealize.ShloMosaic.Lib.Pointwise
public import Idealize.ShloMosaic.Lib.WordCmp
public import Idealize.ShloMosaic.Lib.Pipeline.ValueKit
public import Idealize.ShloMosaic.Lib.Claim
public import proofs.«01_k».proof.Proof.HeadMath
public import proofs.«01_k».proof.Proof.Gen.Kernel7Ideal.Value

@[expose] public section

set_option maxRecDepth 16384

noncomputable section

namespace Cert.Kernel7Ideal.Gating

open Cert.Kernel7Ideal Cert.Kernel7Ideal.Gen Idealize.ShloMosaic Idealize.ShloMosaic.TcCoe Idealize.SL.Sem Cert.Heads

/-- One entry of the normalized rows. -/
theorem norm_at (v : Vec Ideal S1x128x512 .f32) (g : Vec Ideal S1x512 .f32) (s : Fin 128) (n : Fin 512) :
    k0_pay4 v g (ix2 s n) = rowNorm (fun e => v (ix3 0 s e)) (g (ix2 0 n)) n := by
  pointwise [k0_pay4, k0_pay2]
  rfl

/-- One entry of the normalized rows as the kernel returns them. -/
theorem vn_at (v : Vec Ideal S1x128x512 .f32) (g : Vec Ideal S1x512 .f32) (s : Fin 128) (n : Fin 512) :
    k0_pay3 v g (ix3 0 s n) = rowNorm (fun e => v (ix3 0 s e)) (g (ix2 0 n)) n := by
  pointwise [k0_pay3, k0_pay2]
  rfl

/-- The gate of the first group of columns. -/
theorem gate_0 (v : Vec Ideal S1x128x512 .f32) (g : Vec Ideal S1x512 .f32) (w : Vec Ideal S1x128x128 .bf16) (b u : Vec Ideal S1x128x128 .f32) (r d : Fin 128) :
    k0_pay6 (k0_pay5 v g w b u) (ix3 0 r d) = (u (ix3 0 r d) : EReal) * ((∑ s : Fin 128, (w (ix3 0 r s) : EReal) * k0_pay4 v g (ix2 s ⟨128 * 0 + d.val, by omega⟩)) + b (ix3 0 r d)) := by
  pointwise [k0_pay6, k0_pay5]

/-- The gate of the second group of columns. -/
theorem gate_1 (vb : FVec Ideal S128x512 .bf16) (w : Vec Ideal S1x128x128 .bf16) (b u : Vec Ideal S1x128x128 .f32) (r d : Fin 128) :
    k0_pay7 vb w b u (ix3 0 r d) = (u (ix3 0 r d) : EReal) * ((∑ s : Fin 128, (w (ix3 0 r s) : EReal) * vb (ix2 s ⟨128 * 1 + d.val, by omega⟩)) + b (ix3 0 r d)) := by
  pointwise [k0_pay7]

/-- The gate of the third group of columns. -/
theorem gate_2 (vb : FVec Ideal S128x512 .bf16) (w : Vec Ideal S1x128x128 .bf16) (b u : Vec Ideal S1x128x128 .f32) (r d : Fin 128) :
    k0_pay8 vb w b u (ix3 0 r d) = (u (ix3 0 r d) : EReal) * ((∑ s : Fin 128, (w (ix3 0 r s) : EReal) * vb (ix2 s ⟨128 * 2 + d.val, by omega⟩)) + b (ix3 0 r d)) := by
  pointwise [k0_pay8]

/-- The gate of the last group of columns. -/
theorem gate_3 (vb : FVec Ideal S128x512 .bf16) (w : Vec Ideal S1x128x128 .bf16) (b u : Vec Ideal S1x128x128 .f32) (r d : Fin 128) :
    k0_pay1 vb w b u (ix3 0 r d) = (u (ix3 0 r d) : EReal) * ((∑ s : Fin 128, (w (ix3 0 r s) : EReal) * vb (ix2 s ⟨128 * 3 + d.val, by omega⟩)) + b (ix3 0 r d)) := by
  pointwise [k0_pay1]

/-- A block of gated rows; the bias is the first column of its table. -/
def gateBlk (x0 x1 : Vec Ideal S1x128x512 .f32) (x2 : Vec Ideal S1x512 .f32) (x3 : Vec Ideal S4x128x128 .bf16) (x4 : Vec Ideal S4x128x128 .f32) : Vec Ideal S1x128x512 .bf16 := fun i : S1x128x512.Idx =>
  (x0 (ix3 0 (i 1) (i 2)) : EReal) * ((∑ s : Fin 128, (x3 (ix3 (⟨(i 2).val / 128, by have : (i 2).val < 512 := (i 2).isLt; omega⟩ : Fin 4) (i 1) s) : EReal) * rowNorm (fun e => x1 (ix3 0 s e)) (x2 (ix2 0 (i 2))) (i 2))
    + x4 (ix3 (⟨(i 2).val / 128, by have : (i 2).val < 512 := (i 2).isLt; omega⟩ : Fin 4) (i 1) (⟨(i 2).val % 128, by omega⟩ : Fin 128)))

/-- A group's part of the block of gated rows. -/
theorem gate_head (x0 x1 : Vec Ideal S1x128x512 .f32) (x2 : Vec Ideal S1x512 .f32) (x3 : Vec Ideal S4x128x128 .bf16) (x4 : Vec Ideal S4x128x128 .f32) (h : ℕ) (hh : h < 4)
    (u b : Vec Ideal S1x128x128 .f32) (w : Vec Ideal S1x128x128 .bf16) (v : Vec Ideal S1x128x512 .f32) (g : Vec Ideal S1x512 .f32)
    (hu : ∀ r d : Fin 128, u (ix3 0 r d) = x0 (ix3 0 r ⟨128 * h + d.val, by omega⟩)) (hb : ∀ r d : Fin 128, b (ix3 0 r d) = x4 (ix3 ⟨h, hh⟩ r d))
    (hw : ∀ r d : Fin 128, w (ix3 0 r d) = x3 (ix3 ⟨h, hh⟩ r d)) (hv : v = x1) (hg : g = x2) (r d : Fin 128) :
    (u (ix3 0 r d) : EReal) * ((∑ s : Fin 128, (w (ix3 0 r s) : EReal) * k0_pay4 v g (ix2 s ⟨128 * h + d.val, by omega⟩)) + b (ix3 0 r d))
      = gateBlk x0 x1 x2 x3 x4 (ix3 0 r ⟨128 * h + d.val, by omega⟩) := by
  subst hv hg
  have h1 : (128 * h + d.val) / 128 = h := by omega
  have h2 : (⟨(128 * h + d.val) % 128, by omega⟩ : Fin 128) = d := Fin.ext (by show (128 * h + d.val) % 128 = d.val; omega)
  rw [hu, hb]
  simp only [hw, norm_at]
  show _ = (_ : EReal) * ((∑ s : Fin 128, x3 (ix3 (⟨(128 * h + d.val) / 128, _⟩ : Fin 4) r s) * _) + x4 (ix3 (⟨(128 * h + d.val) / 128, _⟩ : Fin 4) r (⟨(128 * h + d.val) % 128, _⟩ : Fin 128)))
  rw [h2]
  simp only [h1]
  rfl

theorem split_idx (i : S1x128x128.Idx) : i = ix3 0 (i 1) (i 2) := by
  refine funext fun a => ?_
  fin_cases a
  · exact Subsingleton.elim (α := Fin 1) _ _
  · rfl
  · rfl

theorem emb_3 (x : S1x128x128.Idx) : r0_3.emb x = ix3 0 (x 1) ⟨128 * 0 + (x 2).val, by have : (x 2).val < 128 := (x 2).isLt; omega⟩ := by
  blk_ext []
theorem emb_5 (x : S1x128x128.Idx) : r0_5.emb x = ix3 0 (x 1) ⟨128 * 1 + (x 2).val, by have : (x 2).val < 128 := (x 2).isLt; omega⟩ := by
  blk_ext []
theorem emb_7 (x : S1x128x128.Idx) : r0_7.emb x = ix3 0 (x 1) ⟨128 * 2 + (x 2).val, by have : (x 2).val < 128 := (x 2).isLt; omega⟩ := by
  blk_ext []
theorem emb_9 (x : S1x128x128.Idx) : r0_9.emb x = ix3 0 (x 1) ⟨128 * 3 + (x 2).val, by have : (x 2).val < 128 := (x 2).isLt; omega⟩ := by
  blk_ext []
theorem emb_2 (x : S1x128x128.Idx) : r0_2.emb x = ix3 (⟨0, by omega⟩ : Fin 4) (x 1) (x 2) := by
  blk_ext []
theorem emb_4 (x : S1x128x128.Idx) : r0_4.emb x = ix3 (⟨1, by omega⟩ : Fin 4) (x 1) (x 2) := by
  blk_ext []
theorem emb_6 (x : S1x128x128.Idx) : r0_6.emb x = ix3 (⟨2, by omega⟩ : Fin 4) (x 1) (x 2) := by
  blk_ext []
theorem emb_8 (x : S1x128x128.Idx) : r0_8.emb x = ix3 (⟨3, by omega⟩ : Fin 4) (x 1) (x 2) := by
  blk_ext []
theorem emb_0 (x : S1x128x512.Idx) : r0_0.emb x = x := by
  blk_ext []
theorem emb_1 (x : S1x512.Idx) : r0_1.emb x = x := by
  blk_ext []

/-- What one grid point writes. -/
theorem out_gate (x0 x1 : Vec Ideal S1x128x512 .f32) (x2 : Vec Ideal S1x512 .f32) (x3 : Vec Ideal S4x128x128 .bf16) (x4 : Vec Ideal S4x128x128 .f32) (y : S1x128x512.Idx) :
    out0_5 x0 x1 x2 x3 x4 y = gateBlk x0 x1 x2 x3 x4 y := by
  have hv : View.ld x1 r0_0 = x1 := funext fun i => congrArg x1 (emb_0 i)
  have hg : View.ld x2 r0_1 = x2 := funext fun i => congrArg x2 (emb_1 i)
  refine View.canon_apply_of_pieces (gateBlk x0 x1 x2 x3 x4) _ ?_ y (cover0_5 _ _ _ _ y)
  intro pc hpc
  rcases List.mem_cons.mp hpc with rfl | hpc
  · exact fun i => (congrArg _ (split_idx i)).trans ((gate_3 _ (View.ld x3 r0_8) (View.ld x4 r0_8) (View.ld x0 r0_9) (i 1) (i 2)).trans ((gate_head x0 x1 x2 x3 x4 3 (by omega) (View.ld x0 r0_9) (View.ld x4 r0_8) (View.ld x3 r0_8) _ _
      (fun r d => congrArg x0 (emb_9 _)) (fun r d => congrArg x4 (emb_8 _)) (fun r d => congrArg x3 (emb_8 _)) hv hg (i 1) (i 2)).trans (congrArg _ (emb_9 i).symm)))
  rcases List.mem_cons.mp hpc with rfl | hpc
  · exact fun i => (congrArg _ (split_idx i)).trans ((gate_2 _ (View.ld x3 r0_6) (View.ld x4 r0_6) (View.ld x0 r0_7) (i 1) (i 2)).trans ((gate_head x0 x1 x2 x3 x4 2 (by omega) (View.ld x0 r0_7) (View.ld x4 r0_6) (View.ld x3 r0_6) _ _
      (fun r d => congrArg x0 (emb_7 _)) (fun r d => congrArg x4 (emb_6 _)) (fun r d => congrArg x3 (emb_6 _)) hv hg (i 1) (i 2)).trans (congrArg _ (emb_7 i).symm)))
  rcases List.mem_cons.mp hpc with rfl | hpc
  · exact fun i => (congrArg _ (split_idx i)).trans ((gate_1 _ (View.ld x3 r0_4) (View.ld x4 r0_4) (View.ld x0 r0_5) (i 1) (i 2)).trans ((gate_head x0 x1 x2 x3 x4 1 (by omega) (View.ld x0 r0_5) (View.ld x4 r0_4) (View.ld x3 r0_4) _ _
      (fun r d => congrArg x0 (emb_5 _)) (fun r d => congrArg x4 (emb_4 _)) (fun r d => congrArg x3 (emb_4 _)) hv hg (i 1) (i 2)).trans (congrArg _ (emb_5 i).symm)))
  rcases List.mem_cons.mp hpc with rfl | hpc
  · exact fun i => (congrArg _ (split_idx i)).trans ((gate_0 _ _ (View.ld x3 r0_2) (View.ld x4 r0_2) (View.ld x0 r0_3) (i 1) (i 2)).trans ((gate_head x0 x1 x2 x3 x4 0 (by omega) (View.ld x0 r0_3) (View.ld x4 r0_2) (View.ld x3 r0_2) _ _
      (fun r d => congrArg x0 (emb_3 _)) (fun r d => congrArg x4 (emb_2 _)) (fun r d => congrArg x3 (emb_2 _)) hv hg (i 1) (i 2)).trans (congrArg _ (emb_3 i).symm)))
  nomatch hpc

/-- What the grid point leaves of the normalized rows. -/
theorem out_vn (x0 x1 : Vec Ideal S1x128x512 .f32) (x2 : Vec Ideal S1x512 .f32) (x3 : Vec Ideal S4x128x128 .bf16) (x4 : Vec Ideal S4x128x128 .f32) (r : Fin 128) (n : Fin 512) :
    out0_6 x0 x1 x2 x3 x4 (ix3 0 r n) = rowNorm (fun e => x1 (ix3 0 r e)) (x2 (ix2 0 n)) n := by
  have hv : View.ld x1 r0_0 = x1 := funext fun i => congrArg x1 (emb_0 i)
  have hg : View.ld x2 r0_1 = x2 := funext fun i => congrArg x2 (emb_1 i)
  refine (Cert.Kernel7Ideal.Value.canon6_eq _ _ _).trans (((Cert.Kernel7Ideal.Value.piece6_0 _ _ (ix3 0 r n)).trans (congrArg _ (emb_0 _))).symm.trans ?_)
  refine (vn_at _ _ r n).trans ?_
  rw [hv, hg]

/-- A sum of which only the terms of one sequence's four rows are left is the sum over those rows. -/
theorem collapse (q : ℕ) (hq : q < 32) (f : Fin 128 → EReal) :
    ∑ s : Fin 128, (if q = s.val / 4 then f s else 0) = ∑ e : Fin 4, f ⟨4 * q + e.val, by omega⟩ := by
  rw [← Finset.sum_filter]
  refine Finset.sum_bij' (fun s _ => (⟨s.val % 4, Nat.mod_lt _ (by norm_num)⟩ : Fin 4)) (fun e _ => (⟨4 * q + e.val, by omega⟩ : Fin 128)) (fun _ _ => Finset.mem_univ _) ?_ ?_ ?_ ?_
  · exact fun e _ => Finset.mem_filter.mpr ⟨Finset.mem_univ _, by show q = (4 * q + e.val) / 4; omega⟩
  · intro s hs
    have h := (Finset.mem_filter.mp hs).2
    exact Fin.ext (by show 4 * q + s.val % 4 = s.val; omega)
  · exact fun e _ => Fin.ext (by show (4 * q + e.val) % 4 = e.val; omega)
  · intro s hs
    have h := (Finset.mem_filter.mp hs).2
    exact congrArg f (Fin.ext (by show s.val = 4 * q + s.val % 4; omega))

/-- The mixing weights with the entries above the diagonal replaced by zero. -/
def lowerW (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2
      (select (cmpi CmpIPredicate.sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1)))))
    w (broadcastInDim S4x128x128 ![] bcast_S_S4x128x128 (constant S_ FTy.f32 0#32))

/-- The table of weights for the rows of all sequences at once: the weights of one sequence's rows among themselves, and zero between rows of different sequences. -/
def tableW (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2
      (shapeCast S128x128 (broadcastInDim S32x4x32x4 ![0, 1, 2, 3] bcast_S32x1x32x1_S32x4x32x4_0_1_2_3 (broadcastInDim S32x1x32x1 ![0, 2] bcast_S32x32_S32x1x32x1_0_2
        (cmpi .eq (broadcastInDim S32x32 ![0, 1] bcast_S32x1_S32x32_0_1 (broadcastInDim S32x1 ![0] bcast_S32_S32x1_0 (iotaInDim S32 32 0)))
          (broadcastInDim S32x32 ![0, 1] bcast_S1x32_S32x32_0_1 (broadcastInDim S1x32 ![1] bcast_S32_S1x32_1 (iotaInDim S32 32 0)))))) shapeCasts_S32x4x32x4_S128x128)))
    (shapeCast S4x128x128 (broadcastInDim S1x4x32x4x32x4 ![0, 1, 2, 3, 4, 5] bcast_S1x4x1x4x1x4_S1x4x32x4x32x4_0_1_2_3_4_5
      (shapeCast S1x4x1x4x1x4 (extractStridedSlice S4x4x4 ![0, 0, 0] (lowerW w) slices_S4x128x128_S4x4x4_0_0_0) shapeCasts_S4x4x4_S1x4x1x4x1x4)) shapeCasts_S1x4x32x4x32x4_S4x128x128)
    (broadcastInDim S4x128x128 ![] bcast_S_S4x128x128 (constant S_ FTy.f32 0#32))

/-- The bias of one sequence's rows, repeated for every sequence. -/
def tableB (b : FVec Ideal S4x128 .f32) : FVec Ideal S4x128 .f32 :=
  shapeCast S4x128 (broadcastInDim S1x4x32x4 ![0, 1, 2, 3] bcast_S1x4x1x4_S1x4x32x4_0_1_2_3
    (shapeCast S1x4x1x4 (extractStridedSlice S4x4 ![0, 0] b slices_S4x128_S4x4_0_0) shapeCasts_S4x4_S1x4x1x4)) shapeCasts_S1x4x32x4_S4x128

/-- One entry of the table of weights. -/
theorem tableW_at (w : FVec Ideal S4x128x128 .f32) (h : Fin 4) (r s : Fin 128) :
    (tableW w (ix3 h r s) : EReal) = if r.val / 4 = s.val / 4 then (lowerW w (ix3 h ⟨r.val % 4, by omega⟩ ⟨s.val % 4, by omega⟩) : EReal) else 0 := by
  pointwise [tableW]
  have hr : r.val / 4 < 2 ^ 32 := by omega
  have hs : s.val / 4 < 2 ^ 32 := by omega
  rw [WordCmp.cmpi_eq_eq]
  simp only [WordCmp.ofNat_eq_ofNat_iff hr hs]
  by_cases h : r.val / 4 = s.val / 4
  · rw [if_pos h, decide_eq_true h]
    rfl
  · rw [if_neg h, decide_eq_false h]
    rfl

/-- One entry of the repeated bias. -/
theorem tableB_at (b : FVec Ideal S4x128 .f32) (h : Fin 4) (r : Fin 128) : tableB b (ix2 h r) = b (ix2 h ⟨r.val % 4, by omega⟩) := by
  pointwise [tableB]

end Cert.Kernel7Ideal.Gating
end
-- ==== Proof.GatingSRead.lean ====
/- The spatial gate of the samples: what the grid point reads of the arrays. -/
module

public import Idealize.ShloMosaic.Lib.Pointwise
public import Idealize.ShloMosaic.Lib.WordCmp
public import Idealize.ShloMosaic.Lib.Pipeline.ValueKit
public import Idealize.ShloMosaic.Lib.Claim
public import proofs.«01_k».proof.Proof.GatingS
public import proofs.«01_k».proof.Proof.Gen.Kernel7Ideal.Value

@[expose] public section

set_option maxRecDepth 16384

noncomputable section

namespace Cert.Kernel7Ideal.Gating

open Cert.Kernel7Ideal Cert.Kernel7Ideal.Gen Idealize.ShloMosaic Idealize.ShloMosaic.TcCoe Idealize.SL.Sem Cert.Heads

variable (m : (ℓ : Loc nD τ sig) → Buf (Elt Ideal) ℓ)

theorem idx : ∀ t : Fin cfg0.N, win0_0.index t = ![0, 0, 10] ∧ win0_1.index t = ![0, 0, 11] ∧ win0_2.index t = ![0, 0] ∧ win0_3.index t = ![0, 0, 0]
    ∧ win0_4.index t = ![0, 0, 0] ∧ win0_5.index t = ![0, 0, 0] ∧ win0_6.index t = ![0, 0, 0] :=
  (by decide +kernel : ∀ t : Fin grid0.N, _)

/-- The sequence of a row, and its position. -/
abbrev seqOf (r : Fin 128) : Fin 32 := ⟨r.val / 4, by omega⟩
abbrev posOf (r : Fin 128) : Fin 4 := ⟨r.val % 4, Nat.mod_lt _ (by norm_num)⟩

/-- The first half of the rows the grid point reads. -/
theorem read_u (c : Dev nD) (t : Fin cfg0.N) (r : Fin 128) (n : Fin 512) :
    iblk m c 0 t (ix3 0 r n) = m ((c : Thread nD τ).loc main_arg0) (ix3 (seqOf r) (posOf r) ⟨2048 + n.val, by omega⟩) := by
  have he : ((View.whole main_v3).slice (win0_0.rect t)).emb (ix3 0 r n) = ix3 0 r ⟨5120 + n.val, by omega⟩ := by
    blk_ext [idx t]
  blk_simp [iblk]
  rw [he]
  simp only [V, hostOps0, hostOps0_1, hostOps0_2, hostOps0_3, hostOps0_4, hostOps0_5, hostOps0_6, List.flatten_cons, List.flatten_nil, List.append_nil, List.cons_append, List.nil_append]
  entry_read
  pointwise
  exact (dif_neg (by omega)).trans (congrArg (fun k => m ((c : Thread nD τ).loc main_arg0) (ix3 (seqOf r) (posOf r) k)) (Fin.ext (by show 5120 + n.val - 3072 = 2048 + n.val; omega)))

/-- The second half of the rows the grid point reads. -/
theorem read_v (c : Dev nD) (t : Fin cfg0.N) (r : Fin 128) (n : Fin 512) :
    iblk m c 1 t (ix3 0 r n) = m ((c : Thread nD τ).loc main_arg0) (ix3 (seqOf r) (posOf r) ⟨2560 + n.val, by omega⟩) := by
  have he : ((View.whole main_v3).slice (win0_1.rect t)).emb (ix3 0 r n) = ix3 0 r ⟨5632 + n.val, by omega⟩ := by
    blk_ext [idx t]
  blk_simp [iblk]
  rw [he]
  simp only [V, hostOps0, hostOps0_1, hostOps0_2, hostOps0_3, hostOps0_4, hostOps0_5, hostOps0_6, List.flatten_cons, List.flatten_nil, List.append_nil, List.cons_append, List.nil_append]
  entry_read
  pointwise
  exact (dif_neg (by omega)).trans (congrArg (fun k => m ((c : Thread nD τ).loc main_arg0) (ix3 (seqOf r) (posOf r) k)) (Fin.ext (by show 5632 + n.val - 3072 = 2560 + n.val; omega)))

/-- The gain the grid point reads. -/
theorem read_g (c : Dev nD) (t : Fin cfg0.N) (n : Fin 512) : iblk m c 2 t (ix2 0 n) = m ((c : Thread nD τ).loc main_arg1) (ix1 n) := by
  have he : ((View.whole main_v30).slice (win0_2.rect t)).emb (ix2 0 n) = ix2 0 n := by
    blk_ext [idx t]
  blk_simp [iblk]
  rw [he]
  simp only [V, hostOps0, hostOps0_1, hostOps0_2, hostOps0_3, hostOps0_4, hostOps0_5, hostOps0_6, List.flatten_cons, List.flatten_nil, List.append_nil, List.cons_append, List.nil_append]
  entry_read
  pointwise

/-- The bias the grid point reads. -/
theorem read_b (c : Dev nD) (t : Fin cfg0.N) (h : Fin 4) (r d : Fin 128) : iblk m c 4 t (ix3 h r d) = tableB (m ((c : Thread nD τ).loc main_arg3)) (ix2 h r) := by
  have he : ((View.whole main_v29).slice (win0_4.rect t)).emb (ix3 h r d) = ix3 h r d := by
    blk_ext [idx t]
  blk_simp [iblk]
  rw [he]
  simp only [V, hostOps0, hostOps0_1, hostOps0_2, hostOps0_3, hostOps0_4, hostOps0_5, hostOps0_6, List.flatten_cons, List.flatten_nil, List.append_nil, List.cons_append, List.nil_append]
  entry_read
  pointwise
  exact (tableB_at _ h r).symm

/-- The mixing weights the grid point reads. -/
theorem read_w (c : Dev nD) (t : Fin cfg0.N) (h : Fin 4) (r s : Fin 128) : iblk m c 3 t (ix3 h r s) = tableW (m ((c : Thread nD τ).loc main_arg2)) (ix3 h r s) := by
  have he : ((View.whole main_v27).slice (win0_3.rect t)).emb (ix3 h r s) = ix3 h r s := by
    blk_ext [idx t]
  blk_simp [iblk]
  rw [he]
  simp only [V, hostOps0, hostOps0_1, hostOps0_2, hostOps0_3, hostOps0_4, hostOps0_5, hostOps0_6, List.flatten_cons, List.flatten_nil, List.append_nil, List.cons_append, List.nil_append]
  entry_read
  rfl

end Cert.Kernel7Ideal.Gating
end
-- ==== Proof.GatingSFinal.lean ====
/- The spatial gate of the samples: the arrays the kernel leaves. -/
module

public import Idealize.ShloMosaic.Lib.Pointwise
public import Idealize.ShloMosaic.Lib.WordCmp
public import Idealize.ShloMosaic.Lib.Pipeline.ValueKit
public import Idealize.ShloMosaic.Lib.Claim
public import proofs.«01_k».proof.Proof.GatingSRead
public import proofs.«01_k».proof.Proof.Gen.Kernel7Ideal.Value

@[expose] public section

set_option maxRecDepth 16384

noncomputable section

namespace Cert.Kernel7Ideal.Gating

open Cert.Kernel7Ideal Cert.Kernel7Ideal.Gen Idealize.ShloMosaic Idealize.ShloMosaic.TcCoe Idealize.SL.Sem Cert.Heads

/-- The head of a column. -/
abbrev headOf (n : Fin 512) : Fin 4 := ⟨n.val / 128, Nat.div_lt_of_lt_mul n.isLt⟩

/-- One entry of the second half of a row, normed. -/
abbrev vnOf (p : FVec Ideal S32x4x7680 .f32) (g : FVec Ideal S512 .f32) (b : Fin 32) (s : Fin 4) (n : Fin 512) : EReal :=
  rowNorm (fun k => p (ix3 b s ⟨2560 + k.val, by omega⟩)) (g (ix1 n)) n

/-- One entry of a gated row: the entry of the first half times what its head's weights make of the normed second halves of the sequence's four rows, plus the bias. -/
def gateAt (p : FVec Ideal S32x4x7680 .f32) (g : FVec Ideal S512 .f32) (w : FVec Ideal S4x128x128 .f32) (b : FVec Ideal S4x128 .f32) (i : Fin 32) (s : Fin 4) (n : Fin 512) : EReal :=
  (p (ix3 i s ⟨2048 + n.val, by omega⟩) : EReal) *
    ((∑ e : Fin 4, (lowerW w (ix3 (headOf n) ⟨s.val, by omega⟩ ⟨e.val, by omega⟩) : EReal) * vnOf p g i e n) + b (ix2 (headOf n) ⟨s.val, by omega⟩))

/-- The gated rows of all sequences, one after the other. -/
def gateArr (p : FVec Ideal S32x4x7680 .f32) (g : FVec Ideal S512 .f32) (w : FVec Ideal S4x128x128 .f32) (b : FVec Ideal S4x128 .f32) : FVec Ideal S1x128x512 .bf16 :=
  fun i : S1x128x512.Idx => gateAt p g w b (seqOf (i 1)) (posOf (i 1)) (i 2)

/-- The normed second halves of all sequences' rows, one after the other. -/
def vnArr (p : FVec Ideal S32x4x7680 .f32) (g : FVec Ideal S512 .f32) : FVec Ideal S1x128x512 .f32 :=
  fun i : S1x128x512.Idx => vnOf p g (seqOf (i 1)) (posOf (i 1)) (i 2)

variable (m : (ℓ : Loc nD τ sig) → Buf (Elt Ideal) ℓ)

theorem vn_read (c : Dev nD) (t : Fin cfg0.N) (r : Fin 128) (n : Fin 512) :
    rowNorm (fun e => iblk m c 1 t (ix3 0 r e)) (iblk m c 2 t (ix2 0 n)) n = vnOf (m ((c : Thread nD τ).loc main_arg0)) (m ((c : Thread nD τ).loc main_arg1)) (seqOf r) (posOf r) n :=
  congrArg₂ (fun f k => rowNorm f k n) (funext fun e => read_v m c t r e) (read_g m c t n)

/-- What the grid point writes, in terms of the arrays. -/
theorem block (c : Dev nD) (t : Fin cfg0.N) (r : Fin 128) (n : Fin 512) :
    out0_5 (iblk m c 0 t) (iblk m c 1 t) (iblk m c 2 t) (iblk m c 3 t) (iblk m c 4 t) (ix3 0 r n)
      = gateAt (m ((c : Thread nD τ).loc main_arg0)) (m ((c : Thread nD τ).loc main_arg1)) (m ((c : Thread nD τ).loc main_arg2)) (m ((c : Thread nD τ).loc main_arg3)) (seqOf r) (posOf r) n := by
  refine (out_gate _ _ _ _ _ _).trans ?_
  unfold gateAt
  refine congrArg₂ (· * ·) (read_u m c t r n) (congrArg₂ (· + ·) ?_ ((read_b m c t _ r _).trans (tableB_at _ _ r)))
  have key : ∀ s : Fin 128, @HMul.hMul EReal EReal EReal _ (iblk m c 3 t (ix3 (headOf n) r s)) (rowNorm (fun e => iblk m c 1 t (ix3 0 s e)) (iblk m c 2 t (ix2 0 n)) n) = if r.val / 4 = s.val / 4 then (lowerW (m ((c : Thread nD τ).loc main_arg2)) (ix3 (headOf n) ⟨r.val % 4, by omega⟩ ⟨s.val % 4, by omega⟩) : EReal) * vnOf (m ((c : Thread nD τ).loc main_arg0)) (m ((c : Thread nD τ).loc main_arg1)) (seqOf s) (posOf s) n else 0 := fun s =>
    (congrArg₂ (fun a b : EReal => a * b) ((read_w m c t (headOf n) r s).trans (tableW_at _ _ r s)) (vn_read m c t s n)).trans ((ite_mul _ _ _ _).trans (by rw [zero_mul]))
  refine (Finset.sum_congr (M := EReal) rfl fun s _ => key s).trans ?_
  refine (collapse (r.val / 4) (by omega) _).trans (Finset.sum_congr rfl fun e _ => ?_)
  have h1 : (4 * (r.val / 4) + e.val) / 4 = r.val / 4 := by omega
  have h2 : (4 * (r.val / 4) + e.val) % 4 = e.val := by omega
  have hs : seqOf (⟨4 * (r.val / 4) + e.val, by omega⟩ : Fin 128) = seqOf r := Fin.ext h1
  have hp : posOf (⟨4 * (r.val / 4) + e.val, by omega⟩ : Fin 128) = e := Fin.ext h2
  simp only [h2, hs, hp]

theorem split_idx' (y : S1x128x512.Idx) : y = ix3 0 (y 1) (y 2) := by
  refine funext fun a => ?_
  fin_cases a
  · exact Subsingleton.elim (α := Fin 1) _ _
  · rfl
  · rfl

/-- The gated rows after the grid point. -/
theorem final (c : Dev nD) : (dats m 0 c).arrAt 5 cfg0.N = gateArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  rw [split_idx' y]
  refine (block m c t (y 1) (y 2)).trans ?_
  have he : ((View.whole main_v31_0).slice (win0_5.rect t)).emb (ix3 0 (y 1) (y 2)) = ix3 0 (y 1) (y 2) := by
    blk_ext [idx t]
  exact (congrArg (gateArr _ _ _ _) he).symm

/-- The normed rows after the grid point. -/
theorem final_vn (c : Dev nD) : (dats m 0 c).arrAt 6 cfg0.N = vnArr (m ((c : Thread nD τ).loc main_arg0)) (m ((c : Thread nD τ).loc main_arg1)) := by
  refine (dats m 0 c).arrAt_eq_of_covers 6 _ (by decide +kernel) fun t hf y => ?_
  blk_simp
  rw [after0_6]
  rw [split_idx' y]
  refine (out_vn _ _ _ _ _ (y 1) (y 2)).trans ((vn_read m c t (y 1) (y 2)).trans ?_)
  have he : ((View.whole main_v31_1).slice (win0_6.rect t)).emb (ix3 0 (y 1) (y 2)) = ix3 0 (y 1) (y 2) := by
    blk_ext [idx t]
  exact (congrArg (vnArr _ _) he).symm

end Cert.Kernel7Ideal.Gating
end
-- ==== Proof.GatingSRef.lean ====
/- What the reference's spatial gate of the samples computes, one entry at a time, and that the kernel's arrays are the same. -/
module

public import proofs.«01_k».proof.Proof.GatingSFinal
public import proofs.«01_k».proof.Proof.Gen.Reference7Ideal.Run

@[expose] public section

set_option maxRecDepth 16384
noncomputable section
namespace Cert.Reference7Ideal.Value
open Cert.Reference7Ideal Cert.Reference7Ideal.Gen Idealize.ShloMosaic Idealize.ShloMosaic.TcCoe Idealize.SL.Sem Idealize.ShloMosaic.StableHlo

/-- The second half of the gate's rows. -/
def vOf (p : FVec Ideal S32x4x7680 .f32) : FVec Ideal S32x4x512 .f32 :=
  extractStridedSlice S32x4x512 ![0, 0, 2560] p slices_S32x4x7680_S32x4x512_0_0_2560

/-- Those rows over their root mean square, times the gain. -/
def normed (v : FVec Ideal S32x4x512 .f32) (g : FVec Ideal S512 .f32) : FVec Ideal S32x4x512 .f32 :=
  mulf (mulf v (broadcastInDim S32x4x512 ![0, 1, 2] bcast_S32x4x1_S32x4x512_0_1_2 (Host.rsqrt (addf (Host.divf
      (broadcastInDim S32x4x1 ![0, 1] bcast_S32x4_S32x4x1_0_1 (Host.reduceAdd (mulf v v) (constant S_ .f32 0x00000000#32) reducesTo_S32x4x512_S32x4_d2 h_S_))
      (broadcastInDim S32x4x1 ![] bcast_S_S32x4x1 (constant S_ .f32 0x44000000#32))) (broadcastInDim S32x4x1 ![] bcast_S_S32x4x1 (constant S_ .f32 0x358637BD#32))))))
    (broadcastInDim S32x4x512 ![0, 1, 2] bcast_S1x1x512_S32x4x512_0_1_2 (broadcastInDim S1x1x512 ![2] bcast_S512_S1x1x512_2 g))

/-- The mixing weights with the entries above the diagonal replaced by zero. -/
def lower (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2
      (select (cmpi .sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1)))))
    w (broadcastInDim S4x128x128 ![] bcast_S_S4x128x128 (id (constant S_ .f32 0x00000000#32)))

/-- What the first four rows and columns of the weights make of the normed rows of each sequence. -/
def mixed (n : FVec Ideal S32x4x512 .f32) (w : FVec Ideal S4x128x128 .f32) : FVec Ideal S4x32x128x4 .f32 :=
  Host.dotGeneral dot_S32x4x4x128_S4x4x4_S4x32x128x4_1_2_03_1_2_0 none (shapeCast S32x4x4x128 n shapeCasts_S32x4x512_S32x4x4x128)
    (extractStridedSlice S4x4x4 ![0, 0, 0] w slices_S4x128x128_S4x4x4_0_0_0)

/-- The gate of the mixed rows and the bias, all sequences' rows one after the other. -/
def gated (p : FVec Ideal S32x4x7680 .f32) (x : FVec Ideal S4x32x128x4 .f32) (b : FVec Ideal S4x128 .f32) : FVec Ideal S1x128x512 .bf16 :=
  shapeCast S1x128x512 (truncf .bf16 (mulf (extractStridedSlice S32x4x512 ![0, 0, 2048] p slices_S32x4x7680_S32x4x512_0_0_2048)
    (shapeCast S32x4x512 (addf (transpose S32x4x4x128 [1, 3, 0, 2] x transposes_S4x32x128x4_S32x4x4x128_1_3_0_2)
      (broadcastInDim S32x4x4x128 ![0, 1, 2, 3] bcast_S1x4x4x1_S32x4x4x128_0_1_2_3 (broadcastInDim S1x4x4x1 ![1, 2] bcast_S4x4_S1x4x4x1_1_2
        (transpose S4x4 [1, 0] (extractStridedSlice S4x4 ![0, 0] b slices_S4x128_S4x4_0_0) transposes_S4x4_S4x4_1_0)))) shapeCasts_S32x4x4x128_S32x4x512)) bitsLt_bf16_f32) shapeCasts_S32x4x512_S1x128x512

/-- The normed rows, all sequences' one after the other. -/
def rows (v : FVec Ideal S32x4x512 .f32) : FVec Ideal S1x128x512 .f32 :=
  shapeCast S1x128x512 v shapeCasts_S32x4x512_S1x128x512

/-- One entry of the normed rows. -/
theorem normed_at (p : FVec Ideal S32x4x7680 .f32) (g : FVec Ideal S512 .f32) (b : Fin 32) (s : Fin 4) (n : Fin 512) :
    normed (vOf p) g (ix3 b s n) = Cert.Kernel7Ideal.Gating.vnOf p g b s n := by
  pointwise [normed, vOf]
  rfl

/-- One entry of the mixed rows. -/
theorem mixed_at (v : FVec Ideal S32x4x512 .f32) (w : FVec Ideal S4x128x128 .f32) (h : Fin 4) (b : Fin 32) (d : Fin 128) (r : Fin 4) :
    mixed v w (ix4 h b d r) = ∑ e : Fin 4, (v (ix3 b e ⟨128 * h.val + d.val, by omega⟩) : EReal) * w (ix3 h ⟨r.val, by omega⟩ ⟨e.val, by omega⟩) := by
  pointwise [mixed]
  simp only [Nat.mul_comm 128]

/-- One entry of the gated rows. -/
theorem gated_at (p : FVec Ideal S32x4x7680 .f32) (x : FVec Ideal S4x32x128x4 .f32) (c : FVec Ideal S4x128 .f32) (r : Fin 128) (n : Fin 512) :
    gated p x c (ix3 0 r n) = (p (ix3 (Cert.Kernel7Ideal.Gating.seqOf r) (Cert.Kernel7Ideal.Gating.posOf r) ⟨2048 + n.val, by omega⟩) : EReal) *
      (x (ix4 (Cert.Kernel7Ideal.Gating.headOf n) (Cert.Kernel7Ideal.Gating.seqOf r) ⟨n.val % 128, by omega⟩ (Cert.Kernel7Ideal.Gating.posOf r))
      + c (ix2 (Cert.Kernel7Ideal.Gating.headOf n) ⟨r.val % 4, by omega⟩)) := by
  pointwise [gated]

/-- One entry of the normed rows one after the other. -/
theorem rows_at (v : FVec Ideal S32x4x512 .f32) (r : Fin 128) (n : Fin 512) :
    rows v (ix3 0 r n) = v (ix3 (Cert.Kernel7Ideal.Gating.seqOf r) (Cert.Kernel7Ideal.Gating.posOf r) n) := by
  pointwise [rows]

/-- The reference's gated rows are the kernel's. -/
theorem out_eq (p : FVec Ideal S32x4x7680 .f32) (g : FVec Ideal S512 .f32) (w : FVec Ideal S4x128x128 .f32) (b : FVec Ideal S4x128 .f32) :
    gated p (mixed (normed (vOf p) g) (lower w)) b = Cert.Kernel7Ideal.Gating.gateArr p g w b := by
  funext i
  rw [Cert.Kernel7Ideal.Gating.split_idx' i]
  refine (gated_at p _ b (i 1) (i 2)).trans (congrArg₂ (· * ·) rfl (congrArg₂ (· + ·) ?_ rfl))
  refine (mixed_at _ _ _ _ _ _).trans (Finset.sum_congr rfl fun e _ => (mul_comm _ _).trans (congrArg₂ (· * ·) rfl ?_))
  refine (normed_at p g _ _ _).trans (congrArg (Cert.Kernel7Ideal.Gating.vnOf p g _ _) (Fin.ext ?_))
  show 128 * ((i 2).val / 128) + (i 2).val % 128 = (i 2).val
  omega

/-- The reference's normed rows are the kernel's. -/
theorem rows_eq (p : FVec Ideal S32x4x7680 .f32) (g : FVec Ideal S512 .f32) :
    rows (normed (vOf p) g) = Cert.Kernel7Ideal.Gating.vnArr p g := by
  funext i
  rw [Cert.Kernel7Ideal.Gating.split_idx' i]
  exact (rows_at _ (i 1) (i 2)).trans (normed_at p g _ _ _)

end Cert.Reference7Ideal.Value
end
-- ==== Proof.NormS.lean ====
/- The first norm, its modulation and the joint projection of the sampled rows: what one grid point of the kernel writes, what it keeps
   for the points after it, and the array it leaves. -/
module

public import Idealize.ShloMosaic.Lib.Pointwise
public import Idealize.ShloMosaic.Lib.Pipeline.ValueKit
public import Idealize.ShloMosaic.Lib.Pipeline.ReadBack
public import Idealize.ShloMosaic.Lib.Claim
public import proofs.«01_k».proof.Proof.Norm
public import proofs.«01_k».proof.Proof.Gen.Kernel8Ideal.Value
import all proofs.«01_k».proof.Proof.Gen.Kernel8Ideal.Frame.RunA
import all proofs.«01_k».proof.Proof.Gen.Kernel8Ideal.Frame.RunB

@[expose] public section

set_option maxRecDepth 16384

noncomputable section

namespace Cert.Kernel8Ideal.Norm

open Cert.Kernel8Ideal Cert.Kernel8Ideal.Gen Idealize.ShloMosaic Idealize.ShloMosaic.TcCoe Idealize.SL.Sem
open Cert.Kernel2Ideal.Norm (normed col)

/-- One entry of the block of normed and modulated rows. -/
theorem h_at (v8 : Vec Ideal S128x1024 .f32) (v20 : Vec Ideal S1x1024 .f32) (v24 v30 : Vec Ideal S1x128x1024 .f32) (r : Fin 128) (d : Fin 1024) :
    k0_pay1 v8 v20 v24 v30 (ix2 r d) = normed (fun e => v8 (ix2 r e)) (v20 (ix2 0 d)) (v24 (ix3 0 r d)) (v30 (ix3 0 r d)) d := by
  pointwise [k0_pay1]
  rfl

/-- One entry of a block of the projection. -/
theorem prod_at (h : Vec Ideal S128x1024 .bf16) (w : Vec Ideal S1024x1536 .bf16) (r : Fin 128) (n : Fin 1536) :
    k0_pay2 h w (ix2 r n) = ∑ d : Fin 1024, (h (ix2 r d) : EReal) * w (ix2 d n) := by
  pointwise [k0_pay2]

/-- The normed and modulated rows. -/
def hOf (x : FVec Ideal S32x4x1024 .f32) (g : FVec Ideal S1024 .f32) (sh sc : FVec Ideal S32x1024 .f32) (b : Fin 32) (s : Fin 4) (d : Fin 1024) : EReal :=
  normed (fun e => x (ix3 b s e)) (g (ix1 d)) (sc (ix2 b d)) (sh (ix2 b d)) d

/-- The projection of both sequences' rows, one after the other. -/
def outArr (x : FVec Ideal S32x4x1024 .f32) (g : FVec Ideal S1024 .f32) (sh sc : FVec Ideal S32x1024 .f32) (w : FVec Ideal S1024x7680 .f32) : FVec Ideal S128x7680 .f32 := fun i : S128x7680.Idx =>
  ∑ d : Fin 1024, hOf x g sh sc ⟨(i 0).val / 4, by have : (i 0).val < 128 := (i 0).isLt; omega⟩ ⟨(i 0).val % 4, Nat.mod_lt _ (by norm_num)⟩ d * w (ix2 d (col (i 1)))

variable (m : (ℓ : Loc nD τ sig) → Buf (Elt Ideal) ℓ)

theorem idx : ∀ t : Fin cfg0.N, win0_0.index t = ![0, 0] ∧ win0_1.index t = ![0, 0] ∧ win0_2.index t = ![0, 0, 0] ∧ win0_3.index t = ![0, 0, 0]
    ∧ win0_4.index t = ![0, t.val % 5] ∧ win0_5.index t = ![0, t.val % 5] :=
  (by decide +kernel : ∀ t : Fin grid0.N, _)

theorem lt5 (t : Fin cfg0.N) : t.val < 5 := lt_of_lt_of_eq t.isLt (show cfg0.N = 5 from N_0)

/-- The sequence and the position of a row of a block of rows. -/
abbrev seqOf (r : Fin 128) : Fin 32 := ⟨r.val / 4, by omega⟩
abbrev posOf (r : Fin 128) : Fin 4 := ⟨r.val % 4, by omega⟩

/-- The layer input a grid point reads. -/
theorem read_x (c : Dev nD) (t : Fin cfg0.N) (r : Fin 128) (d : Fin 1024) :
    iblk m c 0 t (ix2 r d) = m ((c : Thread nD τ).loc main_arg0) (ix3 (seqOf r) (posOf r) d) := by
  have ht := lt5 t
  have he : ((View.whole main_v4).slice (win0_0.rect t)).emb (ix2 r d) = ix2 r d := by
    blk_ext [idx t]
  blk_simp [iblk]
  rw [he]
  entry_read
  pointwise

/-- The gain a grid point reads. -/
theorem read_g (c : Dev nD) (t : Fin cfg0.N) (d : Fin 1024) :
    iblk m c 1 t (ix2 0 d) = m ((c : Thread nD τ).loc main_arg1) (ix1 d) := by
  have ht := lt5 t
  have he : ((View.whole main_v11).slice (win0_1.rect t)).emb (ix2 0 d) = ix2 0 d := by
    blk_ext [idx t]
  blk_simp [iblk]
  rw [he]
  entry_read
  pointwise

/-- The scale a grid point reads. -/
theorem read_sc (c : Dev nD) (t : Fin cfg0.N) (r : Fin 128) (d : Fin 1024) :
    iblk m c 2 t (ix3 0 r d) = m ((c : Thread nD τ).loc main_arg3) (ix2 (seqOf r) d) := by
  have ht := lt5 t
  have he : ((View.whole main_v7).slice (win0_2.rect t)).emb (ix3 0 r d) = ix3 0 r d := by
    blk_ext [idx t]
  blk_simp [iblk]
  rw [he]
  entry_read
  pointwise

/-- The shift a grid point reads. -/
theorem read_sh (c : Dev nD) (t : Fin cfg0.N) (r : Fin 128) (d : Fin 1024) :
    iblk m c 3 t (ix3 0 r d) = m ((c : Thread nD τ).loc main_arg2) (ix2 (seqOf r) d) := by
  have ht := lt5 t
  have he : ((View.whole main_v10).slice (win0_3.rect t)).emb (ix3 0 r d) = ix3 0 r d := by
    blk_ext [idx t]
  blk_simp [iblk]
  rw [he]
  entry_read
  pointwise

/-- The weights a grid point reads. -/
theorem read_w (c : Dev nD) (t : Fin cfg0.N) (d : Fin 1024) (n : Fin 1536) (hn : 1536 * (t.val % 5) + n.val < 7680) :
    iblk m c 4 t (ix2 d n) = m ((c : Thread nD τ).loc main_arg4) (ix2 d (col ⟨1536 * (t.val % 5) + n.val, hn⟩)) := by
  have ht := lt5 t
  have he : ((View.whole main_v3).slice (win0_4.rect t)).emb (ix2 d n) = ix2 d ⟨1536 * (t.val % 5) + n.val, hn⟩ := by
    blk_ext [idx t]
  blk_simp [iblk]
  rw [he]
  entry_read
  pointwise
  unfold col
  split <;> rfl

/-- The normed rows of a memory's arguments. -/
abbrev hRow (c : Dev nD) (b : Fin 32) (s : Fin 4) (d : Fin 1024) : EReal :=
  hOf (m ((c : Thread nD τ).loc main_arg0)) (m ((c : Thread nD τ).loc main_arg1)) (m ((c : Thread nD τ).loc main_arg2)) (m ((c : Thread nD τ).loc main_arg3)) b s d

/-- The block of normed rows a grid point's inputs give. -/
theorem h_block (c : Dev nD) (t : Fin cfg0.N) (r : Fin 128) (d : Fin 1024) :
    k0_pay1 (iblk m c 0 t) (iblk m c 1 t) (iblk m c 2 t) (iblk m c 3 t) (ix2 r d) = hRow m c (seqOf r) (posOf r) d := by
  rw [h_at, read_g, read_sc m c t r, read_sh m c t r]
  simp only [read_x]
  rfl

/-- After every grid point the kept block holds the normed rows of the point's block of rows. -/
theorem kept (c : Dev nD) : ∀ (n : ℕ) (hn : n < cfg0.N) (r : Fin 128) (d : Fin 1024),
    (outsAt0 m c n hn).2 (ix2 r d) = hRow m c (seqOf r) (posOf r) d := by
  intro n
  induction n with
  | zero =>
    intro hn r d
    rw [outsAt0_A m c ⟨0, hn⟩ rfl]
    frame_out
    exact h_block m c ⟨0, hn⟩ r d
  | succ n ih =>
    intro hn r d
    by_cases h0 : (n + 1) % 5 = 0
    · rw [outsAt0_A m c ⟨n + 1, hn⟩ h0]
      frame_out
      exact h_block m c ⟨n + 1, hn⟩ r d
    · rw [outsAt0_B m c ⟨n + 1, hn⟩ h0]
      exact Eq.trans (rfl : _ = (outsAt0 m c n (Nat.lt_of_succ_lt hn)).2 (ix2 r d)) (ih (Nat.lt_of_succ_lt hn) r d)

/-- What one grid point writes. -/
theorem block (c : Dev nD) (t : Fin cfg0.N) (r : Fin 128) (n : Fin 1536) (hn : 1536 * (t.val % 5) + n.val < 7680) :
    (outsAt0 m c t.val t.isLt).1 (ix2 r n) = ∑ d : Fin 1024, hRow m c (seqOf r) (posOf r) d * m ((c : Thread nD τ).loc main_arg4) (ix2 d (col ⟨1536 * (t.val % 5) + n.val, hn⟩)) := by
  by_cases h0 : t.val % 5 = 0
  · rw [outsAt0_A m c t h0]
    frame_out
    rw [prod_at]
    exact Finset.sum_congr rfl fun d _ => congrArg₂ (· * ·) (h_block m c t r d) (read_w m c t d n hn)
  · rw [outsAt0_B m c t h0]
    frame_out
    simp only [read_unread_whole]
    rw [prod_at]
    exact Finset.sum_congr rfl fun d _ => congrArg₂ (· * ·) (kept m c _ _ r d) (read_w m c t d n hn)

/-- What the array holds after the last grid point. -/
theorem final (c : Dev nD) : (dats m 0 c).arrAt 5 cfg0.N = outArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have hy : y = ix2 (y 0) (y 1) := by
    refine funext fun a => ?_
    fin_cases a <;> rfl
  rw [hy]
  have ht := lt5 t
  have hr : (y 0).val < 128 := (y 0).isLt
  have hc : (y 1).val < 1536 := (y 1).isLt
  refine (block m c t (y 0) (y 1) (by omega)).trans ?_
  have he : ((View.whole main_v12).slice (win0_5.rect t)).emb (ix2 (y 0) (y 1)) = ix2 (y 0) ⟨1536 * (t.val % 5) + (y 1).val, by omega⟩ := by
    blk_ext [idx t]
  exact (congrArg (outArr _ _ _ _ _) he).symm

end Cert.Kernel8Ideal.Norm
end
-- ==== Proof.NormSRef.lean ====
/- What the reference's norm, modulation and projection compute, one entry at a time, and that the kernel's array is the same. -/
module

public import proofs.«01_k».proof.Proof.NormS
public import proofs.«01_k».proof.Proof.Gen.Reference8Ideal.Run

@[expose] public section

set_option maxRecDepth 16384
noncomputable section
namespace Cert.Reference8Ideal.Value
open Cert.Reference8Ideal Cert.Reference8Ideal.Gen Idealize.ShloMosaic Idealize.ShloMosaic.TcCoe Idealize.SL.Sem Idealize.ShloMosaic.StableHlo

/-- The normed and modulated rows. -/
def rowsOf (x : FVec Ideal S32x4x1024 .f32) (g : FVec Ideal S1024 .f32) (sh sc : FVec Ideal S32x1024 .f32) : FVec Ideal S32x4x1024 .f32 :=
  addf (mulf (mulf (mulf x (broadcastInDim S32x4x1024 ![0, 1, 2] bcast_S32x4x1_S32x4x1024_0_1_2 (Host.rsqrt (addf (Host.divf
        (broadcastInDim S32x4x1 ![0, 1] bcast_S32x4_S32x4x1_0_1 (Host.reduceAdd (mulf x x) (constant S_ .f32 0x00000000#32) reducesTo_S32x4x1024_S32x4_d2 h_S_))
        (broadcastInDim S32x4x1 ![] bcast_S_S32x4x1 (constant S_ .f32 0x44800000#32))) (broadcastInDim S32x4x1 ![] bcast_S_S32x4x1 (constant S_ .f32 0x358637BD#32))))))
      (broadcastInDim S32x4x1024 ![0, 1, 2] bcast_S1x1x1024_S32x4x1024_0_1_2 (broadcastInDim S1x1x1024 ![2] bcast_S1024_S1x1x1024_2 g)))
    (broadcastInDim S32x4x1024 ![0, 1, 2] bcast_S32x1x1024_S32x4x1024_0_1_2 (addf (broadcastInDim S32x1x1024 ![] bcast_S_S32x1x1024 (constant S_ .f32 0x3F800000#32)) (broadcastInDim S32x1x1024 ![0, 2] bcast_S32x1024_S32x1x1024_0_2 sc))))
    (broadcastInDim S32x4x1024 ![0, 1, 2] bcast_S32x1x1024_S32x4x1024_0_1_2 (broadcastInDim S32x1x1024 ![0, 2] bcast_S32x1024_S32x1x1024_0_2 sh))

/-- The projection of the rows. -/
def proj (h : FVec Ideal S32x4x1024 .f32) (w : FVec Ideal S1024x7680 .f32) : FVec Ideal S32x4x7680 .f32 :=
  Host.dotGeneral dot_S32x4x1024_S1024x7680_S32x4x7680_2_0_01_1_n_n none h w

/-- The last 3072 columns before the others, both sequences' rows one after the other. -/
def rotate (p : FVec Ideal S32x4x7680 .f32) : FVec Ideal S128x7680 .f32 :=
  shapeCast S128x7680 (concatenate S32x4x7680 2 [⟨S32x4x3072, extractStridedSlice S32x4x3072 ![0, 0, 4608] p slices_S32x4x7680_S32x4x3072_0_0_4608⟩,
    ⟨S32x4x4608, extractStridedSlice S32x4x4608 ![0, 0, 0] p slices_S32x4x7680_S32x4x4608_0_0_0⟩] concatenates_S32x4x3072_S32x4x4608_S32x4x7680_d2) shapeCasts_S32x4x7680_S128x7680

/-- One entry of the normed and modulated rows. -/
theorem rowsOf_at (x : FVec Ideal S32x4x1024 .f32) (g : FVec Ideal S1024 .f32) (sh sc : FVec Ideal S32x1024 .f32) (b : Fin 32) (s : Fin 4) (d : Fin 1024) :
    rowsOf x g sh sc (ix3 b s d) = Cert.Kernel8Ideal.Norm.hOf x g sh sc b s d := by
  pointwise [rowsOf]
  rfl

/-- One entry of the projection. -/
theorem proj_at (h : FVec Ideal S32x4x1024 .f32) (w : FVec Ideal S1024x7680 .f32) (b : Fin 32) (s : Fin 4) (n : Fin 7680) :
    proj h w (ix3 b s n) = ∑ d : Fin 1024, (h (ix3 b s d) : EReal) * w (ix2 d n) := by
  pointwise [proj]

/-- One entry of the rearranged projection. -/
theorem rotate_at (p : FVec Ideal S32x4x7680 .f32) (i : Fin 128) (n : Fin 7680) :
    rotate p (ix2 i n) = p (ix3 ⟨i.val / 4, by omega⟩ ⟨i.val % 4, Nat.mod_lt _ (by norm_num)⟩ (Cert.Kernel2Ideal.Norm.col n)) := by
  pointwise [rotate]
  unfold Cert.Kernel2Ideal.Norm.col
  split <;> rfl

/-- The reference's array is the kernel's. -/
theorem out_eq (x : FVec Ideal S32x4x1024 .f32) (g : FVec Ideal S1024 .f32) (sh sc : FVec Ideal S32x1024 .f32) (w : FVec Ideal S1024x7680 .f32) :
    rotate (proj (rowsOf x g sh sc) w) = Cert.Kernel8Ideal.Norm.outArr x g sh sc w := by
  funext i
  have hi : i = ix2 (i 0) (i 1) := by
    refine funext fun a => ?_
    fin_cases a <;> rfl
  rw [hi]
  refine (rotate_at _ (i 0) (i 1)).trans ((proj_at _ _ _ _ _).trans (Finset.sum_congr rfl fun d _ => congrArg (· * _) (rowsOf_at _ _ _ _ _ _ d)))

end Cert.Reference8Ideal.Value
end
-- ==== Proof.QkPrepS.lean ====
/- The normalized queries and keys of the sampled rows' softmax-free attention: what one grid point of the kernel writes, and
   the four arrays it leaves. -/
module

public import Idealize.ShloMosaic.Lib.Pointwise
public import Idealize.ShloMosaic.Lib.Pipeline.ValueKit
public import Idealize.ShloMosaic.Lib.Claim
public import proofs.«01_k».proof.Proof.HeadMath
public import proofs.«01_k».proof.Proof.Gen.Kernel9Ideal.Value

@[expose] public section

set_option maxRecDepth 16384

noncomputable section

namespace Cert.Kernel9Ideal.Prep

open Cert.Kernel9Ideal Cert.Kernel9Ideal.Gen Idealize.ShloMosaic Idealize.ShloMosaic.TcCoe Idealize.SL.Sem Cert.Heads

theorem named_q_scale : Named.named (F := Ideal) κ "q_scale" (φ := .f32) 0x3E0293EE#32 = qs :=
  IdealRules.named_const.ideal_named_scalar _ _ _ _ rfl

/-- One entry of a normalized head. -/
theorem key_at (v : Vec Ideal S128x128 .f32) (g : Vec Ideal S1x128 .f32) (r : Fin 128) (d : Fin 128) :
    k0_pay3 v g (ix2 r d) = normOf (fun e => v (ix2 r e)) (g (ix2 0 d)) d := by
  pointwise [k0_pay3]
  rfl

/-- One entry of a normalized head of the queries, scaled. -/
theorem query_at (v : Vec Ideal S128x128 .f32) (g : Vec Ideal S1x128 .f32) (r : Fin 128) (d : Fin 128) :
    k0_pay4 v g (ix2 r d) = normOf (fun e => v (ix2 r e)) (g (ix2 0 d)) d * qs := by
  pointwise [k0_pay4]
  rw [named_q_scale]
  rfl

/-- A block of rows, normalized head by head. -/
def kBlk (x : Vec Ideal S128x512 .f32) (g : Vec Ideal S1x128 .f32) : Vec Ideal S128x512 .f32 := fun i : S128x512.Idx =>
  entry (fun n => x (ix2 (i 0) n)) (fun d => g (ix2 0 d)) (i 1)

/-- A block of rows, normalized head by head and scaled. -/
def qBlk (x : Vec Ideal S128x512 .f32) (g : Vec Ideal S1x128 .f32) : Vec Ideal S128x512 .bf16 := fun i : S128x512.Idx =>
  entry (fun n => x (ix2 (i 0) n)) (fun d => g (ix2 0 d)) (i 1) * qs

/-- A block of rows as it is. -/
def vBlk (x : Vec Ideal S128x512 .f32) : Vec Ideal S128x512 .bf16 := fun i : S128x512.Idx => (x i : EReal)

/-- An index of a head's block, and its columns in the block of four heads. -/
theorem split_idx (i : S128x128.Idx) : i = ix2 (i 0) (i 1) := by
  refine funext fun a => ?_
  fin_cases a <;> rfl

theorem emb_0 (x : S128x128.Idx) : r0_0.emb x = ix2 (x 0) ⟨128 * 0 + (x 1).val, by have : (x 1).val < 128 := (x 1).isLt; omega⟩ := by
  blk_ext []
theorem emb_2 (x : S128x128.Idx) : r0_2.emb x = ix2 (x 0) ⟨128 * 1 + (x 1).val, by have : (x 1).val < 128 := (x 1).isLt; omega⟩ := by
  blk_ext []
theorem emb_3 (x : S128x128.Idx) : r0_3.emb x = ix2 (x 0) ⟨128 * 2 + (x 1).val, by have : (x 1).val < 128 := (x 1).isLt; omega⟩ := by
  blk_ext []
theorem emb_4 (x : S128x128.Idx) : r0_4.emb x = ix2 (x 0) ⟨128 * 3 + (x 1).val, by have : (x 1).val < 128 := (x 1).isLt; omega⟩ := by
  blk_ext []
theorem emb_5 (x : S128x512.Idx) : r0_5.emb x = x := by
  blk_ext []
theorem emb_g (x : S1x128.Idx) : r0_1.emb x = x := by
  blk_ext []

/-- One head's part of the keys. -/
theorem key_head (x : Vec Ideal S128x512 .f32) (g : Vec Ideal S1x128 .f32) (h : ℕ) (hh : h < 4) (v : Vec Ideal S128x128 .f32) (w : Vec Ideal S1x128 .f32)
    (hv : ∀ (r : Fin 128) (e : Fin 128), v (ix2 r e) = x (ix2 r ⟨128 * h + e.val, by omega⟩)) (hw : ∀ d : Fin 128, w (ix2 0 d) = g (ix2 0 d)) (r : Fin 128) (d : Fin 128) :
    k0_pay3 v w (ix2 r d) = kBlk x g (ix2 r ⟨128 * h + d.val, by omega⟩) := by
  rw [key_at, hw]
  simp only [hv]
  exact (entry_head (fun n => x (ix2 r n)) (fun d => g (ix2 0 d)) h d hh).symm

/-- One head's part of the queries. -/
theorem query_head (x : Vec Ideal S128x512 .f32) (g : Vec Ideal S1x128 .f32) (h : ℕ) (hh : h < 4) (v : Vec Ideal S128x128 .f32) (w : Vec Ideal S1x128 .f32)
    (hv : ∀ (r : Fin 128) (e : Fin 128), v (ix2 r e) = x (ix2 r ⟨128 * h + e.val, by omega⟩)) (hw : ∀ d : Fin 128, w (ix2 0 d) = g (ix2 0 d)) (r : Fin 128) (d : Fin 128) :
    k0_pay4 v w (ix2 r d) = qBlk x g (ix2 r ⟨128 * h + d.val, by omega⟩) := by
  rw [query_at, hw]
  simp only [hv]
  exact congrArg (· * qs) (entry_head (fun n => x (ix2 r n)) (fun d => g (ix2 0 d)) h d hh).symm

/-- What one grid point writes of the queries. -/
theorem out_q (x0 x1 x2 : Vec Ideal S128x512 .f32) (x3 x4 : Vec Ideal S1x128 .f32) (y : S128x512.Idx) : out0_5 x0 x1 x2 x3 x4 y = qBlk x0 x3 y := by
  refine View.canon_apply_of_pieces (qBlk x0 x3) _ ?_ y (cover0_5 _ _ _ _ y)
  intro pc hpc
  rcases List.mem_cons.mp hpc with rfl | hpc
  · exact fun i => (congrArg _ (split_idx i)).trans ((query_head x0 x3 3 (by omega) (View.ld x0 r0_4) (View.ld x3 r0_1) (fun r e => congrArg x0 (emb_4 _)) (fun d => congrArg x3 (emb_g _)) (i 0) (i 1)).trans (congrArg _ (emb_4 i).symm))
  rcases List.mem_cons.mp hpc with rfl | hpc
  · exact fun i => (congrArg _ (split_idx i)).trans ((query_head x0 x3 2 (by omega) (View.ld x0 r0_3) (View.ld x3 r0_1) (fun r e => congrArg x0 (emb_3 _)) (fun d => congrArg x3 (emb_g _)) (i 0) (i 1)).trans (congrArg _ (emb_3 i).symm))
  rcases List.mem_cons.mp hpc with rfl | hpc
  · exact fun i => (congrArg _ (split_idx i)).trans ((query_head x0 x3 1 (by omega) (View.ld x0 r0_2) (View.ld x3 r0_1) (fun r e => congrArg x0 (emb_2 _)) (fun d => congrArg x3 (emb_g _)) (i 0) (i 1)).trans (congrArg _ (emb_2 i).symm))
  rcases List.mem_cons.mp hpc with rfl | hpc
  · exact fun i => (congrArg _ (split_idx i)).trans ((query_head x0 x3 0 (by omega) (View.ld x0 r0_0) (View.ld x3 r0_1) (fun r e => congrArg x0 (emb_0 _)) (fun d => congrArg x3 (emb_g _)) (i 0) (i 1)).trans (congrArg _ (emb_0 i).symm))
  nomatch hpc

/-- What one grid point writes of the keys. -/
theorem out_k (x0 x1 x2 : Vec Ideal S128x512 .f32) (x3 x4 : Vec Ideal S1x128 .f32) (y : S128x512.Idx) : out0_6 x0 x1 x2 x3 x4 y = kBlk x1 x4 y := by
  refine View.canon_apply_of_pieces (kBlk x1 x4) _ ?_ y (cover0_6 _ _ _ _ y)
  intro pc hpc
  rcases List.mem_cons.mp hpc with rfl | hpc
  · exact fun i => (congrArg _ (split_idx i)).trans ((key_head x1 x4 3 (by omega) (View.ld x1 r0_4) (View.ld x4 r0_1) (fun r e => congrArg x1 (emb_4 _)) (fun d => congrArg x4 (emb_g _)) (i 0) (i 1)).trans (congrArg _ (emb_4 i).symm))
  rcases List.mem_cons.mp hpc with rfl | hpc
  · exact fun i => (congrArg _ (split_idx i)).trans ((key_head x1 x4 2 (by omega) (View.ld x1 r0_3) (View.ld x4 r0_1) (fun r e => congrArg x1 (emb_3 _)) (fun d => congrArg x4 (emb_g _)) (i 0) (i 1)).trans (congrArg _ (emb_3 i).symm))
  rcases List.mem_cons.mp hpc with rfl | hpc
  · exact fun i => (congrArg _ (split_idx i)).trans ((key_head x1 x4 1 (by omega) (View.ld x1 r0_2) (View.ld x4 r0_1) (fun r e => congrArg x1 (emb_2 _)) (fun d => congrArg x4 (emb_g _)) (i 0) (i 1)).trans (congrArg _ (emb_2 i).symm))
  rcases List.mem_cons.mp hpc with rfl | hpc
  · exact fun i => (congrArg _ (split_idx i)).trans ((key_head x1 x4 0 (by omega) (View.ld x1 r0_0) (View.ld x4 r0_1) (fun r e => congrArg x1 (emb_0 _)) (fun d => congrArg x4 (emb_g _)) (i 0) (i 1)).trans (congrArg _ (emb_0 i).symm))
  nomatch hpc

/-- The keys once more, in the narrow format: the same numbers. -/
theorem out_kb (x0 x1 x2 : Vec Ideal S128x512 .f32) (x3 x4 : Vec Ideal S1x128 .f32) (y : S128x512.Idx) : out0_7 x0 x1 x2 x3 x4 y = kBlk x1 x4 y :=
  out_k x0 x1 x2 x3 x4 y

/-- What one grid point writes of the values: the values. -/
theorem out_v (x0 x1 x2 : Vec Ideal S128x512 .f32) (x3 x4 : Vec Ideal S1x128 .f32) (y : S128x512.Idx) : out0_8 x0 x1 x2 x3 x4 y = vBlk x2 y := by
  refine View.canon_apply_of_pieces (vBlk x2) _ ?_ y (cover0_8 _ y)
  intro pc hpc
  rcases List.mem_cons.mp hpc with rfl | hpc
  · intro i
    dsimp only
    pointwise [k0_pay2]
    exact congrArg x2 (emb_5 i).symm
  nomatch hpc

variable (m : (ℓ : Loc nD τ sig) → Buf (Elt Ideal) ℓ)

theorem idx : ∀ t : Fin cfg0.N, win0_0.index t = ![t.val, 12] ∧ win0_1.index t = ![t.val, 13] ∧ win0_2.index t = ![t.val, 14] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, _)

theorem lt1 (t : Fin cfg0.N) : t.val < 1 := lt_of_lt_of_eq t.isLt (show cfg0.N = 1 from N_0)

/-- The sequence and the position of a row of a grid point's block. -/
abbrev seqOf (r : Fin 128) : Fin 32 := ⟨r.val / 4, by omega⟩
abbrev posOf (r : Fin 128) : Fin 4 := ⟨r.val % 4, by omega⟩

/-- The queries a grid point reads. -/
theorem read_q (c : Dev nD) (t : Fin cfg0.N) (r : Fin 128) (n : Fin 512) :
    iblk m c 0 t (ix2 r n) = m ((c : Thread nD τ).loc main_arg0) (ix3 (seqOf r) (posOf r) ⟨3072 + n.val, by omega⟩) := by
  have ht := lt1 t
  have he : ((View.whole main_v3).slice (win0_0.rect t)).emb (ix2 r n) = ix2 r ⟨6144 + n.val, by omega⟩ := by
    blk_ext [idx t]
  blk_simp [iblk]
  rw [he]
  entry_read
  pointwise
  exact (dif_neg (by omega)).trans (congrArg (fun k => m ((c : Thread nD τ).loc main_arg0) (ix3 (seqOf r) (posOf r) k)) (Fin.ext (by show 6144 + n.val - 3072 = 3072 + n.val; omega)))

/-- The keys a grid point reads. -/
theorem read_k (c : Dev nD) (t : Fin cfg0.N) (r : Fin 128) (n : Fin 512) :
    iblk m c 1 t (ix2 r n) = m ((c : Thread nD τ).loc main_arg0) (ix3 (seqOf r) (posOf r) ⟨3584 + n.val, by omega⟩) := by
  have ht := lt1 t
  have he : ((View.whole main_v3).slice (win0_1.rect t)).emb (ix2 r n) = ix2 r ⟨6656 + n.val, by omega⟩ := by
    blk_ext [idx t]
  blk_simp [iblk]
  rw [he]
  entry_read
  pointwise
  exact (dif_neg (by omega)).trans (congrArg (fun k => m ((c : Thread nD τ).loc main_arg0) (ix3 (seqOf r) (posOf r) k)) (Fin.ext (by show 6656 + n.val - 3072 = 3584 + n.val; omega)))

/-- The values a grid point reads. -/
theorem read_v (c : Dev nD) (t : Fin cfg0.N) (r : Fin 128) (n : Fin 512) :
    iblk m c 2 t (ix2 r n) = m ((c : Thread nD τ).loc main_arg0) (ix3 (seqOf r) (posOf r) ⟨4096 + n.val, by omega⟩) := by
  have ht := lt1 t
  have he : ((View.whole main_v3).slice (win0_2.rect t)).emb (ix2 r n) = ix2 r ⟨7168 + n.val, by omega⟩ := by
    blk_ext [idx t]
  blk_simp [iblk]
  rw [he]
  entry_read
  pointwise
  exact (dif_neg (by omega)).trans (congrArg (fun k => m ((c : Thread nD τ).loc main_arg0) (ix3 (seqOf r) (posOf r) k)) (Fin.ext (by show 7168 + n.val - 3072 = 4096 + n.val; omega)))

/-- The gains of the queries. -/
theorem read_gq (c : Dev nD) (t : Fin cfg0.N) (d : Fin 128) : iblk m c 3 t (ix2 0 d) = m ((c : Thread nD τ).loc main_arg1) (ix1 d) := by
  have he : ((View.whole main_v4).slice (win0_3.rect t)).emb (ix2 0 d) = ix2 0 d := by
    blk_ext [idx t]
  blk_simp [iblk]
  rw [he]
  entry_read
  pointwise

/-- The gains of the keys. -/
theorem read_gk (c : Dev nD) (t : Fin cfg0.N) (d : Fin 128) : iblk m c 4 t (ix2 0 d) = m ((c : Thread nD τ).loc main_arg2) (ix1 d) := by
  have he : ((View.whole main_v5).slice (win0_4.rect t)).emb (ix2 0 d) = ix2 0 d := by
    blk_ext [idx t]
  blk_simp [iblk]
  rw [he]
  entry_read
  pointwise

/-- The sequence and the position of a row of both sequences, one after the other. -/
abbrev seqAt (n : Fin 128) : Fin 32 := ⟨n.val / 4, by omega⟩
abbrev posAt (n : Fin 128) : Fin 4 := ⟨n.val % 4, by omega⟩

/-- The scaled queries of every row. -/
def qArr (p : FVec Ideal S32x4x7680 .f32) (g : FVec Ideal S128 .f32) : FVec Ideal S128x512 .bf16 := fun i : S128x512.Idx =>
  entry (fun n => p (ix3 (seqAt (i 0)) (posAt (i 0)) ⟨3072 + n.val, by omega⟩)) (fun d => g (ix1 d)) (i 1) * qs

/-- The keys of every row. -/
def kArr (p : FVec Ideal S32x4x7680 .f32) (g : FVec Ideal S128 .f32) : FVec Ideal S128x512 .f32 := fun i : S128x512.Idx =>
  entry (fun n => p (ix3 (seqAt (i 0)) (posAt (i 0)) ⟨3584 + n.val, by omega⟩)) (fun d => g (ix1 d)) (i 1)

/-- The values of every row. -/
def vArr (p : FVec Ideal S32x4x7680 .f32) : FVec Ideal S128x512 .bf16 := fun i : S128x512.Idx =>
  (p (ix3 (seqAt (i 0)) (posAt (i 0)) ⟨4096 + (i 1).val, by have : (i 1).val < 512 := (i 1).isLt; omega⟩) : EReal)

theorem rows_idx (y : S128x512.Idx) : y = ix2 (y 0) (y 1) := by
  refine funext fun a => ?_
  fin_cases a <;> rfl

/-- The queries after the last grid point. -/
theorem final_q (c : Dev nD) : (dats m 0 c).arrAt 5 cfg0.N = qArr (m ((c : Thread nD τ).loc main_arg0)) (m ((c : Thread nD τ).loc main_arg1)) := by
  refine (dats m 0 c).arrAt_eq_of_covers 5 _ (by decide +kernel) fun t hf y => ?_
  blk_simp
  rw [after0_5, out_q, rows_idx y]
  have ht := lt1 t
  have hr : (y 0).val < 128 := (y 0).isLt
  have he : ((View.whole main_v6_0).slice (win0_5.rect t)).emb (ix2 (y 0) (y 1)) = ix2 (y 0) (y 1) := by
    blk_ext [idx t]
  refine Eq.trans ?_ (congrArg (qArr _ _) he).symm
  exact congrArg (· * qs) (congrArg₂ (fun x g => entry x g (y 1)) (funext fun n => read_q m c t (y 0) n) (funext fun d => read_gq m c t d))

/-- The keys after the last grid point. -/
theorem final_k (c : Dev nD) : (dats m 0 c).arrAt 6 cfg0.N = kArr (m ((c : Thread nD τ).loc main_arg0)) (m ((c : Thread nD τ).loc main_arg2)) := by
  refine (dats m 0 c).arrAt_eq_of_covers 6 _ (by decide +kernel) fun t hf y => ?_
  blk_simp
  rw [after0_6, out_k, rows_idx y]
  have ht := lt1 t
  have hr : (y 0).val < 128 := (y 0).isLt
  have he : ((View.whole main_v6_1).slice (win0_6.rect t)).emb (ix2 (y 0) (y 1)) = ix2 (y 0) (y 1) := by
    blk_ext [idx t]
  refine Eq.trans ?_ (congrArg (kArr _ _) he).symm
  exact congrArg₂ (fun x g => entry x g (y 1)) (funext fun n => read_k m c t (y 0) n) (funext fun d => read_gk m c t d)

/-- The keys in the narrow format after the last grid point. -/
theorem final_kb (c : Dev nD) : (dats m 0 c).arrAt 7 cfg0.N = kArr (m ((c : Thread nD τ).loc main_arg0)) (m ((c : Thread nD τ).loc main_arg2)) := by
  refine (dats m 0 c).arrAt_eq_of_covers 7 _ (by decide +kernel) fun t hf y => ?_
  blk_simp
  rw [after0_7, out_kb, rows_idx y]
  have ht := lt1 t
  have hr : (y 0).val < 128 := (y 0).isLt
  have he : ((View.whole main_v6_2).slice (win0_7.rect t)).emb (ix2 (y 0) (y 1)) = ix2 (y 0) (y 1) := by
    blk_ext [idx t]
  refine Eq.trans ?_ (congrArg (kArr _ _) he).symm
  exact congrArg₂ (fun x g => entry x g (y 1)) (funext fun n => read_k m c t (y 0) n) (funext fun d => read_gk m c t d)

/-- The values after the last grid point. -/
theorem final_v (c : Dev nD) : (dats m 0 c).arrAt 8 cfg0.N = vArr (m ((c : Thread nD τ).loc main_arg0)) := by
  refine (dats m 0 c).arrAt_eq_of_covers 8 _ (by decide +kernel) fun t hf y => ?_
  blk_simp
  rw [after0_8, out_v, rows_idx y]
  have ht := lt1 t
  have hr : (y 0).val < 128 := (y 0).isLt
  have he : ((View.whole main_v6_3).slice (win0_8.rect t)).emb (ix2 (y 0) (y 1)) = ix2 (y 0) (y 1) := by
    blk_ext [idx t]
  exact (read_v m c t (y 0) (y 1)).trans (congrArg (vArr _) he).symm

end Cert.Kernel9Ideal.Prep
end
-- ==== Proof.QkPrepSRef.lean ====
/- What the reference's normalized queries and keys are, one entry at a time, and that the kernel's arrays are the same. -/
module

public import proofs.«01_k».proof.Proof.QkPrepS
public import proofs.«01_k».proof.Proof.Gen.Reference9Ideal.Run

@[expose] public section

set_option maxRecDepth 16384
noncomputable section
namespace Cert.Reference9Ideal.Value
open Cert.Reference9Ideal Cert.Reference9Ideal.Gen Idealize.ShloMosaic Idealize.ShloMosaic.TcCoe Idealize.SL.Sem Idealize.ShloMosaic.StableHlo Cert.Heads Cert.Kernel9Ideal.Prep

/-- The four heads of a branch's part. -/
def heads (p : FVec Ideal S32x4x7680 .f32) (a : ℕ) (h : S32x4x7680.Slices ![0, 0, a] S32x4x512) : FVec Ideal S32x4x4x128 .f32 :=
  shapeCast S32x4x4x128 (extractStridedSlice S32x4x512 ![0, 0, a] p h) shapeCasts_S32x4x512_S32x4x4x128

/-- Every head over its root mean square, times the gains. -/
def normed (x : FVec Ideal S32x4x4x128 .f32) (g : FVec Ideal S128 .f32) : FVec Ideal S32x4x4x128 .f32 :=
  mulf (mulf x (broadcastInDim S32x4x4x128 ![0, 1, 2, 3] bcast_S32x4x4x1_S32x4x4x128_0_1_2_3 (Host.rsqrt (addf (Host.divf (broadcastInDim S32x4x4x1 ![0, 1, 2] bcast_S32x4x4_S32x4x4x1_0_1_2 (Host.reduceAdd (mulf x x) (constant S_ .f32 0x00000000#32) reducesTo_S32x4x4x128_S32x4x4_d3 h_S_)) (broadcastInDim S32x4x4x1 ![] bcast_S_S32x4x4x1 (constant S_ .f32 0x43000000#32))) (broadcastInDim S32x4x4x1 ![] bcast_S_S32x4x4x1 (constant S_ .f32 0x358637BD#32))))))
    (broadcastInDim S32x4x4x128 ![0, 1, 2, 3] bcast_S1x1x1x128_S32x4x4x128_0_1_2_3 (broadcastInDim S1x1x1x128 ![3] bcast_S128_S1x1x1x128_3 g))

/-- The reference's queries. -/
def outQ (p : FVec Ideal S32x4x7680 .f32) (g : FVec Ideal S128 .f32) : FVec Ideal S128x512 .bf16 :=
  truncf .bf16 (shapeCast S128x512 (Host.divf (Host.divf (normed (heads p 3072 slices_S32x4x7680_S32x4x512_0_0_3072) g)
    (broadcastInDim S32x4x4x128 ![] bcast_S_S32x4x4x128 (Host.sqrt (constant S_ .f32 0x43000000#32)))) (broadcastInDim S32x4x4x128 ![] bcast_S_S32x4x4x128 (Host.log (constant S_ .f32 0x40000000#32)))) shapeCasts_S32x4x4x128_S128x512) bitsLt_bf16_f32

/-- The reference's keys. -/
def outK (p : FVec Ideal S32x4x7680 .f32) (g : FVec Ideal S128 .f32) : FVec Ideal S128x512 .f32 :=
  shapeCast S128x512 (normed (heads p 3584 slices_S32x4x7680_S32x4x512_0_0_3584) g) shapeCasts_S32x4x4x128_S128x512

/-- The reference's keys in the narrow format. -/
def outKb (p : FVec Ideal S32x4x7680 .f32) (g : FVec Ideal S128 .f32) : FVec Ideal S128x512 .bf16 :=
  truncf .bf16 (shapeCast S128x512 (normed (heads p 3584 slices_S32x4x7680_S32x4x512_0_0_3584) g) shapeCasts_S32x4x4x128_S128x512) bitsLt_bf16_f32

/-- The reference's values. -/
def outV (p : FVec Ideal S32x4x7680 .f32) : FVec Ideal S128x512 .bf16 :=
  truncf .bf16 (shapeCast S128x512 (heads p 4096 slices_S32x4x7680_S32x4x512_0_0_4096) shapeCasts_S32x4x4x128_S128x512) bitsLt_bf16_f32

/-- One entry of a head. -/
theorem heads_at (p : FVec Ideal S32x4x7680 .f32) (a : ℕ) (ha : a + 512 ≤ 7680) (h : S32x4x7680.Slices ![0, 0, a] S32x4x512) (b : Fin 32) (s : Fin 4) (k : Fin 4) (d : Fin 128) :
    heads p a h (ix4 b s k d) = p (ix3 b s ⟨a + (128 * k.val + d.val), by omega⟩) := by
  pointwise [heads]
  exact congrArg (fun j => p (ix3 b s j)) (Fin.ext (by
    show a + (k.val * 128 + d.val) = a + (128 * k.val + d.val)
    omega))

/-- One entry of a normalized head. -/
theorem normed_at (x : FVec Ideal S32x4x4x128 .f32) (g : FVec Ideal S128 .f32) (b : Fin 32) (s : Fin 4) (k : Fin 4) (d : Fin 128) :
    normed x g (ix4 b s k d) = normOf (fun e => x (ix4 b s k e)) (g (ix1 d)) d := by
  pointwise [normed]
  rfl

theorem split (i : S128x512.Idx) : i = ix2 (i 0) (i 1) := by
  refine funext fun a => ?_
  fin_cases a <;> rfl

/-- The head and the column of a head of a column of four heads. -/
abbrev hd (n : Fin 512) : Fin 4 := ⟨n.val / 128, by omega⟩
abbrev col (n : Fin 512) : Fin 128 := ⟨n.val % 128, by omega⟩

/-- One normalized entry of a row of four heads. -/
theorem row_at (p : FVec Ideal S32x4x7680 .f32) (g : FVec Ideal S128 .f32) (a : ℕ) (ha : a + 512 ≤ 7680) (h : S32x4x7680.Slices ![0, 0, a] S32x4x512) (b : Fin 32) (s : Fin 4) (n : Fin 512) :
    normed (heads p a h) g (ix4 b s (hd n) (col n)) = entry (fun n => p (ix3 b s ⟨a + n.val, by omega⟩)) (fun d => g (ix1 d)) n := by
  rw [normed_at]
  simp only [heads_at p a ha h]
  rfl

/-- The kernel's queries are the reference's. -/
theorem outQ_eq (p : FVec Ideal S32x4x7680 .f32) (g : FVec Ideal S128 .f32) : outQ p g = qArr p g := by
  funext i
  rw [split i]
  generalize i 0 = r
  generalize i 1 = n
  pointwise [outQ]
  refine (div_div _).trans (congrArg (· * qs) ?_)
  exact row_at p g 3072 (by omega) _ (seqAt r) (posAt r) n

/-- The kernel's keys are the reference's. -/
theorem outK_eq (p : FVec Ideal S32x4x7680 .f32) (g : FVec Ideal S128 .f32) : outK p g = kArr p g := by
  funext i
  rw [split i]
  generalize i 0 = r
  generalize i 1 = n
  pointwise [outK]
  exact row_at p g 3584 (by omega) _ (seqAt r) (posAt r) n

/-- The kernel's keys in the narrow format are the reference's. -/
theorem outKb_eq (p : FVec Ideal S32x4x7680 .f32) (g : FVec Ideal S128 .f32) : outKb p g = kArr p g := by
  funext i
  rw [split i]
  generalize i 0 = r
  generalize i 1 = n
  pointwise [outKb]
  exact row_at p g 3584 (by omega) _ (seqAt r) (posAt r) n

/-- The kernel's values are the reference's. -/
theorem outV_eq (p : FVec Ideal S32x4x7680 .f32) : outV p = vArr p := by
  funext i
  rw [split i]
  generalize i 0 = r
  generalize i 1 = n
  pointwise [outV]
  exact (heads_at p 4096 (by omega) _ (seqAt r) (posAt r) (hd n) (col n)).trans (congrArg (fun k => p (ix3 (seqAt r) (posAt r) k)) (Fin.ext (by
    show 4096 + (128 * (n.val / 128) + n.val % 128) = 4096 + n.val
    omega)))

end Cert.Reference9Ideal.Value
end
-- ==== Proof.Modulation.lean ====
/- The modulation of all layers: what one grid point of the kernel writes, and the array it leaves. -/
module

public import Idealize.ShloMosaic.Lib.Pointwise
public import Idealize.ShloMosaic.Lib.Pipeline.ValueKit
public import Idealize.ShloMosaic.Lib.Claim
public import proofs.«01_k».proof.Proof.Gen.Kernel10Ideal.Value

@[expose] public section

set_option maxRecDepth 16384

noncomputable section

namespace Cert.Kernel10Ideal.Modulation

open Cert.Kernel10Ideal Cert.Kernel10Ideal.Gen Idealize.ShloMosaic Idealize.ShloMosaic.TcCoe Idealize.SL.Sem

/-- A number times its sigmoid. -/
def gated (c : EReal) : EReal := c * Ideal.logistic c

/-- One entry of a block of the result. -/
theorem out_at (v0 : Vec Ideal S34x1024 .f32) (v5 : Vec Ideal S1x1024x1536 .f32) (v9 : Vec Ideal S1x1x1536 .f32) (r : Fin 34) (n : Fin 1536) :
    k0_pay1 v0 v5 v9 (ix3 0 r n) = (∑ d : Fin 1024, gated (v0 (ix2 r d)) * (v5 (ix3 0 d n) : EReal)) + v9 (ix3 0 0 n) := by
  pointwise [k0_pay1]
  rfl

/-- The rows the modulation is computed from: the prompts', then the samples'. -/
def rowOf (p : FVec Ideal S2x1024 .f32) (s : FVec Ideal S32x1024 .f32) (r : Fin 34) (d : Fin 1024) : EReal :=
  if h : r.val < 2 then p (ix2 ⟨r.val, h⟩ d) else s (ix2 ⟨r.val - 2, by omega⟩ d)

/-- One entry of a layer's modulation. -/
def modOf (p : FVec Ideal S2x1024 .f32) (s : FVec Ideal S32x1024 .f32) (w : FVec Ideal S4x1024x6144 .f32) (b : FVec Ideal S4x6144 .f32) (l : Fin 4) (r : Fin 34) (n : Fin 6144) : EReal :=
  (∑ d : Fin 1024, gated (rowOf p s r d) * (w (ix3 l d n) : EReal)) + b (ix2 l n)

/-- The modulation of every layer. -/
def modArr (p : FVec Ideal S2x1024 .f32) (s : FVec Ideal S32x1024 .f32) (w : FVec Ideal S4x1024x6144 .f32) (b : FVec Ideal S4x6144 .f32) : FVec Ideal S4x34x6144 .f32 :=
  fun i : S4x34x6144.Idx => modOf p s w b (i 0) (i 1) (i 2)

variable (m : (ℓ : Loc nD τ sig) → Buf (Elt Ideal) ℓ)

theorem idx : ∀ t : Fin cfg0.N, win0_0.index t = ![0, 0] ∧ win0_1.index t = ![t.val / 4, 0, t.val % 4] ∧ win0_2.index t = ![t.val / 4, 0, t.val % 4] ∧ win0_3.index t = ![t.val / 4, 0, t.val % 4] :=
  (by decide +kernel : ∀ t : Fin grid0.N, _)

theorem lt16 (t : Fin cfg0.N) : t.val < 16 := lt_of_lt_of_eq t.isLt (show cfg0.N = 16 from N_0)

/-- The layer of a grid point, and a column of its block. -/
abbrev layerOf (t : Fin cfg0.N) : Fin 4 := ⟨t.val / 4, by have := lt16 t; omega⟩
abbrev colOf (t : Fin cfg0.N) (n : Fin 1536) : Fin 6144 := ⟨1536 * (t.val % 4) + n.val, by omega⟩

/-- The rows a grid point reads. -/
theorem read_c (c : Dev nD) (t : Fin cfg0.N) (r : Fin 34) (d : Fin 1024) :
    iblk m c 0 t (ix2 r d) = rowOf (m ((c : Thread nD τ).loc main_arg0)) (m ((c : Thread nD τ).loc main_arg1)) r d := by
  have ht := lt16 t
  have he : ((View.whole main_v0).slice (win0_0.rect t)).emb (ix2 r d) = ix2 r d := by
    blk_ext [idx t]
  blk_simp [iblk]
  rw [he]
  entry_read
  unfold rowOf
  pointwise

/-- The weights a grid point reads. -/
theorem read_w (c : Dev nD) (t : Fin cfg0.N) (d : Fin 1024) (n : Fin 1536) :
    iblk m c 1 t (ix3 0 d n) = m ((c : Thread nD τ).loc main_arg2) (ix3 (layerOf t) d (colOf t n)) := by
  have ht := lt16 t
  have he : ((View.whole main_arg2).slice (win0_1.rect t)).emb (ix3 0 d n) = ix3 (layerOf t) d (colOf t n) := by
    blk_ext [idx t]
  blk_simp [iblk]
  rw [he]
  rfl

/-- The offsets a grid point reads. -/
theorem read_b (c : Dev nD) (t : Fin cfg0.N) (n : Fin 1536) :
    iblk m c 2 t (ix3 0 0 n) = m ((c : Thread nD τ).loc main_arg3) (ix2 (layerOf t) (colOf t n)) := by
  have ht := lt16 t
  have he : ((View.whole main_v1).slice (win0_2.rect t)).emb (ix3 0 0 n) = ix3 (layerOf t) 0 (colOf t n) := by
    blk_ext [idx t]
  blk_simp [iblk]
  rw [he]
  entry_read
  pointwise

/-- What one grid point writes. -/
theorem block (c : Dev nD) (t : Fin cfg0.N) (r : Fin 34) (n : Fin 1536) : out0_3 (iblk m c 0 t) (iblk m c 1 t) (iblk m c 2 t) (ix3 0 r n) =
    modOf (m ((c : Thread nD τ).loc main_arg0)) (m ((c : Thread nD τ).loc main_arg1)) (m ((c : Thread nD τ).loc main_arg2)) (m ((c : Thread nD τ).loc main_arg3)) (layerOf t) r (colOf t n) := by
  frame_out
  refine (out_at _ _ _ r n).trans ?_
  unfold modOf
  exact congrArg₂ (· + ·) (Finset.sum_congr rfl fun d _ => congrArg₂ (fun a b : EReal => gated a * b) (read_c m c t r d) (read_w m c t d n)) (read_b m c t n)

/-- What the array holds after the last grid point. -/
theorem final (c : Dev nD) : (dats m 0 c).arrAt 3 cfg0.N =
    modArr (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  have hy : y = ix3 0 (y 1) (y 2) := by
    refine funext fun a => ?_
    fin_cases a
    · exact Subsingleton.elim (α := Fin 1) _ _
    · rfl
    · rfl
  rw [hy]
  refine (block m c t (y 1) (y 2)).trans ?_
  have ht := lt16 t
  have hr : (y 2).val < 1536 := (y 2).isLt
  have he : ((View.whole main_v2).slice (win0_3.rect t)).emb (ix3 0 (y 1) (y 2)) = ix3 (layerOf t) (y 1) (colOf t (y 2)) := by
    blk_ext [idx t]
  exact (congrArg (modArr _ _ _ _) he).symm

end Cert.Kernel10Ideal.Modulation
end
-- ==== Proof.ModulationRef.lean ====
/- What the reference's modulation computes, one entry at a time, and that the kernel's array is the same. -/
module

public import proofs.«01_k».proof.Proof.Modulation
public import proofs.«01_k».proof.Proof.Gen.Reference10Ideal.Run

@[expose] public section

set_option maxRecDepth 16384
noncomputable section
namespace Cert.Reference10Ideal.Value
open Cert.Reference10Ideal Cert.Reference10Ideal.Gen Idealize.ShloMosaic Idealize.ShloMosaic.TcCoe Idealize.SL.Sem Idealize.ShloMosaic.StableHlo

/-- The rows of the prompts, then of the samples. -/
def rows (p : FVec Ideal S2x1024 .f32) (s : FVec Ideal S32x1024 .f32) : FVec Ideal S34x1024 .f32 :=
  concatenate S34x1024 0 [⟨S2x1024, p⟩, ⟨S32x1024, s⟩] concatenates_S2x1024_S32x1024_S34x1024_d0

/-- Each number times its sigmoid. -/
def silu (c : FVec Ideal S34x1024 .f32) : FVec Ideal S34x1024 .f32 :=
  mulf c (Host.divf (broadcastInDim S34x1024 ![] bcast_S_S34x1024 (constant S_ .f32 0x3F800000#32)) (addf (broadcastInDim S34x1024 ![] bcast_S_S34x1024 (constant S_ .f32 0x3F800000#32)) (Host.exp (Host.negf c))))

/-- The reference's result. -/
def out (p : FVec Ideal S2x1024 .f32) (s : FVec Ideal S32x1024 .f32) (w : FVec Ideal S4x1024x6144 .f32) (b : FVec Ideal S4x6144 .f32) : FVec Ideal S4x34x6144 .f32 :=
  addf (transpose S4x34x6144 [0, 2, 1] (Host.dotGeneral dot_S4x1024x6144_S34x1024_S4x6144x34_1_1_02_0_n_n none w (silu (rows p s))) transposes_S4x6144x34_S4x34x6144_0_2_1)
    (broadcastInDim S4x34x6144 ![0, 1, 2] bcast_S4x1x6144_S4x34x6144_0_1_2 (broadcastInDim S4x1x6144 ![0, 2] bcast_S4x6144_S4x1x6144_0_2 b))

theorem rows_at (p : FVec Ideal S2x1024 .f32) (s : FVec Ideal S32x1024 .f32) (r : Fin 34) (d : Fin 1024) :
    rows p s (ix2 r d) = Cert.Kernel10Ideal.Modulation.rowOf p s r d := by
  unfold Cert.Kernel10Ideal.Modulation.rowOf
  pointwise [rows]

theorem silu_at (c : FVec Ideal S34x1024 .f32) (r : Fin 34) (d : Fin 1024) :
    silu c (ix2 r d) = Cert.Kernel10Ideal.Modulation.gated (c (ix2 r d)) := by
  pointwise [silu]
  rfl

/-- The kernel's array is the reference's. -/
theorem out_eq (p : FVec Ideal S2x1024 .f32) (s : FVec Ideal S32x1024 .f32) (w : FVec Ideal S4x1024x6144 .f32) (b : FVec Ideal S4x6144 .f32) :
    out p s w b = Cert.Kernel10Ideal.Modulation.modArr p s w b := by
  funext i
  have hi : i = ix3 (i 0) (i 1) (i 2) := by
    refine funext fun a => ?_
    fin_cases a <;> rfl
  rw [hi]
  generalize i 0 = l
  generalize i 1 = r
  generalize i 2 = n
  pointwise [out]
  refine congrArg (· + _) (Finset.sum_congr rfl fun d _ => ?_)
  exact (mul_comm _ _).trans (congrArg (fun a : EReal => a * _) ((silu_at _ r d).trans (congrArg _ (rows_at p s r d))))

end Cert.Reference10Ideal.Value
end
-- ==== Proof.QueryPre.lean ====
/- What the precondition of the query projection says of each argument, and that the normed rows are then real numbers. -/
module

public import Idealize.ShloMosaic.Lib.Pointwise
public import Idealize.ShloMosaic.Lib.ReduceAll
public import Idealize.ShloMosaic.Lib.IdealHost
public import proofs.«01_k».proof.Proof.Norm
public import proofs.«01_k».proof.Pre_finite11

@[expose] public section

set_option maxRecDepth 16384

noncomputable section

namespace Cert.Query

open Idealize.ShloMosaic Idealize.ShloMosaic.TcCoe

/-- An extended real that is a real number. -/
def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A real number less itself is zero. -/
theorem IsReal.sub_self {x : EReal} (hx : IsReal x) : x - x = 0 := by
  obtain ⟨a, rfl⟩ := hx
  rw [← EReal.coe_sub, _root_.sub_self, EReal.coe_zero]

theorem isReal_one : IsReal 1 := ⟨1, EReal.coe_one.symm⟩

/-- A finite sum of real numbers, taken among the extended ones. -/
theorem coe_sum (s : Finset (Fin 1024)) (f : Fin 1024 → ℝ) : ((∑ e ∈ s, f e : ℝ) : EReal) = ∑ e ∈ s, (f e : EReal) := by
  induction s using Finset.cons_induction with
  | empty => simp
  | cons a s ha ih => rw [Finset.sum_cons, Finset.sum_cons, EReal.coe_add, ih]

/-- A sum of squares of real numbers is a real number that is not negative. -/
theorem sum_sq (x : Fin 1024 → EReal) (hx : ∀ d, IsReal (x d)) : ∃ r : ℝ, 0 ≤ r ∧ ∑ e, x e * x e = r := by
  choose f hf using hx
  refine ⟨∑ e, f e * f e, Finset.sum_nonneg fun e _ => mul_self_nonneg _, ?_⟩
  rw [coe_sum]
  exact Finset.sum_congr rfl fun e _ => by rw [hf e, EReal.coe_mul]

theorem width : Ideal.ofBits FTy.f32 0x44800000#32 = ((1024 : ℝ) : EReal) := by
  simp [Ideal.ofBits, Ideal.ieee, -EReal.coe_mul]
  norm_num

theorem small : ∃ r : ℝ, 0 < r ∧ Ideal.ofBits FTy.f32 0x358637BD#32 = (r : EReal) := by
  refine ⟨8796093 * (2 : ℝ) ^ (-43 : ℤ), by positivity, ?_⟩
  simp [Ideal.ofBits, Ideal.ieee, -EReal.coe_mul]

/-- The reciprocal root of a row's mean square, a small positive number added, is a real number. -/
theorem scale_real (x : Fin 1024 → EReal) (hx : ∀ d, IsReal (x d)) :
    IsReal (Ideal.rsqrt (Ideal.div (∑ e, x e * x e) (Ideal.ofBits FTy.f32 0x44800000#32) + Ideal.ofBits FTy.f32 0x358637BD#32)) := by
  obtain ⟨s, hs, es⟩ := sum_sq x hx
  obtain ⟨e, he, ee⟩ := small
  rw [es, ee, width]
  have hd : Ideal.div (s : EReal) ((1024 : ℝ) : EReal) = ((s * (1024 : ℝ)⁻¹ : ℝ) : EReal) := by
    unfold Ideal.div
    rw [if_neg (by norm_num), ← EReal.coe_inv, ← EReal.coe_mul]
  rw [hd, ← EReal.coe_add]
  have hp : 0 < s * (1024 : ℝ)⁻¹ + e := by positivity
  refine ⟨(Real.sqrt (s * (1024 : ℝ)⁻¹ + e))⁻¹, ?_⟩
  show (if s * (1024 : ℝ)⁻¹ + e < 0 then (⊥ : EReal) else if s * (1024 : ℝ)⁻¹ + e = 0 then ⊤ else ((Real.sqrt (s * (1024 : ℝ)⁻¹ + e))⁻¹ : ℝ)) = _
  rw [if_neg (not_lt.mpr hp.le), if_neg hp.ne']

/-- A normed and modulated entry of real numbers is a real number. -/
theorem normed_real (x : Fin 1024 → EReal) (g sc sh : EReal) (hx : ∀ d, IsReal (x d)) (hg : IsReal g) (hsc : IsReal sc) (hsh : IsReal sh) (d : Fin 1024) :
    IsReal (Cert.Kernel2Ideal.Norm.normed x g sc sh d) :=
  ((((hx d).mul (scale_real x hx)).mul hg).mul (isReal_one.add hsc)).add hsh

/-- An extended real whose absolute value is below the infinite one is a real number. -/
theorem isReal_of_abs {x : EReal} (h : max x (-x) < Ideal.ofBits FTy.f32 0x7F800000#32) : IsReal x := by
  have ht : Ideal.ofBits FTy.f32 0x7F800000#32 = (⊤ : EReal) := by
    simp [Ideal.ofBits, Ideal.ieee]
  rw [ht] at h
  induction x with
  | bot => simp at h
  | top => simp at h
  | coe r => exact ⟨r, rfl⟩

variable [Cert.Pre_finite11.Facts]

/-- The precondition says that every entry of every argument is a real number. -/
theorem real_of_pre (x : FVec Ideal Cert.Pre_finite11.S2x8192x1024 .f32) (g : FVec Ideal Cert.Pre_finite11.S1024 .f32) (sh sc : FVec Ideal Cert.Pre_finite11.S2x1024 .f32) (w : FVec Ideal Cert.Pre_finite11.S1024x2048 .f32)
    (h : Cert.Pre_finite11.fn (F := Ideal) x g sh sc w = fun _ => 1#1) :
    (∀ i, IsReal (x i)) ∧ (∀ i, IsReal (g i)) ∧ (∀ i, IsReal (sh i)) ∧ (∀ i, IsReal (sc i)) ∧ ∀ i, IsReal (w i) := by
  have h1 := congrFun h (fun a : Fin 0 => a.elim0)
  unfold Cert.Pre_finite11.fn Cert.Pre_finite11.fn_part1 at h1
  dsimp only at h1
  obtain ⟨h1, hw⟩ := IntOp.andi_eq_one.1 h1
  obtain ⟨h1, hsc⟩ := IntOp.andi_eq_one.1 h1
  obtain ⟨h1, hsh⟩ := IntOp.andi_eq_one.1 h1
  obtain ⟨hx, hg⟩ := IntOp.andi_eq_one.1 h1
  have key : ∀ a : EReal, Ideal.cmp .olt (max a (-a)) (Ideal.ofBits FTy.f32 0x7F800000#32) = 1#1 → IsReal a := by
    intro a ha
    refine isReal_of_abs (by_contra fun hn => ?_)
    replace ha : BitVec.ofBool (decide (max a (-a) < Ideal.ofBits FTy.f32 0x7F800000#32)) = 1#1 := ha
    rw [decide_eq_false hn] at ha
    exact absurd ha (by decide)
  exact ⟨fun i => key _ (Host.reduce_andi_all _ _ _ _ _ hx i), fun i => key _ (Host.reduce_andi_all _ _ _ _ _ hg i), fun i => key _ (Host.reduce_andi_all _ _ _ _ _ hsh i),
    fun i => key _ (Host.reduce_andi_all _ _ _ _ _ hsc i), fun i => key _ (Host.reduce_andi_all _ _ _ _ _ hw i)⟩

end Cert.Query
end
-- ==== Proof.QueryRunI.lean ====
/- The projection of the second norm's rows: every run of the kernel, idealized, ends, with its arguments kept. The rows are normed at the first
   grid point of their block and kept for the three points after it; their own result is stored at that first point only. -/
module

public import proofs.«01_k».proof.Proof.Gen.Kernel11Ideal.Launch
public import proofs.«01_k».proof.Proof.Gen.Kernel11Ideal.Points
public import proofs.«01_k».proof.Proof.Gen.Kernel11Ideal.Skeleton
public import proofs.«01_k».proof.Proof.Gen.Kernel11Ideal.Frame
public import Idealize.ShloMosaic.Lib.Pipeline.FrameBody
public import Idealize.ShloMosaic.Lib.Pipeline.TableIdle
public import Idealize.ShloMosaic.Lib.Pipeline.ValueKit
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel11Ideal.Query

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev Res := MT nD τ sig Unit (Elt F) ℕ (UR sig nD τ) ℕ

section Body

variable (c : Dev nD) (i : grid0.Coords)
  {a2 : Memref sig .tc .vmem S512x1024 .f32} (w2 : a2.IsWhole) {a3 : Memref sig .tc .vmem S1x1024 .f32} (w3 : a3.IsWhole)
  {a4 : Memref sig .tc .vmem S1x1x1024 .f32} (w4 : a4.IsWhole) {a5 : Memref sig .tc .vmem S1x1x1024 .f32} (w5 : a5.IsWhole)
  {a6 : Memref sig .tc .vmem S1024x512 .bf16} (w6 : a6.IsWhole) {a7 : Memref sig .tc .vmem S1024x512 .bf16} (w7 : a7.IsWhole)
  {a8 : Memref sig .tc .vmem S512x512 .f32} (w8 : a8.IsWhole) {a9 : Memref sig .tc .vmem S512x1024 .bf16} (w9 : a9.IsWhole)
  {a10 : Memref sig .tc .vmem S512x1024 .bf16} (w10 : a10.IsWhole) {a11 : Memref sig .tc .vmem S512x1024 .bf16} (w11 : a11.IsWhole)
  (x : Vec F S512x1024 .f32) (g : Vec F S1x1024 .f32) (sc sh : Vec F S1x1x1024 .f32) (wh wl : Vec F S1024x512 .bf16)

/-- The six inputs of the body, held at given contents. -/
abbrev held (a2 : Memref sig .tc .vmem S512x1024 .f32) (a3 : Memref sig .tc .vmem S1x1024 .f32) (a4 a5 : Memref sig .tc .vmem S1x1x1024 .f32) (a6 a7 : Memref sig .tc .vmem S1024x512 .bf16) : sProp (Res (F := F)) :=
  iprop(owns (c : Thread nD τ) a2 fullShare x ∗ owns (c : Thread nD τ) a3 fullShare g ∗ owns (c : Thread nD τ) a4 fullShare sc
    ∗ owns (c : Thread nD τ) a5 fullShare sh ∗ owns (c : Thread nD τ) a6 fullShare wh ∗ owns (c : Thread nD τ) a7 fullShare wl)

set_option maxHeartbeats 4000000 in
/-- At the first point of a block of rows the body norms the rows, keeps their two halves, stores them as a result and projects them. -/
theorem run_first (hc : k0_cond1 i = 1#1) (E : Set ℕ) (K : PUnit → sProp (Res (F := F))) :
    iprop(held c x g sc sh wh wl a2 a3 a4 a5 a6 a7 ∗ (∃ d, owns (c : Thread nD τ) a8 fullShare d) ∗ (∃ d, owns (c : Thread nD τ) a9 fullShare d)
        ∗ (∃ d, owns (c : Thread nD τ) a10 fullShare d) ∗ (∃ d, owns (c : Thread nD τ) a11 fullShare d)
        ∗ (iprop(held c x g sc sh wh wl a2 a3 a4 a5 a6 a7
            ∗ owns (c : Thread nD τ) a8 fullShare (k0_pay1 (k0_pay4 x g sc sh) (k0_pay5 x g sc sh) wh wl wh) ∗ owns (c : Thread nD τ) a9 fullShare (k0_pay3 x g sc sh)
            ∗ owns (c : Thread nD τ) a10 fullShare (k0_pay4 x g sc sh) ∗ owns (c : Thread nD τ) a11 fullShare (k0_pay5 x g sc sh)) -∗ K ⟨⟩))
      ⊢ wp frame (wpE (defs₀ (F := F)) Variants.none c none) E (cc0_norm_mod_matmul i a2 w2 a3 w3 a4 w4 a5 w5 a6 w6 a7 w7 a8 w8 a9 w9 a10 w10 a11 w11) K := by
  simp only [cc0_norm_mod_matmul_eq_skeleton]
  unfold cc0_norm_mod_matmul_skel
  simp only [k0_part1_eq_skeleton]
  unfold held owns
  iintro ⟨⟨⟨%f2, %h2, H2⟩, ⟨%f3, %h3, H3⟩, ⟨%f4, %h4, H4⟩, ⟨%f5, %h5, H5⟩, ⟨%f6, %h6, H6⟩, ⟨%f7, %h7, H7⟩⟩, ⟨%d8, %f8, -, H8⟩, ⟨%d9, %f9, -, H9⟩, ⟨%d10, %f10, -, H10⟩, ⟨%d11, %f11, -, H11⟩, Hk⟩
  obtain rfl := w2.eq_unread h2
  obtain rfl := w3.eq_unread h3
  obtain rfl := w4.eq_unread h4
  obtain rfl := w5.eq_unread h5
  obtain rfl := w6.eq_unread h6
  obtain rfl := w7.eq_unread h7
  sl_exec (disch := sl_exact hc)
  sl_step
  iapply Hk
  isplitl [H2 H3 H4 H5 H6 H7]
  · isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    iexists _; isplitr; · ipureintro; exact w7.read_unread _
    iexact H7
  isplitl [H8]
  · iexists _; isplitr
    swap; · iexact H8
    ipureintro
    refine (View.read_writes_full _ _ _ _ _).trans ?_
    frame_out
  isplitl [H9]
  · iexists _; isplitr
    swap; · iexact H9
    ipureintro
    refine (View.read_writes_full _ _ _ _ _).trans ?_
    frame_out
  isplitl [H10]
  · iexists _; isplitr
    swap; · iexact H10
    ipureintro
    refine (View.read_writes_full _ _ _ _ _).trans ?_
    frame_out
  iexists _; isplitr
  swap; · iexact H11
  ipureintro
  refine (View.read_writes_full _ _ _ _ _).trans ?_
  frame_out

set_option maxHeartbeats 4000000 in
/-- At the other points the body projects the kept halves and changes nothing else. -/
theorem run_later (hc : ¬k0_cond1 i = 1#1) (p lo : Vec F S512x1024 .bf16) (E : Set ℕ) (K : PUnit → sProp (Res (F := F))) :
    iprop(held c x g sc sh wh wl a2 a3 a4 a5 a6 a7 ∗ (∃ d, owns (c : Thread nD τ) a8 fullShare d)
        ∗ owns (c : Thread nD τ) a10 fullShare p ∗ owns (c : Thread nD τ) a11 fullShare lo
        ∗ (iprop(held c x g sc sh wh wl a2 a3 a4 a5 a6 a7 ∗ owns (c : Thread nD τ) a8 fullShare (k0_pay1 p lo wh wl wh)
            ∗ owns (c : Thread nD τ) a10 fullShare p ∗ owns (c : Thread nD τ) a11 fullShare lo) -∗ K ⟨⟩))
      ⊢ wp frame (wpE (defs₀ (F := F)) Variants.none c none) E (cc0_norm_mod_matmul i a2 w2 a3 w3 a4 w4 a5 w5 a6 w6 a7 w7 a8 w8 a9 w9 a10 w10 a11 w11) K := by
  simp only [cc0_norm_mod_matmul_eq_skeleton]
  unfold cc0_norm_mod_matmul_skel
  simp only [k0_part1_eq_skeleton]
  unfold held owns
  iintro ⟨⟨⟨%f2, %h2, H2⟩, ⟨%f3, %h3, H3⟩, ⟨%f4, %h4, H4⟩, ⟨%f5, %h5, H5⟩, ⟨%f6, %h6, H6⟩, ⟨%f7, %h7, H7⟩⟩, ⟨%d8, %f8, -, H8⟩, ⟨%f10, %h10, H10⟩, ⟨%f11, %h11, H11⟩, Hk⟩
  obtain rfl := w6.eq_unread h6
  obtain rfl := w7.eq_unread h7
  obtain rfl := w10.eq_unread h10
  obtain rfl := w11.eq_unread h11
  sl_exec (disch := sl_exact hc)
  sl_step
  iapply Hk
  isplitl [H2 H3 H4 H5 H6 H7]
  · isplitl [H2]
    · iexists _; isplitr; · ipureintro; exact h2
      iexact H2
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists _; isplitr; · ipureintro; exact w6.read_unread _
      iexact H6
    iexists _; isplitr; · ipureintro; exact w7.read_unread _
    iexact H7
  isplitl [H8]
  · iexists _; isplitr
    swap; · iexact H8
    ipureintro
    refine (View.read_writes_full _ _ _ _ _).trans ?_
    frame_out
  isplitl [H10]
  · iexists _; isplitr; · ipureintro; exact w10.read_unread _
    iexact H10
  iexists _; isplitr; · ipureintro; exact w11.read_unread _
  iexact H11

end Body

/-! ## What every point leaves -/

variable (m : (ℓ : Loc nD τ sig) → Buf (Elt F) ℓ) (ρ : Dev nD → PrngReg)

/-- The first point of a point's block of rows. -/
abbrev first (t : Fin cfg0.N) : Fin cfg0.N := ⟨t.val - t.val % 4, lt_of_le_of_lt (Nat.sub_le _ _) t.isLt⟩

/-- The normed rows of a point's block, as its first point computes them. -/
def rows (c : Dev nD) (t : Fin cfg0.N) : Vec F S512x1024 .bf16 :=
  k0_pay3 (iblk m c 0 (first t)) (iblk m c 1 (first t)) (iblk m c 2 (first t)) (iblk m c 3 (first t))

/-- The half of them kept first. -/
def upper (c : Dev nD) (t : Fin cfg0.N) : Vec F S512x1024 .bf16 :=
  k0_pay4 (iblk m c 0 (first t)) (iblk m c 1 (first t)) (iblk m c 2 (first t)) (iblk m c 3 (first t))

/-- The half of them kept second. -/
def lower (c : Dev nD) (t : Fin cfg0.N) : Vec F S512x1024 .bf16 :=
  k0_pay5 (iblk m c 0 (first t)) (iblk m c 1 (first t)) (iblk m c 2 (first t)) (iblk m c 3 (first t))

/-- The block of the projection a point stores. -/
def projected (c : Dev nD) (t : Fin cfg0.N) : Vec F S512x512 .f32 :=
  k0_pay1 (upper m c t) (lower m c t) (iblk m c 4 t) (iblk m c 5 t) (iblk m c 4 t)

theorem first_of (t : Fin cfg0.N) (h : t.val % 4 = 0) : first t = t := Fin.ext (by simp [first, h])

theorem first_pred (t : Fin cfg0.N) (h : ¬t.val % 4 = 0) : first ⟨t.val - 1, lt_of_le_of_lt (Nat.sub_le _ _) t.isLt⟩ = first t :=
  Fin.ext (by simp only [first]; omega)

/-- The two buffers the kernel keeps between points, before position `n`: at anything at the start, then at the two halves. -/
def keep (c : Dev nD) : (n : ℕ) → n ≤ cfg0.N → sProp (Res (F := F))
  | 0, _ => Pipeline.ΦA spec0 c
  | n + 1, hn => iprop(iprop(owns (c : Thread nD τ) (Memref.whole cc0_scratch0) fullShare (upper m c ⟨n, hn⟩) ∗ owns (c : Thread nD τ) (Memref.whole cc0_scratch1) fullShare (lower m c ⟨n, hn⟩)) ∗ (∃ r, prngReg c r))

theorem start_eq (c : Dev nD) : (Pipeline.ΦA spec0 c : sProp (Res (F := F)))
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA
  rw [scopedRest0_eq]
  simp only [owns_whole]
  try rfl

/-- Whatever they hold, they are held. -/
theorem keep_any (c : Dev nD) (n : ℕ) (hn : n ≤ cfg0.N) : keep m c n hn ⊢ Pipeline.ΦA spec0 c := by
  cases n with
  | zero => exact Idealize.SL.BI.Entails.refl _
  | succ n =>
    rw [start_eq]
    unfold keep
    iintro ⟨⟨Hu, Hl⟩, Hg⟩
    isplitl [Hu Hl]
    · isplitl [Hu]
      · iexists _; iexact Hu
      iexists _; iexact Hl
    iexact Hg

/-- The proof data: the inputs' blocks stay, the projection's block and the rows are left, the two halves are kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => projected m c t
    | ⟨7, _⟩ => rows m c t
  Φ t := keep m c t.val (Nat.le_of_lt_succ t.isLt)
  q _ := fullShare
  owed _ := 0

theorem arr_start (c : Dev nD) (w : Fin cfg0.W) : (dats m 0 c).A w = V m c (Pipeline.arrRef spec0 w) := by
  dsimp only [dats]

theorem after_out (c : Dev nD) (t : Fin cfg0.N) : (dats m 0 c).after 6 t = projected m c t := by dsimp only [dats]
theorem after_rows (c : Dev nD) (t : Fin cfg0.N) : (dats m 0 c).after 7 t = rows m c t := by dsimp only [dats]

theorem cond_iff : ∀ t : Fin cfg0.N, k0_cond1 (grid0.coords t) = 1#1 ↔ t.val % 4 = 0 := fun t => by
  have ht : t.val < 128 := Nat.lt_of_lt_of_eq t.isLt N_0
  have e0 : (grid0.coords t 0).val = t.val / 4 % 32 := Pipeline.Grid.coords_val t 0 (by decide) rfl
  have e1 : (grid0.coords t 1).val = t.val / 1 % 4 := Pipeline.Grid.coords_val t 1 (by decide) rfl
  simp only [k0_cond1, e0, e1]
  word_cmp

/-- The rows' own result is left alone exactly where the rows are not normed. -/
theorem idle_first : ∀ t : Fin cfg0.N, t.val % 4 = 0 → cfg0.idle 7 (grid0.coords t) = false := by decide +kernel
theorem idle_later : ∀ t : Fin cfg0.N, ¬t.val % 4 = 0 → cfg0.idle 7 (grid0.coords t) = true := by decide +kernel

/-- Where the rows' own buffer holds nothing of its block yet: after each fourth point. -/
def blank : ℕ → Bool
  | 0 => true
  | n + 1 => (n % 4 == 3)

theorem blank_step : ∀ t : Fin cfg0.N,
    blank (t.val + 1) = ((cfg0.win 7).flush t || (cfg0.idle 7 (cfg0.grid.coords t) && blank t.val)) := by decide +kernel

theorem later_held (t : Fin cfg0.N) (h : ¬t.val % 4 = 0) : cfg0.fresh 7 t.val = false := by
  rw [Pipeline.Cfg.fresh_tab cfg0 7 blank rfl blank_step t.val (Nat.le_of_lt t.isLt)]
  revert h
  revert t
  decide +kernel

/-- At a later point the rows' own buffer still holds the block's rows. -/
theorem before_rows (c : Dev nD) (t : Fin cfg0.N) (h : ¬t.val % 4 = 0) (d) : (dats m 0 c).before 7 t d = rows m c t := by
  have hcarry : ∀ (s : Fin cfg0.N) (_ : s.val ≠ 0), cfg0.idle 7 (grid0.coords s) = true → cfg0.fresh 7 s.val = false →
      (dats m 0 c).after 7 s = (dats m 0 c).after 7 ⟨s.val - 1, by omega⟩ := by
    intro s _ hi _
    have hs : ¬s.val % 4 = 0 := fun h0 => by
      rw [idle_first s h0] at hi
      exact absurd hi Bool.false_ne_true
    rw [after_rows, after_rows]
    unfold rows
    rw [first_pred s hs]
  rw [Dat.before_out_traj _ 7 rfl (fun _ _ => rfl) hcarry t.val t rfl d, if_neg (by rw [later_held t h]; exact Bool.false_ne_true), after_rows]
  unfold rows
  rw [first_pred t h]

/-! ## The body at every point -/

theorem before_in (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t)
      ∧ (∀ d, (dats m 0 c).before 3 t d = iblk m c 3 t) ∧ (∀ d, (dats m 0 c).before 4 t d = iblk m c 4 t) ∧ (∀ d, (dats m 0 c).before 5 t d = iblk m c 5 t) :=
  ⟨fun d => before0_0_of m (dats m 0 c) (arr_start m c 0) (fun _ => by dsimp only [dats]) t d,
    fun d => before0_1_of m (dats m 0 c) (arr_start m c 1) (fun _ => by dsimp only [dats]) t d,
    fun d => before0_2_of m (dats m 0 c) (arr_start m c 2) (fun _ => by dsimp only [dats]) t d,
    fun d => before0_3_of m (dats m 0 c) (arr_start m c 3) (fun _ => by dsimp only [dats]) t d,
    fun d => before0_4_of m (dats m 0 c) (arr_start m c 4) (fun _ => by dsimp only [dats]) t d,
    fun d => before0_5_of m (dats m 0 c) (arr_start m c 5) (fun _ => by dsimp only [dats]) t d⟩

/-- A window's staging buffer at a point, held at given contents. -/
abbrev staged (c : Dev nD) (w : Fin cfg0.W) (t : Fin cfg0.N) (v : (cfg0.win w).block.Idx → Elt F (cfg0.win w).elt) : sProp (Res (F := F)) :=
  owns (c : Thread nD τ) ((cfg0.win w).stage (cfg0.slots t w)) fullShare v

/-- What the body is called with at a point. -/
def called (c : Dev nD) (t : Fin cfg0.N) : sProp (Res (F := F)) :=
  iprop((dats m 0 c).Φ t.castSucc ∗ (dats m 0 c).owesAt () t.castSucc
    ∗ (∃ d, staged c 0 t ((dats m 0 c).before 0 t d)) ∗ (∃ d, staged c 1 t ((dats m 0 c).before 1 t d))
    ∗ (∃ d, staged c 2 t ((dats m 0 c).before 2 t d)) ∗ (∃ d, staged c 3 t ((dats m 0 c).before 3 t d))
    ∗ (∃ d, staged c 4 t ((dats m 0 c).before 4 t d)) ∗ (∃ d, staged c 5 t ((dats m 0 c).before 5 t d))
    ∗ (∃ d, staged c 6 t ((dats m 0 c).before 6 t d)) ∗ (∃ d, staged c 7 t ((dats m 0 c).before 7 t d)))

/-- What it returns. -/
def returned (c : Dev nD) (t : Fin cfg0.N) : sProp (Res (F := F)) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- A window that is not idle is left at its contents. -/
theorem left_live (c : Dev nD) (w : Fin cfg0.W) (t : Fin cfg0.N) (h : cfg0.idle w (grid0.coords t) = false) :
    (dats m 0 c).leavesExact w t = staged c w t ((dats m 0 c).after w t) := by
  unfold Dat.leavesExact
  rw [show cfg0.idle w (cfg0.grid.coords t) = false from h]

/-- The rows' own buffer, still at the block's rows, is what a later point owes. -/
theorem left_later (c : Dev nD) (t : Fin cfg0.N) (h : ¬t.val % 4 = 0) : staged c 7 t (rows m c t) ⊢ (dats m 0 c).leavesExact 7 t := by
  have hi : cfg0.idle 7 (cfg0.grid.coords t) = true := idle_later t h
  by_cases hf : (cfg0.win 7).flush t = true
  · unfold Dat.leavesExact
    rw [hi, hf]
    dsimp only
    rw [after_rows]
    try exact Idealize.SL.BI.Entails.refl _
  · rw [Dat.leavesExact_idle _ 7 t hi (Bool.not_eq_true _ ▸ hf)]
    simp only [before_rows m c t h]
    iintro H
    iexists (fun _ => Classical.arbitrary _)
    iexact H

set_option maxHeartbeats 6400000 in
/-- The body at any point. -/
theorem at_point (c : Dev nD) (t : Fin cfg0.N) :
    called m c t ⊢ wp frame (wpE (defs₀ (F := F)) Variants.none c none) Set.univ (bodyAt0 t) (fun _ => returned m c t) := by
  obtain ⟨b0, b1, b2, b3, b4, b5⟩ := before_in m c t
  unfold called returned bodyAt0
  simp only [b0, b1, b2, b3, b4, b5]
  rw [show (dats m 0 c).owesAt () t.succ = (dats m 0 c).owesAt () t.castSucc from rfl]
  rw [show (dats m 0 c).Φ t.succ = iprop(iprop(owns (c : Thread nD τ) (Memref.whole cc0_scratch0) fullShare (upper m c t) ∗ owns (c : Thread nD τ) (Memref.whole cc0_scratch1) fullShare (lower m c t)) ∗ (∃ r, prngReg c r)) from rfl]
  rw [left_live m c 0 t rfl, left_live m c 1 t rfl, left_live m c 2 t rfl, left_live m c 3 t rfl, left_live m c 4 t rfl, left_live m c 5 t rfl, left_live m c 6 t rfl, after_out]
  rw [show (dats m 0 c).after 0 t = iblk m c 0 t from rfl, show (dats m 0 c).after 1 t = iblk m c 1 t from rfl, show (dats m 0 c).after 2 t = iblk m c 2 t from rfl,
    show (dats m 0 c).after 3 t = iblk m c 3 t from rfl, show (dats m 0 c).after 4 t = iblk m c 4 t from rfl, show (dats m 0 c).after 5 t = iblk m c 5 t from rfl]
  by_cases h : t.val % 4 = 0
  · rw [left_live m c 7 t (idle_first t h), after_rows]
    unfold projected upper lower rows
    rw [first_of t h]
    have hΦ : (dats m 0 c).Φ t.castSucc ⊢ Pipeline.ΦA spec0 c := keep_any m c _ _
    rw [start_eq] at hΦ
    refine (sep_mono_left hΦ).trans ?_
    iintro ⟨⟨⟨Hu, Hl⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ (iblk m c 0 t) (iblk m c 1 t) (iblk m c 2 t) (iblk m c 3 t) (iblk m c 4 t) (iblk m c 5 t) ((cond_iff t).mpr h) Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [Hu]; · iexact Hu
    isplitl [Hl]; · iexact Hl
    iintro ⟨⟨H0, H1, H2, H3, H4, H5⟩, H6, H7, Hu, Hl⟩
    isplitl [Hu Hl Hg]
    · isplitl [Hu Hl]
      · isplitl [Hu]; · iexact Hu
        iexact Hl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h0 => h (by rw [h0])
    have hΦ : (dats m 0 c).Φ t.castSucc = iprop(iprop(owns (c : Thread nD τ) (Memref.whole cc0_scratch0) fullShare (upper m c t) ∗ owns (c : Thread nD τ) (Memref.whole cc0_scratch1) fullShare (lower m c t)) ∗ (∃ r, prngReg c r)) := by
      have hk : ∀ (n : ℕ) (hn : n ≤ cfg0.N) (_ : n = t.val), keep m c n hn = iprop(iprop(owns (c : Thread nD τ) (Memref.whole cc0_scratch0) fullShare (upper m c t) ∗ owns (c : Thread nD τ) (Memref.whole cc0_scratch1) fullShare (lower m c t)) ∗ (∃ r, prngReg c r)) := by
        intro n hn e
        cases n with
        | zero => exact absurd e.symm hz
        | succ n =>
          have hp : (⟨n, hn⟩ : Fin cfg0.N) = ⟨t.val - 1, lt_of_le_of_lt (Nat.sub_le _ _) t.isLt⟩ := Fin.ext (by simp only; omega)
          have hu : upper m c ⟨n, hn⟩ = upper m c t := by
            unfold upper
            rw [hp, first_pred t h]
          have hl : lower m c ⟨n, hn⟩ = lower m c t := by
            unfold lower
            rw [hp, first_pred t h]
          unfold keep
          dsimp only
          rw [hu, hl]
      exact hk _ _ rfl
    rw [hΦ]
    simp only [before_rows m c t h]
    iintro ⟨⟨⟨Hu, Hl⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ (iblk m c 0 t) (iblk m c 1 t) (iblk m c 2 t) (iblk m c 3 t) (iblk m c 4 t) (iblk m c 5 t) (fun hc => h ((cond_iff t).mp hc)) (upper m c t) (lower m c t) Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [Hu]; · iexact Hu
    isplitl [Hl]; · iexact Hl
    iintro ⟨⟨H0, H1, H2, H3, H4, H5⟩, H6, Hu, Hl⟩
    isplitl [Hu Hl Hg]
    · isplitl [Hu Hl]
      · isplitl [Hu]; · iexact Hu
        iexact Hl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (left_later m c t h)
    iexact H7

/-- The body meets what the pipeline asks of it. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (at_point m c t) rfl .rfl fun _ => .rfl

-- the launch's implicit arguments are found by unifying its conclusion with this one
set_option backward.isDefEq.respectTransparency.types false in
/-- Every run of the program ends with each of the pipeline's arrays at what the proof data give, and every counter at zero. -/
theorem ends : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arr_start m)
    (hin := fun _ => Idealize.SL.BI.Entails.refl _) (hout := fun c => keep_any m c cfg0.N (Nat.le_refl _))

/-- Every run ends with the arguments as they were and every counter at zero. -/
theorem kept_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arr_start m) ((θ_run defs _ _).mono (fun _ h => h.1) (ends m ρ))) ((θ_run defs _ _).mono (fun _ h => h.2) (ends m ρ))

end Cert.Kernel11Ideal.Query
end
-- ==== Proof.Query.lean ====
/- The layer's norm, its modulation and the projection for the queries: what one grid point of the kernel writes, and the two
   arrays it leaves. -/
module

public import Idealize.ShloMosaic.Lib.Pointwise
public import Idealize.ShloMosaic.Lib.Pipeline.ValueKit
public import Idealize.ShloMosaic.Lib.Pipeline.ReadBack
public import Idealize.ShloMosaic.Lib.Claim
public import proofs.«01_k».proof.Proof.QueryPre
public import proofs.«01_k».proof.Proof.QueryRunI

@[expose] public section

set_option maxRecDepth 16384

noncomputable section

namespace Cert.Kernel11Ideal.Query

open Cert.Kernel11Ideal Cert.Kernel11Ideal.Gen Idealize.ShloMosaic Idealize.ShloMosaic.TcCoe Idealize.SL.Sem Cert.Query Cert.Kernel2Ideal.Norm

/-- One entry of the block of normed rows that a first point of a block of rows writes out. -/
theorem rows_at (x : Vec Ideal S512x1024 .f32) (g : Vec Ideal S1x1024 .f32) (sc sh : Vec Ideal S1x1x1024 .f32) (r : Fin 512) (d : Fin 1024) :
    k0_pay3 x g sc sh (ix2 r d) = normed (fun e => x (ix2 r e)) (g (ix2 0 d)) (sc (ix3 0 0 d)) (sh (ix3 0 0 d)) d := by
  pointwise [k0_pay3, k0_pay2]
  rfl

/-- One entry of the upper half of the rows. -/
theorem upper_at (x : Vec Ideal S512x1024 .f32) (g : Vec Ideal S1x1024 .f32) (sc sh : Vec Ideal S1x1x1024 .f32) (r : Fin 512) (d : Fin 1024) :
    k0_pay4 x g sc sh (ix2 r d) = normed (fun e => x (ix2 r e)) (g (ix2 0 d)) (sc (ix3 0 0 d)) (sh (ix3 0 0 d)) d := by
  pointwise [k0_pay4, k0_pay3, k0_pay2]
  rfl

/-- One entry of the lower half of the rows: what the upper half leaves over. -/
theorem lower_at (x : Vec Ideal S512x1024 .f32) (g : Vec Ideal S1x1024 .f32) (sc sh : Vec Ideal S1x1x1024 .f32) (r : Fin 512) (d : Fin 1024) :
    k0_pay5 x g sc sh (ix2 r d) = normed (fun e => x (ix2 r e)) (g (ix2 0 d)) (sc (ix3 0 0 d)) (sh (ix3 0 0 d)) d
      - normed (fun e => x (ix2 r e)) (g (ix2 0 d)) (sc (ix3 0 0 d)) (sh (ix3 0 0 d)) d := by
  pointwise [k0_pay5, k0_pay3, k0_pay2]
  rfl

/-- One entry of a block of the projection, from the halves of the rows and of the weights. -/
theorem prod_at (hi lo : Vec Ideal S512x1024 .bf16) (wh wl : Vec Ideal S1024x512 .bf16) (r n : Fin 512) :
    k0_pay1 hi lo wh wl wh (ix2 r n) = (∑ d : Fin 1024, (hi (ix2 r d) : EReal) * wh (ix2 d n))
      + ((∑ d : Fin 1024, (hi (ix2 r d) : EReal) * wl (ix2 d n)) + ∑ d : Fin 1024, (lo (ix2 r d) : EReal) * wh (ix2 d n)) := by
  pointwise [k0_pay1]

/-- The projection of both sequences' normed rows, one after the other. -/
def outArr (x : FVec Ideal S2x8192x1024 .f32) (g : FVec Ideal S1024 .f32) (sh sc : FVec Ideal S2x1024 .f32) (w : FVec Ideal S1024x2048 .f32) : FVec Ideal S16384x2048 .f32 := fun i : S16384x2048.Idx =>
  ∑ d : Fin 1024, hOf x g sh sc ⟨(i 0).val / 8192, by have : (i 0).val < 16384 := (i 0).isLt; omega⟩ ⟨(i 0).val % 8192, Nat.mod_lt _ (by norm_num)⟩ d * w (ix2 d (i 1))

/-- Both sequences' normed rows, one after the other. -/
def rowsArr (x : FVec Ideal S2x8192x1024 .f32) (g : FVec Ideal S1024 .f32) (sh sc : FVec Ideal S2x1024 .f32) : FVec Ideal S16384x1024 .bf16 := fun i : S16384x1024.Idx =>
  hOf x g sh sc ⟨(i 0).val / 8192, by have : (i 0).val < 16384 := (i 0).isLt; omega⟩ ⟨(i 0).val % 8192, Nat.mod_lt _ (by norm_num)⟩ (i 1)

variable (m : (ℓ : Loc nD τ sig) → Buf (Elt Ideal) ℓ)

theorem idx : ∀ t : Fin cfg0.N, win0_0.index t = ![t.val / 4, 0] ∧ win0_1.index t = ![0, 0] ∧ win0_2.index t = ![t.val / 64, 0, 0] ∧ win0_3.index t = ![t.val / 64, 0, 0]
    ∧ win0_4.index t = ![0, t.val % 4] ∧ win0_5.index t = ![0, t.val % 4] ∧ win0_6.index t = ![t.val / 4, t.val % 4] ∧ win0_7.index t = ![t.val / 4, 0] :=
  (by decide +kernel : ∀ t : Fin grid0.N, _)

theorem lt128 (t : Fin cfg0.N) : t.val < 128 := lt_of_lt_of_eq t.isLt (show cfg0.N = 128 from N_0)

/-- The sequence and the position of a row of a block of rows. -/
abbrev seqOf (t : Fin cfg0.N) (r : Fin 512) : Fin 2 := ⟨(512 * (t.val / 4) + r.val) / 8192, by have := lt128 t; omega⟩
abbrev posOf (t : Fin cfg0.N) (r : Fin 512) : Fin 8192 := ⟨(512 * (t.val / 4) + r.val) % 8192, Nat.mod_lt _ (by norm_num)⟩

/-- The layer input a grid point reads. -/
theorem read_x (c : Dev nD) (t : Fin cfg0.N) (r : Fin 512) (d : Fin 1024) :
    iblk m c 0 t (ix2 r d) = m ((c : Thread nD τ).loc main_arg0) (ix3 (seqOf t r) (posOf t r) d) := by
  have ht := lt128 t
  have he : ((View.whole main_v0).slice (win0_0.rect t)).emb (ix2 r d) = ix2 ⟨512 * (t.val / 4) + r.val, by omega⟩ d := by
    blk_ext [idx t]
  blk_simp [iblk]
  rw [he]
  entry_read
  pointwise

/-- The gain a grid point reads. -/
theorem read_g (c : Dev nD) (t : Fin cfg0.N) (d : Fin 1024) :
    iblk m c 1 t (ix2 0 d) = m ((c : Thread nD τ).loc main_arg1) (ix1 d) := by
  have ht := lt128 t
  have he : ((View.whole main_v7).slice (win0_1.rect t)).emb (ix2 0 d) = ix2 0 d := by
    blk_ext [idx t]
  blk_simp [iblk]
  rw [he]
  entry_read
  pointwise

/-- The scale a grid point reads. -/
theorem read_sc (c : Dev nD) (t : Fin cfg0.N) (r : Fin 512) (d : Fin 1024) :
    iblk m c 2 t (ix3 0 0 d) = m ((c : Thread nD τ).loc main_arg3) (ix2 (seqOf t r) d) := by
  have ht := lt128 t
  have he : ((View.whole main_v1).slice (win0_2.rect t)).emb (ix3 0 0 d) = ix3 (seqOf t r) 0 d := by
    blk_ext [idx t]
  blk_simp [iblk]
  rw [he]
  entry_read
  pointwise

/-- The shift a grid point reads. -/
theorem read_sh (c : Dev nD) (t : Fin cfg0.N) (r : Fin 512) (d : Fin 1024) :
    iblk m c 3 t (ix3 0 0 d) = m ((c : Thread nD τ).loc main_arg2) (ix2 (seqOf t r) d) := by
  have ht := lt128 t
  have he : ((View.whole main_v2).slice (win0_3.rect t)).emb (ix3 0 0 d) = ix3 (seqOf t r) 0 d := by
    blk_ext [idx t]
  blk_simp [iblk]
  rw [he]
  entry_read
  pointwise

/-- The upper half of the weights a grid point reads: over the extended reals, the weights. -/
theorem read_wh (c : Dev nD) (t : Fin cfg0.N) (d : Fin 1024) (n : Fin 512) (hn : 512 * (t.val % 4) + n.val < 2048) :
    iblk m c 4 t (ix2 d n) = m ((c : Thread nD τ).loc main_arg4) (ix2 d ⟨512 * (t.val % 4) + n.val, hn⟩) := by
  have ht := lt128 t
  have he : ((View.whole main_v3).slice (win0_4.rect t)).emb (ix2 d n) = ix2 d ⟨512 * (t.val % 4) + n.val, hn⟩ := by
    blk_ext [idx t]
  blk_simp [iblk]
  rw [he]
  entry_read
  pointwise

/-- The lower half of the weights a grid point reads: over the extended reals, the weights less themselves. -/
theorem read_wl (c : Dev nD) (t : Fin cfg0.N) (d : Fin 1024) (n : Fin 512) (hn : 512 * (t.val % 4) + n.val < 2048) :
    iblk m c 5 t (ix2 d n) = HSub.hSub (α := EReal) (β := EReal) (γ := EReal) (m ((c : Thread nD τ).loc main_arg4) (ix2 d ⟨512 * (t.val % 4) + n.val, hn⟩)) (m ((c : Thread nD τ).loc main_arg4) (ix2 d ⟨512 * (t.val % 4) + n.val, hn⟩)) := by
  have ht := lt128 t
  have he : ((View.whole main_v6).slice (win0_5.rect t)).emb (ix2 d n) = ix2 d ⟨512 * (t.val % 4) + n.val, hn⟩ := by
    blk_ext [idx t]
  blk_simp [iblk]
  rw [he]
  entry_read
  pointwise

/-- The normed rows of a memory's arguments. -/
abbrev hRow (c : Dev nD) (b : Fin 2) (s : Fin 8192) (d : Fin 1024) : EReal :=
  hOf (m ((c : Thread nD τ).loc main_arg0)) (m ((c : Thread nD τ).loc main_arg1)) (m ((c : Thread nD τ).loc main_arg2)) (m ((c : Thread nD τ).loc main_arg3)) b s d

/-- The entry of the normed rows that a grid point's inputs give. -/
theorem h_read (c : Dev nD) (t : Fin cfg0.N) (r : Fin 512) (d : Fin 1024) :
    normed (fun e => iblk m c 0 t (ix2 r e)) (iblk m c 1 t (ix2 0 d)) (iblk m c 2 t (ix3 0 0 d)) (iblk m c 3 t (ix3 0 0 d)) d = hRow m c (seqOf t r) (posOf t r) d := by
  rw [read_g, read_sc m c t r, read_sh m c t r]
  simp only [read_x]
  rfl

/-- The first point of a block of rows reads the block's own rows. -/
theorem first_row (c : Dev nD) (t : Fin cfg0.N) (r : Fin 512) (d : Fin 1024) :
    hRow m c (seqOf (first t) r) (posOf (first t) r) d = hRow m c (seqOf t r) (posOf t r) d := by
  have hd : (t.val - t.val % 4) / 4 = t.val / 4 := by omega
  simp only [seqOf, posOf, first, hd]

/-- One entry of the block of normed rows. -/
theorem rows_block (c : Dev nD) (t : Fin cfg0.N) (r : Fin 512) (d : Fin 1024) : rows m c t (ix2 r d) = hRow m c (seqOf t r) (posOf t r) d := by
  unfold rows
  exact (rows_at _ _ _ _ r d).trans ((h_read m c (first t) r d).trans (first_row m c t r d))

/-- One entry of the kept upper half. -/
theorem upper_block (c : Dev nD) (t : Fin cfg0.N) (r : Fin 512) (d : Fin 1024) : upper m c t (ix2 r d) = hRow m c (seqOf t r) (posOf t r) d := by
  unfold upper
  exact (upper_at _ _ _ _ r d).trans ((h_read m c (first t) r d).trans (first_row m c t r d))

/-- One entry of the kept lower half. -/
theorem lower_block (c : Dev nD) (t : Fin cfg0.N) (r : Fin 512) (d : Fin 1024) :
    lower m c t (ix2 r d) = hRow m c (seqOf t r) (posOf t r) d - hRow m c (seqOf t r) (posOf t r) d := by
  unfold lower
  refine (lower_at _ _ _ _ r d).trans ?_
  rw [h_read m c (first t) r d, first_row m c t r d]

/-- Every argument of one device holds real numbers only. -/
def Real5 (c : Dev nD) : Prop :=
  (∀ i, IsReal (m ((c : Thread nD τ).loc main_arg0) i)) ∧ (∀ i, IsReal (m ((c : Thread nD τ).loc main_arg1) i)) ∧ (∀ i, IsReal (m ((c : Thread nD τ).loc main_arg2) i))
    ∧ (∀ i, IsReal (m ((c : Thread nD τ).loc main_arg3) i)) ∧ ∀ i, IsReal (m ((c : Thread nD τ).loc main_arg4) i)

/-- What one grid point writes of the projection. -/
theorem block (c : Dev nD) (hr : Real5 m c) (t : Fin cfg0.N) (r n : Fin 512) (hn : 512 * (t.val % 4) + n.val < 2048) :
    projected m c t (ix2 r n) = ∑ d : Fin 1024, hRow m c (seqOf t r) (posOf t r) d * m ((c : Thread nD τ).loc main_arg4) (ix2 d ⟨512 * (t.val % 4) + n.val, hn⟩) := by
  obtain ⟨hx, hg, hsh, hsc, hw⟩ := hr
  have hh : ∀ b s d, IsReal (hRow m c b s d) := fun b s d => normed_real _ _ _ _ (fun _ => hx _) (hg _) (hsc _) (hsh _) d
  unfold projected
  refine (prod_at _ _ _ _ r n).trans ?_
  have h2 : (∑ d : Fin 1024, (upper m c t (ix2 r d) : EReal) * iblk m c 5 t (ix2 d n)) = 0 := Finset.sum_eq_zero fun d _ => by
    rw [read_wl m c t d n hn, (hw _).sub_self, mul_zero]
  have h3 : (∑ d : Fin 1024, (lower m c t (ix2 r d) : EReal) * iblk m c 4 t (ix2 d n)) = 0 := Finset.sum_eq_zero fun d _ => by
    rw [lower_block, (hh _ _ _).sub_self, zero_mul]
  rw [h2, h3, add_zero, add_zero]
  exact Finset.sum_congr rfl fun d _ => congrArg₂ (· * ·) (upper_block m c t r d) (read_wh m c t d n hn)

/-- What the projection's array holds after the last grid point, of real arguments. -/
theorem final_out (c : Dev nD) (hr : Real5 m c) : (dats m 0 c).arrAt 6 cfg0.N = outArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after_out]
  have hy : y = ix2 (y 0) (y 1) := by
    refine funext fun a => ?_
    fin_cases a <;> rfl
  rw [hy]
  have ht := lt128 t
  have hr0 : (y 0).val < 512 := (y 0).isLt
  have hc : (y 1).val < 512 := (y 1).isLt
  refine (block m c hr t (y 0) (y 1) (by omega)).trans ?_
  have he : ((View.whole main_v8_0).slice (win0_6.rect t)).emb (ix2 (y 0) (y 1)) = ix2 ⟨512 * (t.val / 4) + (y 0).val, by omega⟩ ⟨512 * (t.val % 4) + (y 1).val, by omega⟩ := by
    blk_ext [idx t]
  exact (congrArg (outArr _ _ _ _ _) he).symm

/-- What the rows' array holds after the last grid point. -/
theorem final_rows (c : Dev nD) : (dats m 0 c).arrAt 7 cfg0.N = rowsArr (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after_rows]
  have hy : y = ix2 (y 0) (y 1) := by
    refine funext fun a => ?_
    fin_cases a <;> rfl
  rw [hy]
  have ht := lt128 t
  have hr0 : (y 0).val < 512 := (y 0).isLt
  refine (rows_block m c t (y 0) (y 1)).trans ?_
  have he : ((View.whole main_v8_1).slice (win0_7.rect t)).emb (ix2 (y 0) (y 1)) = ix2 ⟨512 * (t.val / 4) + (y 0).val, by omega⟩ (y 1) := by
    blk_ext [idx t]
  exact (congrArg (rowsArr _ _ _ _) he).symm

variable (ρ : Dev nD → PrngReg)

/-- Every run on real arguments ends with the projection, the normed rows and the arguments as they were. -/
theorem run_blocks (hr : ∀ c, Real5 m c) : θ_run defs (onTc (τ := τ) (main (F := Ideal))) ⟨m, fun _ => 0, ρ⟩ (fun r => ∀ c : Dev nD,
      r.2.mem ((c.tc : Thread nD τ).loc main_v8_0) = outArr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v8_1) = rowsArr (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 6).trans (final_out m c (hr c)), ((h.1.1 c).1 7).trans (final_rows m c), h.2.1 c⟩) (θ_run_and (ends m ρ) (kept_all m ρ))

end Cert.Kernel11Ideal.Query
end
-- ==== Proof.QueryRef.lean ====
/- What the reference's norm, modulation and projection for the queries compute, one entry at a time, and that the kernel's two
   arrays are the same. -/
module

public import proofs.«01_k».proof.Proof.Query
public import proofs.«01_k».proof.Proof.Gen.Reference11Ideal.Run

@[expose] public section

set_option maxRecDepth 16384
noncomputable section
namespace Cert.Reference11Ideal.Value
open Cert.Reference11Ideal Cert.Reference11Ideal.Gen Idealize.ShloMosaic Idealize.ShloMosaic.TcCoe Idealize.SL.Sem Idealize.ShloMosaic.StableHlo

/-- The normed and modulated rows. -/
def rowsOf (x : FVec Ideal S2x8192x1024 .f32) (g : FVec Ideal S1024 .f32) (sh sc : FVec Ideal S2x1024 .f32) : FVec Ideal S2x8192x1024 .f32 :=
  addf (mulf (mulf (mulf x (broadcastInDim S2x8192x1024 ![0, 1, 2] bcast_S2x8192x1_S2x8192x1024_0_1_2 (Host.rsqrt (addf (Host.divf
        (broadcastInDim S2x8192x1 ![0, 1] bcast_S2x8192_S2x8192x1_0_1 (Host.reduceAdd (mulf x x) (constant S_ .f32 0x00000000#32) reducesTo_S2x8192x1024_S2x8192_d2 h_S_))
        (broadcastInDim S2x8192x1 ![] bcast_S_S2x8192x1 (constant S_ .f32 0x44800000#32))) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 sc))))
    (broadcastInDim S2x8192x1024 ![0, 1, 2] bcast_S2x1x1024_S2x8192x1024_0_1_2 (broadcastInDim S2x1x1024 ![0, 2] bcast_S2x1024_S2x1x1024_0_2 sh))

/-- The projection of the rows, both sequences' one after the other. -/
def proj (h : FVec Ideal S2x8192x1024 .f32) (w : FVec Ideal S1024x2048 .f32) : FVec Ideal S16384x2048 .f32 :=
  shapeCast S16384x2048 (Host.dotGeneral dot_S2x8192x1024_S1024x2048_S2x8192x2048_2_0_01_1_n_n none h w) shapeCasts_S2x8192x2048_S16384x2048

/-- The rows themselves, both sequences' one after the other. -/
def laid (h : FVec Ideal S2x8192x1024 .f32) : FVec Ideal S16384x1024 .bf16 :=
  truncf .bf16 (shapeCast S16384x1024 h shapeCasts_S2x8192x1024_S16384x1024) bitsLt_bf16_f32

/-- One entry of the normed and modulated rows. -/
theorem rowsOf_at (x : FVec Ideal S2x8192x1024 .f32) (g : FVec Ideal S1024 .f32) (sh sc : FVec Ideal S2x1024 .f32) (b : Fin 2) (s : Fin 8192) (d : Fin 1024) :
    rowsOf x g sh sc (ix3 b s d) = Cert.Kernel2Ideal.Norm.hOf x g sh sc b s d := by
  pointwise [rowsOf]
  rfl

/-- One entry of the projection. -/
theorem proj_at (h : FVec Ideal S2x8192x1024 .f32) (w : FVec Ideal S1024x2048 .f32) (i : Fin 16384) (n : Fin 2048) :
    proj h w (ix2 i n) = ∑ d : Fin 1024, (h (ix3 ⟨i.val / 8192, by omega⟩ ⟨i.val % 8192, Nat.mod_lt _ (by norm_num)⟩ d) : EReal) * w (ix2 d n) := by
  pointwise [proj]

/-- One entry of the rows laid out. -/
theorem laid_at (h : FVec Ideal S2x8192x1024 .f32) (i : Fin 16384) (d : Fin 1024) :
    laid h (ix2 i d) = h (ix3 ⟨i.val / 8192, by omega⟩ ⟨i.val % 8192, Nat.mod_lt _ (by norm_num)⟩ d) := by
  pointwise [laid]

/-- The reference's projection is the kernel's. -/
theorem out_eq (x : FVec Ideal S2x8192x1024 .f32) (g : FVec Ideal S1024 .f32) (sh sc : FVec Ideal S2x1024 .f32) (w : FVec Ideal S1024x2048 .f32) :
    proj (rowsOf x g sh sc) w = Cert.Kernel11Ideal.Query.outArr x g sh sc w := by
  funext i
  have hi : i = ix2 (i 0) (i 1) := by
    refine funext fun a => ?_
    fin_cases a <;> rfl
  rw [hi]
  exact (proj_at _ _ (i 0) (i 1)).trans (Finset.sum_congr rfl fun d _ => congrArg (· * _) (rowsOf_at _ _ _ _ _ _ d))

/-- The reference's rows are the kernel's. -/
theorem rows_eq (x : FVec Ideal S2x8192x1024 .f32) (g : FVec Ideal S1024 .f32) (sh sc : FVec Ideal S2x1024 .f32) :
    laid (rowsOf x g sh sc) = Cert.Kernel11Ideal.Query.rowsArr x g sh sc := by
  funext i
  have hi : i = ix2 (i 0) (i 1) := by
    refine funext fun a => ?_
    fin_cases a <;> rfl
  rw [hi]
  exact (laid_at _ (i 0) (i 1)).trans (rowsOf_at _ _ _ _ _ _ (i 1))

end Cert.Reference11Ideal.Value
end
-- ==== Proof.Ret.lean ====
/- The retention's states of the samples: what one head's stores are. -/
module

public import Idealize.ShloMosaic.Lib.Pointwise
public import Idealize.ShloMosaic.Lib.WordCmp
public import Idealize.ShloMosaic.Lib.Pipeline.ValueKit
public import Idealize.ShloMosaic.Lib.Pipeline.ReadBack
public import Idealize.ShloMosaic.Lib.Claim
public import proofs.«01_k».proof.Proof.Gen.Kernel12Ideal.Skeleton

@[expose] public section

set_option maxRecDepth 16384

noncomputable section

namespace Cert.Kernel12Ideal.Ret

open Cert.Kernel12Ideal Cert.Kernel12Ideal.Gen Idealize.ShloMosaic Idealize.ShloMosaic.TcCoe Idealize.SL.Sem

/-- The scale of the keys. -/
def ks : EReal := (((Real.sqrt 128)⁻¹ : ℝ) : EReal)

theorem named_k_scale : Named.named (F := Ideal) κ "k_scale" (φ := .f32) 0x3DB504F3#32 = ks :=
  IdealRules.named_const.ideal_named_scalar _ _ _ _ rfl

theorem named_dec0 : Named.named (F := Ideal) κ "chunk_dec0" (φ := .f32) 0x3F617810#32 = ((923521 / 1048576 : ℝ) : EReal) :=
  IdealRules.named_const.ideal_named_scalar _ _ _ _ rfl
theorem named_dec1 : Named.named (F := Ideal) κ "chunk_dec1" (φ := .f32) 0x3F705F01#32 = ((15752961 / 16777216 : ℝ) : EReal) :=
  IdealRules.named_const.ideal_named_scalar _ _ _ _ rfl
theorem named_dec2 : Named.named (F := Ideal) κ "chunk_dec2" (φ := .f32) 0x3F7817E0#32 = ((260144641 / 268435456 : ℝ) : EReal) :=
  IdealRules.named_const.ideal_named_scalar _ _ _ _ rfl
theorem named_dec3 : Named.named (F := Ideal) κ "chunk_dec3" (φ := .f32) 0x3F7C05FC#32 = ((4228250625 / 4294967296 : ℝ) : EReal) :=
  IdealRules.named_const.ideal_named_scalar _ _ _ _ rfl

/-- The place in a head that the rotation pairs with a place. -/
abbrev other (d : Fin 128) : Fin 128 := ⟨(d.val + 128 - 64) % 128, Nat.mod_lt _ (by norm_num)⟩

/-- An entry of a head of keys, rotated and scaled. -/
def rot (k cos sin : Fin 128 → EReal) (d : Fin 128) : EReal := (k d * cos d + k (other d) * sin d) * ks

/-- The rows that belong to a sequence. -/
theorem mask_at (i : grid0.Coords) (r d : Fin 128) : k0_pay24 i (ix2 r d) = BitVec.ofBool (decide (r.val / 4 = (i 0).val)) := by
  pointwise [k0_pay24]
  have hr : r.val / 4 < 2 ^ 32 := by omega
  have hi : (i 0).val < 2 ^ 32 := lt_trans (show (i 0).val < 32 from (i 0).isLt) (by norm_num)
  have hs : IntOp.shrui ArithUnit.vector (BitVec.ofNat 32 r.val) 2#32 = BitVec.ofNat 32 (r.val / 4) := by
    revert r
    decide +kernel
  rw [hs, WordCmp.cmpi_eq_eq]
  simp only [WordCmp.ofNat_eq_ofNat_iff hr hi]

theorem key0_at (v3 v5 : Vec Ideal S128x128 .f32) (v : Vec Ideal S1x128x128 .f32) (r d : Fin 128) :
    k0_pay26 v3 v5 v (ix2 r d) = rot (fun e => v (ix3 0 r e)) (fun e => v3 (ix2 r e)) (fun e => v5 (ix2 r e)) d := by
  pointwise [k0_pay26, k0_pay22, k0_pay23]
  rw [named_k_scale]
  rfl

theorem key3_at (v4 v6 : FVec Ideal S128x128 .f32) (v : Vec Ideal S1x128x128 .f32) (r d : Fin 128) :
    k0_pay48 v4 v6 v (ix2 r d) = rot (fun e => v (ix3 0 r e)) (fun e => v4 (ix2 r e)) (fun e => v6 (ix2 r e)) d := by
  pointwise [k0_pay48]
  rw [named_k_scale]
  rfl

theorem sel (p : Prop) [Decidable p] (x y : EReal) : Scalar.select (BitVec.ofBool (decide p)) x y = if p then x else y := by
  by_cases h : p
  · rw [if_pos h, decide_eq_true h]
    rfl
  · rw [if_neg h, decide_eq_false h]
    rfl

/-- A head's state after its sequence's rows. -/
def upd (γ : EReal) (s : EReal) (b : Fin 128 → Prop) [DecidablePred b] (k v : Fin 128 → EReal) : EReal :=
  γ * s + ∑ r : Fin 128, (if b r then k r * v r else 0)

theorem st0_at (i : grid0.Coords) (k v s : FVec Ideal S128x128 .f32) (kd : Vec Ideal S128x128 .f32) (d e : Fin 128) :
    k0_pay31 (k0_pay24 i) k v s kd (ix4 0 0 d e) = upd ((923521 / 1048576 : ℝ) : EReal) (s (ix2 d e)) (fun r => r.val / 4 = (i 0).val) (fun r => (k (ix2 r d) : EReal) * kd (ix2 r d)) (fun r => v (ix2 r e)) := by
  pointwise [k0_pay31]
  simp only [mask_at, named_dec0, sel]
  rfl

theorem st1_at (i : grid0.Coords) (v4 v6 : FVec Ideal S128x128 .f32) (w v : Vec Ideal S1x128x128 .f32) (s : Vec Ideal S1x1x1x128x128 .f32) (kd : Vec Ideal S128x128 .f32) (d e : Fin 128) :
    k0_pay39 (k0_pay38 v6 (k0_pay24 i) (k0_pay34 v4 w) (k0_pay35 w) v s kd) (ix4 0 0 d e) = upd ((15752961 / 16777216 : ℝ) : EReal) (s (ix5 0 0 0 d e)) (fun r => r.val / 4 = (i 0).val)
      (fun r => (rot (fun e => w (ix3 0 r e)) (fun e => v4 (ix2 r e)) (fun e => v6 (ix2 r e)) d : EReal) * kd (ix2 r d)) (fun r => v (ix3 0 r e)) := by
  pointwise [k0_pay39, k0_pay38, k0_pay36, k0_pay34, k0_pay35, k0_pay33]
  simp only [mask_at, named_dec1, named_k_scale, sel]
  rfl

theorem st2_at (i : grid0.Coords) (v4 v6 : FVec Ideal S128x128 .f32) (w : Vec Ideal S1x128x128 .f32) (v s : FVec Ideal S128x128 .f32) (kd : Vec Ideal S128x128 .f32) (d e : Fin 128) :
    k0_pay46 v s (k0_pay42 v4 v6 (k0_pay24 i) w kd) (ix4 0 0 d e) = upd ((260144641 / 268435456 : ℝ) : EReal) (s (ix2 d e)) (fun r => r.val / 4 = (i 0).val)
      (fun r => (rot (fun e => w (ix3 0 r e)) (fun e => v4 (ix2 r e)) (fun e => v6 (ix2 r e)) d : EReal) * kd (ix2 r d)) (fun r => v (ix2 r e)) := by
  pointwise [k0_pay46, k0_pay42]
  simp only [mask_at, named_dec2, named_k_scale, sel]
  rfl

theorem st3_at (i : grid0.Coords) (k v s : FVec Ideal S128x128 .f32) (kd : Vec Ideal S128x128 .f32) (d e : Fin 128) :
    k0_pay2 (k0_pay24 i) k v s kd (ix4 0 0 d e) = upd ((4228250625 / 4294967296 : ℝ) : EReal) (s (ix2 d e)) (fun r => r.val / 4 = (i 0).val) (fun r => (k (ix2 r d) : EReal) * kd (ix2 r d)) (fun r => v (ix2 r e)) := by
  pointwise [k0_pay2]
  simp only [mask_at, named_dec3, sel]
  rfl

end Cert.Kernel12Ideal.Ret
end
-- ==== Proof.RetRead.lean ====
/- The retention's states of the samples: what the grid points read of the arrays. -/
module

public import Idealize.ShloMosaic.Lib.Pointwise
public import Idealize.ShloMosaic.Lib.WordCmp
public import Idealize.ShloMosaic.Lib.Pipeline.ValueKit
public import Idealize.ShloMosaic.Lib.Claim
public import proofs.«01_k».proof.Proof.Ret
public import proofs.«01_k».proof.Proof.Gen.Kernel12Ideal.Frame.Runs

@[expose] public section

set_option maxRecDepth 16384

noncomputable section

namespace Cert.Kernel12Ideal.Ret

open Cert.Kernel12Ideal Cert.Kernel12Ideal.Gen Idealize.ShloMosaic Idealize.ShloMosaic.TcCoe Idealize.SL.Sem

/-- The divisor of the remainders: four, where it is not zero. -/
def four : IVec S_ 32 := select (cmpi .eq (id (constantI S_ 32 4#32)) (constantI S_ 32 0#32)) (constantI S_ 32 1#32) (id (constantI S_ 32 4#32))

/-- The remainders of the rows' numbers by four, as the host takes them. -/
def rem4 : IVec S128 32 :=
  select (andi (cmpi .ne (cmpi .slt (Host.remsi (iotaInDim S128 32 0) (broadcastInDim S128 ![] bcast_S_S128 four)) (broadcastInDim S128 ![] bcast_S_S128 (constantI S_ 32 0#32)))
      (broadcastInDim S128 ![] bcast_S_S128 (cmpi .slt four (constantI S_ 32 0#32))))
      (cmpi .ne (Host.remsi (iotaInDim S128 32 0) (broadcastInDim S128 ![] bcast_S_S128 four)) (broadcastInDim S128 ![] bcast_S_S128 (constantI S_ 32 0#32))))
    (addi (Host.remsi (iotaInDim S128 32 0) (broadcastInDim S128 ![] bcast_S_S128 four)) (broadcastInDim S128 ![] bcast_S_S128 four))
    (Host.remsi (iotaInDim S128 32 0) (broadcastInDim S128 ![] bcast_S_S128 four))

theorem rem4_at (r : Fin 128) : rem4 (ix1 r) = BitVec.ofNat 32 (r.val % 4) := by
  pointwise [rem4, four]
  revert r
  decide +kernel

/-- The angles of the rotation. -/
def angTab : FVec Ideal S128x64 .f32 :=
  mulf (broadcastInDim S128x64 ![0, 1] bcast_S128x1_S128x64_0_1 (broadcastInDim S128x1 ![0] bcast_S128_S128x1_0 (sitofp .f32 (addi (broadcastInDim S128 ![] bcast_S_S128 (constantI S_ 32 8192#32)) rem4))))
    (broadcastInDim S128x64 ![0, 1] bcast_S1x64_S128x64_0_1 (broadcastInDim S1x64 ![1] bcast_S64_S1x64_1 (Host.powf (broadcastInDim S64 ![] bcast_S_S64 (constant S_ .f32 0x461C4000#32))
      (Host.divf (Host.negf (sitofp .f32 (iotaInDim S64 32 0))) (broadcastInDim S64 ![] bcast_S_S64 (constant S_ .f32 0x42800000#32))))))

/-- The cosines, in both halves. -/
def cosTab : FVec Ideal S128x128 .f32 :=
  concatenate S128x128 1 [⟨S128x64, Host.cos angTab⟩, ⟨S128x64, Host.cos angTab⟩] concatenates_S128x64_S128x64_S128x128_d1

/-- The sines, negated in the first half. -/
def sinTab : FVec Ideal S128x128 .f32 :=
  concatenate S128x128 1 [⟨S128x64, Host.negf (Host.sin angTab)⟩, ⟨S128x64, Host.sin angTab⟩] concatenates_S128x64_S128x64_S128x128_d1

/-- The logarithms of the heads' decays. -/
def lgTab : FVec Ideal S4 .f32 :=
  Host.log (subf (broadcastInDim S4 ![] bcast_S_S4 (constant S_ .f32 0x3F800000#32)) (Host.divf (broadcastInDim S4 ![] bcast_S_S4 (constant S_ .f32 0x3F800000#32))
    (sitofp .f32 (Host.shli (broadcastInDim S4 ![] bcast_S_S4 (constantI S_ 32 32#32)) (iotaInDim S4 32 0)))))

/-- The keys' decays to the end of their sequence. -/
def kdTab : FVec Ideal S128x512 .f32 :=
  shapeCast S128x512 (broadcastInDim S128x4x128 ![0, 1] bcast_S128x4_S128x4x128_0_1 (Host.exp (mulf
    (broadcastInDim S128x4 ![0, 1] bcast_S128x1_S128x4_0_1 (broadcastInDim S128x1 ![0] bcast_S128_S128x1_0 (sitofp .f32 (subi (broadcastInDim S128 ![] bcast_S_S128 (constantI S_ 32 3#32)) rem4))))
    (broadcastInDim S128x4 ![0, 1] bcast_S1x4_S128x4_0_1 (broadcastInDim S1x4 ![1] bcast_S4_S1x4_1 lgTab))))) shapeCasts_S128x4x128_S128x512

/-- The sequence of a row, and its position. -/
abbrev seqOf (r : Fin 128) : Fin 32 := ⟨r.val / 4, by omega⟩
abbrev posOf (r : Fin 128) : Fin 4 := ⟨r.val % 4, Nat.mod_lt _ (by norm_num)⟩

/-- The angle of a position's pair of places. -/
def ang (s : Fin 4) (j : ℕ) : EReal :=
  FloatOps.sitofp (F := Ideal) FTy.f32 (IntOp.addi (8192#32) (BitVec.ofNat 32 s.val)) *
    Ideal.pow (Ideal.ofBits FTy.f32 1176256512#32) (Ideal.div (-FloatOps.sitofp (F := Ideal) FTy.f32 (BitVec.ofNat 32 j)) (Ideal.ofBits FTy.f32 1115684864#32))

/-- The logarithm of a head's decay. -/
def lg (h : ℕ) : EReal := Ideal.log (1 - Ideal.div 1 (FloatOps.sitofp (F := Ideal) FTy.f32 (IntOp.shli ArithUnit.host (32#32) (BitVec.ofNat 32 h))))

/-- The decay of a key to the end of its sequence. -/
def kdec (s : Fin 4) (h : ℕ) : EReal := Ideal.exp (FloatOps.sitofp (F := Ideal) FTy.f32 (IntOp.subi (3#32) (BitVec.ofNat 32 s.val)) * lg h)

theorem ang_at (r : Fin 128) (j : Fin 64) : angTab (ix2 r j) = ang (posOf r) j.val := by
  pointwise [angTab]
  simp only [rem4_at]
  rfl

theorem kd_at (r : Fin 128) (n : Fin 512) : kdTab (ix2 r n) = kdec (posOf r) (n.val / 128) := by
  pointwise [kdTab, lgTab]
  simp only [rem4_at]
  rfl

theorem cos_at (r d : Fin 128) : cosTab (ix2 r d) = if d.val < 64 then Ideal.cos (ang (posOf r) d.val) else Ideal.cos (ang (posOf r) (d.val - 64)) := by
  pointwise [cosTab]
  simp only [ang_at]
  split <;> rfl

theorem sin_at (r d : Fin 128) : sinTab (ix2 r d) = if d.val < 64 then -Ideal.sin (ang (posOf r) d.val) else Ideal.sin (ang (posOf r) (d.val - 64)) := by
  pointwise [sinTab]
  simp only [ang_at]
  split <;> rfl

variable (m : (ℓ : Loc nD τ sig) → Buf (Elt Ideal) ℓ)

theorem idx : ∀ t : Fin cfg0.N, win0_1.index t = ![0, 0, 7] ∧ win0_2.index t = ![0, 0, 8] ∧ win0_4.index t = ![0, 0] ∧ win0_5.index t = ![0, 0]
    ∧ win0_8.index t = ![0, 0] ∧ win0_10.index t = ![t.val, 0, 0, 0, 0] ∧ win0_12.index t = ![t.val, 0, 0, 0] :=
  (by decide +kernel : ∀ t : Fin grid0.N, _)

theorem lt32 (t : Fin cfg0.N) : t.val < 32 := lt_of_lt_of_eq t.isLt (show cfg0.N = 32 from N_0)

/-- The keys a grid point reads. -/
theorem read_k (c : Dev nD) (t : Fin cfg0.N) (r : Fin 128) (n : Fin 512) :
    iblk m c 1 t (ix3 0 r n) = m ((c : Thread nD τ).loc main_arg0) (ix3 (seqOf r) (posOf r) ⟨512 + n.val, by omega⟩) := by
  have he : ((View.whole main_v3).slice (win0_1.rect t)).emb (ix3 0 r n) = ix3 0 r ⟨3584 + n.val, by omega⟩ := by
    blk_ext [idx t]
  blk_simp [iblk]
  rw [he]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise
  exact (dif_neg (by omega)).trans (congrArg (fun k => m ((c : Thread nD τ).loc main_arg0) (ix3 (seqOf r) (posOf r) k)) (Fin.ext (by show 3584 + n.val - 3072 = 512 + n.val; omega)))

/-- The values a grid point reads. -/
theorem read_v (c : Dev nD) (t : Fin cfg0.N) (r : Fin 128) (n : Fin 512) :
    iblk m c 2 t (ix3 0 r n) = m ((c : Thread nD τ).loc main_arg0) (ix3 (seqOf r) (posOf r) ⟨1024 + n.val, by omega⟩) := by
  have he : ((View.whole main_v3).slice (win0_2.rect t)).emb (ix3 0 r n) = ix3 0 r ⟨4096 + n.val, by omega⟩ := by
    blk_ext [idx t]
  blk_simp [iblk]
  rw [he]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise
  exact (dif_neg (by omega)).trans (congrArg (fun k => m ((c : Thread nD τ).loc main_arg0) (ix3 (seqOf r) (posOf r) k)) (Fin.ext (by show 4096 + n.val - 3072 = 1024 + n.val; omega)))

/-- The states a grid point reads. -/
theorem read_s (c : Dev nD) (t : Fin cfg0.N) (h : Fin 4) (d e : Fin 128) :
    iblk m c 10 t (ix5 0 0 h d e) = m ((c : Thread nD τ).loc main_arg2) (ix5 ⟨t.val, lt32 t⟩ 0 h d e) := by
  have he : ((View.whole main_arg2).slice (win0_10.rect t)).emb (ix5 0 0 h d e) = ix5 ⟨t.val, lt32 t⟩ 0 h d e := by
    blk_ext [idx t]
  blk_simp [iblk]
  rw [he]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

set_option maxHeartbeats 4000000 in
theorem read_cos (c : Dev nD) (t : Fin cfg0.N) (r d : Fin 128) : iblk m c 4 t (ix2 r d) = cosTab (ix2 r d) := by
  have he : ((View.whole main_v22).slice (win0_4.rect t)).emb (ix2 r d) = ix2 r d := by
    blk_ext [idx t]
  blk_simp [iblk]
  rw [he]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

set_option maxHeartbeats 4000000 in
theorem read_sin (c : Dev nD) (t : Fin cfg0.N) (r d : Fin 128) : iblk m c 5 t (ix2 r d) = sinTab (ix2 r d) := by
  have he : ((View.whole main_v24).slice (win0_5.rect t)).emb (ix2 r d) = ix2 r d := by
    blk_ext [idx t]
  blk_simp [iblk]
  rw [he]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

set_option maxHeartbeats 4000000 in
theorem read_kd (c : Dev nD) (t : Fin cfg0.N) (r : Fin 128) (n : Fin 512) : iblk m c 8 t (ix2 r n) = kdTab (ix2 r n) := by
  have he : ((View.whole main_v80).slice (win0_8.rect t)).emb (ix2 r n) = ix2 r n := by
    blk_ext [idx t]
  blk_simp [iblk]
  rw [he]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

end Cert.Kernel12Ideal.Ret
end
-- ==== Proof.RetOut.lean ====
/- The retention's states of the samples: what a grid point writes. -/
module

public import Idealize.ShloMosaic.Lib.Pointwise
public import Idealize.ShloMosaic.Lib.Pipeline.ValueKit
public import Idealize.ShloMosaic.Lib.Pipeline.ReadBack
public import Idealize.ShloMosaic.Lib.Claim
public import proofs.«01_k».proof.Proof.Ret
public import proofs.«01_k».proof.Proof.Gen.Kernel12Ideal.Value
import all proofs.«01_k».proof.Proof.Gen.Kernel12Ideal.Frame.RunA
import all proofs.«01_k».proof.Proof.Gen.Kernel12Ideal.Frame.RunB
import all proofs.«01_k».proof.Proof.Gen.Kernel12Ideal.Frame.RunC

@[expose] public section

set_option maxRecDepth 16384

noncomputable section

namespace Cert.Kernel12Ideal.Ret

open Cert.Kernel12Ideal Cert.Kernel12Ideal.Gen Idealize.ShloMosaic Idealize.ShloMosaic.TcCoe Idealize.SL.Sem

/-- The decays of the heads over four rows. -/
def dec (h : Fin 4) : EReal := match h with
  | 0 => ((923521 / 1048576 : ℝ) : EReal)
  | 1 => ((15752961 / 16777216 : ℝ) : EReal)
  | 2 => ((260144641 / 268435456 : ℝ) : EReal)
  | 3 => ((4228250625 / 4294967296 : ℝ) : EReal)

/-- A column of a head. -/
abbrev colOf (h : Fin 4) (d : Fin 128) : Fin 512 := ⟨128 * h.val + d.val, by omega⟩

/-- One entry of the states a grid point writes. -/
def stBlk (i : grid0.Coords) (x1 x2 : Vec Ideal S1x128x512 .f32) (x4 x5 : Vec Ideal S128x128 .f32) (x8 : Vec Ideal S128x512 .f32) (x10 : Vec Ideal S1x1x4x128x128 .f32) (h : Fin 4) (d e : Fin 128) : EReal :=
  upd (dec h) (x10 (ix5 0 0 h d e)) (fun r => r.val / 4 = (i 0).val)
    (fun r => (rot (fun a => x1 (ix3 0 r (colOf h a))) (fun a => x4 (ix2 r a)) (fun a => x5 (ix2 r a)) d : EReal) * x8 (ix2 r (colOf h d))) (fun r => x2 (ix3 0 r (colOf h e)))

theorem cos_cast (v : Vec Ideal S128x128 .f32) (r d : Fin 128) : k0_pay22 v (ix2 r d) = v (ix2 r d) := by
  pointwise [k0_pay22]
theorem sin_cast (v : Vec Ideal S128x128 .f32) (r d : Fin 128) : k0_pay23 v (ix2 r d) = v (ix2 r d) := by
  pointwise [k0_pay23]
theorem val_27 (v : Vec Ideal S1x128x128 .f32) (r d : Fin 128) : k0_pay27 v (ix2 r d) = v (ix3 0 r d) := by
  pointwise [k0_pay27]
theorem val_40 (v : Vec Ideal S1x128x128 .f32) (r d : Fin 128) : k0_pay40 v (ix2 r d) = v (ix3 0 r d) := by
  pointwise [k0_pay40]
theorem val_49 (v : Vec Ideal S1x128x128 .f32) (r d : Fin 128) : k0_pay49 v (ix2 r d) = v (ix3 0 r d) := by
  pointwise [k0_pay49]
theorem state_28 (v : Vec Ideal S1x1x1x128x128 .f32) (d e : Fin 128) : k0_pay28 v (ix2 d e) = v (ix5 0 0 0 d e) := by
  pointwise [k0_pay28]
theorem state_41 (v : Vec Ideal S1x1x1x128x128 .f32) (d e : Fin 128) : k0_pay41 v (ix2 d e) = v (ix5 0 0 0 d e) := by
  pointwise [k0_pay41]
theorem state_50 (v : Vec Ideal S1x1x1x128x128 .f32) (d e : Fin 128) : k0_pay50 v (ix2 d e) = v (ix5 0 0 0 d e) := by
  pointwise [k0_pay50]

theorem emb_o0 (x : S1x1x128x128.Idx) : (Rect.unit ![0, 0, 0, 0] ![1, 1, 128, 128] inb_S1x4x128x128_S1x1x128x128_0_0_0_0).emb x = (ix4 0 0 (x 2) (x 3) : S1x4x128x128.Idx) := by
  blk_ext []
theorem emb_k0 (x : S1x128x128.Idx) : (Rect.unit ![0, 0, 0] ![1, 128, 128] inb_S1x128x512_S1x128x128_0_0_0).emb x = (ix3 0 (x 1) (colOf 0 (x 2)) : S1x128x512.Idx) := by
  blk_ext []
theorem emb_s0 (x : S1x1x1x128x128.Idx) : (Rect.unit ![0, 0, 0, 0, 0] ![1, 1, 1, 128, 128] inb_S1x1x4x128x128_S1x1x1x128x128_0_0_0_0_0).emb x = (ix5 0 0 0 (x 3) (x 4) : S1x1x4x128x128.Idx) := by
  blk_ext []
theorem emb_d0 (x : S128x128.Idx) : (Rect.unit ![0, 0] ![128, 128] inb_S128x512_S128x128_0_0).emb x = (ix2 (x 0) (colOf 0 (x 1)) : S128x512.Idx) := by
  blk_ext []
theorem emb_o1 (x : S1x1x128x128.Idx) : (Rect.unit ![0, 1, 0, 0] ![1, 1, 128, 128] inb_S1x4x128x128_S1x1x128x128_0_1_0_0).emb x = (ix4 0 1 (x 2) (x 3) : S1x4x128x128.Idx) := by
  blk_ext []
theorem emb_k1 (x : S1x128x128.Idx) : (Rect.unit ![0, 0, 128] ![1, 128, 128] inb_S1x128x512_S1x128x128_0_0_128).emb x = (ix3 0 (x 1) (colOf 1 (x 2)) : S1x128x512.Idx) := by
  blk_ext []
theorem emb_s1 (x : S1x1x1x128x128.Idx) : (Rect.unit ![0, 0, 1, 0, 0] ![1, 1, 1, 128, 128] inb_S1x1x4x128x128_S1x1x1x128x128_0_0_1_0_0).emb x = (ix5 0 0 1 (x 3) (x 4) : S1x1x4x128x128.Idx) := by
  blk_ext []
theorem emb_d1 (x : S128x128.Idx) : (Rect.unit ![0, 128] ![128, 128] inb_S128x512_S128x128_0_128).emb x = (ix2 (x 0) (colOf 1 (x 1)) : S128x512.Idx) := by
  blk_ext []
theorem emb_o2 (x : S1x1x128x128.Idx) : (Rect.unit ![0, 2, 0, 0] ![1, 1, 128, 128] inb_S1x4x128x128_S1x1x128x128_0_2_0_0).emb x = (ix4 0 2 (x 2) (x 3) : S1x4x128x128.Idx) := by
  blk_ext []
theorem emb_k2 (x : S1x128x128.Idx) : (Rect.unit ![0, 0, 256] ![1, 128, 128] inb_S1x128x512_S1x128x128_0_0_256).emb x = (ix3 0 (x 1) (colOf 2 (x 2)) : S1x128x512.Idx) := by
  blk_ext []
theorem emb_s2 (x : S1x1x1x128x128.Idx) : (Rect.unit ![0, 0, 2, 0, 0] ![1, 1, 1, 128, 128] inb_S1x1x4x128x128_S1x1x1x128x128_0_0_2_0_0).emb x = (ix5 0 0 2 (x 3) (x 4) : S1x1x4x128x128.Idx) := by
  blk_ext []
theorem emb_d2 (x : S128x128.Idx) : (Rect.unit ![0, 256] ![128, 128] inb_S128x512_S128x128_0_256).emb x = (ix2 (x 0) (colOf 2 (x 1)) : S128x512.Idx) := by
  blk_ext []
theorem emb_o3 (x : S1x1x128x128.Idx) : (Rect.unit ![0, 3, 0, 0] ![1, 1, 128, 128] inb_S1x4x128x128_S1x1x128x128_0_3_0_0).emb x = (ix4 0 3 (x 2) (x 3) : S1x4x128x128.Idx) := by
  blk_ext []
theorem emb_k3 (x : S1x128x128.Idx) : (Rect.unit ![0, 0, 384] ![1, 128, 128] inb_S1x128x512_S1x128x128_0_0_384).emb x = (ix3 0 (x 1) (colOf 3 (x 2)) : S1x128x512.Idx) := by
  blk_ext []
theorem emb_s3 (x : S1x1x1x128x128.Idx) : (Rect.unit ![0, 0, 3, 0, 0] ![1, 1, 1, 128, 128] inb_S1x1x4x128x128_S1x1x1x128x128_0_0_3_0_0).emb x = (ix5 0 0 3 (x 3) (x 4) : S1x1x4x128x128.Idx) := by
  blk_ext []
theorem emb_d3 (x : S128x128.Idx) : (Rect.unit ![0, 384] ![128, 128] inb_S128x512_S128x128_0_384).emb x = (ix2 (x 0) (colOf 3 (x 1)) : S128x512.Idx) := by
  blk_ext []

/-- The four stores of a grid point into its block of states. -/
def pieces (i : grid0.Coords) (x1 x2 : Vec Ideal S1x128x512 .f32) (x4 x5 : Vec Ideal S128x128 .f32) (x8 : Vec Ideal S128x512 .f32) (x10 : Vec Ideal S1x1x4x128x128 .f32) : List (View.Piece (Elt Ideal) S1x4x128x128 .f32) :=
  [⟨Rect.unit ![0, 3, 0, 0] ![1, 1, 128, 128] inb_S1x4x128x128_S1x1x128x128_0_3_0_0, k0_pay2 (k0_pay24 i) (k0_pay48 (k0_pay22 x4) (k0_pay23 x5) (View.ld x1 (Rect.unit ![0, 0, 384] ![1, 128, 128] inb_S1x128x512_S1x128x128_0_0_384))) (k0_pay49 (View.ld x2 (Rect.unit ![0, 0, 384] ![1, 128, 128] inb_S1x128x512_S1x128x128_0_0_384))) (k0_pay50 (View.ld x10 (Rect.unit ![0, 0, 3, 0, 0] ![1, 1, 1, 128, 128] inb_S1x1x4x128x128_S1x1x1x128x128_0_0_3_0_0))) (View.ld x8 (Rect.unit ![0, 384] ![128, 128] inb_S128x512_S128x128_0_384))⟩,
   ⟨Rect.unit ![0, 2, 0, 0] ![1, 1, 128, 128] inb_S1x4x128x128_S1x1x128x128_0_2_0_0, k0_pay46 (k0_pay40 (View.ld x2 (Rect.unit ![0, 0, 256] ![1, 128, 128] inb_S1x128x512_S1x128x128_0_0_256))) (k0_pay41 (View.ld x10 (Rect.unit ![0, 0, 2, 0, 0] ![1, 1, 1, 128, 128] inb_S1x1x4x128x128_S1x1x1x128x128_0_0_2_0_0))) (k0_pay42 (k0_pay22 x4) (k0_pay23 x5) (k0_pay24 i) (View.ld x1 (Rect.unit ![0, 0, 256] ![1, 128, 128] inb_S1x128x512_S1x128x128_0_0_256)) (View.ld x8 (Rect.unit ![0, 256] ![128, 128] inb_S128x512_S128x128_0_256)))⟩,
   ⟨Rect.unit ![0, 1, 0, 0] ![1, 1, 128, 128] inb_S1x4x128x128_S1x1x128x128_0_1_0_0, k0_pay39 (k0_pay38 (k0_pay23 x5) (k0_pay24 i) (k0_pay34 (k0_pay22 x4) (View.ld x1 (Rect.unit ![0, 0, 128] ![1, 128, 128] inb_S1x128x512_S1x128x128_0_0_128))) (k0_pay35 (View.ld x1 (Rect.unit ![0, 0, 128] ![1, 128, 128] inb_S1x128x512_S1x128x128_0_0_128))) (View.ld x2 (Rect.unit ![0, 0, 128] ![1, 128, 128] inb_S1x128x512_S1x128x128_0_0_128)) (View.ld x10 (Rect.unit ![0, 0, 1, 0, 0] ![1, 1, 1, 128, 128] inb_S1x1x4x128x128_S1x1x1x128x128_0_0_1_0_0)) (View.ld x8 (Rect.unit ![0, 128] ![128, 128] inb_S128x512_S128x128_0_128)))⟩,
   ⟨Rect.unit ![0, 0, 0, 0] ![1, 1, 128, 128] inb_S1x4x128x128_S1x1x128x128_0_0_0_0, k0_pay31 (k0_pay24 i) (k0_pay26 x4 x5 (View.ld x1 (Rect.unit ![0, 0, 0] ![1, 128, 128] inb_S1x128x512_S1x128x128_0_0_0))) (k0_pay27 (View.ld x2 (Rect.unit ![0, 0, 0] ![1, 128, 128] inb_S1x128x512_S1x128x128_0_0_0))) (k0_pay28 (View.ld x10 (Rect.unit ![0, 0, 0, 0, 0] ![1, 1, 1, 128, 128] inb_S1x1x4x128x128_S1x1x1x128x128_0_0_0_0_0))) (View.ld x8 (Rect.unit ![0, 0] ![128, 128] inb_S128x512_S128x128_0_0))⟩]

theorem split4 (x : S1x1x128x128.Idx) : x = ix4 0 0 (x 2) (x 3) := by
  refine funext fun a => ?_
  fin_cases a
  · exact Subsingleton.elim (α := Fin 1) _ _
  · exact Subsingleton.elim (α := Fin 1) _ _
  · rfl
  · rfl

theorem piece_0 (i : grid0.Coords) (x1 x2 : Vec Ideal S1x128x512 .f32) (x4 x5 : Vec Ideal S128x128 .f32) (x8 : Vec Ideal S128x512 .f32) (x10 : Vec Ideal S1x1x4x128x128 .f32) (d e : Fin 128) :
    k0_pay31 (k0_pay24 i) (k0_pay26 x4 x5 (View.ld x1 (Rect.unit ![0, 0, 0] ![1, 128, 128] inb_S1x128x512_S1x128x128_0_0_0))) (k0_pay27 (View.ld x2 (Rect.unit ![0, 0, 0] ![1, 128, 128] inb_S1x128x512_S1x128x128_0_0_0))) (k0_pay28 (View.ld x10 (Rect.unit ![0, 0, 0, 0, 0] ![1, 1, 1, 128, 128] inb_S1x1x4x128x128_S1x1x1x128x128_0_0_0_0_0))) (View.ld x8 (Rect.unit ![0, 0] ![128, 128] inb_S128x512_S128x128_0_0)) (ix4 0 0 d e) = stBlk i x1 x2 x4 x5 x8 x10 0 d e := by
  rw [st0_at]
  simp only [key0_at, val_27, state_28]
  have hk : ∀ r a : Fin 128, View.ld x1 (Rect.unit ![0, 0, 0] ![1, 128, 128] inb_S1x128x512_S1x128x128_0_0_0) (ix3 0 r a) = x1 (ix3 0 r (colOf 0 a)) := fun r a => congrArg x1 (emb_k0 _)
  have hv : ∀ r a : Fin 128, View.ld x2 (Rect.unit ![0, 0, 0] ![1, 128, 128] inb_S1x128x512_S1x128x128_0_0_0) (ix3 0 r a) = x2 (ix3 0 r (colOf 0 a)) := fun r a => congrArg x2 (emb_k0 _)
  have hd : ∀ r a : Fin 128, View.ld x8 (Rect.unit ![0, 0] ![128, 128] inb_S128x512_S128x128_0_0) (ix2 r a) = x8 (ix2 r (colOf 0 a)) := fun r a => congrArg x8 (emb_d0 _)
  have hs : View.ld x10 (Rect.unit ![0, 0, 0, 0, 0] ![1, 1, 1, 128, 128] inb_S1x1x4x128x128_S1x1x1x128x128_0_0_0_0_0) (ix5 0 0 0 d e) = x10 (ix5 0 0 0 d e) := congrArg x10 (emb_s0 _)
  simp only [hk, hv, hd, hs]
  rfl

theorem piece_1 (i : grid0.Coords) (x1 x2 : Vec Ideal S1x128x512 .f32) (x4 x5 : Vec Ideal S128x128 .f32) (x8 : Vec Ideal S128x512 .f32) (x10 : Vec Ideal S1x1x4x128x128 .f32) (d e : Fin 128) :
    k0_pay39 (k0_pay38 (k0_pay23 x5) (k0_pay24 i) (k0_pay34 (k0_pay22 x4) (View.ld x1 (Rect.unit ![0, 0, 128] ![1, 128, 128] inb_S1x128x512_S1x128x128_0_0_128))) (k0_pay35 (View.ld x1 (Rect.unit ![0, 0, 128] ![1, 128, 128] inb_S1x128x512_S1x128x128_0_0_128))) (View.ld x2 (Rect.unit ![0, 0, 128] ![1, 128, 128] inb_S1x128x512_S1x128x128_0_0_128)) (View.ld x10 (Rect.unit ![0, 0, 1, 0, 0] ![1, 1, 1, 128, 128] inb_S1x1x4x128x128_S1x1x1x128x128_0_0_1_0_0)) (View.ld x8 (Rect.unit ![0, 128] ![128, 128] inb_S128x512_S128x128_0_128))) (ix4 0 0 d e) = stBlk i x1 x2 x4 x5 x8 x10 1 d e := by
  rw [st1_at]
  simp only [cos_cast, sin_cast]
  have hk : ∀ r a : Fin 128, View.ld x1 (Rect.unit ![0, 0, 128] ![1, 128, 128] inb_S1x128x512_S1x128x128_0_0_128) (ix3 0 r a) = x1 (ix3 0 r (colOf 1 a)) := fun r a => congrArg x1 (emb_k1 _)
  have hv : ∀ r a : Fin 128, View.ld x2 (Rect.unit ![0, 0, 128] ![1, 128, 128] inb_S1x128x512_S1x128x128_0_0_128) (ix3 0 r a) = x2 (ix3 0 r (colOf 1 a)) := fun r a => congrArg x2 (emb_k1 _)
  have hd : ∀ r a : Fin 128, View.ld x8 (Rect.unit ![0, 128] ![128, 128] inb_S128x512_S128x128_0_128) (ix2 r a) = x8 (ix2 r (colOf 1 a)) := fun r a => congrArg x8 (emb_d1 _)
  have hs : View.ld x10 (Rect.unit ![0, 0, 1, 0, 0] ![1, 1, 1, 128, 128] inb_S1x1x4x128x128_S1x1x1x128x128_0_0_1_0_0) (ix5 0 0 0 d e) = x10 (ix5 0 0 1 d e) := congrArg x10 (emb_s1 _)
  simp only [hk, hv, hd, hs]
  rfl

theorem piece_2 (i : grid0.Coords) (x1 x2 : Vec Ideal S1x128x512 .f32) (x4 x5 : Vec Ideal S128x128 .f32) (x8 : Vec Ideal S128x512 .f32) (x10 : Vec Ideal S1x1x4x128x128 .f32) (d e : Fin 128) :
    k0_pay46 (k0_pay40 (View.ld x2 (Rect.unit ![0, 0, 256] ![1, 128, 128] inb_S1x128x512_S1x128x128_0_0_256))) (k0_pay41 (View.ld x10 (Rect.unit ![0, 0, 2, 0, 0] ![1, 1, 1, 128, 128] inb_S1x1x4x128x128_S1x1x1x128x128_0_0_2_0_0))) (k0_pay42 (k0_pay22 x4) (k0_pay23 x5) (k0_pay24 i) (View.ld x1 (Rect.unit ![0, 0, 256] ![1, 128, 128] inb_S1x128x512_S1x128x128_0_0_256)) (View.ld x8 (Rect.unit ![0, 256] ![128, 128] inb_S128x512_S128x128_0_256))) (ix4 0 0 d e) = stBlk i x1 x2 x4 x5 x8 x10 2 d e := by
  rw [st2_at]
  simp only [cos_cast, sin_cast, val_40, state_41]
  have hk : ∀ r a : Fin 128, View.ld x1 (Rect.unit ![0, 0, 256] ![1, 128, 128] inb_S1x128x512_S1x128x128_0_0_256) (ix3 0 r a) = x1 (ix3 0 r (colOf 2 a)) := fun r a => congrArg x1 (emb_k2 _)
  have hv : ∀ r a : Fin 128, View.ld x2 (Rect.unit ![0, 0, 256] ![1, 128, 128] inb_S1x128x512_S1x128x128_0_0_256) (ix3 0 r a) = x2 (ix3 0 r (colOf 2 a)) := fun r a => congrArg x2 (emb_k2 _)
  have hd : ∀ r a : Fin 128, View.ld x8 (Rect.unit ![0, 256] ![128, 128] inb_S128x512_S128x128_0_256) (ix2 r a) = x8 (ix2 r (colOf 2 a)) := fun r a => congrArg x8 (emb_d2 _)
  have hs : View.ld x10 (Rect.unit ![0, 0, 2, 0, 0] ![1, 1, 1, 128, 128] inb_S1x1x4x128x128_S1x1x1x128x128_0_0_2_0_0) (ix5 0 0 0 d e) = x10 (ix5 0 0 2 d e) := congrArg x10 (emb_s2 _)
  simp only [hk, hv, hd, hs]
  rfl

theorem piece_3 (i : grid0.Coords) (x1 x2 : Vec Ideal S1x128x512 .f32) (x4 x5 : Vec Ideal S128x128 .f32) (x8 : Vec Ideal S128x512 .f32) (x10 : Vec Ideal S1x1x4x128x128 .f32) (d e : Fin 128) :
    k0_pay2 (k0_pay24 i) (k0_pay48 (k0_pay22 x4) (k0_pay23 x5) (View.ld x1 (Rect.unit ![0, 0, 384] ![1, 128, 128] inb_S1x128x512_S1x128x128_0_0_384))) (k0_pay49 (View.ld x2 (Rect.unit ![0, 0, 384] ![1, 128, 128] inb_S1x128x512_S1x128x128_0_0_384))) (k0_pay50 (View.ld x10 (Rect.unit ![0, 0, 3, 0, 0] ![1, 1, 1, 128, 128] inb_S1x1x4x128x128_S1x1x1x128x128_0_0_3_0_0))) (View.ld x8 (Rect.unit ![0, 384] ![128, 128] inb_S128x512_S128x128_0_384)) (ix4 0 0 d e) = stBlk i x1 x2 x4 x5 x8 x10 3 d e := by
  rw [st3_at]
  simp only [key3_at, cos_cast, sin_cast, val_49, state_50]
  have hk : ∀ r a : Fin 128, View.ld x1 (Rect.unit ![0, 0, 384] ![1, 128, 128] inb_S1x128x512_S1x128x128_0_0_384) (ix3 0 r a) = x1 (ix3 0 r (colOf 3 a)) := fun r a => congrArg x1 (emb_k3 _)
  have hv : ∀ r a : Fin 128, View.ld x2 (Rect.unit ![0, 0, 384] ![1, 128, 128] inb_S1x128x512_S1x128x128_0_0_384) (ix3 0 r a) = x2 (ix3 0 r (colOf 3 a)) := fun r a => congrArg x2 (emb_k3 _)
  have hd : ∀ r a : Fin 128, View.ld x8 (Rect.unit ![0, 384] ![128, 128] inb_S128x512_S128x128_0_384) (ix2 r a) = x8 (ix2 r (colOf 3 a)) := fun r a => congrArg x8 (emb_d3 _)
  have hs : View.ld x10 (Rect.unit ![0, 0, 3, 0, 0] ![1, 1, 1, 128, 128] inb_S1x1x4x128x128_S1x1x1x128x128_0_0_3_0_0) (ix5 0 0 0 d e) = x10 (ix5 0 0 3 d e) := congrArg x10 (emb_s3 _)
  simp only [hk, hv, hd, hs]
  rfl

theorem canon_pieces (i : grid0.Coords) (x1 x2 : Vec Ideal S1x128x512 .f32) (x4 x5 : Vec Ideal S128x128 .f32) (x8 : Vec Ideal S128x512 .f32) (x10 : Vec Ideal S1x1x4x128x128 .f32) (h : Fin 4) (d e : Fin 128) : View.canon (pieces i x1 x2 x4 x5 x8 x10) (ix4 0 h d e) = stBlk i x1 x2 x4 x5 x8 x10 h d e := by
  refine View.canon_apply_of_pieces (fun y : S1x4x128x128.Idx => stBlk i x1 x2 x4 x5 x8 x10 (y 1) (y 2) (y 3)) _ ?_ (ix4 0 h d e)
    (View.cover_of_tiledL (pieces i x1 x2 x4 x5 x8 x10) S1x1x128x128.size (by sl_kernel_rfl) (ix4 0 h d e))
  intro pc hpc
  rcases List.mem_cons.mp hpc with rfl | hpc
  · intro x
    exact (congrArg _ (split4 x)).trans ((piece_3 i x1 x2 x4 x5 x8 x10 (x 2) (x 3)).trans (congrArg (fun y : S1x4x128x128.Idx => stBlk i x1 x2 x4 x5 x8 x10 (y 1) (y 2) (y 3)) (emb_o3 x).symm))
  rcases List.mem_cons.mp hpc with rfl | hpc
  · intro x
    exact (congrArg _ (split4 x)).trans ((piece_2 i x1 x2 x4 x5 x8 x10 (x 2) (x 3)).trans (congrArg (fun y : S1x4x128x128.Idx => stBlk i x1 x2 x4 x5 x8 x10 (y 1) (y 2) (y 3)) (emb_o2 x).symm))
  rcases List.mem_cons.mp hpc with rfl | hpc
  · intro x
    exact (congrArg _ (split4 x)).trans ((piece_1 i x1 x2 x4 x5 x8 x10 (x 2) (x 3)).trans (congrArg (fun y : S1x4x128x128.Idx => stBlk i x1 x2 x4 x5 x8 x10 (y 1) (y 2) (y 3)) (emb_o1 x).symm))
  rcases List.mem_cons.mp hpc with rfl | hpc
  · intro x
    exact (congrArg _ (split4 x)).trans ((piece_0 i x1 x2 x4 x5 x8 x10 (x 2) (x 3)).trans (congrArg (fun y : S1x4x128x128.Idx => stBlk i x1 x2 x4 x5 x8 x10 (y 1) (y 2) (y 3)) (emb_o0 x).symm))
  nomatch hpc

variable (m : (ℓ : Loc nD τ sig) → Buf (Elt Ideal) ℓ)

/-- What a grid point leaves of the states. -/
theorem out_st (c : Dev nD) (t : Fin cfg0.N) (h : Fin 4) (d e : Fin 128) :
    (outsAt0 m c t.val t.isLt).2.1 (ix4 0 h d e) = stBlk (grid0.coords t) (iblk m c 1 t) (iblk m c 2 t) (iblk m c 4 t) (iblk m c 5 t) (iblk m c 8 t) (iblk m c 10 t) h d e := by
  by_cases h0 : t.val % 32 = 0
  · have h1 : ¬t.val % 32 = 31 := by omega
    rw [outsAt0_A m c t h0 h1]
    frame_out
    exact canon_pieces _ _ _ _ _ _ _ h d e
  · by_cases h1 : t.val % 32 = 31
    · rw [outsAt0_C m c t h0 h1]
      frame_out
      exact canon_pieces _ _ _ _ _ _ _ h d e
    · rw [outsAt0_B m c t h0 h1]
      frame_out
      exact canon_pieces _ _ _ _ _ _ _ h d e

end Cert.Kernel12Ideal.Ret
end
-- ==== Proof.RetDec.lean ====
/- The decays of the retention's heads. -/
module

public import Idealize.ShloMosaic.Lib.Pointwise
public import Idealize.ShloMosaic.Lib.WordCmp
public import Idealize.ShloMosaic.Lib.Pipeline.ValueKit
public import Idealize.ShloMosaic.Lib.Claim
public import proofs.«01_k».proof.Proof.HeadMath
public import proofs.«01_k».proof.Proof.RetRead
public import proofs.«01_k».proof.Proof.RetOut

@[expose] public section

set_option maxRecDepth 16384

noncomputable section

namespace Cert.Kernel12Ideal.Ret

open Cert.Kernel12Ideal Cert.Kernel12Ideal.Gen Idealize.ShloMosaic Idealize.ShloMosaic.TcCoe Idealize.SL.Sem

theorem shl : ∀ h : Fin 4, (IntOp.shli ArithUnit.host (32#32) (BitVec.ofNat 32 h.val)).toInt = (32 * 2 ^ h.val : ℕ) := by
  decide +kernel

theorem lg_coe (h : Fin 4) : lg h.val = ((Real.log (1 - 1 / (32 * 2 ^ h.val)) : ℝ) : EReal) := by
  unfold lg
  have hs : FloatOps.sitofp (F := Ideal) FTy.f32 (IntOp.shli ArithUnit.host (32#32) (BitVec.ofNat 32 h.val)) = (((32 * 2 ^ h.val : ℝ)) : EReal) := by
    show ((((IntOp.shli ArithUnit.host (32#32) (BitVec.ofNat 32 h.val)).toInt : ℝ)) : EReal) = _
    rw [shl]
    push_cast
    rfl
  have hp : (0 : ℝ) < 2 ^ h.val := by positivity
  have h1 : (1 : ℝ) ≤ 2 ^ h.val := one_le_pow₀ (by norm_num)
  have hl : (1 : ℝ) / (32 * 2 ^ h.val) < 1 := by
    rw [div_lt_one (by positivity)]
    linarith
  rw [hs, Ideal.div_coe (by positivity), one_mul, ← EReal.coe_one, ← EReal.coe_sub, Ideal.log_coe, if_neg (by linarith)]

theorem dec_eq (h : Fin 4) : Ideal.exp (Ideal.ofBits FTy.f32 1082130432#32 * lg h.val) = dec h := by
  rw [lg_coe]
  have h4 : Ideal.ofBits FTy.f32 1082130432#32 = ((4 : ℝ) : EReal) := by
    simp [Ideal.ofBits, Ideal.ieee, ← EReal.coe_mul]
    norm_num
  have hexp : ∀ x : ℝ, 0 < x → Real.exp (4 * Real.log x) = x ^ 4 := fun x hx => by
    rw [show 4 * Real.log x = Real.log (x ^ 4) by rw [Real.log_pow]; norm_num, Real.exp_log (by positivity)]
  rw [h4, ← EReal.coe_mul, Ideal.exp_coe]
  fin_cases h
  all_goals
    refine congrArg Real.toEReal ?_
    refine (hexp _ (by norm_num)).trans ?_
    norm_num

theorem back : ∀ s : Fin 4, (IntOp.subi (3#32) (BitVec.ofNat 32 s.val)).toInt = 3 - (s.val : ℤ) := by
  decide +kernel
theorem here : ∀ s : Fin 4, (BitVec.ofNat 32 s.val).toInt = (s.val : ℤ) := by
  decide +kernel

theorem back_eq (s : Fin 4) : Ideal.ofBits FTy.f32 1077936128#32 - FloatOps.sitofp (F := Ideal) FTy.f32 (BitVec.ofNat 32 s.val) = FloatOps.sitofp (F := Ideal) FTy.f32 (IntOp.subi (3#32) (BitVec.ofNat 32 s.val)) := by
  have h3 : Ideal.ofBits FTy.f32 1077936128#32 = ((3 : ℝ) : EReal) := by
    simp [Ideal.ofBits, Ideal.ieee, ← EReal.coe_mul]
    norm_num
  rw [h3]
  show ((3 : ℝ) : EReal) - (((BitVec.ofNat 32 s.val).toInt : ℝ) : EReal) = (((IntOp.subi (3#32) (BitVec.ofNat 32 s.val)).toInt : ℝ) : EReal)
  rw [back, here, ← EReal.coe_sub]
  push_cast
  rfl

/-- To divide by the root of the width of a head is to multiply by the scale of the keys. -/
theorem div_root (x : EReal) : Ideal.div x (Ideal.sqrt (Ideal.ofBits FTy.f32 0x43000000#32)) = x * ks := by
  have h128 : Ideal.sqrt (Ideal.ofBits FTy.f32 0x43000000#32) = ((Real.sqrt 128 : ℝ) : EReal) := by
    have : Ideal.ofBits FTy.f32 0x43000000#32 = ((128 : ℝ) : EReal) := by
      simp [Ideal.ofBits, Ideal.ieee, ← EReal.coe_mul]
      norm_num
    rw [this, Ideal.sqrt_coe, if_neg (by norm_num)]
  rw [h128, Ideal.div_coe (Real.sqrt_pos.mpr (by norm_num)).ne', one_div]
  rfl

end Cert.Kernel12Ideal.Ret
end
-- ==== Proof.RetFinal.lean ====
/- The retention's states of the samples: the array the kernel leaves. -/
module

public import Idealize.ShloMosaic.Lib.Pointwise
public import Idealize.ShloMosaic.Lib.WordCmp
public import Idealize.ShloMosaic.Lib.Pipeline.ValueKit
public import Idealize.ShloMosaic.Lib.Claim
public import proofs.«01_k».proof.Proof.RetRead
public import proofs.«01_k».proof.Proof.RetOut

@[expose] public section

set_option maxRecDepth 16384

noncomputable section

namespace Cert.Kernel12Ideal.Ret

open Cert.Kernel12Ideal Cert.Kernel12Ideal.Gen Idealize.ShloMosaic Idealize.ShloMosaic.TcCoe Idealize.SL.Sem

/-- The cosine and the sine by which a place of a head is turned, the sine negated in the first half. -/
def cosAt (s : Fin 4) (d : Fin 128) : EReal := if d.val < 64 then Ideal.cos (ang s d.val) else Ideal.cos (ang s (d.val - 64))
def sinAt (s : Fin 4) (d : Fin 128) : EReal := if d.val < 64 then -Ideal.sin (ang s d.val) else Ideal.sin (ang s (d.val - 64))

theorem rot_congr {k k' c c' s s' : Fin 128 → EReal} (d : Fin 128) (hk : ∀ a, k a = k' a) (hc : ∀ a, c a = c' a) (hs : ∀ a, s a = s' a) : rot k c s d = rot k' c' s' d := by
  rw [funext hk, funext hc, funext hs]

/-- An entry of a key of the samples, rotated and scaled. -/
def keyAt (p : FVec Ideal S32x4x7680 .f32) (b : Fin 32) (s : Fin 4) (h : Fin 4) (d : Fin 128) : EReal :=
  rot (fun a => p (ix3 b s ⟨512 + (colOf h a).val, by have := (colOf h a).isLt; omega⟩)) (cosAt s) (sinAt s) d

/-- An entry of a value of the samples. -/
def valAt (p : FVec Ideal S32x4x7680 .f32) (b : Fin 32) (s : Fin 4) (h : Fin 4) (e : Fin 128) : EReal :=
  p (ix3 b s ⟨1024 + (colOf h e).val, by have := (colOf h e).isLt; omega⟩)

/-- An entry of a final state: the old state decayed, plus the sequence's four keys, decayed, by their values. -/
def stAt (p : FVec Ideal S32x4x7680 .f32) (st : FVec Ideal S32x4x4x128x128 .f32) (b : Fin 32) (h : Fin 4) (d e : Fin 128) : EReal :=
  dec h * st (ix5 b 0 h d e) + ∑ s : Fin 4, keyAt p b s h d * kdec s h.val * valAt p b s h e

/-- The final states of all sequences. -/
def stArr (p : FVec Ideal S32x4x7680 .f32) (st : FVec Ideal S32x4x4x128x128 .f32) : FVec Ideal S32x4x128x128 .f32 :=
  fun i : S32x4x128x128.Idx => stAt p st (i 0) (i 1) (i 2) (i 3)

/-- A sum of which only the terms of one sequence's four rows are left is the sum over those rows. -/
theorem collapse (q : ℕ) (hq : q < 32) (f : Fin 128 → EReal) :
    ∑ s : Fin 128, (if s.val / 4 = q then f s else 0) = ∑ e : Fin 4, f ⟨4 * q + e.val, by omega⟩ := by
  rw [← Finset.sum_filter]
  refine Finset.sum_bij' (fun s _ => (⟨s.val % 4, Nat.mod_lt _ (by norm_num)⟩ : Fin 4)) (fun e _ => (⟨4 * q + e.val, by omega⟩ : Fin 128)) (fun _ _ => Finset.mem_univ _) ?_ ?_ ?_ ?_
  · exact fun e _ => Finset.mem_filter.mpr ⟨Finset.mem_univ _, by show (4 * q + e.val) / 4 = q; omega⟩
  · intro s hs
    have h := (Finset.mem_filter.mp hs).2
    exact Fin.ext (by show 4 * q + s.val % 4 = s.val; omega)
  · exact fun e _ => Fin.ext (by show (4 * q + e.val) % 4 = e.val; omega)
  · intro s hs
    have h := (Finset.mem_filter.mp hs).2
    exact congrArg f (Fin.ext (by show s.val = 4 * q + s.val % 4; omega))

theorem point : ∀ t : Fin cfg0.N, ((grid0.coords t) 0).val = t.val :=
  (by decide +kernel : ∀ t : Fin grid0.N, _)

variable (m : (ℓ : Loc nD τ sig) → Buf (Elt Ideal) ℓ)

/-- What a grid point writes, in terms of the arrays. -/
theorem block (c : Dev nD) (t : Fin cfg0.N) (h : Fin 4) (d e : Fin 128) :
    (outsAt0 m c t.val t.isLt).2.1 (ix4 0 h d e) = stAt (m ((c : Thread nD τ).loc main_arg0)) (m ((c : Thread nD τ).loc main_arg2)) ⟨t.val, lt32 t⟩ h d e := by
  refine (out_st m c t h d e).trans ?_
  unfold stBlk upd stAt
  have ht := lt32 t
  refine congrArg₂ (fun a b : EReal => a + b) (congrArg (fun a : EReal => dec h * a) (read_s m c t h d e)) ?_
  rw [point t]
  refine (collapse t.val (lt32 t) _).trans (Finset.sum_congr rfl fun s _ => ?_)
  have h1 : (4 * t.val + s.val) / 4 = t.val := by omega
  have h2 : (4 * t.val + s.val) % 4 = s.val := by omega
  have hs : seqOf (⟨4 * t.val + s.val, by omega⟩ : Fin 128) = ⟨t.val, lt32 t⟩ := Fin.ext h1
  have hp : posOf (⟨4 * t.val + s.val, by omega⟩ : Fin 128) = s := Fin.ext h2
  have h3 : (colOf h d).val / 128 = h.val := by show (128 * h.val + d.val) / 128 = h.val; omega
  refine congrArg₂ (fun a b : EReal => a * b) (congrArg₂ (fun a b : EReal => a * b) ?_ ?_) ?_
  · unfold keyAt
    refine rot_congr d (fun a => (read_k m c t _ (colOf h a)).trans ?_) (fun a => ((read_cos m c t _ a).trans (cos_at _ a)).trans ?_) (fun a => ((read_sin m c t _ a).trans (sin_at _ a)).trans ?_)
    · rw [hs, hp]
    · rw [hp]
      rfl
    · rw [hp]
      rfl
  · exact ((read_kd m c t _ _).trans (kd_at _ _)).trans (by rw [hp, h3])
  · unfold valAt
    exact (read_v m c t _ (colOf h e)).trans (by rw [hs, hp])

theorem split4' (y : S1x4x128x128.Idx) : y = ix4 0 (y 1) (y 2) (y 3) := by
  refine funext fun a => ?_
  fin_cases a
  · exact Subsingleton.elim (α := Fin 1) _ _
  · rfl
  · rfl
  · rfl

/-- The states after the last grid point. -/
theorem final (c : Dev nD) : (dats m 0 c).arrAt 12 cfg0.N = stArr (m ((c : Thread nD τ).loc main_arg0)) (m ((c : Thread nD τ).loc main_arg2)) := by
  refine (dats m 0 c).arrAt_eq_of_covers 12 _ (by decide +kernel) fun t hf y => ?_
  blk_simp
  rw [after0_12]
  rw [split4' y]
  refine (block m c t (y 1) (y 2) (y 3)).trans ?_
  have he : ((View.whole main_v84_1).slice (win0_12.rect t)).emb (ix4 0 (y 1) (y 2) (y 3)) = ix4 ⟨t.val, lt32 t⟩ (y 1) (y 2) (y 3) := by
    blk_ext [idx t]
  exact (congrArg (stArr _ _) he).symm

end Cert.Kernel12Ideal.Ret
end
-- ==== Proof.RetRef.lean ====
/- What the reference's retention states of the samples are, one entry at a time, and that the kernel's array is the same. -/
module

public import proofs.«01_k».proof.Proof.RetDec
public import proofs.«01_k».proof.Proof.RetFinal
public import proofs.«01_k».proof.Proof.Gen.Reference12Ideal.Run

@[expose] public section

set_option maxRecDepth 16384
noncomputable section
namespace Cert.Reference12Ideal.Value
open Cert.Reference12Ideal Cert.Reference12Ideal.Gen Idealize.ShloMosaic Idealize.ShloMosaic.TcCoe Idealize.SL.Sem Idealize.ShloMosaic.StableHlo Cert.Kernel12Ideal.Ret

/-- The four heads of a branch's part. -/
def heads (p : FVec Ideal S32x4x7680 .f32) (a : ℕ) (h : S32x4x7680.Slices ![0, 0, a] S32x4x512) : FVec Ideal S32x4x4x128 .f32 :=
  shapeCast S32x4x4x128 (extractStridedSlice S32x4x512 ![0, 0, a] p h) shapeCasts_S32x4x512_S32x4x4x128

/-- The angles of the rotation. -/
def angles : FVec Ideal S4x64 .f32 :=
  mulf (broadcastInDim S4x64 ![0, 1] bcast_S4x1_S4x64_0_1 (broadcastInDim S4x1 ![0] bcast_S4_S4x1_0 (sitofp .f32 (addi (broadcastInDim S4 ![] bcast_S_S4 (constantI S_ 32 8192#32)) (iotaInDim S4 32 0)))))
    (broadcastInDim S4x64 ![0, 1] bcast_S1x64_S4x64_0_1 (broadcastInDim S1x64 ![1] bcast_S64_S1x64_1 (Host.powf (broadcastInDim S64 ![] bcast_S_S64 (constant S_ .f32 0x461C4000#32))
      (Host.divf (Host.negf (sitofp .f32 (iotaInDim S64 32 0))) (broadcastInDim S64 ![] bcast_S_S64 (constant S_ .f32 0x42800000#32))))))

/-- A table of the positions, for every sequence and head. -/
def spread (x : FVec Ideal S4x64 .f32) : FVec Ideal S32x4x4x64 .f32 :=
  broadcastInDim S32x4x4x64 ![0, 1, 2, 3] bcast_S1x4x1x64_S32x4x4x64_0_1_2_3 (broadcastInDim S1x4x1x64 ![1, 3] bcast_S4x64_S1x4x1x64_1_3 x)

/-- The halves of the heads. -/
def low (x : FVec Ideal S32x4x4x128 .f32) : FVec Ideal S32x4x4x64 .f32 := extractStridedSlice S32x4x4x64 ![0, 0, 0, 0] x slices_S32x4x4x128_S32x4x4x64_0_0_0_0
def high (x : FVec Ideal S32x4x4x128 .f32) : FVec Ideal S32x4x4x64 .f32 := extractStridedSlice S32x4x4x64 ![0, 0, 0, 64] x slices_S32x4x4x128_S32x4x4x64_0_0_0_64

/-- The rotated halves. -/
def rotLow (x : FVec Ideal S32x4x4x128 .f32) : FVec Ideal S32x4x4x64 .f32 :=
  subf (mulf (low x) (spread (Host.cos angles))) (mulf (high x) (spread (Host.sin angles)))
def rotHigh (x : FVec Ideal S32x4x4x128 .f32) : FVec Ideal S32x4x4x64 .f32 :=
  addf (mulf (low x) (spread (Host.sin angles))) (mulf (high x) (spread (Host.cos angles)))

/-- The rotated keys over the root of the width of a head. -/
def keys (x : FVec Ideal S32x4x4x128 .f32) : FVec Ideal S32x4x4x128 .f32 :=
  Host.divf (concatenate S32x4x4x128 3 [⟨S32x4x4x64, rotLow x⟩, ⟨S32x4x4x64, rotHigh x⟩] concatenates_S32x4x4x64_S32x4x4x64_S32x4x4x128_d3)
    (broadcastInDim S32x4x4x128 ![] bcast_S_S32x4x4x128 (Host.sqrt (constant S_ .f32 0x43000000#32)))

/-- The logarithms of the heads' decays. -/
def logs : FVec Ideal S4 .f32 :=
  Host.log (subf (broadcastInDim S4 ![] bcast_S_S4 (constant S_ .f32 0x3F800000#32)) (Host.divf (broadcastInDim S4 ![] bcast_S_S4 (constant S_ .f32 0x3F800000#32))
    (sitofp .f32 (Host.shli (broadcastInDim S4 ![] bcast_S_S4 (constantI S_ 32 32#32)) (iotaInDim S4 32 0)))))

/-- The decays of the keys to the end of their sequence. -/
def kdecs : FVec Ideal S4x4 .f32 :=
  Host.exp (mulf (broadcastInDim S4x4 ![0, 1] bcast_S4x1_S4x4_0_1 (broadcastInDim S4x1 ![0] bcast_S4_S4x1_0 (subf (broadcastInDim S4 ![] bcast_S_S4 (constant S_ .f32 0x40400000#32)) (sitofp .f32 (iotaInDim S4 32 0)))))
    (broadcastInDim S4x4 ![0, 1] bcast_S1x4_S4x4_0_1 (broadcastInDim S1x4 ![1] bcast_S4_S1x4_1 logs)))

/-- The reference's final states. -/
def outS (p : FVec Ideal S32x4x7680 .f32) (st : FVec Ideal S32x4x4x128x128 .f32) : FVec Ideal S32x4x128x128 .f32 :=
  addf (mulf (broadcastInDim S32x4x128x128 ![0, 1, 2, 3] bcast_S1x4x1x1_S32x4x128x128_0_1_2_3 (broadcastInDim S1x4x1x1 ![1] bcast_S4_S1x4x1x1_1 (Host.exp (mulf (broadcastInDim S4 ![] bcast_S_S4 (constant S_ .f32 0x40800000#32)) logs))))
      (shapeCast _ (extractStridedSlice S32x1x4x128x128 ![0, 0, 0, 0, 0] st slices_S32x4x4x128x128_S32x1x4x128x128_0_0_0_0_0) shapeCasts_S32x1x4x128x128_S32x4x128x128))
    (Host.dotGeneral dot_S32x4x4x128_S32x4x4x128_S32x4x128x128_1_1_3_3_02_02 none
      (mulf (keys (heads p 512 slices_S32x4x7680_S32x4x512_0_0_512)) (broadcastInDim S32x4x4x128 ![0, 1, 2, 3] bcast_S1x4x4x1_S32x4x4x128_0_1_2_3 (broadcastInDim S1x4x4x1 ![1, 2] bcast_S4x4_S1x4x4x1_1_2 kdecs)))
      (heads p 1024 slices_S32x4x7680_S32x4x512_0_0_1024))

theorem res_eq (m : (ℓ : Loc nD τ sig) → Buf (Elt Ideal) ℓ) (c : Dev nD) :
    res_main_v146 m c = outS (m ((c.tc : Thread nD τ).loc main_arg0)) (m ((c.tc : Thread nD τ).loc main_arg2)) := by
  unfold res_main_v146
  rfl

/-- One entry of a head. -/
theorem heads_at (p : FVec Ideal S32x4x7680 .f32) (a : ℕ) (ha : a + 512 ≤ 7680) (h : S32x4x7680.Slices ![0, 0, a] S32x4x512) (b : Fin 32) (s : Fin 4) (k : Fin 4) (d : Fin 128) :
    heads p a h (ix4 b s k d) = p (ix3 b s ⟨a + (128 * k.val + d.val), by omega⟩) := by
  pointwise [heads]
  exact congrArg (fun j => p (ix3 b s j)) (Fin.ext (by
    show a + (k.val * 128 + d.val) = a + (128 * k.val + d.val)
    omega))

theorem angles_at (s : Fin 4) (j : Fin 64) : angles (ix2 s j) = ang s j.val := by
  pointwise [angles]
  rfl

theorem rotLow_at (x : FVec Ideal S32x4x4x128 .f32) (b : Fin 32) (s k : Fin 4) (j : Fin 64) :
    (rotLow x (ix4 b s k j) : EReal) = (x (ix4 b s k ⟨j.val, by omega⟩) : EReal) * Ideal.cos (ang s j.val) + x (ix4 b s k ⟨64 + j.val, by omega⟩) * -Ideal.sin (ang s j.val) := by
  pointwise [rotLow, low, high, spread]
  simp only [angles_at]
  rw [mul_neg, ← sub_eq_add_neg]

theorem rotHigh_at (x : FVec Ideal S32x4x4x128 .f32) (b : Fin 32) (s k : Fin 4) (j : Fin 64) :
    (rotHigh x (ix4 b s k j) : EReal) = (x (ix4 b s k ⟨64 + j.val, by omega⟩) : EReal) * Ideal.cos (ang s j.val) + x (ix4 b s k ⟨j.val, by omega⟩) * Ideal.sin (ang s j.val) := by
  pointwise [rotHigh, low, high, spread]
  simp only [angles_at]
  exact add_comm _ _

theorem keys_at (x : FVec Ideal S32x4x4x128 .f32) (b : Fin 32) (s k : Fin 4) (d : Fin 128) :
    (keys x (ix4 b s k d) : EReal) = rot (fun a => x (ix4 b s k a)) (cosAt s) (sinAt s) d := by
  pointwise [keys]
  refine (div_root _).trans ?_
  unfold rot cosAt sinAt
  refine congrArg (fun a : EReal => a * ks) ?_
  by_cases h : d.val < 64
  · rw [dif_pos h, if_pos h, if_pos h, rotLow_at]
    have ho : other d = ⟨64 + d.val, by omega⟩ := Fin.ext (by show (d.val + 128 - 64) % 128 = 64 + d.val; omega)
    rw [ho]
  · rw [dif_neg h, if_neg h, if_neg h, rotHigh_at]
    have ho : other d = ⟨d.val - 64, by omega⟩ := Fin.ext (by show (d.val + 128 - 64) % 128 = d.val - 64; omega)
    have hd : (⟨64 + (d.val - 64), by omega⟩ : Fin 128) = d := Fin.ext (by show 64 + (d.val - 64) = d.val; omega)
    rw [ho]
    simp only [hd]

theorem kdecs_at (s h : Fin 4) : kdecs (ix2 s h) = kdec s h.val := by
  pointwise [kdecs, logs]
  unfold kdec
  rw [← back_eq]
  rfl

theorem outS_at (p : FVec Ideal S32x4x7680 .f32) (st : FVec Ideal S32x4x4x128x128 .f32) (b : Fin 32) (h : Fin 4) (d e : Fin 128) : outS p st (ix4 b h d e) = stAt p st b h d e := by
  pointwise [outS, logs]
  simp only [keys_at, kdecs_at, heads_at p 512 (by omega), heads_at p 1024 (by omega)]
  refine congrArg₂ (fun a b : EReal => a + b) (congrArg (fun a : EReal => a * st (ix5 b 0 h d e)) (dec_eq h)) ?_
  rfl

/-- The kernel's states are the reference's. -/
theorem outS_eq (p : FVec Ideal S32x4x7680 .f32) (st : FVec Ideal S32x4x4x128x128 .f32) : outS p st = stArr p st := by
  funext i
  have hi : i = ix4 (i 0) (i 1) (i 2) (i 3) := by
    refine funext fun a => ?_
    fin_cases a <;> rfl
  exact (congrArg (outS p st) hi).trans (outS_at p st (i 0) (i 1) (i 2) (i 3))

end Cert.Reference12Ideal.Value
end
-- ==== Proof.RetTab.lean ====
/- The retention of the samples: the tables and windows of its branch result. -/
module

public import Idealize.ShloMosaic.Lib.Pointwise
public import Idealize.ShloMosaic.Lib.WordCmp
public import Idealize.ShloMosaic.Lib.Pipeline.ValueKit
public import Idealize.ShloMosaic.Lib.Claim
public import proofs.«01_k».proof.Proof.RetRead

@[expose] public section

set_option maxRecDepth 16384

noncomputable section

namespace Cert.Kernel12Ideal.Ret

open Cert.Kernel12Ideal Cert.Kernel12Ideal.Gen Idealize.ShloMosaic Idealize.ShloMosaic.TcCoe Idealize.SL.Sem

/-- The sequences of the rows, as the host takes them. -/
def seqTab : IVec S128 32 :=
  select (andi (cmpi .ne (signi (iotaInDim S128 32 0)) (broadcastInDim S128 ![] bcast_S_S128 (signi (id (constantI S_ 32 4#32)))))
      (cmpi .ne (Host.remsi (iotaInDim S128 32 0) (broadcastInDim S128 ![] bcast_S_S128 (id (constantI S_ 32 4#32)))) (broadcastInDim S128 ![] bcast_S_S128 (constantI S_ 32 0#32))))
    (subi (Host.divsi (iotaInDim S128 32 0) (broadcastInDim S128 ![] bcast_S_S128 (id (constantI S_ 32 4#32)))) (broadcastInDim S128 ![] bcast_S_S128 (constantI S_ 32 1#32)))
    (Host.divsi (iotaInDim S128 32 0) (broadcastInDim S128 ![] bcast_S_S128 (id (constantI S_ 32 4#32))))

theorem seq_at (r : Fin 128) : seqTab (ix1 r) = BitVec.ofNat 32 (r.val / 4) := by
  pointwise [seqTab]
  revert r
  decide +kernel

/-- The differences of the rows' positions. -/
def diffTab : IVec S128x128 32 :=
  subi (broadcastInDim S128x128 ![0, 1] bcast_S128x1_S128x128_0_1 (broadcastInDim S128x1 ![0] bcast_S128_S128x1_0 rem4))
    (broadcastInDim S128x128 ![0, 1] bcast_S1x128_S128x128_0_1 (broadcastInDim S1x128 ![1] bcast_S128_S1x128_1 rem4))

/-- The weights of the rows for one another. -/
def dmTab : FVec Ideal S4x128x128 .f32 :=
  select (broadcastInDim S4x128x128 ![0, 1, 2] bcast_S1x128x128_S4x128x128_0_1_2 (andi
      (broadcastInDim S1x128x128 ![1, 2] bcast_S128x128_S1x128x128_1_2 (cmpi .sge diffTab (broadcastInDim S128x128 ![] bcast_S_S128x128 (constantI S_ 32 0#32))))
      (broadcastInDim S1x128x128 ![1, 2] bcast_S128x128_S1x128x128_1_2 (cmpi .eq
        (broadcastInDim S128x128 ![0, 1] bcast_S128x1_S128x128_0_1 (broadcastInDim S128x1 ![0] bcast_S128_S128x1_0 seqTab))
        (broadcastInDim S128x128 ![0, 1] bcast_S1x128_S128x128_0_1 (broadcastInDim S1x128 ![1] bcast_S128_S1x128_1 seqTab))))))
    (Host.exp (mulf (broadcastInDim S4x128x128 ![0, 1, 2] bcast_S1x128x128_S4x128x128_0_1_2 (sitofp .f32 (broadcastInDim S1x128x128 ![1, 2] bcast_S128x128_S1x128x128_1_2 diffTab)))
      (broadcastInDim S4x128x128 ![0, 1, 2] bcast_S4x1x1_S4x128x128_0_1_2 (broadcastInDim S4x1x1 ![0] bcast_S4_S4x1x1_0 lgTab))))
    (broadcastInDim S4x128x128 ![] bcast_S_S4x128x128 (id (constant S_ .f32 0x00000000#32)))

/-- The queries' decays from the start of their sequence. -/
def qdTab : FVec Ideal S128x512 .f32 :=
  shapeCast S128x512 (broadcastInDim S128x4x128 ![0, 1] bcast_S128x4_S128x4x128_0_1 (Host.exp (mulf
    (broadcastInDim S128x4 ![0, 1] bcast_S128x1_S128x4_0_1 (broadcastInDim S128x1 ![0] bcast_S128_S128x1_0 (sitofp .f32 (addi rem4 (broadcastInDim S128 ![] bcast_S_S128 (constantI S_ 32 1#32))))))
    (broadcastInDim S128x4 ![0, 1] bcast_S1x4_S128x4_0_1 (broadcastInDim S1x4 ![1] bcast_S4_S1x4_1 lgTab))))) shapeCasts_S128x4x128_S128x512

/-- The decay of a query from the start of its sequence. -/
def qdec (s : Fin 4) (h : ℕ) : EReal := Ideal.exp (FloatOps.sitofp (F := Ideal) FTy.f32 (IntOp.addi (BitVec.ofNat 32 s.val) (1#32)) * lg h)

/-- The weight of a position for a position of the same sequence. -/
def wt (i j : Fin 4) (h : ℕ) : EReal := if j.val ≤ i.val then Ideal.exp (FloatOps.sitofp (F := Ideal) FTy.f32 (IntOp.subi (BitVec.ofNat 32 i.val) (BitVec.ofNat 32 j.val)) * lg h) else 0

theorem qd_at (r : Fin 128) (n : Fin 512) : qdTab (ix2 r n) = qdec (posOf r) (n.val / 128) := by
  pointwise [qdTab, lgTab]
  simp only [rem4_at]
  rfl

theorem ge_at : ∀ i j : Fin 4, IntOp.cmpi .sge (IntOp.subi (BitVec.ofNat 32 i.val) (BitVec.ofNat 32 j.val)) (0#32) = BitVec.ofBool (decide (j.val ≤ i.val)) := by
  decide +kernel

theorem and_at : ∀ a b : Bool, IntOp.andi (BitVec.ofBool a) (BitVec.ofBool b) = BitVec.ofBool (a && b) := by
  decide +kernel

theorem dm_at (h : Fin 4) (r s : Fin 128) : dmTab (ix3 h r s) = if s.val / 4 = r.val / 4 then wt (posOf r) (posOf s) h.val else 0 := by
  pointwise [dmTab, diffTab, lgTab]
  simp only [rem4_at, seq_at]
  have hr : r.val / 4 < 2 ^ 32 := by omega
  have hs : s.val / 4 < 2 ^ 32 := by omega
  have hg := ge_at (posOf r) (posOf s)
  dsimp only at hg
  rw [hg, WordCmp.cmpi_eq_eq]
  simp only [WordCmp.ofNat_eq_ofNat_iff hr hs]
  rw [and_at]
  unfold wt
  by_cases h1 : s.val % 4 ≤ r.val % 4
  · by_cases h2 : s.val / 4 = r.val / 4
    · rw [if_pos h2, if_pos h1, decide_eq_true h1, decide_eq_true h2.symm]
      rfl
    · rw [if_neg h2, decide_eq_true h1, decide_eq_false (fun h => h2 h.symm)]
      exact Ideal.ofBits_zero FTy.f32
  · rw [decide_eq_false h1]
    by_cases h2 : s.val / 4 = r.val / 4
    · rw [if_pos h2, if_neg h1]
      exact Ideal.ofBits_zero FTy.f32
    · rw [if_neg h2]
      exact Ideal.ofBits_zero FTy.f32

variable (m : (ℓ : Loc nD τ sig) → Buf (Elt Ideal) ℓ)

theorem idx' : ∀ t : Fin cfg0.N, win0_0.index t = ![0, 0, 6] ∧ win0_3.index t = ![0, 0, 9] ∧ win0_6.index t = ![0, 0, 0] ∧ win0_7.index t = ![0, 0]
    ∧ win0_9.index t = ![0, 0] ∧ win0_11.index t = ![0, 0, 0] :=
  (by decide +kernel : ∀ t : Fin grid0.N, _)

/-- The queries a grid point reads. -/
theorem read_q (c : Dev nD) (t : Fin cfg0.N) (r : Fin 128) (n : Fin 512) :
    iblk m c 0 t (ix3 0 r n) = m ((c : Thread nD τ).loc main_arg0) (ix3 (seqOf r) (posOf r) ⟨0 + n.val, by omega⟩) := by
  have he : ((View.whole main_v3).slice (win0_0.rect t)).emb (ix3 0 r n) = ix3 0 r ⟨3072 + n.val, by omega⟩ := by
    blk_ext [idx' t]
  blk_simp [iblk]
  rw [he]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise

/-- The gates a grid point reads. -/
theorem read_g (c : Dev nD) (t : Fin cfg0.N) (r : Fin 128) (n : Fin 512) :
    iblk m c 3 t (ix3 0 r n) = m ((c : Thread nD τ).loc main_arg0) (ix3 (seqOf r) (posOf r) ⟨1536 + n.val, by omega⟩) := by
  have he : ((View.whole main_v3).slice (win0_3.rect t)).emb (ix3 0 r n) = ix3 0 r ⟨4608 + n.val, by omega⟩ := by
    blk_ext [idx' t]
  blk_simp [iblk]
  rw [he]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise
  exact (dif_neg (by omega)).trans (congrArg (fun k => m ((c : Thread nD τ).loc main_arg0) (ix3 (seqOf r) (posOf r) k)) (Fin.ext (by show 4608 + n.val - 3072 = 1536 + n.val; omega)))

set_option maxHeartbeats 4000000 in
theorem read_dm (c : Dev nD) (t : Fin cfg0.N) (h : Fin 4) (r s : Fin 128) : iblk m c 6 t (ix3 h r s) = dmTab (ix3 h r s) := by
  have he : ((View.whole main_v60).slice (win0_6.rect t)).emb (ix3 h r s) = ix3 h r s := by
    blk_ext [idx' t]
  blk_simp [iblk]
  rw [he]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

set_option maxHeartbeats 4000000 in
theorem read_qd (c : Dev nD) (t : Fin cfg0.N) (r : Fin 128) (n : Fin 512) : iblk m c 7 t (ix2 r n) = qdTab (ix2 r n) := by
  have he : ((View.whole main_v82).slice (win0_7.rect t)).emb (ix2 r n) = ix2 r n := by
    blk_ext [idx' t]
  blk_simp [iblk]
  rw [he]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

theorem read_w (c : Dev nD) (t : Fin cfg0.N) (n : Fin 512) : iblk m c 9 t (ix2 0 n) = m ((c : Thread nD τ).loc main_arg1) (ix1 n) := by
  have he : ((View.whole main_v83).slice (win0_9.rect t)).emb (ix2 0 n) = ix2 0 n := by
    blk_ext [idx' t]
  blk_simp [iblk]
  rw [he]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise

end Cert.Kernel12Ideal.Ret
end
-- ==== Proof.RetRow.lean ====
/- The retention of the samples: entries of the carried rows and of the branch's rows. -/
module

public import Idealize.ShloMosaic.Lib.Pointwise
public import Idealize.ShloMosaic.Lib.Pipeline.ValueKit
public import Idealize.ShloMosaic.Lib.Pipeline.ReadBack
public import Idealize.ShloMosaic.Lib.Claim
public import proofs.«01_k».proof.Proof.RetOut

@[expose] public section

set_option maxRecDepth 16384

noncomputable section

namespace Cert.Kernel12Ideal.Ret

open Cert.Kernel12Ideal Cert.Kernel12Ideal.Gen Idealize.ShloMosaic Idealize.ShloMosaic.TcCoe Idealize.SL.Sem

/-- An entry of a head of queries, rotated. -/
def turn (q cos sin : Fin 128 → EReal) (d : Fin 128) : EReal := q d * cos d + q (other d) * sin d

/-- What a grid point adds to an entry of the carried rows: only to its own sequence's rows. -/
def more (old : EReal) (p : Prop) [Decidable p] (q s : Fin 128 → EReal) : EReal :=
  old + ∑ d : Fin 128, (if p then q d * s d else 0)

/-- An entry of a head's result, before its norm. -/
def mix (q : Fin 128 → EReal) (k : Fin 128 → Fin 128 → EReal) (dm v : Fin 128 → EReal) (old : EReal) : EReal :=
  (∑ s : Fin 128, ((∑ d : Fin 128, q d * k s d) * dm s) * v s) + old

/-- An entry of a head, normalized, times its gain and the gate. -/
def fin (o : Fin 128 → EReal) (gate w : EReal) (e : Fin 128) : EReal :=
  gate * Ideal.logistic gate * ((o e - Ideal.div (∑ a, o a) (Ideal.ofBits FTy.f32 0x43000000#32)) *
    Ideal.rsqrt (Ideal.div (∑ b, (o b - Ideal.div (∑ a, o a) (Ideal.ofBits FTy.f32 0x43000000#32)) * (o b - Ideal.div (∑ a, o a) (Ideal.ofBits FTy.f32 0x43000000#32)))
      (Ideal.ofBits FTy.f32 0x43000000#32) + Ideal.ofBits FTy.f32 0x358637BD#32) * w)

theorem more0_at (i : grid0.Coords) (x4 x5 : Vec Ideal S128x128 .f32) (w : Vec Ideal S1x128x128 .f32) (s : Vec Ideal S1x1x1x128x128 .f32) (qd old : Vec Ideal S128x128 .f32) (r e : Fin 128) :
    k0_pay30 (k0_pay24 i) (k0_pay25 x4 x5 w) (k0_pay28 s) (k0_pay29 qd) old (ix2 r e) = more (old (ix2 r e)) (r.val / 4 = (i 0).val) (fun d => (turn (fun e => w (ix3 0 r e)) (fun e => x4 (ix2 r e)) (fun e => x5 (ix2 r e)) d : EReal) * qd (ix2 r d)) (fun d => s (ix5 0 0 0 d e)) := by
  pointwise [k0_pay30, k0_pay25, k0_pay28, k0_pay29, k0_pay22, k0_pay23]
  simp only [mask_at, sel]
  rfl

theorem more1_at (i : grid0.Coords) (x4 x5 : Vec Ideal S128x128 .f32) (w : Vec Ideal S1x128x128 .f32) (s : Vec Ideal S1x1x1x128x128 .f32) (qd old : Vec Ideal S128x128 .f32) (r e : Fin 128) :
    k0_pay37 (k0_pay24 i) (k0_pay32 (k0_pay22 x4) (k0_pay23 x5) w) s qd old (ix2 r e) = more (old (ix2 r e)) (r.val / 4 = (i 0).val) (fun d => (turn (fun e => w (ix3 0 r e)) (fun e => x4 (ix2 r e)) (fun e => x5 (ix2 r e)) d : EReal) * qd (ix2 r d)) (fun d => s (ix5 0 0 0 d e)) := by
  pointwise [k0_pay37, k0_pay32, k0_pay36, k0_pay22, k0_pay23]
  simp only [mask_at, sel]
  rfl

theorem more2_at (i : grid0.Coords) (x4 x5 : Vec Ideal S128x128 .f32) (w : Vec Ideal S1x128x128 .f32) (s : Vec Ideal S1x1x1x128x128 .f32) (qd old : Vec Ideal S128x128 .f32) (r e : Fin 128) :
    k0_pay45 old (k0_pay43 (k0_pay22 x4) (k0_pay23 x5) (k0_pay24 i) w qd) (k0_pay44 s) (constant S128x128 .f32 0x00000000#32) (ix2 r e) = more (old (ix2 r e)) (r.val / 4 = (i 0).val) (fun d => (turn (fun e => w (ix3 0 r e)) (fun e => x4 (ix2 r e)) (fun e => x5 (ix2 r e)) d : EReal) * qd (ix2 r d)) (fun d => s (ix5 0 0 0 d e)) := by
  pointwise [k0_pay45, k0_pay43, k0_pay44, k0_pay41, k0_pay22, k0_pay23]
  simp only [mask_at, sel]
  rfl

theorem more3_at (i : grid0.Coords) (x4 x5 : Vec Ideal S128x128 .f32) (w : Vec Ideal S1x128x128 .f32) (s : Vec Ideal S1x1x1x128x128 .f32) (qd old : Vec Ideal S128x128 .f32) (r e : Fin 128) :
    k0_pay1 (k0_pay24 i) (k0_pay47 (k0_pay22 x4) (k0_pay23 x5) w) (k0_pay50 s) qd old (ix2 r e) = more (old (ix2 r e)) (r.val / 4 = (i 0).val) (fun d => (turn (fun e => w (ix3 0 r e)) (fun e => x4 (ix2 r e)) (fun e => x5 (ix2 r e)) d : EReal) * qd (ix2 r d)) (fun d => s (ix5 0 0 0 d e)) := by
  pointwise [k0_pay1, k0_pay47, k0_pay50, k0_pay22, k0_pay23]
  simp only [mask_at, sel]
  rfl

theorem fin0_at (x4 x5 : Vec Ideal S128x128 .f32) (q k v dm g : Vec Ideal S1x128x128 .f32) (old : Vec Ideal S128x128 .f32) (w : Vec Ideal S1x128 .f32) (r e : Fin 128) :
    k0_pay8 (k0_pay3 (k0_pay22 x4) (k0_pay23 x5) q k v dm old) (k0_pay4 g) (k0_pay5 w) (k0_pay6 (k0_pay22 x4) (k0_pay23 x5) q k v dm old) k0_pay7 (ix3 0 r e) =
      fin (fun a => mix (turn (fun e => q (ix3 0 r e)) (fun e => x4 (ix2 r e)) (fun e => x5 (ix2 r e))) (fun s => rot (fun e => k (ix3 0 s e)) (fun e => x4 (ix2 s e)) (fun e => x5 (ix2 s e))) (fun s => dm (ix3 0 r s)) (fun s => v (ix3 0 s a)) (old (ix2 r a))) (g (ix3 0 r e)) (w (ix2 0 e)) e := by
  pointwise [k0_pay8, k0_pay3, k0_pay4, k0_pay5, k0_pay6, k0_pay7, k0_pay22, k0_pay23]
  simp only [named_k_scale]
  rfl

theorem fin1_at (x4 x5 : Vec Ideal S128x128 .f32) (q k v dm g : Vec Ideal S1x128x128 .f32) (old : Vec Ideal S128x128 .f32) (w : Vec Ideal S1x128 .f32) (r e : Fin 128) :
    k0_pay12 (k0_pay9 v) (k0_pay10 (k0_pay22 x4) (k0_pay23 x5) q) (k0_pay11 (k0_pay22 x4) (k0_pay23 x5) k) (constant S128x128 .f32 0x00000000#32) dm old g w (ix3 0 r e) =
      fin (fun a => mix (turn (fun e => q (ix3 0 r e)) (fun e => x4 (ix2 r e)) (fun e => x5 (ix2 r e))) (fun s => rot (fun e => k (ix3 0 s e)) (fun e => x4 (ix2 s e)) (fun e => x5 (ix2 s e))) (fun s => dm (ix3 0 r s)) (fun s => v (ix3 0 s a)) (old (ix2 r a))) (g (ix3 0 r e)) (w (ix2 0 e)) e := by
  pointwise [k0_pay12, k0_pay9, k0_pay10, k0_pay11, k0_pay22, k0_pay23]
  simp only [named_k_scale]
  rfl

theorem fin2_at (x4 x5 : Vec Ideal S128x128 .f32) (q k v dm g : Vec Ideal S1x128x128 .f32) (old : Vec Ideal S128x128 .f32) (w : Vec Ideal S1x128 .f32) (r e : Fin 128) :
    k0_pay17 (k0_pay13 (k0_pay22 x4) (k0_pay23 x5) q k v dm old) (k0_pay14 g) (k0_pay15 w) (k0_pay16 (k0_pay22 x4) (k0_pay23 x5) q k v dm old) (ix3 0 r e) =
      fin (fun a => mix (turn (fun e => q (ix3 0 r e)) (fun e => x4 (ix2 r e)) (fun e => x5 (ix2 r e))) (fun s => rot (fun e => k (ix3 0 s e)) (fun e => x4 (ix2 s e)) (fun e => x5 (ix2 s e))) (fun s => dm (ix3 0 r s)) (fun s => v (ix3 0 s a)) (old (ix2 r a))) (g (ix3 0 r e)) (w (ix2 0 e)) e := by
  pointwise [k0_pay17, k0_pay13, k0_pay14, k0_pay15, k0_pay16, k0_pay22, k0_pay23]
  simp only [named_k_scale]
  rfl

theorem fin3_at (x4 x5 : Vec Ideal S128x128 .f32) (q k v dm g : Vec Ideal S1x128x128 .f32) (old : Vec Ideal S128x128 .f32) (w : Vec Ideal S1x128 .f32) (r e : Fin 128) :
    k0_pay20 (k0_pay18 v) (k0_pay19 (k0_pay22 x4) (k0_pay23 x5) q k) dm old g w (ix3 0 r e) =
      fin (fun a => mix (turn (fun e => q (ix3 0 r e)) (fun e => x4 (ix2 r e)) (fun e => x5 (ix2 r e))) (fun s => rot (fun e => k (ix3 0 s e)) (fun e => x4 (ix2 s e)) (fun e => x5 (ix2 s e))) (fun s => dm (ix3 0 r s)) (fun s => v (ix3 0 s a)) (old (ix2 r a))) (g (ix3 0 r e)) (w (ix2 0 e)) e := by
  pointwise [k0_pay20, k0_pay18, k0_pay19, k0_pay22, k0_pay23]
  simp only [named_k_scale]
  rfl

end Cert.Kernel12Ideal.Ret
end
-- ==== Proof.RetScr.lean ====
/- The retention of the samples: what a grid point leaves of the carried rows, and the branch's rows that the last one writes. -/
module

public import Idealize.ShloMosaic.Lib.Pointwise
public import Idealize.ShloMosaic.Lib.Pipeline.ValueKit
public import Idealize.ShloMosaic.Lib.Pipeline.ReadBack
public import Idealize.ShloMosaic.Lib.Claim
public import proofs.«01_k».proof.Proof.RetRow
import all proofs.«01_k».proof.Proof.Gen.Kernel12Ideal.Frame.RunA
import all proofs.«01_k».proof.Proof.Gen.Kernel12Ideal.Frame.RunB
import all proofs.«01_k».proof.Proof.Gen.Kernel12Ideal.Frame.RunC

@[expose] public section

set_option maxRecDepth 16384

noncomputable section

namespace Cert.Kernel12Ideal.Ret

open Cert.Kernel12Ideal Cert.Kernel12Ideal.Gen Idealize.ShloMosaic Idealize.ShloMosaic.TcCoe Idealize.SL.Sem

/-- A head of the carried rows. -/
def oldOf (x : Vec Ideal S128x512 .f32) (h : Fin 4) : Vec Ideal S128x128 .f32 := match h with
  | 0 => View.ld x (Rect.unit ![0, 0] ![128, 128] inb_S128x512_S128x128_0_0)
  | 1 => View.ld x (Rect.unit ![0, 128] ![128, 128] inb_S128x512_S128x128_0_128)
  | 2 => View.ld x (Rect.unit ![0, 256] ![128, 128] inb_S128x512_S128x128_0_256)
  | 3 => View.ld x (Rect.unit ![0, 384] ![128, 128] inb_S128x512_S128x128_0_384)

theorem oldOf_at (x : Vec Ideal S128x512 .f32) (h : Fin 4) (r e : Fin 128) : oldOf x h (ix2 r e) = x (ix2 r (colOf h e)) := by
  fin_cases h
  · exact congrArg x (emb_d0 _)
  · exact congrArg x (emb_d1 _)
  · exact congrArg x (emb_d2 _)
  · exact congrArg x (emb_d3 _)

/-- The stores of a grid point into the carried rows, head by head. -/
def scrOf (i : grid0.Coords) (x0 : Vec Ideal S1x128x512 .f32) (x4 x5 : Vec Ideal S128x128 .f32) (x7 : Vec Ideal S128x512 .f32) (x10 : Vec Ideal S1x1x4x128x128 .f32) (o : Fin 4 → Vec Ideal S128x128 .f32) (h : Fin 4) : Vec Ideal S128x128 .f32 := match h with
  | 0 => k0_pay30 (k0_pay24 i) (k0_pay25 x4 x5 (View.ld x0 (Rect.unit ![0, 0, 0] ![1, 128, 128] inb_S1x128x512_S1x128x128_0_0_0))) (k0_pay28 (View.ld x10 (Rect.unit ![0, 0, 0, 0, 0] ![1, 1, 1, 128, 128] inb_S1x1x4x128x128_S1x1x1x128x128_0_0_0_0_0))) (k0_pay29 (View.ld x7 (Rect.unit ![0, 0] ![128, 128] inb_S128x512_S128x128_0_0))) (o 0)
  | 1 => k0_pay37 (k0_pay24 i) (k0_pay32 (k0_pay22 x4) (k0_pay23 x5) (View.ld x0 (Rect.unit ![0, 0, 128] ![1, 128, 128] inb_S1x128x512_S1x128x128_0_0_128))) (View.ld x10 (Rect.unit ![0, 0, 1, 0, 0] ![1, 1, 1, 128, 128] inb_S1x1x4x128x128_S1x1x1x128x128_0_0_1_0_0)) (View.ld x7 (Rect.unit ![0, 128] ![128, 128] inb_S128x512_S128x128_0_128)) (o 1)
  | 2 => k0_pay45 (o 2) (k0_pay43 (k0_pay22 x4) (k0_pay23 x5) (k0_pay24 i) (View.ld x0 (Rect.unit ![0, 0, 256] ![1, 128, 128] inb_S1x128x512_S1x128x128_0_0_256)) (View.ld x7 (Rect.unit ![0, 256] ![128, 128] inb_S128x512_S128x128_0_256))) (k0_pay44 (View.ld x10 (Rect.unit ![0, 0, 2, 0, 0] ![1, 1, 1, 128, 128] inb_S1x1x4x128x128_S1x1x1x128x128_0_0_2_0_0))) (constant S128x128 .f32 0x00000000#32)
  | 3 => k0_pay1 (k0_pay24 i) (k0_pay47 (k0_pay22 x4) (k0_pay23 x5) (View.ld x0 (Rect.unit ![0, 0, 384] ![1, 128, 128] inb_S1x128x512_S1x128x128_0_0_384))) (k0_pay50 (View.ld x10 (Rect.unit ![0, 0, 3, 0, 0] ![1, 1, 1, 128, 128] inb_S1x1x4x128x128_S1x1x1x128x128_0_0_3_0_0))) (View.ld x7 (Rect.unit ![0, 384] ![128, 128] inb_S128x512_S128x128_0_384)) (o 3)

/-- One entry of the carried rows after a grid point. -/
def scrEnt (i : grid0.Coords) (x0 : Vec Ideal S1x128x512 .f32) (x4 x5 : Vec Ideal S128x128 .f32) (x7 : Vec Ideal S128x512 .f32) (x10 : Vec Ideal S1x1x4x128x128 .f32) (o : Fin 4 → Vec Ideal S128x128 .f32) (r : Fin 128) (h : Fin 4) (e : Fin 128) : EReal :=
  more (o h (ix2 r e)) (r.val / 4 = (i 0).val) (fun d => (turn (fun a => x0 (ix3 0 r (colOf h a))) (fun a => x4 (ix2 r a)) (fun a => x5 (ix2 r a)) d : EReal) * x7 (ix2 r (colOf h d))) (fun d => x10 (ix5 0 0 h d e))

theorem scr0_at (i : grid0.Coords) (x0 : Vec Ideal S1x128x512 .f32) (x4 x5 : Vec Ideal S128x128 .f32) (x7 : Vec Ideal S128x512 .f32) (x10 : Vec Ideal S1x1x4x128x128 .f32) (o : Fin 4 → Vec Ideal S128x128 .f32) (r e : Fin 128) : scrOf i x0 x4 x5 x7 x10 o 0 (ix2 r e) = scrEnt i x0 x4 x5 x7 x10 o r 0 e := by
  refine (more0_at i x4 x5 (View.ld x0 (Rect.unit ![0, 0, 0] ![1, 128, 128] inb_S1x128x512_S1x128x128_0_0_0)) (View.ld x10 (Rect.unit ![0, 0, 0, 0, 0] ![1, 1, 1, 128, 128] inb_S1x1x4x128x128_S1x1x1x128x128_0_0_0_0_0)) (View.ld x7 (Rect.unit ![0, 0] ![128, 128] inb_S128x512_S128x128_0_0)) (o 0) r e).trans ?_
  have hk : ∀ r a : Fin 128, View.ld x0 (Rect.unit ![0, 0, 0] ![1, 128, 128] inb_S1x128x512_S1x128x128_0_0_0) (ix3 0 r a) = x0 (ix3 0 r (colOf 0 a)) := fun r a => congrArg x0 (emb_k0 _)
  have hd : ∀ r a : Fin 128, View.ld x7 (Rect.unit ![0, 0] ![128, 128] inb_S128x512_S128x128_0_0) (ix2 r a) = x7 (ix2 r (colOf 0 a)) := fun r a => congrArg x7 (emb_d0 _)
  have hs : ∀ d e : Fin 128, View.ld x10 (Rect.unit ![0, 0, 0, 0, 0] ![1, 1, 1, 128, 128] inb_S1x1x4x128x128_S1x1x1x128x128_0_0_0_0_0) (ix5 0 0 0 d e) = x10 (ix5 0 0 0 d e) := fun d e => congrArg x10 (emb_s0 _)
  simp only [hk, hd, hs]
  rfl

theorem scr1_at (i : grid0.Coords) (x0 : Vec Ideal S1x128x512 .f32) (x4 x5 : Vec Ideal S128x128 .f32) (x7 : Vec Ideal S128x512 .f32) (x10 : Vec Ideal S1x1x4x128x128 .f32) (o : Fin 4 → Vec Ideal S128x128 .f32) (r e : Fin 128) : scrOf i x0 x4 x5 x7 x10 o 1 (ix2 r e) = scrEnt i x0 x4 x5 x7 x10 o r 1 e := by
  refine (more1_at i x4 x5 (View.ld x0 (Rect.unit ![0, 0, 128] ![1, 128, 128] inb_S1x128x512_S1x128x128_0_0_128)) (View.ld x10 (Rect.unit ![0, 0, 1, 0, 0] ![1, 1, 1, 128, 128] inb_S1x1x4x128x128_S1x1x1x128x128_0_0_1_0_0)) (View.ld x7 (Rect.unit ![0, 128] ![128, 128] inb_S128x512_S128x128_0_128)) (o 1) r e).trans ?_
  have hk : ∀ r a : Fin 128, View.ld x0 (Rect.unit ![0, 0, 128] ![1, 128, 128] inb_S1x128x512_S1x128x128_0_0_128) (ix3 0 r a) = x0 (ix3 0 r (colOf 1 a)) := fun r a => congrArg x0 (emb_k1 _)
  have hd : ∀ r a : Fin 128, View.ld x7 (Rect.unit ![0, 128] ![128, 128] inb_S128x512_S128x128_0_128) (ix2 r a) = x7 (ix2 r (colOf 1 a)) := fun r a => congrArg x7 (emb_d1 _)
  have hs : ∀ d e : Fin 128, View.ld x10 (Rect.unit ![0, 0, 1, 0, 0] ![1, 1, 1, 128, 128] inb_S1x1x4x128x128_S1x1x1x128x128_0_0_1_0_0) (ix5 0 0 0 d e) = x10 (ix5 0 0 1 d e) := fun d e => congrArg x10 (emb_s1 _)
  simp only [hk, hd, hs]
  rfl

theorem scr2_at (i : grid0.Coords) (x0 : Vec Ideal S1x128x512 .f32) (x4 x5 : Vec Ideal S128x128 .f32) (x7 : Vec Ideal S128x512 .f32) (x10 : Vec Ideal S1x1x4x128x128 .f32) (o : Fin 4 → Vec Ideal S128x128 .f32) (r e : Fin 128) : scrOf i x0 x4 x5 x7 x10 o 2 (ix2 r e) = scrEnt i x0 x4 x5 x7 x10 o r 2 e := by
  refine (more2_at i x4 x5 (View.ld x0 (Rect.unit ![0, 0, 256] ![1, 128, 128] inb_S1x128x512_S1x128x128_0_0_256)) (View.ld x10 (Rect.unit ![0, 0, 2, 0, 0] ![1, 1, 1, 128, 128] inb_S1x1x4x128x128_S1x1x1x128x128_0_0_2_0_0)) (View.ld x7 (Rect.unit ![0, 256] ![128, 128] inb_S128x512_S128x128_0_256)) (o 2) r e).trans ?_
  have hk : ∀ r a : Fin 128, View.ld x0 (Rect.unit ![0, 0, 256] ![1, 128, 128] inb_S1x128x512_S1x128x128_0_0_256) (ix3 0 r a) = x0 (ix3 0 r (colOf 2 a)) := fun r a => congrArg x0 (emb_k2 _)
  have hd : ∀ r a : Fin 128, View.ld x7 (Rect.unit ![0, 256] ![128, 128] inb_S128x512_S128x128_0_256) (ix2 r a) = x7 (ix2 r (colOf 2 a)) := fun r a => congrArg x7 (emb_d2 _)
  have hs : ∀ d e : Fin 128, View.ld x10 (Rect.unit ![0, 0, 2, 0, 0] ![1, 1, 1, 128, 128] inb_S1x1x4x128x128_S1x1x1x128x128_0_0_2_0_0) (ix5 0 0 0 d e) = x10 (ix5 0 0 2 d e) := fun d e => congrArg x10 (emb_s2 _)
  simp only [hk, hd, hs]
  rfl

theorem scr3_at (i : grid0.Coords) (x0 : Vec Ideal S1x128x512 .f32) (x4 x5 : Vec Ideal S128x128 .f32) (x7 : Vec Ideal S128x512 .f32) (x10 : Vec Ideal S1x1x4x128x128 .f32) (o : Fin 4 → Vec Ideal S128x128 .f32) (r e : Fin 128) : scrOf i x0 x4 x5 x7 x10 o 3 (ix2 r e) = scrEnt i x0 x4 x5 x7 x10 o r 3 e := by
  refine (more3_at i x4 x5 (View.ld x0 (Rect.unit ![0, 0, 384] ![1, 128, 128] inb_S1x128x512_S1x128x128_0_0_384)) (View.ld x10 (Rect.unit ![0, 0, 3, 0, 0] ![1, 1, 1, 128, 128] inb_S1x1x4x128x128_S1x1x1x128x128_0_0_3_0_0)) (View.ld x7 (Rect.unit ![0, 384] ![128, 128] inb_S128x512_S128x128_0_384)) (o 3) r e).trans ?_
  have hk : ∀ r a : Fin 128, View.ld x0 (Rect.unit ![0, 0, 384] ![1, 128, 128] inb_S1x128x512_S1x128x128_0_0_384) (ix3 0 r a) = x0 (ix3 0 r (colOf 3 a)) := fun r a => congrArg x0 (emb_k3 _)
  have hd : ∀ r a : Fin 128, View.ld x7 (Rect.unit ![0, 384] ![128, 128] inb_S128x512_S128x128_0_384) (ix2 r a) = x7 (ix2 r (colOf 3 a)) := fun r a => congrArg x7 (emb_d3 _)
  have hs : ∀ d e : Fin 128, View.ld x10 (Rect.unit ![0, 0, 3, 0, 0] ![1, 1, 1, 128, 128] inb_S1x1x4x128x128_S1x1x1x128x128_0_0_3_0_0) (ix5 0 0 0 d e) = x10 (ix5 0 0 3 d e) := fun d e => congrArg x10 (emb_s3 _)
  simp only [hk, hd, hs]
  rfl

theorem scrOf_at (i : grid0.Coords) (x0 : Vec Ideal S1x128x512 .f32) (x4 x5 : Vec Ideal S128x128 .f32) (x7 : Vec Ideal S128x512 .f32) (x10 : Vec Ideal S1x1x4x128x128 .f32) (o : Fin 4 → Vec Ideal S128x128 .f32) (h : Fin 4) (r e : Fin 128) : scrOf i x0 x4 x5 x7 x10 o h (ix2 r e) = scrEnt i x0 x4 x5 x7 x10 o r h e := by
  fin_cases h
  · exact scr0_at i x0 x4 x5 x7 x10 o r e
  · exact scr1_at i x0 x4 x5 x7 x10 o r e
  · exact scr2_at i x0 x4 x5 x7 x10 o r e
  · exact scr3_at i x0 x4 x5 x7 x10 o r e

theorem split2 (x : S128x128.Idx) : x = ix2 (x 0) (x 1) := by
  refine funext fun a => ?_
  fin_cases a <;> rfl

/-- The four stores of the carried rows. -/
def piecesS (s : Fin 4 → Vec Ideal S128x128 .f32) : List (View.Piece (Elt Ideal) S128x512 .f32) :=
  [⟨Rect.unit ![0, 384] ![128, 128] inb_S128x512_S128x128_0_384, s 3⟩,
   ⟨Rect.unit ![0, 256] ![128, 128] inb_S128x512_S128x128_0_256, s 2⟩,
   ⟨Rect.unit ![0, 128] ![128, 128] inb_S128x512_S128x128_0_128, s 1⟩,
   ⟨Rect.unit ![0, 0] ![128, 128] inb_S128x512_S128x128_0_0, s 0⟩]

theorem col_div (h : Fin 4) (d : Fin 128) : (⟨(colOf h d).val / 128, by have := (colOf h d).isLt; omega⟩ : Fin 4) = h := Fin.ext (by show (128 * h.val + d.val) / 128 = h.val; omega)
theorem col_mod (h : Fin 4) (d : Fin 128) : (⟨(colOf h d).val % 128, Nat.mod_lt _ (by norm_num)⟩ : Fin 128) = d := Fin.ext (by show (128 * h.val + d.val) % 128 = d.val; omega)

/-- A function of rows and columns from one of rows, heads and places. -/
def byCol (G : Fin 128 → Fin 4 → Fin 128 → EReal) (r : Fin 128) (n : Fin 512) : EReal := G r ⟨n.val / 128, by omega⟩ ⟨n.val % 128, Nat.mod_lt _ (by norm_num)⟩

theorem byCol_col (G : Fin 128 → Fin 4 → Fin 128 → EReal) (r : Fin 128) (h : Fin 4) (d : Fin 128) : byCol G r (colOf h d) = G r h d := by
  unfold byCol
  rw [col_div, col_mod]

theorem canon_S (s : Fin 4 → Vec Ideal S128x128 .f32) (r : Fin 128) (n : Fin 512) : View.canon (piecesS s) (ix2 r n) = byCol (fun r h e => s h (ix2 r e)) r n := by
  refine View.canon_apply_of_pieces (fun y : S128x512.Idx => byCol (fun r h e => s h (ix2 r e)) (y 0) (y 1)) _ ?_ (ix2 r n)
    (View.cover_of_tiledL (piecesS s) S128x128.size (by sl_kernel_rfl) (ix2 r n))
  intro pc hpc
  rcases List.mem_cons.mp hpc with rfl | hpc
  · intro x
    exact (congrArg (s 3) (split2 x)).trans ((byCol_col (fun r h e => s h (ix2 r e)) (x 0) 3 (x 1)).symm.trans (congrArg (fun y : S128x512.Idx => byCol (fun r h e => s h (ix2 r e)) (y 0) (y 1)) (emb_d3 x).symm))
  rcases List.mem_cons.mp hpc with rfl | hpc
  · intro x
    exact (congrArg (s 2) (split2 x)).trans ((byCol_col (fun r h e => s h (ix2 r e)) (x 0) 2 (x 1)).symm.trans (congrArg (fun y : S128x512.Idx => byCol (fun r h e => s h (ix2 r e)) (y 0) (y 1)) (emb_d2 x).symm))
  rcases List.mem_cons.mp hpc with rfl | hpc
  · intro x
    exact (congrArg (s 1) (split2 x)).trans ((byCol_col (fun r h e => s h (ix2 r e)) (x 0) 1 (x 1)).symm.trans (congrArg (fun y : S128x512.Idx => byCol (fun r h e => s h (ix2 r e)) (y 0) (y 1)) (emb_d1 x).symm))
  rcases List.mem_cons.mp hpc with rfl | hpc
  · intro x
    exact (congrArg (s 0) (split2 x)).trans ((byCol_col (fun r h e => s h (ix2 r e)) (x 0) 0 (x 1)).symm.trans (congrArg (fun y : S128x512.Idx => byCol (fun r h e => s h (ix2 r e)) (y 0) (y 1)) (emb_d0 x).symm))
  nomatch hpc

/-- The same over what was stored before. -/
theorem canon_SA (s : Fin 4 → Vec Ideal S128x128 .f32) (L : List (View.Piece (Elt Ideal) S128x512 .f32)) (r : Fin 128) (n : Fin 512) : View.canon (piecesS s ++ L) (ix2 r n) = byCol (fun r h e => s h (ix2 r e)) r n := by
  refine View.canon_append_of_piecesOf (fun y : S128x512.Idx => byCol (fun r h e => s h (ix2 r e)) (y 0) (y 1)) L (piecesS s) ⟨?_, ?_, ?_, ?_, trivial⟩ (ix2 r n)
    (View.cover_of_tiledL (piecesS s) S128x128.size (by sl_kernel_rfl) (ix2 r n))
  · intro x
    exact (congrArg (s 3) (split2 x)).trans ((byCol_col (fun r h e => s h (ix2 r e)) (x 0) 3 (x 1)).symm.trans (congrArg (fun y : S128x512.Idx => byCol (fun r h e => s h (ix2 r e)) (y 0) (y 1)) (emb_d3 x).symm))
  · intro x
    exact (congrArg (s 2) (split2 x)).trans ((byCol_col (fun r h e => s h (ix2 r e)) (x 0) 2 (x 1)).symm.trans (congrArg (fun y : S128x512.Idx => byCol (fun r h e => s h (ix2 r e)) (y 0) (y 1)) (emb_d2 x).symm))
  · intro x
    exact (congrArg (s 1) (split2 x)).trans ((byCol_col (fun r h e => s h (ix2 r e)) (x 0) 1 (x 1)).symm.trans (congrArg (fun y : S128x512.Idx => byCol (fun r h e => s h (ix2 r e)) (y 0) (y 1)) (emb_d1 x).symm))
  · intro x
    exact (congrArg (s 0) (split2 x)).trans ((byCol_col (fun r h e => s h (ix2 r e)) (x 0) 0 (x 1)).symm.trans (congrArg (fun y : S128x512.Idx => byCol (fun r h e => s h (ix2 r e)) (y 0) (y 1)) (emb_d0 x).symm))

/-- The stores of the last grid point into the branch's rows, head by head. -/
def outOf (x0 x1 x2 x3 : Vec Ideal S1x128x512 .f32) (x4 x5 : Vec Ideal S128x128 .f32) (x6 : Vec Ideal S4x128x128 .f32) (x9 : Vec Ideal S1x512 .f32) (s : Fin 4 → Vec Ideal S128x128 .f32) (h : Fin 4) : Vec Ideal S1x128x128 .bf16 := match h with
  | 0 => k0_pay8 (k0_pay3 (k0_pay22 x4) (k0_pay23 x5) (View.ld x0 (Rect.unit ![0, 0, 0] ![1, 128, 128] inb_S1x128x512_S1x128x128_0_0_0)) (View.ld x1 (Rect.unit ![0, 0, 0] ![1, 128, 128] inb_S1x128x512_S1x128x128_0_0_0)) (View.ld x2 (Rect.unit ![0, 0, 0] ![1, 128, 128] inb_S1x128x512_S1x128x128_0_0_0)) (View.ld x6 (Rect.unit ![0, 0, 0] ![1, 128, 128] inb_S4x128x128_S1x128x128_0_0_0)) (s 0)) (k0_pay4 (View.ld x3 (Rect.unit ![0, 0, 0] ![1, 128, 128] inb_S1x128x512_S1x128x128_0_0_0))) (k0_pay5 (View.ld x9 (Rect.unit ![0, 0] ![1, 128] inb_S1x512_S1x128_0_0))) (k0_pay6 (k0_pay22 x4) (k0_pay23 x5) (View.ld x0 (Rect.unit ![0, 0, 0] ![1, 128, 128] inb_S1x128x512_S1x128x128_0_0_0)) (View.ld x1 (Rect.unit ![0, 0, 0] ![1, 128, 128] inb_S1x128x512_S1x128x128_0_0_0)) (View.ld x2 (Rect.unit ![0, 0, 0] ![1, 128, 128] inb_S1x128x512_S1x128x128_0_0_0)) (View.ld x6 (Rect.unit ![0, 0, 0] ![1, 128, 128] inb_S4x128x128_S1x128x128_0_0_0)) (s 0)) k0_pay7
  | 1 => k0_pay12 (k0_pay9 (View.ld x2 (Rect.unit ![0, 0, 128] ![1, 128, 128] inb_S1x128x512_S1x128x128_0_0_128))) (k0_pay10 (k0_pay22 x4) (k0_pay23 x5) (View.ld x0 (Rect.unit ![0, 0, 128] ![1, 128, 128] inb_S1x128x512_S1x128x128_0_0_128))) (k0_pay11 (k0_pay22 x4) (k0_pay23 x5) (View.ld x1 (Rect.unit ![0, 0, 128] ![1, 128, 128] inb_S1x128x512_S1x128x128_0_0_128))) (constant S128x128 .f32 0x00000000#32) (View.ld x6 (Rect.unit ![1, 0, 0] ![1, 128, 128] inb_S4x128x128_S1x128x128_1_0_0)) (s 1) (View.ld x3 (Rect.unit ![0, 0, 128] ![1, 128, 128] inb_S1x128x512_S1x128x128_0_0_128)) (View.ld x9 (Rect.unit ![0, 128] ![1, 128] inb_S1x512_S1x128_0_128))
  | 2 => k0_pay17 (k0_pay13 (k0_pay22 x4) (k0_pay23 x5) (View.ld x0 (Rect.unit ![0, 0, 256] ![1, 128, 128] inb_S1x128x512_S1x128x128_0_0_256)) (View.ld x1 (Rect.unit ![0, 0, 256] ![1, 128, 128] inb_S1x128x512_S1x128x128_0_0_256)) (View.ld x2 (Rect.unit ![0, 0, 256] ![1, 128, 128] inb_S1x128x512_S1x128x128_0_0_256)) (View.ld x6 (Rect.unit ![2, 0, 0] ![1, 128, 128] inb_S4x128x128_S1x128x128_2_0_0)) (s 2)) (k0_pay14 (View.ld x3 (Rect.unit ![0, 0, 256] ![1, 128, 128] inb_S1x128x512_S1x128x128_0_0_256))) (k0_pay15 (View.ld x9 (Rect.unit ![0, 256] ![1, 128] inb_S1x512_S1x128_0_256))) (k0_pay16 (k0_pay22 x4) (k0_pay23 x5) (View.ld x0 (Rect.unit ![0, 0, 256] ![1, 128, 128] inb_S1x128x512_S1x128x128_0_0_256)) (View.ld x1 (Rect.unit ![0, 0, 256] ![1, 128, 128] inb_S1x128x512_S1x128x128_0_0_256)) (View.ld x2 (Rect.unit ![0, 0, 256] ![1, 128, 128] inb_S1x128x512_S1x128x128_0_0_256)) (View.ld x6 (Rect.unit ![2, 0, 0] ![1, 128, 128] inb_S4x128x128_S1x128x128_2_0_0)) (s 2))
  | 3 => k0_pay20 (k0_pay18 (View.ld x2 (Rect.unit ![0, 0, 384] ![1, 128, 128] inb_S1x128x512_S1x128x128_0_0_384))) (k0_pay19 (k0_pay22 x4) (k0_pay23 x5) (View.ld x0 (Rect.unit ![0, 0, 384] ![1, 128, 128] inb_S1x128x512_S1x128x128_0_0_384)) (View.ld x1 (Rect.unit ![0, 0, 384] ![1, 128, 128] inb_S1x128x512_S1x128x128_0_0_384))) (View.ld x6 (Rect.unit ![3, 0, 0] ![1, 128, 128] inb_S4x128x128_S1x128x128_3_0_0)) (s 3) (View.ld x3 (Rect.unit ![0, 0, 384] ![1, 128, 128] inb_S1x128x512_S1x128x128_0_0_384)) (View.ld x9 (Rect.unit ![0, 384] ![1, 128] inb_S1x512_S1x128_0_384))

/-- One entry of the branch's rows. -/
def outEnt (x0 x1 x2 x3 : Vec Ideal S1x128x512 .f32) (x4 x5 : Vec Ideal S128x128 .f32) (x6 : Vec Ideal S4x128x128 .f32) (x9 : Vec Ideal S1x512 .f32) (s : Fin 4 → Vec Ideal S128x128 .f32) (r : Fin 128) (h : Fin 4) (e : Fin 128) : EReal :=
  fin (fun a => mix (turn (fun a => x0 (ix3 0 r (colOf h a))) (fun a => x4 (ix2 r a)) (fun a => x5 (ix2 r a))) (fun s => rot (fun a => x1 (ix3 0 s (colOf h a))) (fun a => x4 (ix2 s a)) (fun a => x5 (ix2 s a)))
    (fun s => x6 (ix3 h r s)) (fun s => x2 (ix3 0 s (colOf h a))) (s h (ix2 r a))) (x3 (ix3 0 r (colOf h e))) (x9 (ix2 0 (colOf h e))) e

theorem emb_m0 (x : S1x128x128.Idx) : (Rect.unit ![0, 0, 0] ![1, 128, 128] inb_S4x128x128_S1x128x128_0_0_0).emb x = (ix3 0 (x 1) (x 2) : S4x128x128.Idx) := by
  blk_ext []
theorem emb_w0 (x : S1x128.Idx) : (Rect.unit ![0, 0] ![1, 128] inb_S1x512_S1x128_0_0).emb x = (ix2 0 (colOf 0 (x 1)) : S1x512.Idx) := by
  blk_ext []
theorem out0_at (x0 x1 x2 x3 : Vec Ideal S1x128x512 .f32) (x4 x5 : Vec Ideal S128x128 .f32) (x6 : Vec Ideal S4x128x128 .f32) (x9 : Vec Ideal S1x512 .f32) (s : Fin 4 → Vec Ideal S128x128 .f32) (r e : Fin 128) : outOf x0 x1 x2 x3 x4 x5 x6 x9 s 0 (ix3 0 r e) = outEnt x0 x1 x2 x3 x4 x5 x6 x9 s r 0 e := by
  refine (fin0_at x4 x5 (View.ld x0 (Rect.unit ![0, 0, 0] ![1, 128, 128] inb_S1x128x512_S1x128x128_0_0_0)) (View.ld x1 (Rect.unit ![0, 0, 0] ![1, 128, 128] inb_S1x128x512_S1x128x128_0_0_0)) (View.ld x2 (Rect.unit ![0, 0, 0] ![1, 128, 128] inb_S1x128x512_S1x128x128_0_0_0)) (View.ld x6 (Rect.unit ![0, 0, 0] ![1, 128, 128] inb_S4x128x128_S1x128x128_0_0_0)) (View.ld x3 (Rect.unit ![0, 0, 0] ![1, 128, 128] inb_S1x128x512_S1x128x128_0_0_0)) (s 0) (View.ld x9 (Rect.unit ![0, 0] ![1, 128] inb_S1x512_S1x128_0_0)) r e).trans ?_
  have hk0 : ∀ r a : Fin 128, View.ld x0 (Rect.unit ![0, 0, 0] ![1, 128, 128] inb_S1x128x512_S1x128x128_0_0_0) (ix3 0 r a) = x0 (ix3 0 r (colOf 0 a)) := fun r a => congrArg x0 (emb_k0 _)
  have hk1 : ∀ r a : Fin 128, View.ld x1 (Rect.unit ![0, 0, 0] ![1, 128, 128] inb_S1x128x512_S1x128x128_0_0_0) (ix3 0 r a) = x1 (ix3 0 r (colOf 0 a)) := fun r a => congrArg x1 (emb_k0 _)
  have hk2 : ∀ r a : Fin 128, View.ld x2 (Rect.unit ![0, 0, 0] ![1, 128, 128] inb_S1x128x512_S1x128x128_0_0_0) (ix3 0 r a) = x2 (ix3 0 r (colOf 0 a)) := fun r a => congrArg x2 (emb_k0 _)
  have hk3 : ∀ r a : Fin 128, View.ld x3 (Rect.unit ![0, 0, 0] ![1, 128, 128] inb_S1x128x512_S1x128x128_0_0_0) (ix3 0 r a) = x3 (ix3 0 r (colOf 0 a)) := fun r a => congrArg x3 (emb_k0 _)
  have hm : ∀ r a : Fin 128, View.ld x6 (Rect.unit ![0, 0, 0] ![1, 128, 128] inb_S4x128x128_S1x128x128_0_0_0) (ix3 0 r a) = x6 (ix3 0 r a) := fun r a => congrArg x6 (emb_m0 _)
  have hw : ∀ a : Fin 128, View.ld x9 (Rect.unit ![0, 0] ![1, 128] inb_S1x512_S1x128_0_0) (ix2 0 a) = x9 (ix2 0 (colOf 0 a)) := fun a => congrArg x9 (emb_w0 _)
  simp only [hk0, hk1, hk2, hk3, hm, hw]
  rfl

theorem emb_m1 (x : S1x128x128.Idx) : (Rect.unit ![1, 0, 0] ![1, 128, 128] inb_S4x128x128_S1x128x128_1_0_0).emb x = (ix3 1 (x 1) (x 2) : S4x128x128.Idx) := by
  blk_ext []
theorem emb_w1 (x : S1x128.Idx) : (Rect.unit ![0, 128] ![1, 128] inb_S1x512_S1x128_0_128).emb x = (ix2 0 (colOf 1 (x 1)) : S1x512.Idx) := by
  blk_ext []
theorem out1_at (x0 x1 x2 x3 : Vec Ideal S1x128x512 .f32) (x4 x5 : Vec Ideal S128x128 .f32) (x6 : Vec Ideal S4x128x128 .f32) (x9 : Vec Ideal S1x512 .f32) (s : Fin 4 → Vec Ideal S128x128 .f32) (r e : Fin 128) : outOf x0 x1 x2 x3 x4 x5 x6 x9 s 1 (ix3 0 r e) = outEnt x0 x1 x2 x3 x4 x5 x6 x9 s r 1 e := by
  refine (fin1_at x4 x5 (View.ld x0 (Rect.unit ![0, 0, 128] ![1, 128, 128] inb_S1x128x512_S1x128x128_0_0_128)) (View.ld x1 (Rect.unit ![0, 0, 128] ![1, 128, 128] inb_S1x128x512_S1x128x128_0_0_128)) (View.ld x2 (Rect.unit ![0, 0, 128] ![1, 128, 128] inb_S1x128x512_S1x128x128_0_0_128)) (View.ld x6 (Rect.unit ![1, 0, 0] ![1, 128, 128] inb_S4x128x128_S1x128x128_1_0_0)) (View.ld x3 (Rect.unit ![0, 0, 128] ![1, 128, 128] inb_S1x128x512_S1x128x128_0_0_128)) (s 1) (View.ld x9 (Rect.unit ![0, 128] ![1, 128] inb_S1x512_S1x128_0_128)) r e).trans ?_
  have hk0 : ∀ r a : Fin 128, View.ld x0 (Rect.unit ![0, 0, 128] ![1, 128, 128] inb_S1x128x512_S1x128x128_0_0_128) (ix3 0 r a) = x0 (ix3 0 r (colOf 1 a)) := fun r a => congrArg x0 (emb_k1 _)
  have hk1 : ∀ r a : Fin 128, View.ld x1 (Rect.unit ![0, 0, 128] ![1, 128, 128] inb_S1x128x512_S1x128x128_0_0_128) (ix3 0 r a) = x1 (ix3 0 r (colOf 1 a)) := fun r a => congrArg x1 (emb_k1 _)
  have hk2 : ∀ r a : Fin 128, View.ld x2 (Rect.unit ![0, 0, 128] ![1, 128, 128] inb_S1x128x512_S1x128x128_0_0_128) (ix3 0 r a) = x2 (ix3 0 r (colOf 1 a)) := fun r a => congrArg x2 (emb_k1 _)
  have hk3 : ∀ r a : Fin 128, View.ld x3 (Rect.unit ![0, 0, 128] ![1, 128, 128] inb_S1x128x512_S1x128x128_0_0_128) (ix3 0 r a) = x3 (ix3 0 r (colOf 1 a)) := fun r a => congrArg x3 (emb_k1 _)
  have hm : ∀ r a : Fin 128, View.ld x6 (Rect.unit ![1, 0, 0] ![1, 128, 128] inb_S4x128x128_S1x128x128_1_0_0) (ix3 0 r a) = x6 (ix3 1 r a) := fun r a => congrArg x6 (emb_m1 _)
  have hw : ∀ a : Fin 128, View.ld x9 (Rect.unit ![0, 128] ![1, 128] inb_S1x512_S1x128_0_128) (ix2 0 a) = x9 (ix2 0 (colOf 1 a)) := fun a => congrArg x9 (emb_w1 _)
  simp only [hk0, hk1, hk2, hk3, hm, hw]
  rfl

theorem emb_m2 (x : S1x128x128.Idx) : (Rect.unit ![2, 0, 0] ![1, 128, 128] inb_S4x128x128_S1x128x128_2_0_0).emb x = (ix3 2 (x 1) (x 2) : S4x128x128.Idx) := by
  blk_ext []
theorem emb_w2 (x : S1x128.Idx) : (Rect.unit ![0, 256] ![1, 128] inb_S1x512_S1x128_0_256).emb x = (ix2 0 (colOf 2 (x 1)) : S1x512.Idx) := by
  blk_ext []
theorem out2_at (x0 x1 x2 x3 : Vec Ideal S1x128x512 .f32) (x4 x5 : Vec Ideal S128x128 .f32) (x6 : Vec Ideal S4x128x128 .f32) (x9 : Vec Ideal S1x512 .f32) (s : Fin 4 → Vec Ideal S128x128 .f32) (r e : Fin 128) : outOf x0 x1 x2 x3 x4 x5 x6 x9 s 2 (ix3 0 r e) = outEnt x0 x1 x2 x3 x4 x5 x6 x9 s r 2 e := by
  refine (fin2_at x4 x5 (View.ld x0 (Rect.unit ![0, 0, 256] ![1, 128, 128] inb_S1x128x512_S1x128x128_0_0_256)) (View.ld x1 (Rect.unit ![0, 0, 256] ![1, 128, 128] inb_S1x128x512_S1x128x128_0_0_256)) (View.ld x2 (Rect.unit ![0, 0, 256] ![1, 128, 128] inb_S1x128x512_S1x128x128_0_0_256)) (View.ld x6 (Rect.unit ![2, 0, 0] ![1, 128, 128] inb_S4x128x128_S1x128x128_2_0_0)) (View.ld x3 (Rect.unit ![0, 0, 256] ![1, 128, 128] inb_S1x128x512_S1x128x128_0_0_256)) (s 2) (View.ld x9 (Rect.unit ![0, 256] ![1, 128] inb_S1x512_S1x128_0_256)) r e).trans ?_
  have hk0 : ∀ r a : Fin 128, View.ld x0 (Rect.unit ![0, 0, 256] ![1, 128, 128] inb_S1x128x512_S1x128x128_0_0_256) (ix3 0 r a) = x0 (ix3 0 r (colOf 2 a)) := fun r a => congrArg x0 (emb_k2 _)
  have hk1 : ∀ r a : Fin 128, View.ld x1 (Rect.unit ![0, 0, 256] ![1, 128, 128] inb_S1x128x512_S1x128x128_0_0_256) (ix3 0 r a) = x1 (ix3 0 r (colOf 2 a)) := fun r a => congrArg x1 (emb_k2 _)
  have hk2 : ∀ r a : Fin 128, View.ld x2 (Rect.unit ![0, 0, 256] ![1, 128, 128] inb_S1x128x512_S1x128x128_0_0_256) (ix3 0 r a) = x2 (ix3 0 r (colOf 2 a)) := fun r a => congrArg x2 (emb_k2 _)
  have hk3 : ∀ r a : Fin 128, View.ld x3 (Rect.unit ![0, 0, 256] ![1, 128, 128] inb_S1x128x512_S1x128x128_0_0_256) (ix3 0 r a) = x3 (ix3 0 r (colOf 2 a)) := fun r a => congrArg x3 (emb_k2 _)
  have hm : ∀ r a : Fin 128, View.ld x6 (Rect.unit ![2, 0, 0] ![1, 128, 128] inb_S4x128x128_S1x128x128_2_0_0) (ix3 0 r a) = x6 (ix3 2 r a) := fun r a => congrArg x6 (emb_m2 _)
  have hw : ∀ a : Fin 128, View.ld x9 (Rect.unit ![0, 256] ![1, 128] inb_S1x512_S1x128_0_256) (ix2 0 a) = x9 (ix2 0 (colOf 2 a)) := fun a => congrArg x9 (emb_w2 _)
  simp only [hk0, hk1, hk2, hk3, hm, hw]
  rfl

theorem emb_m3 (x : S1x128x128.Idx) : (Rect.unit ![3, 0, 0] ![1, 128, 128] inb_S4x128x128_S1x128x128_3_0_0).emb x = (ix3 3 (x 1) (x 2) : S4x128x128.Idx) := by
  blk_ext []
theorem emb_w3 (x : S1x128.Idx) : (Rect.unit ![0, 384] ![1, 128] inb_S1x512_S1x128_0_384).emb x = (ix2 0 (colOf 3 (x 1)) : S1x512.Idx) := by
  blk_ext []
theorem out3_at (x0 x1 x2 x3 : Vec Ideal S1x128x512 .f32) (x4 x5 : Vec Ideal S128x128 .f32) (x6 : Vec Ideal S4x128x128 .f32) (x9 : Vec Ideal S1x512 .f32) (s : Fin 4 → Vec Ideal S128x128 .f32) (r e : Fin 128) : outOf x0 x1 x2 x3 x4 x5 x6 x9 s 3 (ix3 0 r e) = outEnt x0 x1 x2 x3 x4 x5 x6 x9 s r 3 e := by
  refine (fin3_at x4 x5 (View.ld x0 (Rect.unit ![0, 0, 384] ![1, 128, 128] inb_S1x128x512_S1x128x128_0_0_384)) (View.ld x1 (Rect.unit ![0, 0, 384] ![1, 128, 128] inb_S1x128x512_S1x128x128_0_0_384)) (View.ld x2 (Rect.unit ![0, 0, 384] ![1, 128, 128] inb_S1x128x512_S1x128x128_0_0_384)) (View.ld x6 (Rect.unit ![3, 0, 0] ![1, 128, 128] inb_S4x128x128_S1x128x128_3_0_0)) (View.ld x3 (Rect.unit ![0, 0, 384] ![1, 128, 128] inb_S1x128x512_S1x128x128_0_0_384)) (s 3) (View.ld x9 (Rect.unit ![0, 384] ![1, 128] inb_S1x512_S1x128_0_384)) r e).trans ?_
  have hk0 : ∀ r a : Fin 128, View.ld x0 (Rect.unit ![0, 0, 384] ![1, 128, 128] inb_S1x128x512_S1x128x128_0_0_384) (ix3 0 r a) = x0 (ix3 0 r (colOf 3 a)) := fun r a => congrArg x0 (emb_k3 _)
  have hk1 : ∀ r a : Fin 128, View.ld x1 (Rect.unit ![0, 0, 384] ![1, 128, 128] inb_S1x128x512_S1x128x128_0_0_384) (ix3 0 r a) = x1 (ix3 0 r (colOf 3 a)) := fun r a => congrArg x1 (emb_k3 _)
  have hk2 : ∀ r a : Fin 128, View.ld x2 (Rect.unit ![0, 0, 384] ![1, 128, 128] inb_S1x128x512_S1x128x128_0_0_384) (ix3 0 r a) = x2 (ix3 0 r (colOf 3 a)) := fun r a => congrArg x2 (emb_k3 _)
  have hk3 : ∀ r a : Fin 128, View.ld x3 (Rect.unit ![0, 0, 384] ![1, 128, 128] inb_S1x128x512_S1x128x128_0_0_384) (ix3 0 r a) = x3 (ix3 0 r (colOf 3 a)) := fun r a => congrArg x3 (emb_k3 _)
  have hm : ∀ r a : Fin 128, View.ld x6 (Rect.unit ![3, 0, 0] ![1, 128, 128] inb_S4x128x128_S1x128x128_3_0_0) (ix3 0 r a) = x6 (ix3 3 r a) := fun r a => congrArg x6 (emb_m3 _)
  have hw : ∀ a : Fin 128, View.ld x9 (Rect.unit ![0, 384] ![1, 128] inb_S1x512_S1x128_0_384) (ix2 0 a) = x9 (ix2 0 (colOf 3 a)) := fun a => congrArg x9 (emb_w3 _)
  simp only [hk0, hk1, hk2, hk3, hm, hw]
  rfl

theorem outOf_at (x0 x1 x2 x3 : Vec Ideal S1x128x512 .f32) (x4 x5 : Vec Ideal S128x128 .f32) (x6 : Vec Ideal S4x128x128 .f32) (x9 : Vec Ideal S1x512 .f32) (s : Fin 4 → Vec Ideal S128x128 .f32) (h : Fin 4) (r e : Fin 128) : outOf x0 x1 x2 x3 x4 x5 x6 x9 s h (ix3 0 r e) = outEnt x0 x1 x2 x3 x4 x5 x6 x9 s r h e := by
  fin_cases h
  · exact out0_at x0 x1 x2 x3 x4 x5 x6 x9 s r e
  · exact out1_at x0 x1 x2 x3 x4 x5 x6 x9 s r e
  · exact out2_at x0 x1 x2 x3 x4 x5 x6 x9 s r e
  · exact out3_at x0 x1 x2 x3 x4 x5 x6 x9 s r e

theorem split3 (x : S1x128x128.Idx) : x = ix3 0 (x 1) (x 2) := by
  refine funext fun a => ?_
  fin_cases a
  · exact Subsingleton.elim (α := Fin 1) _ _
  · rfl
  · rfl

/-- The four stores of the branch's rows. -/
def piecesO (s : Fin 4 → Vec Ideal S1x128x128 .bf16) : List (View.Piece (Elt Ideal) S1x128x512 .bf16) :=
  [⟨Rect.unit ![0, 0, 384] ![1, 128, 128] inb_S1x128x512_S1x128x128_0_0_384, s 3⟩,
   ⟨Rect.unit ![0, 0, 256] ![1, 128, 128] inb_S1x128x512_S1x128x128_0_0_256, s 2⟩,
   ⟨Rect.unit ![0, 0, 128] ![1, 128, 128] inb_S1x128x512_S1x128x128_0_0_128, s 1⟩,
   ⟨Rect.unit ![0, 0, 0] ![1, 128, 128] inb_S1x128x512_S1x128x128_0_0_0, s 0⟩]

theorem canon_O (s : Fin 4 → Vec Ideal S1x128x128 .bf16) (r : Fin 128) (n : Fin 512) : View.canon (piecesO s) (ix3 0 r n) = byCol (fun r h e => s h (ix3 0 r e)) r n := by
  refine View.canon_apply_of_pieces (fun y : S1x128x512.Idx => byCol (fun r h e => s h (ix3 0 r e)) (y 1) (y 2)) _ ?_ (ix3 0 r n)
    (View.cover_of_tiledL (piecesO s) S1x128x128.size (by sl_kernel_rfl) (ix3 0 r n))
  intro pc hpc
  rcases List.mem_cons.mp hpc with rfl | hpc
  · intro x
    exact (congrArg (s 3) (split3 x)).trans ((byCol_col (fun r h e => s h (ix3 0 r e)) (x 1) 3 (x 2)).symm.trans (congrArg (fun y : S1x128x512.Idx => byCol (fun r h e => s h (ix3 0 r e)) (y 1) (y 2)) (emb_k3 x).symm))
  rcases List.mem_cons.mp hpc with rfl | hpc
  · intro x
    exact (congrArg (s 2) (split3 x)).trans ((byCol_col (fun r h e => s h (ix3 0 r e)) (x 1) 2 (x 2)).symm.trans (congrArg (fun y : S1x128x512.Idx => byCol (fun r h e => s h (ix3 0 r e)) (y 1) (y 2)) (emb_k2 x).symm))
  rcases List.mem_cons.mp hpc with rfl | hpc
  · intro x
    exact (congrArg (s 1) (split3 x)).trans ((byCol_col (fun r h e => s h (ix3 0 r e)) (x 1) 1 (x 2)).symm.trans (congrArg (fun y : S1x128x512.Idx => byCol (fun r h e => s h (ix3 0 r e)) (y 1) (y 2)) (emb_k1 x).symm))
  rcases List.mem_cons.mp hpc with rfl | hpc
  · intro x
    exact (congrArg (s 0) (split3 x)).trans ((byCol_col (fun r h e => s h (ix3 0 r e)) (x 1) 0 (x 2)).symm.trans (congrArg (fun y : S1x128x512.Idx => byCol (fun r h e => s h (ix3 0 r e)) (y 1) (y 2)) (emb_k0 x).symm))
  nomatch hpc

variable (m : (ℓ : Loc nD τ sig) → Buf (Elt Ideal) ℓ)

theorem scr_A (c : Dev nD) (t : Fin cfg0.N) (h0 : t.val % 32 = 0) (h1 : ¬t.val % 32 = 31) (r : Fin 128) (h : Fin 4) (e : Fin 128) :
    (outsAt0 m c t.val t.isLt).2.2 (ix2 r (colOf h e)) = scrEnt (grid0.coords t) (iblk m c 0 t) (iblk m c 4 t) (iblk m c 5 t) (iblk m c 7 t) (iblk m c 10 t) (oldOf (k0_pay21 (F := Ideal))) r h e := by
  rw [outsAt0_A m c t h0 h1]
  frame_open
  simp (disch := decide) only [↓ View.readCov_skip, ↓ View.readCov_cons_toLoadRect, ↓ View.readCov_fill]
  frame_out
  exact (canon_SA (scrOf (grid0.coords t) (iblk m c 0 t) (iblk m c 4 t) (iblk m c 5 t) (iblk m c 7 t) (iblk m c 10 t) (oldOf (k0_pay21 (F := Ideal)))) _ r (colOf h e)).trans ((byCol_col _ r h e).trans (scrOf_at (grid0.coords t) (iblk m c 0 t) (iblk m c 4 t) (iblk m c 5 t) (iblk m c 7 t) (iblk m c 10 t) (oldOf (k0_pay21 (F := Ideal))) h r e))

theorem scr_B (c : Dev nD) (t : Fin cfg0.N) (h0 : ¬t.val % 32 = 0) (h1 : ¬t.val % 32 = 31) (r : Fin 128) (h : Fin 4) (e : Fin 128) :
    (outsAt0 m c t.val t.isLt).2.2 (ix2 r (colOf h e)) = scrEnt (grid0.coords t) (iblk m c 0 t) (iblk m c 4 t) (iblk m c 5 t) (iblk m c 7 t) (iblk m c 10 t) (oldOf (outsAt0 m c (t.val - 1) (lt_of_le_of_lt (Nat.sub_le _ _) t.isLt)).2.2) r h e := by
  rw [outsAt0_B m c t h0 h1]
  frame_open
  simp (disch := decide) only [↓ View.readCov_skip, ↓ View.readCov_cons_toLoadRect, ↓ View.readCov_fill]
  frame_out
  simp only [read_unread_whole]
  exact (canon_S (scrOf (grid0.coords t) (iblk m c 0 t) (iblk m c 4 t) (iblk m c 5 t) (iblk m c 7 t) (iblk m c 10 t) (oldOf (outsAt0 m c (t.val - 1) (lt_of_le_of_lt (Nat.sub_le _ _) t.isLt)).2.2)) r (colOf h e)).trans ((byCol_col _ r h e).trans (scrOf_at (grid0.coords t) (iblk m c 0 t) (iblk m c 4 t) (iblk m c 5 t) (iblk m c 7 t) (iblk m c 10 t) (oldOf (outsAt0 m c (t.val - 1) (lt_of_le_of_lt (Nat.sub_le _ _) t.isLt)).2.2) h r e))

theorem scr_C (c : Dev nD) (t : Fin cfg0.N) (h0 : ¬t.val % 32 = 0) (h1 : t.val % 32 = 31) (r : Fin 128) (h : Fin 4) (e : Fin 128) :
    (outsAt0 m c t.val t.isLt).2.2 (ix2 r (colOf h e)) = scrEnt (grid0.coords t) (iblk m c 0 t) (iblk m c 4 t) (iblk m c 5 t) (iblk m c 7 t) (iblk m c 10 t) (oldOf (outsAt0 m c (t.val - 1) (lt_of_le_of_lt (Nat.sub_le _ _) t.isLt)).2.2) r h e := by
  rw [outsAt0_C m c t h0 h1]
  frame_open
  simp (disch := decide) only [↓ View.readCov_skip, ↓ View.readCov_cons_toLoadRect, ↓ View.readCov_fill]
  frame_out
  simp only [read_unread_whole]
  exact (canon_S (scrOf (grid0.coords t) (iblk m c 0 t) (iblk m c 4 t) (iblk m c 5 t) (iblk m c 7 t) (iblk m c 10 t) (oldOf (outsAt0 m c (t.val - 1) (lt_of_le_of_lt (Nat.sub_le _ _) t.isLt)).2.2)) r (colOf h e)).trans ((byCol_col _ r h e).trans (scrOf_at (grid0.coords t) (iblk m c 0 t) (iblk m c 4 t) (iblk m c 5 t) (iblk m c 7 t) (iblk m c 10 t) (oldOf (outsAt0 m c (t.val - 1) (lt_of_le_of_lt (Nat.sub_le _ _) t.isLt)).2.2) h r e))

/-- What the last grid point writes of the branch's rows. -/
theorem out_C (c : Dev nD) (t : Fin cfg0.N) (h0 : ¬t.val % 32 = 0) (h1 : t.val % 32 = 31) (r : Fin 128) (h : Fin 4) (e : Fin 128) :
    (outsAt0 m c t.val t.isLt).1 (ix3 0 r (colOf h e)) = outEnt (iblk m c 0 t) (iblk m c 1 t) (iblk m c 2 t) (iblk m c 3 t) (iblk m c 4 t) (iblk m c 5 t) (iblk m c 6 t) (iblk m c 9 t) (scrOf (grid0.coords t) (iblk m c 0 t) (iblk m c 4 t) (iblk m c 5 t) (iblk m c 7 t) (iblk m c 10 t) (oldOf (outsAt0 m c (t.val - 1) (lt_of_le_of_lt (Nat.sub_le _ _) t.isLt)).2.2)) r h e := by
  rw [outsAt0_C m c t h0 h1]
  frame_open
  simp (disch := decide) only [↓ View.readCov_skip, ↓ View.readCov_cons_toLoadRect, ↓ View.readCov_fill]
  frame_out
  simp only [read_unread_whole]
  exact (canon_O (outOf (iblk m c 0 t) (iblk m c 1 t) (iblk m c 2 t) (iblk m c 3 t) (iblk m c 4 t) (iblk m c 5 t) (iblk m c 6 t) (iblk m c 9 t) (scrOf (grid0.coords t) (iblk m c 0 t) (iblk m c 4 t) (iblk m c 5 t) (iblk m c 7 t) (iblk m c 10 t) (oldOf (outsAt0 m c (t.val - 1) (lt_of_le_of_lt (Nat.sub_le _ _) t.isLt)).2.2))) r (colOf h e)).trans ((byCol_col _ r h e).trans (outOf_at (iblk m c 0 t) (iblk m c 1 t) (iblk m c 2 t) (iblk m c 3 t) (iblk m c 4 t) (iblk m c 5 t) (iblk m c 6 t) (iblk m c 9 t) (scrOf (grid0.coords t) (iblk m c 0 t) (iblk m c 4 t) (iblk m c 5 t) (iblk m c 7 t) (iblk m c 10 t) (oldOf (outsAt0 m c (t.val - 1) (lt_of_le_of_lt (Nat.sub_le _ _) t.isLt)).2.2)) h r e))

end Cert.Kernel12Ideal.Ret
end
-- ==== Proof.RetRows.lean ====
/- The retention of the samples: the branch's rows the kernel leaves. -/
module

public import Idealize.ShloMosaic.Lib.Pointwise
public import Idealize.ShloMosaic.Lib.WordCmp
public import Idealize.ShloMosaic.Lib.Pipeline.ValueKit
public import Idealize.ShloMosaic.Lib.Claim
public import proofs.«01_k».proof.Proof.RetTab
public import proofs.«01_k».proof.Proof.RetScr
public import proofs.«01_k».proof.Proof.RetFinal

@[expose] public section

set_option maxRecDepth 16384

noncomputable section

namespace Cert.Kernel12Ideal.Ret

open Cert.Kernel12Ideal Cert.Kernel12Ideal.Gen Idealize.ShloMosaic Idealize.ShloMosaic.TcCoe Idealize.SL.Sem

/-- An entry of a query of the samples, rotated. -/
def qAt (p : FVec Ideal S32x4x7680 .f32) (b : Fin 32) (s : Fin 4) (h : Fin 4) (d : Fin 128) : EReal :=
  turn (fun a => p (ix3 b s ⟨0 + (colOf h a).val, by have := (colOf h a).isLt; omega⟩)) (cosAt s) (sinAt s) d

/-- What the old state gives a row. -/
def pastAt (p : FVec Ideal S32x4x7680 .f32) (st : FVec Ideal S32x4x4x128x128 .f32) (b : Fin 32) (s h : Fin 4) (e : Fin 128) : EReal :=
  ∑ d : Fin 128, qAt p b s h d * qdec s h.val * st (ix5 b 0 h d e)

/-- One entry of a head's result, before its norm. -/
def mixAt (p : FVec Ideal S32x4x7680 .f32) (st : FVec Ideal S32x4x4x128x128 .f32) (b : Fin 32) (s h : Fin 4) (e : Fin 128) : EReal :=
  (∑ j : Fin 4, ((∑ d : Fin 128, qAt p b s h d * keyAt p b j h d) * wt s j h.val) * valAt p b j h e) + pastAt p st b s h e

/-- One entry of the branch's rows. -/
def outAt (p : FVec Ideal S32x4x7680 .f32) (g : FVec Ideal S512 .f32) (st : FVec Ideal S32x4x4x128x128 .f32) (b : Fin 32) (s h : Fin 4) (e : Fin 128) : EReal :=
  fin (fun a => mixAt p st b s h a) (p (ix3 b s ⟨1536 + (colOf h e).val, by have := (colOf h e).isLt; omega⟩)) (g (ix1 (colOf h e))) e

/-- The branch's rows of all sequences. -/
def outArr (p : FVec Ideal S32x4x7680 .f32) (g : FVec Ideal S512 .f32) (st : FVec Ideal S32x4x4x128x128 .f32) : FVec Ideal S1x128x512 .bf16 :=
  fun i : S1x128x512.Idx => byCol (fun r h e => outAt p g st (seqOf r) (posOf r) h e) (i 1) (i 2)

theorem turn_congr {k k' c c' s s' : Fin 128 → EReal} (d : Fin 128) (hk : ∀ a, k a = k' a) (hc : ∀ a, c a = c' a) (hs : ∀ a, s a = s' a) : turn k c s d = turn k' c' s' d := by
  rw [funext hk, funext hc, funext hs]

variable (m : (ℓ : Loc nD τ sig) → Buf (Elt Ideal) ℓ)

theorem turn_at (c : Dev nD) (t : Fin cfg0.N) (r : Fin 128) (h : Fin 4) (d : Fin 128) :
    turn (fun a => iblk m c 0 t (ix3 0 r (colOf h a))) (fun a => iblk m c 4 t (ix2 r a)) (fun a => iblk m c 5 t (ix2 r a)) d = qAt (m ((c : Thread nD τ).loc main_arg0)) (seqOf r) (posOf r) h d :=
  turn_congr d (fun a => read_q m c t r (colOf h a)) (fun a => (read_cos m c t r a).trans (cos_at r a)) (fun a => (read_sin m c t r a).trans (sin_at r a))

theorem key_at (c : Dev nD) (t : Fin cfg0.N) (r : Fin 128) (h : Fin 4) (d : Fin 128) :
    rot (fun a => iblk m c 1 t (ix3 0 r (colOf h a))) (fun a => iblk m c 4 t (ix2 r a)) (fun a => iblk m c 5 t (ix2 r a)) d = keyAt (m ((c : Thread nD τ).loc main_arg0)) (seqOf r) (posOf r) h d :=
  rot_congr d (fun a => read_k m c t r (colOf h a)) (fun a => (read_cos m c t r a).trans (cos_at r a)) (fun a => (read_sin m c t r a).trans (sin_at r a))

theorem qdec_at (c : Dev nD) (t : Fin cfg0.N) (r : Fin 128) (h : Fin 4) (d : Fin 128) : iblk m c 7 t (ix2 r (colOf h d)) = qdec (posOf r) h.val :=
  ((read_qd m c t r _).trans (qd_at r _)).trans (congrArg (qdec (posOf r)) (by show (128 * h.val + d.val) / 128 = h.val; omega))

/-- What a grid point does to an entry of the carried rows. -/
theorem scr_step (c : Dev nD) (t : Fin cfg0.N) (o : Fin 4 → Vec Ideal S128x128 .f32) (r : Fin 128) (h : Fin 4) (e : Fin 128) :
    scrEnt (grid0.coords t) (iblk m c 0 t) (iblk m c 4 t) (iblk m c 5 t) (iblk m c 7 t) (iblk m c 10 t) o r h e =
      (o h (ix2 r e) : EReal) + (if r.val / 4 = t.val then pastAt (m ((c : Thread nD τ).loc main_arg0)) (m ((c : Thread nD τ).loc main_arg2)) (seqOf r) (posOf r) h e else 0) := by
  unfold scrEnt more pastAt
  rw [point t]
  refine congrArg (fun a : EReal => (o h (ix2 r e) : EReal) + a) ?_
  by_cases hr : r.val / 4 = t.val
  · simp only [if_pos hr]
    refine Finset.sum_congr rfl fun d _ => ?_
    have hs : (⟨t.val, lt32 t⟩ : Fin 32) = seqOf r := Fin.ext hr.symm
    refine congrArg₂ (fun a b : EReal => a * b) (congrArg₂ (fun a b : EReal => a * b) (turn_at m c t r h d) (qdec_at m c t r h d)) ((read_s m c t h d e).trans ?_)
    rw [hs]
  · simp only [if_neg hr]
    exact Finset.sum_const_zero

/-- The carried rows after a grid point: those of the sequences so far. -/
theorem carried (c : Dev nD) (r : Fin 128) (h : Fin 4) (e : Fin 128) : ∀ (n : ℕ) (hn : n < cfg0.N),
    ((outsAt0 m c n hn).2.2 (ix2 r (colOf h e)) : EReal) = if r.val / 4 ≤ n then pastAt (m ((c : Thread nD τ).loc main_arg0)) (m ((c : Thread nD τ).loc main_arg2)) (seqOf r) (posOf r) h e else 0
  | 0, hn => by
    refine (scr_A m c ⟨0, hn⟩ (by norm_num) (by norm_num) r h e).trans ((scr_step m c ⟨0, hn⟩ _ r h e).trans ?_)
    rw [oldOf_at]
    have hz : (k0_pay21 (F := Ideal) (ix2 r (colOf h e)) : EReal) = 0 := by
      pointwise [k0_pay21]
    rw [hz, zero_add]
    exact if_congr (by show r.val / 4 = 0 ↔ r.val / 4 ≤ 0; omega) rfl rfl
  | n + 1, hn => by
    have h32 := lt32 ⟨n + 1, hn⟩
    have hn' : n + 1 < 32 := h32
    have ih := carried c r h e n (by omega)
    have hstep : ((outsAt0 m c (n + 1) hn).2.2 (ix2 r (colOf h e)) : EReal) = ((outsAt0 m c n (by omega)).2.2 (ix2 r (colOf h e)) : EReal) +
        (if r.val / 4 = n + 1 then pastAt (m ((c : Thread nD τ).loc main_arg0)) (m ((c : Thread nD τ).loc main_arg2)) (seqOf r) (posOf r) h e else 0) := by
      by_cases h1 : (n + 1) % 32 = 31
      · refine (scr_C m c ⟨n + 1, hn⟩ (by show ¬(n + 1) % 32 = 0; omega) h1 r h e).trans ((scr_step m c ⟨n + 1, hn⟩ _ r h e).trans ?_)
        rw [oldOf_at]
        rfl
      · refine (scr_B m c ⟨n + 1, hn⟩ (by show ¬(n + 1) % 32 = 0; omega) h1 r h e).trans ((scr_step m c ⟨n + 1, hn⟩ _ r h e).trans ?_)
        rw [oldOf_at]
        rfl
    rw [hstep, ih]
    by_cases ha : r.val / 4 ≤ n
    · rw [if_pos ha, if_neg (by omega), if_pos (by omega), add_zero]
    · rw [if_neg ha, zero_add]
      exact if_congr (by omega) rfl rfl

/-- The rows the last grid point writes, in terms of the arrays. -/
theorem rows (c : Dev nD) (t : Fin cfg0.N) (h1 : t.val % 32 = 31) (r : Fin 128) (h : Fin 4) (e : Fin 128) :
    (outsAt0 m c t.val t.isLt).1 (ix3 0 r (colOf h e)) = outAt (m ((c : Thread nD τ).loc main_arg0)) (m ((c : Thread nD τ).loc main_arg1)) (m ((c : Thread nD τ).loc main_arg2)) (seqOf r) (posOf r) h e := by
  have ht := lt32 t
  have h0 : ¬t.val % 32 = 0 := by omega
  refine (out_C m c t h0 h1 r h e).trans ?_
  unfold outEnt outAt
  have hg := read_g m c t r (colOf h e)
  have hw := read_w m c t (colOf h e)
  have hm : ∀ a : Fin 128, mix (turn (fun a => iblk m c 0 t (ix3 0 r (colOf h a))) (fun a => iblk m c 4 t (ix2 r a)) (fun a => iblk m c 5 t (ix2 r a)))
      (fun s => rot (fun a => iblk m c 1 t (ix3 0 s (colOf h a))) (fun a => iblk m c 4 t (ix2 s a)) (fun a => iblk m c 5 t (ix2 s a)))
      (fun s => iblk m c 6 t (ix3 h r s)) (fun s => iblk m c 2 t (ix3 0 s (colOf h a)))
      (scrOf (grid0.coords t) (iblk m c 0 t) (iblk m c 4 t) (iblk m c 5 t) (iblk m c 7 t) (iblk m c 10 t) (oldOf (outsAt0 m c (t.val - 1) (lt_of_le_of_lt (Nat.sub_le _ _) t.isLt)).2.2) h (ix2 r a))
      = mixAt (m ((c : Thread nD τ).loc main_arg0)) (m ((c : Thread nD τ).loc main_arg2)) (seqOf r) (posOf r) h a := by
    intro a
    unfold mix mixAt
    refine congrArg₂ (fun a b : EReal => a + b) ?_ ?_
    · have hterm : ∀ s : Fin 128, (((∑ d : Fin 128, turn (fun a => iblk m c 0 t (ix3 0 r (colOf h a))) (fun a => iblk m c 4 t (ix2 r a)) (fun a => iblk m c 5 t (ix2 r a)) d *
          rot (fun a => iblk m c 1 t (ix3 0 s (colOf h a))) (fun a => iblk m c 4 t (ix2 s a)) (fun a => iblk m c 5 t (ix2 s a)) d) * iblk m c 6 t (ix3 h r s)) * iblk m c 2 t (ix3 0 s (colOf h a)) : EReal)
          = if s.val / 4 = r.val / 4 then ((∑ d : Fin 128, qAt (m ((c : Thread nD τ).loc main_arg0)) (seqOf r) (posOf r) h d * keyAt (m ((c : Thread nD τ).loc main_arg0)) (seqOf s) (posOf s) h d) * wt (posOf r) (posOf s) h.val) * valAt (m ((c : Thread nD τ).loc main_arg0)) (seqOf s) (posOf s) h a else 0 := by
        intro s
        have hd := (read_dm m c t h r s).trans (dm_at h r s)
        have hv := read_v m c t s (colOf h a)
        by_cases hs : s.val / 4 = r.val / 4
        · rw [if_pos hs] at hd ⊢
          exact congrArg₂ (fun a b : EReal => a * b) (congrArg₂ (fun a b : EReal => a * b) (Finset.sum_congr rfl fun d _ => congrArg₂ (fun a b : EReal => a * b) (turn_at m c t r h d) (key_at m c t s h d)) hd) hv
        · rw [if_neg hs] at hd ⊢
          exact (congrArg (fun a : EReal => a * _) ((congrArg (fun a : EReal => _ * a) hd).trans (mul_zero _))).trans (zero_mul _)
      refine (Finset.sum_congr rfl fun s _ => hterm s).trans ((collapse (r.val / 4) (by omega) _).trans (Finset.sum_congr rfl fun j _ => ?_))
      have hs : seqOf (⟨4 * (r.val / 4) + j.val, by omega⟩ : Fin 128) = seqOf r := Fin.ext (by show (4 * (r.val / 4) + j.val) / 4 = r.val / 4; omega)
      have hp : posOf (⟨4 * (r.val / 4) + j.val, by omega⟩ : Fin 128) = j := Fin.ext (by show (4 * (r.val / 4) + j.val) % 4 = j.val; omega)
      rw [hs, hp]
    · refine (scrOf_at _ _ _ _ _ _ _ h r a).trans ((scr_C m c t h0 h1 r h a).symm.trans ((carried m c r h a t.val t.isLt).trans (if_pos ?_)))
      omega
  have hm' := funext hm
  unfold fin
  rw [hg, hw]
  simp only [hm]

theorem splitO (y : S1x128x512.Idx) : y = ix3 0 (y 1) (y 2) := by
  refine funext fun a => ?_
  fin_cases a
  · exact Subsingleton.elim (α := Fin 1) _ _
  · rfl
  · rfl

theorem col_of (n : Fin 512) : colOf ⟨n.val / 128, by omega⟩ ⟨n.val % 128, Nat.mod_lt _ (by norm_num)⟩ = n := Fin.ext (by show 128 * (n.val / 128) + n.val % 128 = n.val; omega)

/-- The branch's rows after the last grid point. -/
theorem finalO (c : Dev nD) : (dats m 0 c).arrAt 11 cfg0.N = outArr (m ((c : Thread nD τ).loc main_arg0)) (m ((c : Thread nD τ).loc main_arg1)) (m ((c : Thread nD τ).loc main_arg2)) := by
  refine (dats m 0 c).arrAt_eq_of_covers 11 _ (by decide +kernel) fun t hf y => ?_
  have h1 : t.val % 32 = 31 := (flush0_11 t).mp hf
  blk_simp
  rw [after0_11]
  rw [splitO y]
  have hy := rows m c t h1 (y 1) ⟨(y 2).val / 128, by have : (y 2).val < 512 := (y 2).isLt; omega⟩ ⟨(y 2).val % 128, Nat.mod_lt _ (by norm_num)⟩
  refine (congrArg (fun n : Fin 512 => (outsAt0 m c t.val t.isLt).1 (ix3 0 (y 1) n)) (col_of (y 2))).symm.trans (hy.trans ?_)
  have he : ((View.whole main_v84_0).slice (win0_11.rect t)).emb (ix3 0 (y 1) (y 2)) = ix3 0 (y 1) (y 2) := by
    blk_ext [idx' t]
  exact (congrArg (outArr _ _ _) he).symm

end Cert.Kernel12Ideal.Ret
end
-- ==== Proof.RetORef.lean ====
/- What the reference's branch rows of the samples' retention are, one entry at a time, and that the kernel's array is the same. -/
module

public import proofs.«01_k».proof.Proof.RetRef
public import proofs.«01_k».proof.Proof.RetRows

@[expose] public section

set_option maxRecDepth 16384
noncomputable section
namespace Cert.Reference12Ideal.Value
open Cert.Reference12Ideal Cert.Reference12Ideal.Gen Idealize.ShloMosaic Idealize.ShloMosaic.TcCoe Idealize.SL.Sem Idealize.ShloMosaic.StableHlo Cert.Kernel12Ideal.Ret

/-- The rotated queries. -/
def turned (x : FVec Ideal S32x4x4x128 .f32) : FVec Ideal S32x4x4x128 .f32 :=
  concatenate S32x4x4x128 3 [⟨S32x4x4x64, rotLow x⟩, ⟨S32x4x4x64, rotHigh x⟩] concatenates_S32x4x4x64_S32x4x4x64_S32x4x4x128_d3

/-- The differences of the positions. -/
def gaps : FVec Ideal S1x4x4 .f32 :=
  broadcastInDim S1x4x4 ![1, 2] bcast_S4x4_S1x4x4_1_2 (subf (broadcastInDim S4x4 ![0, 1] bcast_S4x1_S4x4_0_1 (broadcastInDim S4x1 ![0] bcast_S4_S4x1_0 (sitofp .f32 (iotaInDim S4 32 0)))) (broadcastInDim S4x4 ![0, 1] bcast_S1x4_S4x4_0_1 (broadcastInDim S1x4 ![1] bcast_S4_S1x4_1 (sitofp .f32 (iotaInDim S4 32 0)))))

/-- The weights of the positions for one another. -/
def wts : FVec Ideal S4x4x4 .f32 :=
  select (broadcastInDim S4x4x4 ![0, 1, 2] bcast_S1x4x4_S4x4x4_0_1_2 (cmpf .oge gaps (broadcastInDim S1x4x4 ![] bcast_S_S1x4x4 (constant S_ .f32 0x00000000#32))))
    (Host.exp (mulf (broadcastInDim S4x4x4 ![0, 1, 2] bcast_S1x4x4_S4x4x4_0_1_2 gaps) (broadcastInDim S4x4x4 ![0, 1, 2] bcast_S4x1x1_S4x4x4_0_1_2 (broadcastInDim S4x1x1 ![0] bcast_S4_S4x1x1_0 logs))))
    (broadcastInDim S4x4x4 ![] bcast_S_S4x4x4 (id (constant S_ .f32 0x00000000#32)))

/-- The queries' decays from the start of their sequence. -/
def qdecs : FVec Ideal S4x4 .f32 :=
  Host.exp (mulf (broadcastInDim S4x4 ![0, 1] bcast_S4x1_S4x4_0_1 (broadcastInDim S4x1 ![0] bcast_S4_S4x1_0 (addf (sitofp .f32 (iotaInDim S4 32 0)) (broadcastInDim S4 ![] bcast_S_S4 (constant S_ .f32 0x3F800000#32)))))
    (broadcastInDim S4x4 ![0, 1] bcast_S1x4_S4x4_0_1 (broadcastInDim S1x4 ![1] bcast_S4_S1x4_1 logs)))

/-- What every position gathers from those of its sequence. -/
def inner (p : FVec Ideal S32x4x7680 .f32) : FVec Ideal S32x4x4x128 .f32 :=
  transpose S32x4x4x128 [0, 3, 1, 2] (Host.dotGeneral dot_S32x4x4x128_S32x4x4x4_S32x4x128x4_1_3_3_2_02_01 none (heads p 1024 slices_S32x4x7680_S32x4x512_0_0_1024)
    (mulf (Host.dotGeneral dot_S32x4x4x128_S32x4x4x128_S32x4x4x4_3_3_1_1_02_02 none (turned (heads p 0 slices_S32x4x7680_S32x4x512_0_0_0)) (keys (heads p 512 slices_S32x4x7680_S32x4x512_0_0_512)))
      (broadcastInDim S32x4x4x4 ![0, 1, 2, 3] bcast_S1x4x4x4_S32x4x4x4_0_1_2_3 (broadcastInDim S1x4x4x4 ![1, 2, 3] bcast_S4x4x4_S1x4x4x4_1_2_3 wts)))) transposes_S32x4x128x4_S32x4x4x128_0_3_1_2

/-- What every position gathers from the old state. -/
def cross (p : FVec Ideal S32x4x7680 .f32) (st : FVec Ideal S32x4x4x128x128 .f32) : FVec Ideal S32x4x4x128 .f32 :=
  transpose S32x4x4x128 [0, 3, 1, 2] (Host.dotGeneral dot_S32x4x128x128_S32x4x4x128_S32x4x128x4_2_3_3_1_01_02 none
    (shapeCast _ (extractStridedSlice S32x1x4x128x128 ![0, 0, 0, 0, 0] st slices_S32x4x4x128x128_S32x1x4x128x128_0_0_0_0_0) shapeCasts_S32x1x4x128x128_S32x4x128x128)
    (mulf (turned (heads p 0 slices_S32x4x7680_S32x4x512_0_0_0)) (broadcastInDim S32x4x4x128 ![0, 1, 2, 3] bcast_S1x4x4x1_S32x4x4x128_0_1_2_3 (broadcastInDim S1x4x4x1 ![1, 2] bcast_S4x4_S1x4x4x1_1_2 qdecs)))) transposes_S32x4x128x4_S32x4x4x128_0_3_1_2

/-- Heads around their mean. -/
def cent (x : FVec Ideal S32x4x4x128 .f32) : FVec Ideal S32x4x4x128 .f32 :=
  subf x (broadcastInDim S32x4x4x128 ![0, 1, 2, 3] bcast_S32x4x4x1_S32x4x4x128_0_1_2_3 (Host.divf (broadcastInDim S32x4x4x1 ![0, 1, 2] bcast_S32x4x4_S32x4x4x1_0_1_2 (Host.reduceAdd x (constant S_ .f32 0x00000000#32) reducesTo_S32x4x4x128_S32x4x4_d3 h_S_)) (broadcastInDim S32x4x4x1 ![] bcast_S_S32x4x4x1 (constant S_ .f32 0x43000000#32))))

/-- Heads over their deviation. -/
def normd (x : FVec Ideal S32x4x4x128 .f32) : FVec Ideal S32x4x4x128 .f32 :=
  mulf (cent x) (broadcastInDim S32x4x4x128 ![0, 1, 2, 3] bcast_S32x4x4x1_S32x4x4x128_0_1_2_3 (Host.rsqrt (addf (Host.divf (broadcastInDim S32x4x4x1 ![0, 1, 2] bcast_S32x4x4_S32x4x4x1_0_1_2
    (Host.reduceAdd (mulf (cent x) (cent x)) (constant S_ .f32 0x00000000#32) reducesTo_S32x4x4x128_S32x4x4_d3 h_S_)) (broadcastInDim S32x4x4x1 ![] bcast_S_S32x4x4x1 (constant S_ .f32 0x43000000#32)))
    (broadcastInDim S32x4x4x1 ![] bcast_S_S32x4x4x1 (constant S_ .f32 0x358637BD#32)))))

/-- The reference's branch rows. -/
def outR (p : FVec Ideal S32x4x7680 .f32) (g : FVec Ideal S512 .f32) (st : FVec Ideal S32x4x4x128x128 .f32) : FVec Ideal S1x128x512 .bf16 :=
  shapeCast S1x128x512 (truncf .bf16 (mulf (mulf (extractStridedSlice S32x4x512 ![0, 0, 1536] p slices_S32x4x7680_S32x4x512_0_0_1536) (Host.divf (broadcastInDim S32x4x512 ![] bcast_S_S32x4x512 (constant S_ .f32 0x3F800000#32)) (addf (broadcastInDim S32x4x512 ![] bcast_S_S32x4x512 (constant S_ .f32 0x3F800000#32)) (Host.exp (Host.negf (extractStridedSlice S32x4x512 ![0, 0, 1536] p slices_S32x4x7680_S32x4x512_0_0_1536))))))
    (mulf (shapeCast S32x4x512 (normd (addf (inner p) (cross p st))) shapeCasts_S32x4x4x128_S32x4x512) (broadcastInDim S32x4x512 ![0, 1, 2] bcast_S1x1x512_S32x4x512_0_1_2 (broadcastInDim S1x1x512 ![2] bcast_S512_S1x1x512_2 g)))) bitsLt_bf16_f32) shapeCasts_S32x4x512_S1x128x512

theorem rows_eq (m : (ℓ : Loc nD τ sig) → Buf (Elt Ideal) ℓ) (c : Dev nD) :
    res_main_v139 m c = outR (m ((c.tc : Thread nD τ).loc main_arg0)) (m ((c.tc : Thread nD τ).loc main_arg1)) (m ((c.tc : Thread nD τ).loc main_arg2)) := by
  unfold res_main_v139
  rfl

theorem turned_at (x : FVec Ideal S32x4x4x128 .f32) (b : Fin 32) (s k : Fin 4) (d : Fin 128) :
    (turned x (ix4 b s k d) : EReal) = turn (fun a => x (ix4 b s k a)) (cosAt s) (sinAt s) d := by
  pointwise [turned]
  unfold turn cosAt sinAt
  by_cases h : d.val < 64
  · rw [dif_pos h, if_pos h, if_pos h, rotLow_at]
    have ho : other d = ⟨64 + d.val, by omega⟩ := Fin.ext (by show (d.val + 128 - 64) % 128 = 64 + d.val; omega)
    rw [ho]
  · rw [dif_neg h, if_neg h, if_neg h, rotHigh_at]
    have ho : other d = ⟨d.val - 64, by omega⟩ := Fin.ext (by show (d.val + 128 - 64) % 128 = d.val - 64; omega)
    have hd : (⟨64 + (d.val - 64), by omega⟩ : Fin 128) = d := Fin.ext (by show 64 + (d.val - 64) = d.val; omega)
    rw [ho]
    simp only [hd]

theorem gapInt : ∀ i j : Fin 4, (IntOp.subi (BitVec.ofNat 32 i.val) (BitVec.ofNat 32 j.val)).toInt = (i.val : ℤ) - (j.val : ℤ) := by
  decide +kernel
theorem nextInt : ∀ i : Fin 4, (IntOp.addi (BitVec.ofNat 32 i.val) (1#32)).toInt = (i.val : ℤ) + 1 := by
  decide +kernel

theorem gap_coe (i j : Fin 4) : FloatOps.sitofp (F := Ideal) FTy.f32 (IntOp.subi (BitVec.ofNat 32 i.val) (BitVec.ofNat 32 j.val)) = (((i.val : ℝ) - (j.val : ℝ) : ℝ) : EReal) := by
  show (((IntOp.subi (BitVec.ofNat 32 i.val) (BitVec.ofNat 32 j.val)).toInt : ℝ) : EReal) = _
  rw [gapInt]
  push_cast
  rfl

theorem gap_eq (i j : Fin 4) : FloatOps.sitofp (F := Ideal) FTy.f32 (BitVec.ofNat 32 i.val) - FloatOps.sitofp (F := Ideal) FTy.f32 (BitVec.ofNat 32 j.val) = FloatOps.sitofp (F := Ideal) FTy.f32 (IntOp.subi (BitVec.ofNat 32 i.val) (BitVec.ofNat 32 j.val)) := by
  rw [gap_coe]
  show (((BitVec.ofNat 32 i.val).toInt : ℝ) : EReal) - (((BitVec.ofNat 32 j.val).toInt : ℝ) : EReal) = _
  rw [here, here, ← EReal.coe_sub]
  push_cast
  rfl

theorem next_eq (i : Fin 4) : FloatOps.sitofp (F := Ideal) FTy.f32 (BitVec.ofNat 32 i.val) + 1 = FloatOps.sitofp (F := Ideal) FTy.f32 (IntOp.addi (BitVec.ofNat 32 i.val) (1#32)) := by
  show (((BitVec.ofNat 32 i.val).toInt : ℝ) : EReal) + 1 = (((IntOp.addi (BitVec.ofNat 32 i.val) (1#32)).toInt : ℝ) : EReal)
  rw [nextInt, here, ← EReal.coe_one, ← EReal.coe_add]
  push_cast
  rfl

theorem gap_ge (i j : Fin 4) : (0 : EReal) ≤ FloatOps.sitofp (F := Ideal) FTy.f32 (IntOp.subi (BitVec.ofNat 32 i.val) (BitVec.ofNat 32 j.val)) ↔ j.val ≤ i.val := by
  rw [gap_coe, ← EReal.coe_zero, EReal.coe_le_coe_iff, sub_nonneg, Nat.cast_le]

theorem wts_at (h i j : Fin 4) : wts (ix3 h i j) = wt i j h.val := by
  pointwise [wts, gaps, logs]
  simp only [gap_eq]
  unfold wt
  have hg := gap_ge i j
  by_cases h1 : j.val ≤ i.val
  · rw [if_pos h1]
    exact if_pos (hg.mpr h1)
  · rw [if_neg h1]
    exact (if_neg (fun h => h1 (hg.mp h))).trans (Ideal.ofBits_zero FTy.f32)

theorem qdecs_at (s h : Fin 4) : qdecs (ix2 s h) = qdec s h.val := by
  pointwise [qdecs, logs]
  unfold qdec
  rw [← next_eq]
  rfl

theorem inner_at (p : FVec Ideal S32x4x7680 .f32) (b : Fin 32) (s h : Fin 4) (e : Fin 128) :
    (inner p (ix4 b s h e) : EReal) = ∑ j : Fin 4, ((∑ d : Fin 128, qAt p b s h d * keyAt p b j h d) * wt s j h.val) * valAt p b j h e := by
  pointwise [inner]
  simp only [turned_at, keys_at, wts_at, heads_at p 0 (by omega), heads_at p 512 (by omega), heads_at p 1024 (by omega)]
  exact Finset.sum_congr rfl fun j _ => mul_comm _ _

theorem cross_at (p : FVec Ideal S32x4x7680 .f32) (st : FVec Ideal S32x4x4x128x128 .f32) (b : Fin 32) (s h : Fin 4) (e : Fin 128) :
    (cross p st (ix4 b s h e) : EReal) = pastAt p st b s h e := by
  pointwise [cross]
  simp only [turned_at, qdecs_at, heads_at p 0 (by omega)]
  exact Finset.sum_congr rfl fun j _ => mul_comm _ _

theorem cent_at (x : FVec Ideal S32x4x4x128 .f32) (b : Fin 32) (s k : Fin 4) (d : Fin 128) :
    (cent x (ix4 b s k d) : EReal) = (x (ix4 b s k d) : EReal) - Ideal.div (∑ a : Fin 128, (x (ix4 b s k a) : EReal)) (Ideal.ofBits FTy.f32 0x43000000#32) := by
  pointwise [cent]

theorem normd_at (x : FVec Ideal S32x4x4x128 .f32) (b : Fin 32) (s k : Fin 4) (d : Fin 128) :
    (normd x (ix4 b s k d) : EReal) = (cent x (ix4 b s k d) : EReal) * Ideal.rsqrt (Ideal.div (∑ a : Fin 128, (cent x (ix4 b s k a) : EReal) * cent x (ix4 b s k a)) (Ideal.ofBits FTy.f32 0x43000000#32) + Ideal.ofBits FTy.f32 0x358637BD#32) := by
  pointwise [normd]

theorem outR_at (p : FVec Ideal S32x4x7680 .f32) (g : FVec Ideal S512 .f32) (st : FVec Ideal S32x4x4x128x128 .f32) (r : Fin 128) (n : Fin 512) :
    (outR p g st (ix3 0 r n) : EReal) = fin (fun a => mixAt p st (seqOf r) (posOf r) ⟨n.val / 128, by omega⟩ a) (p (ix3 (seqOf r) (posOf r) ⟨1536 + n.val, by omega⟩)) (g (ix1 n)) ⟨n.val % 128, Nat.mod_lt _ (by norm_num)⟩ := by
  pointwise [outR]
  simp only [normd_at, cent_at]
  have hx : ∀ (b : Fin 32) (s h : Fin 4) (a : Fin 128), (addf (inner p) (cross p st) (ix4 b s h a) : EReal) = mixAt p st b s h a := by
    intro b s h a
    exact congrArg₂ (fun a b : EReal => a + b) (inner_at p b s h a) (cross_at p st b s h a)
  simp only [hx]
  rfl

/-- The kernel's branch rows are the reference's. -/
theorem outR_eq (p : FVec Ideal S32x4x7680 .f32) (g : FVec Ideal S512 .f32) (st : FVec Ideal S32x4x4x128x128 .f32) : outR p g st = outArr p g st := by
  funext i
  refine (congrArg (outR p g st) (splitO i)).trans ((outR_at p g st (i 1) (i 2)).trans ?_)
  have hc := col_of (i 2)
  unfold outArr byCol outAt
  refine Eq.symm ?_
  have e1 : (⟨1536 + (colOf ⟨(i 2).val / 128, by have : (i 2).val < 512 := (i 2).isLt; omega⟩ ⟨(i 2).val % 128, Nat.mod_lt _ (by norm_num)⟩).val, by rw [hc]; have : (i 2).val < 512 := (i 2).isLt; omega⟩ : Fin 7680) = ⟨1536 + (i 2).val, by have : (i 2).val < 512 := (i 2).isLt; omega⟩ :=
    Fin.ext (congrArg (fun n : Fin 512 => 1536 + n.val) hc)
  exact congrArg₂ (fun (u : EReal) (v : EReal) => fin (fun a => mixAt p st (seqOf (i 1)) (posOf (i 1)) ⟨(i 2).val / 128, by have : (i 2).val < 512 := (i 2).isLt; omega⟩ a) u v ⟨(i 2).val % 128, Nat.mod_lt _ (by norm_num)⟩)
    (congrArg (fun k => (p (ix3 (seqOf (i 1)) (posOf (i 1)) k) : EReal)) e1) (congrArg (fun k : Fin 512 => (g (ix1 k) : EReal)) hc)

end Cert.Reference12Ideal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Pre_finite11
public import proofs.«01_k».proof.Proof.Equation
public import proofs.«01_k».proof.Proof.NormRef
public import proofs.«01_k».proof.Proof.MergeRef
public import proofs.«01_k».proof.Proof.QkPrepRef
public import proofs.«01_k».proof.Proof.GatingRef
public import proofs.«01_k».proof.Proof.GatingSRef
public import proofs.«01_k».proof.Proof.NormSRef
public import proofs.«01_k».proof.Proof.QkPrepSRef
public import proofs.«01_k».proof.Proof.ModulationRef
public import proofs.«01_k».proof.Proof.QueryRun
public import proofs.«01_k».proof.Proof.QueryRef
public import proofs.«01_k».proof.Proof.RetRef
public import proofs.«01_k».proof.Proof.RetORef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the kernel ends with every counter at zero and its arguments kept. -/
theorem frame_kernel : @Cert.quiescent_Kernel Cert.Kernel.Gen.facts := fun m ρ _ => Cert.Kernel.Gen.frame m ρ

/-- Every run of the idealized kernel ends so. -/
theorem frame_ideal : @Cert.quiescent_KernelIdeal Cert.KernelIdeal.Gen.facts := fun m ρ _ => Cert.KernelIdeal.Gen.frame m ρ

/-- Every run of the reference ends so. -/
theorem frame_ref : @Cert.quiescent_ReferenceIdeal Cert.ReferenceIdeal.Gen.facts := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The idealized kernel differs from the kernel by the exact values of its named constants. -/
theorem named : Cert.preserves_Kernel_KernelIdeal :=
  ⟨IdealRules.named_const.statement Cert.KernelIdeal.κ "q_scale" .f32 0x3E0293EE#32 _ rfl,
    IdealRules.named_const.statement Cert.KernelIdeal.κ "log2e" .f32 0x3FB8AA3B#32 _ rfl,
    IdealRules.named_const.statement Cert.KernelIdeal.κ "mask" .f32 0xF149F2CA#32 _ rfl⟩

/-- From equal arguments the idealized kernel and the reference end with equal results. -/
theorem value : @Cert.algebraic_KernelIdeal_ReferenceIdeal Cert.KernelIdeal.Gen.facts Cert.ReferenceIdeal.Gen.facts := by
  intro m ρ m' ρ' _ hagree
  refine ⟨_, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3⟩ := hagree c
  refine (Cert.ReferenceIdeal.Value.res_eq m' c).trans ?_
  rw [h0, h1, h2, h3]
  exact (Cert.KernelIdeal.Steps.outArr_eq _ _ _ _).symm.trans (Cert.KernelIdeal.Steps.final m c).symm

/-- Every run of the projection's kernel ends with every counter at zero and its arguments kept. -/
theorem frame_kernel2 : @Cert.quiescent_Kernel2 Cert.Kernel2.Gen.facts := fun m ρ _ => Cert.Kernel2.Gen.frame m ρ

/-- Every run of the idealized one ends so. -/
theorem frame_ideal2 : @Cert.quiescent_Kernel2Ideal Cert.Kernel2Ideal.Gen.facts := fun m ρ _ => Cert.Kernel2Ideal.Gen.frame m ρ

/-- Every run of the projection's reference ends so. -/
theorem frame_ref2 : @Cert.quiescent_Reference2Ideal Cert.Reference2Ideal.Gen.facts := fun m ρ _ =>
  (θ_run Cert.Reference2Ideal.defs _ _).mono
    (fun r h => ⟨fun c => (h c).2, sem_eq_zero_of_no_sems (by decide) r.2⟩) (Cert.Reference2Ideal.Value.run (F := Ideal) m ρ)

/-- From equal arguments the projection's idealized kernel and its reference end with equal results. -/
theorem value2 : @Cert.algebraic_Kernel2Ideal_Reference2Ideal Cert.Kernel2Ideal.Gen.facts Cert.Reference2Ideal.Gen.facts := by
  intro m ρ m' ρ' _ hagree
  refine ⟨_, Cert.Kernel2Ideal.Value.run_blocks m ρ, ?_⟩
  refine (θ_run Cert.Reference2Ideal.defs _ _).mono (fun _ h c => ⟨(h c).1.trans ?_, (h c).2⟩) (Cert.Reference2Ideal.Value.run (F := Ideal) m' ρ')
  obtain ⟨h0, h1, h2, h3, h4⟩ := hagree c
  refine (Cert.Reference2Ideal.Value.out_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))).trans ?_
  rw [h0, h1, h2, h3, h4]
  exact (Cert.Kernel2Ideal.Norm.final m c).symm

/-- Every run of the merge's kernel ends with every counter at zero and its arguments kept. -/
theorem frame_kernel3 : @Cert.quiescent_Kernel3 Cert.Kernel3.Gen.facts := fun m ρ _ => Cert.Kernel3.Gen.frame m ρ

/-- Every run of the idealized one ends so. -/
theorem frame_ideal3 : @Cert.quiescent_Kernel3Ideal Cert.Kernel3Ideal.Gen.facts := fun m ρ _ => Cert.Kernel3Ideal.Gen.frame m ρ

/-- Every run of the merge's reference ends so. -/
theorem frame_ref3 : @Cert.quiescent_Reference3Ideal Cert.Reference3Ideal.Gen.facts := fun m ρ _ =>
  (θ_run Cert.Reference3Ideal.defs _ _).mono
    (fun r h => ⟨fun c => (h c).2, sem_eq_zero_of_no_sems (by decide) r.2⟩) (Cert.Reference3Ideal.Value.run (F := Ideal) m ρ)

/-- From equal arguments the merge's idealized kernel and its reference end with equal results. -/
theorem value3 : @Cert.algebraic_Kernel3Ideal_Reference3Ideal Cert.Kernel3Ideal.Gen.facts Cert.Reference3Ideal.Gen.facts := by
  intro m ρ m' ρ' _ hagree
  refine ⟨_, Cert.Kernel3Ideal.Value.run_blocks m ρ, ?_⟩
  refine (θ_run Cert.Reference3Ideal.defs _ _).mono (fun _ h c => ⟨(h c).1.trans ?_, (h c).2⟩) (Cert.Reference3Ideal.Value.run (F := Ideal) m' ρ')
  obtain ⟨h0, h1, h2, h3, h4, h5, h6, h7⟩ := hagree c
  refine (Cert.Reference3Ideal.Value.out_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7))).trans ?_
  rw [h0, h1, h2, h3, h4, h5, h6, h7]
  exact (Cert.Kernel3Ideal.Merge.final m c).symm

/-- Every run of the kernel of the prompts' queries and keys ends with every counter at zero and its arguments kept. -/
theorem frame_kernel5 : @Cert.quiescent_Kernel5 Cert.Kernel5.Gen.facts := fun m ρ _ => Cert.Kernel5.Gen.frame m ρ

/-- Every run of the idealized one ends so. -/
theorem frame_ideal5 : @Cert.quiescent_Kernel5Ideal Cert.Kernel5Ideal.Gen.facts := fun m ρ _ => Cert.Kernel5Ideal.Gen.frame m ρ

/-- Every run of its reference ends so. -/
theorem frame_ref5 : @Cert.quiescent_Reference5Ideal Cert.Reference5Ideal.Gen.facts := fun m ρ _ =>
  (θ_run Cert.Reference5Ideal.defs _ _).mono
    (fun r h => ⟨fun c => ((h c).2.2.2.2), sem_eq_zero_of_no_sems (by decide) r.2⟩) (Cert.Reference5Ideal.Value.run (F := Ideal) m ρ)

/-- The idealized kernel of the prompts' queries and keys differs from the kernel by the exact value of its named constant. -/
theorem named5 : Cert.preserves_Kernel5_Kernel5Ideal :=
  IdealRules.named_const.statement Cert.Kernel5Ideal.κ "q_scale" .f32 0x3E0293EE#32 _ rfl

/-- From equal arguments the idealized kernel of the prompts' queries and keys and its reference end with equal results. -/
theorem value5 : @Cert.algebraic_Kernel5Ideal_Reference5Ideal Cert.Kernel5Ideal.Gen.facts Cert.Reference5Ideal.Gen.facts := by
  intro m ρ m' ρ' _ hagree
  refine ⟨_, _, _, _, Cert.Kernel5Ideal.Value.run_blocks m ρ, ?_⟩
  refine (θ_run Cert.Reference5Ideal.defs _ _).mono (fun _ h c => ⟨(h c).1.trans ?_, (h c).2.1.trans ?_, (h c).2.2.1.trans ?_, (h c).2.2.2.1.trans ?_, (h c).2.2.2.2⟩) (Cert.Reference5Ideal.Value.run (F := Ideal) m' ρ')
  · obtain ⟨h0, h1, h2⟩ := hagree c
    refine (Cert.Reference5Ideal.Value.outQ_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))).trans ?_
    rw [h0, h1]
    exact (Cert.Kernel5Ideal.Prep.final_q m c).symm
  · obtain ⟨h0, h1, h2⟩ := hagree c
    refine (Cert.Reference5Ideal.Value.outK_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2))).trans ?_
    rw [h0, h2]
    exact (Cert.Kernel5Ideal.Prep.final_k m c).symm
  · obtain ⟨h0, h1, h2⟩ := hagree c
    refine (Cert.Reference5Ideal.Value.outKb_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2))).trans ?_
    rw [h0, h2]
    exact (Cert.Kernel5Ideal.Prep.final_kb m c).symm
  · obtain ⟨h0, h1, h2⟩ := hagree c
    refine (Cert.Reference5Ideal.Value.outV_eq (m' ((c.tc : Thread Cert.Reference5Ideal.nD Cert.Reference5Ideal.τ).loc Cert.Reference5Ideal.main_arg0))).trans ?_
    rw [h0]
    exact (Cert.Kernel5Ideal.Prep.final_v m c).symm

/-- Every run of the kernel of the prompts' gate ends with every counter at zero and its arguments kept. -/
theorem frame_kernel6 : @Cert.quiescent_Kernel6 Cert.Kernel6.Gen.facts := fun m ρ _ => Cert.Kernel6.Gen.frame m ρ

/-- Every run of the idealized one ends so. -/
theorem frame_ideal6 : @Cert.quiescent_Kernel6Ideal Cert.Kernel6Ideal.Gen.facts := fun m ρ _ => Cert.Kernel6Ideal.Gen.frame m ρ

/-- Every run of its reference ends so. -/
theorem frame_ref6 : @Cert.quiescent_Reference6Ideal Cert.Reference6Ideal.Gen.facts := fun m ρ _ =>
  (θ_run Cert.Reference6Ideal.defs _ _).mono
    (fun r h => ⟨fun c => ((h c).2), sem_eq_zero_of_no_sems (by decide) r.2⟩) (Cert.Reference6Ideal.Value.run (F := Ideal) m ρ)

/-- From equal arguments the idealized kernel of the prompts' gate and its reference end with equal results. -/
theorem value6 : @Cert.algebraic_Kernel6Ideal_Reference6Ideal Cert.Kernel6Ideal.Gen.facts Cert.Reference6Ideal.Gen.facts := by
  intro m ρ m' ρ' _ hagree
  refine ⟨_, Cert.Kernel6Ideal.Value.run_blocks m ρ, ?_⟩
  refine (θ_run Cert.Reference6Ideal.defs _ _).mono (fun _ h c => ⟨(h c).1.trans ?_, (h c).2⟩) (Cert.Reference6Ideal.Value.run (F := Ideal) m' ρ')
  obtain ⟨h0, h1, h2, h3⟩ := hagree c
  refine (Cert.Reference6Ideal.Value.out_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))).trans ?_
  rw [h0, h1, h2, h3]
  exact (Cert.Kernel6Ideal.Gating.final m c).symm

/-- Every run of the kernel of the samples' gate ends with every counter at zero and its arguments kept. -/
theorem frame_kernel7 : @Cert.quiescent_Kernel7 Cert.Kernel7.Gen.facts := fun m ρ _ => Cert.Kernel7.Gen.frame m ρ

/-- Every run of the idealized one ends so. -/
theorem frame_ideal7 : @Cert.quiescent_Kernel7Ideal Cert.Kernel7Ideal.Gen.facts := fun m ρ _ => Cert.Kernel7Ideal.Gen.frame m ρ

/-- Every run of its reference ends so. -/
theorem frame_ref7 : @Cert.quiescent_Reference7Ideal Cert.Reference7Ideal.Gen.facts := fun m ρ _ =>
  (θ_run Cert.Reference7Ideal.defs _ _).mono
    (fun r h => ⟨fun c => ((h c).2.2), sem_eq_zero_of_no_sems (by decide) r.2⟩) (Cert.Reference7Ideal.Value.run (F := Ideal) m ρ)

/-- From equal arguments the idealized kernel of the samples' gate and its reference end with equal results. -/
theorem value7 : @Cert.algebraic_Kernel7Ideal_Reference7Ideal Cert.Kernel7Ideal.Gen.facts Cert.Reference7Ideal.Gen.facts := by
  intro m ρ m' ρ' _ hagree
  refine ⟨_, _, Cert.Kernel7Ideal.Value.run_blocks m ρ, ?_⟩
  refine (θ_run Cert.Reference7Ideal.defs _ _).mono (fun _ h c => ⟨(h c).1.trans ?_, (h c).2.1.trans ?_, (h c).2.2⟩) (Cert.Reference7Ideal.Value.run (F := Ideal) m' ρ')
  · obtain ⟨h0, h1, h2, h3⟩ := hagree c
    refine (Cert.Reference7Ideal.Value.out_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3))).trans ?_
    rw [h0, h1, h2, h3]
    exact (Cert.Kernel7Ideal.Gating.final m c).symm
  · obtain ⟨h0, h1, h2, h3⟩ := hagree c
    refine (Cert.Reference7Ideal.Value.rows_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))).trans ?_
    rw [h0, h1]
    exact (Cert.Kernel7Ideal.Gating.final_vn m c).symm

/-- Every run of the kernel of the samples' projection ends with every counter at zero and its arguments kept. -/
theorem frame_kernel8 : @Cert.quiescent_Kernel8 Cert.Kernel8.Gen.facts := fun m ρ _ => Cert.Kernel8.Gen.frame m ρ

/-- Every run of the idealized one ends so. -/
theorem frame_ideal8 : @Cert.quiescent_Kernel8Ideal Cert.Kernel8Ideal.Gen.facts := fun m ρ _ => Cert.Kernel8Ideal.Gen.frame m ρ

/-- Every run of its reference ends so. -/
theorem frame_ref8 : @Cert.quiescent_Reference8Ideal Cert.Reference8Ideal.Gen.facts := fun m ρ _ =>
  (θ_run Cert.Reference8Ideal.defs _ _).mono
    (fun r h => ⟨fun c => ((h c).2), sem_eq_zero_of_no_sems (by decide) r.2⟩) (Cert.Reference8Ideal.Value.run (F := Ideal) m ρ)

/-- From equal arguments the idealized kernel of the samples' projection and its reference end with equal results. -/
theorem value8 : @Cert.algebraic_Kernel8Ideal_Reference8Ideal Cert.Kernel8Ideal.Gen.facts Cert.Reference8Ideal.Gen.facts := by
  intro m ρ m' ρ' _ hagree
  refine ⟨_, Cert.Kernel8Ideal.Value.run_blocks m ρ, ?_⟩
  refine (θ_run Cert.Reference8Ideal.defs _ _).mono (fun _ h c => ⟨(h c).1.trans ?_, (h c).2⟩) (Cert.Reference8Ideal.Value.run (F := Ideal) m' ρ')
  obtain ⟨h0, h1, h2, h3, h4⟩ := hagree c
  refine (Cert.Reference8Ideal.Value.out_eq (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4))).trans ?_
  rw [h0, h1, h2, h3, h4]
  exact (Cert.Kernel8Ideal.Norm.final m c).symm

/-- Every run of the kernel of the samples' queries and keys ends with every counter at zero and its arguments kept. -/
theorem frame_kernel9 : @Cert.quiescent_Kernel9 Cert.Kernel9.Gen.facts := fun m ρ _ => Cert.Kernel9.Gen.frame m ρ

/-- Every run of the idealized one ends so. -/
theorem frame_ideal9 : @Cert.quiescent_Kernel9Ideal Cert.Kernel9Ideal.Gen.facts := fun m ρ _ => Cert.Kernel9Ideal.Gen.frame m ρ

/-- Every run of its reference ends so. -/
theorem frame_ref9 : @Cert.quiescent_Reference9Ideal Cert.Reference9Ideal.Gen.facts := fun m ρ _ =>
  (θ_run Cert.Reference9Ideal.defs _ _).mono
    (fun r h => ⟨fun c => ((h c).2.2.2.2), sem_eq_zero_of_no_sems (by decide) r.2⟩) (Cert.Reference9Ideal.Value.run (F := Ideal) m ρ)

/-- The idealized kernel of the samples' queries and keys differs from the kernel by the exact value of its named constant. -/
theorem named9 : Cert.preserves_Kernel9_Kernel9Ideal :=
  IdealRules.named_const.statement Cert.Kernel9Ideal.κ "q_scale" .f32 0x3E0293EE#32 _ rfl

/-- From equal arguments the idealized kernel of the samples' queries and keys and its reference end with equal results. -/
theorem value9 : @Cert.algebraic_Kernel9Ideal_Reference9Ideal Cert.Kernel9Ideal.Gen.facts Cert.Reference9Ideal.Gen.facts := by
  intro m ρ m' ρ' _ hagree
  refine ⟨_, _, _, _, Cert.Kernel9Ideal.Value.run_blocks m ρ, ?_⟩
  refine (θ_run Cert.Reference9Ideal.defs _ _).mono (fun _ h c => ⟨(h c).1.trans ?_, (h c).2.1.trans ?_, (h c).2.2.1.trans ?_, (h c).2.2.2.1.trans ?_, (h c).2.2.2.2⟩) (Cert.Reference9Ideal.Value.run (F := Ideal) m' ρ')
  · obtain ⟨h0, h1, h2⟩ := hagree c
    refine (Cert.Reference9Ideal.Value.outQ_eq (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))).trans ?_
    rw [h0, h1]
    exact (Cert.Kernel9Ideal.Prep.final_q m c).symm
  · obtain ⟨h0, h1, h2⟩ := hagree c
    refine (Cert.Reference9Ideal.Value.outK_eq (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg2))).trans ?_
    rw [h0, h2]
    exact (Cert.Kernel9Ideal.Prep.final_k m c).symm
  · obtain ⟨h0, h1, h2⟩ := hagree c
    refine (Cert.Reference9Ideal.Value.outKb_eq (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg2))).trans ?_
    rw [h0, h2]
    exact (Cert.Kernel9Ideal.Prep.final_kb m c).symm
  · obtain ⟨h0, h1, h2⟩ := hagree c
    refine (Cert.Reference9Ideal.Value.outV_eq (m' ((c.tc : Thread Cert.Reference9Ideal.nD Cert.Reference9Ideal.τ).loc Cert.Reference9Ideal.main_arg0))).trans ?_
    rw [h0]
    exact (Cert.Kernel9Ideal.Prep.final_v m c).symm

/-- Every run of the kernel of the modulation ends with every counter at zero and its arguments kept. -/
theorem frame_kernel10 : @Cert.quiescent_Kernel10 Cert.Kernel10.Gen.facts := fun m ρ _ => Cert.Kernel10.Gen.frame m ρ

/-- Every run of the idealized one ends so. -/
theorem frame_ideal10 : @Cert.quiescent_Kernel10Ideal Cert.Kernel10Ideal.Gen.facts := fun m ρ _ => Cert.Kernel10Ideal.Gen.frame m ρ

/-- Every run of its reference ends so. -/
theorem frame_ref10 : @Cert.quiescent_Reference10Ideal Cert.Reference10Ideal.Gen.facts := fun m ρ _ =>
  (θ_run Cert.Reference10Ideal.defs _ _).mono
    (fun r h => ⟨fun c => ((h c).2), sem_eq_zero_of_no_sems (by decide) r.2⟩) (Cert.Reference10Ideal.Value.run (F := Ideal) m ρ)

/-- From equal arguments the idealized kernel of the modulation and its reference end with equal results. -/
theorem value10 : @Cert.algebraic_Kernel10Ideal_Reference10Ideal Cert.Kernel10Ideal.Gen.facts Cert.Reference10Ideal.Gen.facts := by
  intro m ρ m' ρ' _ hagree
  refine ⟨_, Cert.Kernel10Ideal.Value.run_blocks m ρ, ?_⟩
  refine (θ_run Cert.Reference10Ideal.defs _ _).mono (fun _ h c => ⟨(h c).1.trans ?_, (h c).2⟩) (Cert.Reference10Ideal.Value.run (F := Ideal) m' ρ')
  obtain ⟨h0, h1, h2, h3⟩ := hagree c
  refine (Cert.Reference10Ideal.Value.out_eq (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3))).trans ?_
  rw [h0, h1, h2, h3]
  exact (Cert.Kernel10Ideal.Modulation.final m c).symm

/-- Every run of the kernel of the query projection ends with every counter at zero and its arguments kept. -/
theorem frame_kernel11 : @Cert.quiescent_Kernel11 Cert.Kernel11.Gen.facts := fun m ρ _ => Cert.Kernel11.Query.kept_all m ρ

/-- Every run of the idealized one ends so. -/
theorem frame_ideal11 : @Cert.quiescent_Kernel11Ideal Cert.Kernel11Ideal.Gen.facts := fun m ρ _ => Cert.Kernel11Ideal.Query.kept_all m ρ

/-- Every run of the idealized one on real arguments ends so. -/
theorem frame_ideal11_real : @Cert.quiescent_Kernel11Ideal_pre_finite11 Cert.Kernel11Ideal.Gen.facts Cert.Pre_finite11.Gen.facts := fun m ρ _ => Cert.Kernel11Ideal.Query.kept_all m ρ

/-- Every run of its reference ends so. -/
theorem frame_ref11 : @Cert.quiescent_Reference11Ideal Cert.Reference11Ideal.Gen.facts := fun m ρ _ =>
  (θ_run Cert.Reference11Ideal.defs _ _).mono
    (fun r h => ⟨fun c => (h c).2.2, sem_eq_zero_of_no_sems (by decide) r.2⟩) (Cert.Reference11Ideal.Value.run (F := Ideal) m ρ)

/-- Every run of its reference on real arguments ends so. -/
theorem frame_ref11_real : @Cert.quiescent_Reference11Ideal_pre_finite11 Cert.Reference11Ideal.Gen.facts Cert.Pre_finite11.Gen.facts := fun m ρ _ => frame_ref11 m ρ trivial

/-- From equal real arguments the idealized kernel of the query projection and its reference end with equal results. -/
theorem value11 : @Cert.algebraic_Kernel11Ideal_Reference11Ideal_pre_finite11 Cert.Kernel11Ideal.Gen.facts Cert.Reference11Ideal.Gen.facts Cert.Pre_finite11.Gen.facts := by
  intro m ρ m' ρ' hpre hagree
  refine ⟨_, _, Cert.Kernel11Ideal.Query.run_blocks m ρ (fun c => Cert.Query.real_of_pre _ _ _ _ _ (hpre c)), ?_⟩
  refine (θ_run Cert.Reference11Ideal.defs _ _).mono (fun _ h c => ⟨(h c).1.trans ?_, (h c).2.1.trans ?_, (h c).2.2⟩) (Cert.Reference11Ideal.Value.run (F := Ideal) m' ρ')
  · obtain ⟨h0, h1, h2, h3, h4⟩ := hagree c
    refine (Cert.Reference11Ideal.Value.out_eq (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4))).trans ?_
    rw [h0, h1, h2, h3, h4]
  · obtain ⟨h0, h1, h2, h3, h4⟩ := hagree c
    refine (Cert.Reference11Ideal.Value.rows_eq (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3))).trans ?_
    rw [h0, h1, h2, h3]

/-- Every run of the kernel of the samples' retention ends with every counter at zero and its arguments kept. -/
theorem frame_kernel12 : @Cert.quiescent_Kernel12 Cert.Kernel12.Gen.facts := fun m ρ _ => Cert.Kernel12.Gen.frame m ρ

/-- Every run of the idealized one ends so. -/
theorem frame_ideal12 : @Cert.quiescent_Kernel12Ideal Cert.Kernel12Ideal.Gen.facts := fun m ρ _ => Cert.Kernel12Ideal.Gen.frame m ρ

/-- Every run of its reference ends so. -/
theorem frame_ref12 : @Cert.quiescent_Reference12Ideal Cert.Reference12Ideal.Gen.facts := fun m ρ _ =>
  (θ_run Cert.Reference12Ideal.defs _ _).mono
    (fun r h => ⟨fun c => (h c).2.2, sem_eq_zero_of_no_sems (by decide) r.2⟩) (Cert.Reference12Ideal.Value.run (F := Ideal) m ρ)

/-- The idealized kernel of the samples' retention differs from the kernel by the exact values of its named constants. -/
theorem named12 : Cert.preserves_Kernel12_Kernel12Ideal :=
  ⟨IdealRules.named_const.statement Cert.Kernel12Ideal.κ "k_scale" .f32 0x3DB504F3#32 _ rfl,
    IdealRules.named_const.statement Cert.Kernel12Ideal.κ "chunk_dec0" .f32 0x3F617810#32 _ rfl,
    IdealRules.named_const.statement Cert.Kernel12Ideal.κ "chunk_dec1" .f32 0x3F705F01#32 _ rfl,
    IdealRules.named_const.statement Cert.Kernel12Ideal.κ "chunk_dec2" .f32 0x3F7817E0#32 _ rfl,
    IdealRules.named_const.statement Cert.Kernel12Ideal.κ "chunk_dec3" .f32 0x3F7C05FC#32 _ rfl⟩

/-- From equal arguments the idealized kernel of the samples' retention and its reference end with equal branch rows and states. -/
theorem value12 : @Cert.algebraic_Kernel12Ideal_Reference12Ideal Cert.Kernel12Ideal.Gen.facts Cert.Reference12Ideal.Gen.facts := by
  intro m ρ m' ρ' _ hagree
  refine ⟨_, _, Cert.Kernel12Ideal.Value.run_blocks m ρ, ?_⟩
  refine (θ_run Cert.Reference12Ideal.defs _ _).mono (fun _ h c => ⟨(h c).1.trans ?_, (h c).2.1.trans ?_, (h c).2.2⟩) (Cert.Reference12Ideal.Value.run (F := Ideal) m' ρ')
  · obtain ⟨h0, h1, h2⟩ := hagree c
    refine (Cert.Reference12Ideal.Value.rows_eq m' c).trans ((Cert.Reference12Ideal.Value.outR_eq (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2))).trans ?_)
    rw [h0, h1, h2]
    exact (Cert.Kernel12Ideal.Ret.finalO m c).symm
  · obtain ⟨h0, h1, h2⟩ := hagree c
    refine (Cert.Reference12Ideal.Value.res_eq m' c).trans ((Cert.Reference12Ideal.Value.outS_eq (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg2))).trans ?_)
    rw [h0, h2]
    exact (Cert.Kernel12Ideal.Ret.final m c).symm

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_finite11.Gen.facts,
  frame_kernel, frame_ideal, frame_ref, frame_kernel2, frame_ideal2, frame_ref2, frame_kernel3, frame_ideal3, frame_ref3, frame_kernel5, frame_ideal5, frame_ref5, frame_kernel6, frame_ideal6, frame_ref6, frame_kernel7, frame_ideal7, frame_ref7, frame_kernel8, frame_ideal8, frame_ref8, frame_kernel9, frame_ideal9, frame_ref9, frame_kernel10, frame_ideal10, frame_ref10, frame_kernel11, frame_ideal11, frame_ideal11_real, frame_ref11, frame_ref11_real, frame_kernel12, frame_ideal12, frame_ref12,
  named, value, trivial, value2, trivial, value3, named5, value5, trivial, value6, trivial, value7, trivial, value8, named9, value9, trivial, value10, trivial, value11, named12, value12⟩

end Cert.Proof

end
